-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_up_finite [hPre_ffn_up_finite : Cert.Pre_ffn_up_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_up_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ffn_up_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ffn_up_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ffn_up_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_up_finite [hPre_ffn_up_finite : Cert.Pre_ffn_up_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_up_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ffn_up_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ffn_up_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ffn_up_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pool_finite [hPre_pool_finite : Cert.Pre_pool_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pool_finite [hPre_pool_finite : Cert.Pre_pool_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ffn_down_finite [hPre_ffn_down_finite : Cert.Pre_ffn_down_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_ffn_down_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ffn_down_finite [hPre_ffn_down_finite : Cert.Pre_ffn_down_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_ffn_down_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_merge_finite [hPre_merge_finite : Cert.Pre_merge_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_merge_finite [hPre_merge_finite : Cert.Pre_merge_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ple_finite [hPre_ple_finite : Cert.Pre_ple_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ple_finite [hPre_ple_finite : Cert.Pre_ple_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mixer_in_finite [hPre_mixer_in_finite : Cert.Pre_mixer_in_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mixer_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_mixer_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_mixer_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_mixer_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mixer_in_finite [hPre_mixer_in_finite : Cert.Pre_mixer_in_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mixer_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_mixer_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_mixer_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_mixer_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_ffn_finite [hPre_ffn_finite : Cert.Pre_ffn_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_ffn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_ffn_finite [hPre_ffn_finite : Cert.Pre_ffn_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_ffn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_in_pool_finite [hPre_in_pool_finite : Cert.Pre_in_pool_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.1 = (fun _ => 1#1)
    ∧ (Cert.Pre_in_pool_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_in_pool_finite [hPre_in_pool_finite : Cert.Pre_in_pool_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.1 = (fun _ => 1#1)
    ∧ (Cert.Pre_in_pool_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ffn_up_finite [hKernelIdeal : Cert.KernelIdeal.Facts] [hPre_ffn_up_finite : Cert.Pre_ffn_up_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_up_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ffn_up_finite [hReferenceIdeal : Cert.ReferenceIdeal.Facts] [hPre_ffn_up_finite : Cert.Pre_ffn_up_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_up_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_pool_finite [hKernel2Ideal : Cert.Kernel2Ideal.Facts] [hPre_pool_finite : Cert.Pre_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pool_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_pool_finite [hReference2Ideal : Cert.Reference2Ideal.Facts] [hPre_pool_finite : Cert.Pre_pool_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pool_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_ffn_down_finite [hKernel3Ideal : Cert.Kernel3Ideal.Facts] [hPre_ffn_down_finite : Cert.Pre_ffn_down_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ffn_down_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_ffn_down_finite [hReference3Ideal : Cert.Reference3Ideal.Facts] [hPre_ffn_down_finite : Cert.Pre_ffn_down_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ffn_down_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_merge_finite [hKernel4Ideal : Cert.Kernel4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_merge_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_merge_finite [hReference4Ideal : Cert.Reference4Ideal.Facts] [hPre_merge_finite : Cert.Pre_merge_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_merge_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_ple_finite [hKernel5Ideal : Cert.Kernel5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ple_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_ple_finite [hReference5Ideal : Cert.Reference5Ideal.Facts] [hPre_ple_finite : Cert.Pre_ple_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ple_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_mixer_in_finite [hKernel6Ideal : Cert.Kernel6Ideal.Facts] [hPre_mixer_in_finite : Cert.Pre_mixer_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mixer_in_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_mixer_in_finite [hReference6Ideal : Cert.Reference6Ideal.Facts] [hPre_mixer_in_finite : Cert.Pre_mixer_in_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mixer_in_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_ffn_finite [hKernel7Ideal : Cert.Kernel7Ideal.Facts] [hPre_ffn_finite : Cert.Pre_ffn_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_ffn_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_ffn_finite [hReference7Ideal : Cert.Reference7Ideal.Facts] [hPre_ffn_finite : Cert.Pre_ffn_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_ffn_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_in_pool_finite [hKernel8Ideal : Cert.Kernel8Ideal.Facts] [hPre_in_pool_finite : Cert.Pre_in_pool_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_in_pool_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_in_pool_finite [hReference8Ideal : Cert.Reference8Ideal.Facts] [hPre_in_pool_finite : Cert.Pre_in_pool_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_in_pool_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  True

def algebraic_KernelIdeal_ReferenceIdeal_pre_ffn_up_finite [hKernelIdeal : Cert.KernelIdeal.Facts] [hReferenceIdeal : Cert.ReferenceIdeal.Facts] [hPre_ffn_up_finite : Cert.Pre_ffn_up_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_up_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_pool_finite [hKernel2Ideal : Cert.Kernel2Ideal.Facts] [hReference2Ideal : Cert.Reference2Ideal.Facts] [hPre_pool_finite : Cert.Pre_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pool_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v71_0)) (v1 : (c : Dev Cert.Kernel2Ideal.nD) → Buf (Elt Ideal) ((c.tc : Thread Cert.Kernel2Ideal.nD Cert.Kernel2Ideal.τ).loc Cert.Kernel2Ideal.main_v71_1)) (v2 : (c : Dev Cert.Kernel2Ideal.nD) → Buf (Elt Ideal) ((c.tc : Thread Cert.Kernel2Ideal.nD Cert.Kernel2Ideal.τ).loc Cert.Kernel2Ideal.main_v71_2)) (v3 : (c : Dev Cert.Kernel2Ideal.nD) → Buf (Elt Ideal) ((c.tc : Thread Cert.Kernel2Ideal.nD Cert.Kernel2Ideal.τ).loc Cert.Kernel2Ideal.main_v71_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71_0) = v0 c
          ∧ r.2.mem ((c.tc : Thread Cert.Kernel2Ideal.nD Cert.Kernel2Ideal.τ).loc Cert.Kernel2Ideal.main_v71_1) = v1 c
          ∧ r.2.mem ((c.tc : Thread Cert.Kernel2Ideal.nD Cert.Kernel2Ideal.τ).loc Cert.Kernel2Ideal.main_v71_2) = v2 c
          ∧ r.2.mem ((c.tc : Thread Cert.Kernel2Ideal.nD Cert.Kernel2Ideal.τ).loc Cert.Kernel2Ideal.main_v71_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v140) = v0 c
          ∧ r.2.mem ((c.tc : Thread Cert.Reference2Ideal.nD Cert.Reference2Ideal.τ).loc Cert.Reference2Ideal.main_v142) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v143) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_ffn_down_finite [hKernel3Ideal : Cert.Kernel3Ideal.Facts] [hReference3Ideal : Cert.Reference3Ideal.Facts] [hPre_ffn_down_finite : Cert.Pre_ffn_down_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ffn_down_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v73_0)) (v1 : (c : Dev Cert.Kernel3Ideal.nD) → Buf (Elt Ideal) ((c.tc : Thread Cert.Kernel3Ideal.nD Cert.Kernel3Ideal.τ).loc Cert.Kernel3Ideal.main_v73_1)) (v2 : (c : Dev Cert.Kernel3Ideal.nD) → Buf (Elt Ideal) ((c.tc : Thread Cert.Kernel3Ideal.nD Cert.Kernel3Ideal.τ).loc Cert.Kernel3Ideal.main_v73_2)) (v3 : (c : Dev Cert.Kernel3Ideal.nD) → Buf (Elt Ideal) ((c.tc : Thread Cert.Kernel3Ideal.nD Cert.Kernel3Ideal.τ).loc Cert.Kernel3Ideal.main_v73_3)) (v4 : (c : Dev Cert.Kernel3Ideal.nD) → Buf (Elt Ideal) ((c.tc : Thread Cert.Kernel3Ideal.nD Cert.Kernel3Ideal.τ).loc Cert.Kernel3Ideal.main_v73_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v73_0) = v0 c
          ∧ r.2.mem ((c.tc : Thread Cert.Kernel3Ideal.nD Cert.Kernel3Ideal.τ).loc Cert.Kernel3Ideal.main_v73_1) = v1 c
          ∧ r.2.mem ((c.tc : Thread Cert.Kernel3Ideal.nD Cert.Kernel3Ideal.τ).loc Cert.Kernel3Ideal.main_v73_2) = v2 c
          ∧ r.2.mem ((c.tc : Thread Cert.Kernel3Ideal.nD Cert.Kernel3Ideal.τ).loc Cert.Kernel3Ideal.main_v73_3) = v3 c
          ∧ r.2.mem ((c.tc : Thread Cert.Kernel3Ideal.nD Cert.Kernel3Ideal.τ).loc Cert.Kernel3Ideal.main_v73_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v145) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v137) = v2 c
          ∧ r.2.mem ((c.tc : Thread Cert.Reference3Ideal.nD Cert.Reference3Ideal.τ).loc Cert.Reference3Ideal.main_v146) = v3 c
          ∧ r.2.mem ((c.tc : Thread Cert.Reference3Ideal.nD Cert.Reference3Ideal.τ).loc Cert.Reference3Ideal.main_v147) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_merge_finite [hKernel4Ideal : Cert.Kernel4Ideal.Facts] [hReference4Ideal : Cert.Reference4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_merge_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)) (v5 : (c : Dev Cert.Kernel4Ideal.nD) → Buf (Elt Ideal) ((c.tc : Thread Cert.Kernel4Ideal.nD Cert.Kernel4Ideal.τ).loc Cert.Kernel4Ideal.main_v27_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_v27_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v71) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v75) = v3 c
          ∧ r.2.mem ((c.tc : Thread Cert.Reference4Ideal.nD Cert.Reference4Ideal.τ).loc Cert.Reference4Ideal.main_v60) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_ple_finite [hKernel5Ideal : Cert.Kernel5Ideal.Facts] [hReference5Ideal : Cert.Reference5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ple_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)) (v5 : (c : Dev Cert.Kernel5Ideal.nD) → Buf (Elt Ideal) ((c.tc : Thread Cert.Kernel5Ideal.nD Cert.Kernel5Ideal.τ).loc Cert.Kernel5Ideal.main_v9_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_v9_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v111) = v0 c
          ∧ r.2.mem ((c.tc : Thread Cert.Reference5Ideal.nD Cert.Reference5Ideal.τ).loc Cert.Reference5Ideal.main_v112) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v114) = v3 c
          ∧ r.2.mem ((c.tc : Thread Cert.Reference5Ideal.nD Cert.Reference5Ideal.τ).loc Cert.Reference5Ideal.main_v115) = v4 c
          ∧ r.2.mem ((c.tc : Thread Cert.Reference5Ideal.nD Cert.Reference5Ideal.τ).loc Cert.Reference5Ideal.main_v116) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_mixer_in_finite [hKernel6Ideal : Cert.Kernel6Ideal.Facts] [hReference6Ideal : Cert.Reference6Ideal.Facts] [hPre_mixer_in_finite : Cert.Pre_mixer_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mixer_in_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "gelu_ca" .f32 0x3D122279#32 ((80338380498831 / 2251799813685248 : ℝ) : EReal)
  ∧ IdealRules.named_const.Statement Cert.Kernel7Ideal.κ "gelu_6ca" .f32 0x3E5B33B6#32 ((241015141496493 / 1125899906842624 : ℝ) : EReal)

def algebraic_Kernel7Ideal_Reference7Ideal_pre_ffn_finite [hKernel7Ideal : Cert.Kernel7Ideal.Facts] [hReference7Ideal : Cert.Reference7Ideal.Facts] [hPre_ffn_finite : Cert.Pre_ffn_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_ffn_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)) (v4 : (c : Dev Cert.Kernel7Ideal.nD) → Buf (Elt Ideal) ((c.tc : Thread Cert.Kernel7Ideal.nD Cert.Kernel7Ideal.τ).loc Cert.Kernel7Ideal.main_v8_4)) (v5 : (c : Dev Cert.Kernel7Ideal.nD) → Buf (Elt Ideal) ((c.tc : Thread Cert.Kernel7Ideal.nD Cert.Kernel7Ideal.τ).loc Cert.Kernel7Ideal.main_v8_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_v8_4) = v4 c
          ∧ r.2.mem ((c.tc : Thread Cert.Kernel7Ideal.nD Cert.Kernel7Ideal.τ).loc Cert.Kernel7Ideal.main_v8_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v96) = v2 c
          ∧ r.2.mem ((c.tc : Thread Cert.Reference7Ideal.nD Cert.Reference7Ideal.τ).loc Cert.Reference7Ideal.main_v98) = v3 c
          ∧ r.2.mem ((c.tc : Thread Cert.Reference7Ideal.nD Cert.Reference7Ideal.τ).loc Cert.Reference7Ideal.main_v99) = v4 c
          ∧ r.2.mem ((c.tc : Thread Cert.Reference7Ideal.nD Cert.Reference7Ideal.τ).loc Cert.Reference7Ideal.main_v100) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_in_pool_finite [hKernel8Ideal : Cert.Kernel8Ideal.Facts] [hReference8Ideal : Cert.Reference8Ideal.Facts] [hPre_in_pool_finite : Cert.Pre_in_pool_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_in_pool_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)) (v3 : (c : Dev Cert.Kernel8Ideal.nD) → Buf (Elt Ideal) ((c.tc : Thread Cert.Kernel8Ideal.nD Cert.Kernel8Ideal.τ).loc Cert.Kernel8Ideal.main_v10_3)) (v4 : (c : Dev Cert.Kernel8Ideal.nD) → Buf (Elt Ideal) ((c.tc : Thread Cert.Kernel8Ideal.nD Cert.Kernel8Ideal.τ).loc Cert.Kernel8Ideal.main_v10_4)) (v5 : (c : Dev Cert.Kernel8Ideal.nD) → Buf (Elt Ideal) ((c.tc : Thread Cert.Kernel8Ideal.nD Cert.Kernel8Ideal.τ).loc Cert.Kernel8Ideal.main_v10_5)) (v6 : (c : Dev Cert.Kernel8Ideal.nD) → Buf (Elt Ideal) ((c.tc : Thread Cert.Kernel8Ideal.nD Cert.Kernel8Ideal.τ).loc Cert.Kernel8Ideal.main_v10_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_v10_3) = v3 c
          ∧ r.2.mem ((c.tc : Thread Cert.Kernel8Ideal.nD Cert.Kernel8Ideal.τ).loc Cert.Kernel8Ideal.main_v10_4) = v4 c
          ∧ r.2.mem ((c.tc : Thread Cert.Kernel8Ideal.nD Cert.Kernel8Ideal.τ).loc Cert.Kernel8Ideal.main_v10_5) = v5 c
          ∧ r.2.mem ((c.tc : Thread Cert.Kernel8Ideal.nD Cert.Kernel8Ideal.τ).loc Cert.Kernel8Ideal.main_v10_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v87) = v0 c
          ∧ r.2.mem ((c.tc : Thread Cert.Reference8Ideal.nD Cert.Reference8Ideal.τ).loc Cert.Reference8Ideal.main_v90) = v1 c
          ∧ r.2.mem ((c.tc : Thread Cert.Reference8Ideal.nD Cert.Reference8Ideal.τ).loc Cert.Reference8Ideal.main_v93) = v2 c
          ∧ r.2.mem ((c.tc : Thread Cert.Reference8Ideal.nD Cert.Reference8Ideal.τ).loc Cert.Reference8Ideal.main_v96) = v3 c
          ∧ r.2.mem ((c.tc : Thread Cert.Reference8Ideal.nD Cert.Reference8Ideal.τ).loc Cert.Reference8Ideal.main_v98) = v4 c
          ∧ r.2.mem ((c.tc : Thread Cert.Reference8Ideal.nD Cert.Reference8Ideal.τ).loc Cert.Reference8Ideal.main_v99) = v5 c
          ∧ r.2.mem ((c.tc : Thread Cert.Reference8Ideal.nD Cert.Reference8Ideal.τ).loc Cert.Reference8Ideal.main_v101) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)) (v3 : (c : Dev Cert.Kernel9Ideal.nD) → Buf (Elt Ideal) ((c.tc : Thread Cert.Kernel9Ideal.nD Cert.Kernel9Ideal.τ).loc Cert.Kernel9Ideal.main_v9_3)) (v4 : (c : Dev Cert.Kernel9Ideal.nD) → Buf (Elt Ideal) ((c.tc : Thread Cert.Kernel9Ideal.nD Cert.Kernel9Ideal.τ).loc Cert.Kernel9Ideal.main_v9_4)) (v5 : (c : Dev Cert.Kernel9Ideal.nD) → Buf (Elt Ideal) ((c.tc : Thread Cert.Kernel9Ideal.nD Cert.Kernel9Ideal.τ).loc Cert.Kernel9Ideal.main_v9_5)) (v6 : (c : Dev Cert.Kernel9Ideal.nD) → Buf (Elt Ideal) ((c.tc : Thread Cert.Kernel9Ideal.nD Cert.Kernel9Ideal.τ).loc Cert.Kernel9Ideal.main_v9_6)) (v7 : (c : Dev Cert.Kernel9Ideal.nD) → Buf (Elt Ideal) ((c.tc : Thread Cert.Kernel9Ideal.nD Cert.Kernel9Ideal.τ).loc Cert.Kernel9Ideal.main_v9_7)) (v8 : (c : Dev Cert.Kernel9Ideal.nD) → Buf (Elt Ideal) ((c.tc : Thread Cert.Kernel9Ideal.nD Cert.Kernel9Ideal.τ).loc Cert.Kernel9Ideal.main_v9_8)) (v9 : (c : Dev Cert.Kernel9Ideal.nD) → Buf (Elt Ideal) ((c.tc : Thread Cert.Kernel9Ideal.nD Cert.Kernel9Ideal.τ).loc Cert.Kernel9Ideal.main_v9_9)) (v10 : (c : Dev Cert.Kernel9Ideal.nD) → Buf (Elt Ideal) ((c.tc : Thread Cert.Kernel9Ideal.nD Cert.Kernel9Ideal.τ).loc Cert.Kernel9Ideal.main_v9_10)) (v11 : (c : Dev Cert.Kernel9Ideal.nD) → Buf (Elt Ideal) ((c.tc : Thread Cert.Kernel9Ideal.nD Cert.Kernel9Ideal.τ).loc Cert.Kernel9Ideal.main_v9_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_v9_3) = v3 c
          ∧ r.2.mem ((c.tc : Thread Cert.Kernel9Ideal.nD Cert.Kernel9Ideal.τ).loc Cert.Kernel9Ideal.main_v9_4) = v4 c
          ∧ r.2.mem ((c.tc : Thread Cert.Kernel9Ideal.nD Cert.Kernel9Ideal.τ).loc Cert.Kernel9Ideal.main_v9_5) = v5 c
          ∧ r.2.mem ((c.tc : Thread Cert.Kernel9Ideal.nD Cert.Kernel9Ideal.τ).loc Cert.Kernel9Ideal.main_v9_6) = v6 c
          ∧ r.2.mem ((c.tc : Thread Cert.Kernel9Ideal.nD Cert.Kernel9Ideal.τ).loc Cert.Kernel9Ideal.main_v9_7) = v7 c
          ∧ r.2.mem ((c.tc : Thread Cert.Kernel9Ideal.nD Cert.Kernel9Ideal.τ).loc Cert.Kernel9Ideal.main_v9_8) = v8 c
          ∧ r.2.mem ((c.tc : Thread Cert.Kernel9Ideal.nD Cert.Kernel9Ideal.τ).loc Cert.Kernel9Ideal.main_v9_9) = v9 c
          ∧ r.2.mem ((c.tc : Thread Cert.Kernel9Ideal.nD Cert.Kernel9Ideal.τ).loc Cert.Kernel9Ideal.main_v9_10) = v10 c
          ∧ r.2.mem ((c.tc : Thread Cert.Kernel9Ideal.nD Cert.Kernel9Ideal.τ).loc Cert.Kernel9Ideal.main_v9_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg9) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg10) = v4 c
          ∧ r.2.mem ((c.tc : Thread Cert.Reference9Ideal.nD Cert.Reference9Ideal.τ).loc Cert.Reference9Ideal.main_v47) = v5 c
          ∧ r.2.mem ((c.tc : Thread Cert.Reference9Ideal.nD Cert.Reference9Ideal.τ).loc Cert.Reference9Ideal.main_v28) = v6 c
          ∧ r.2.mem ((c.tc : Thread Cert.Reference9Ideal.nD Cert.Reference9Ideal.τ).loc Cert.Reference9Ideal.main_v34) = v7 c
          ∧ r.2.mem ((c.tc : Thread Cert.Reference9Ideal.nD Cert.Reference9Ideal.τ).loc Cert.Reference9Ideal.main_arg11) = v8 c
          ∧ r.2.mem ((c.tc : Thread Cert.Reference9Ideal.nD Cert.Reference9Ideal.τ).loc Cert.Reference9Ideal.main_v71) = v9 c
          ∧ r.2.mem ((c.tc : Thread Cert.Reference9Ideal.nD Cert.Reference9Ideal.τ).loc Cert.Reference9Ideal.main_v52) = v10 c
          ∧ r.2.mem ((c.tc : Thread Cert.Reference9Ideal.nD Cert.Reference9Ideal.τ).loc Cert.Reference9Ideal.main_v58) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_ffn_up_finite : Cert.Pre_ffn_up_finite.Facts) (hPre_pool_finite : Cert.Pre_pool_finite.Facts) (hPre_ffn_down_finite : Cert.Pre_ffn_down_finite.Facts) (hPre_merge_finite : Cert.Pre_merge_finite.Facts) (hPre_ple_finite : Cert.Pre_ple_finite.Facts) (hPre_mixer_in_finite : Cert.Pre_mixer_in_finite.Facts) (hPre_ffn_finite : Cert.Pre_ffn_finite.Facts) (hPre_in_pool_finite : Cert.Pre_in_pool_finite.Facts),
    quiescent_Kernel (hKernel := hKernel)
    ∧ quiescent_KernelIdeal (hKernelIdeal := hKernelIdeal)
    ∧ quiescent_KernelIdeal_pre_ffn_up_finite (hKernelIdeal := hKernelIdeal) (hPre_ffn_up_finite := hPre_ffn_up_finite)
    ∧ quiescent_ReferenceIdeal (hReferenceIdeal := hReferenceIdeal)
    ∧ quiescent_ReferenceIdeal_pre_ffn_up_finite (hReferenceIdeal := hReferenceIdeal) (hPre_ffn_up_finite := hPre_ffn_up_finite)
    ∧ quiescent_Kernel2 (hKernel2 := hKernel2)
    ∧ quiescent_Kernel2Ideal (hKernel2Ideal := hKernel2Ideal)
    ∧ quiescent_Kernel2Ideal_pre_pool_finite (hKernel2Ideal := hKernel2Ideal) (hPre_pool_finite := hPre_pool_finite)
    ∧ quiescent_Reference2Ideal (hReference2Ideal := hReference2Ideal)
    ∧ quiescent_Reference2Ideal_pre_pool_finite (hReference2Ideal := hReference2Ideal) (hPre_pool_finite := hPre_pool_finite)
    ∧ quiescent_Kernel3 (hKernel3 := hKernel3)
    ∧ quiescent_Kernel3Ideal (hKernel3Ideal := hKernel3Ideal)
    ∧ quiescent_Kernel3Ideal_pre_ffn_down_finite (hKernel3Ideal := hKernel3Ideal) (hPre_ffn_down_finite := hPre_ffn_down_finite)
    ∧ quiescent_Reference3Ideal (hReference3Ideal := hReference3Ideal)
    ∧ quiescent_Reference3Ideal_pre_ffn_down_finite (hReference3Ideal := hReference3Ideal) (hPre_ffn_down_finite := hPre_ffn_down_finite)
    ∧ quiescent_Kernel4 (hKernel4 := hKernel4)
    ∧ quiescent_Kernel4Ideal (hKernel4Ideal := hKernel4Ideal)
    ∧ quiescent_Kernel4Ideal_pre_merge_finite (hKernel4Ideal := hKernel4Ideal) (hPre_merge_finite := hPre_merge_finite)
    ∧ quiescent_Reference4Ideal (hReference4Ideal := hReference4Ideal)
    ∧ quiescent_Reference4Ideal_pre_merge_finite (hReference4Ideal := hReference4Ideal) (hPre_merge_finite := hPre_merge_finite)
    ∧ quiescent_Kernel5 (hKernel5 := hKernel5)
    ∧ quiescent_Kernel5Ideal (hKernel5Ideal := hKernel5Ideal)
    ∧ quiescent_Kernel5Ideal_pre_ple_finite (hKernel5Ideal := hKernel5Ideal) (hPre_ple_finite := hPre_ple_finite)
    ∧ quiescent_Reference5Ideal (hReference5Ideal := hReference5Ideal)
    ∧ quiescent_Reference5Ideal_pre_ple_finite (hReference5Ideal := hReference5Ideal) (hPre_ple_finite := hPre_ple_finite)
    ∧ quiescent_Kernel6 (hKernel6 := hKernel6)
    ∧ quiescent_Kernel6Ideal (hKernel6Ideal := hKernel6Ideal)
    ∧ quiescent_Kernel6Ideal_pre_mixer_in_finite (hKernel6Ideal := hKernel6Ideal) (hPre_mixer_in_finite := hPre_mixer_in_finite)
    ∧ quiescent_Reference6Ideal (hReference6Ideal := hReference6Ideal)
    ∧ quiescent_Reference6Ideal_pre_mixer_in_finite (hReference6Ideal := hReference6Ideal) (hPre_mixer_in_finite := hPre_mixer_in_finite)
    ∧ quiescent_Kernel7 (hKernel7 := hKernel7)
    ∧ quiescent_Kernel7Ideal (hKernel7Ideal := hKernel7Ideal)
    ∧ quiescent_Kernel7Ideal_pre_ffn_finite (hKernel7Ideal := hKernel7Ideal) (hPre_ffn_finite := hPre_ffn_finite)
    ∧ quiescent_Reference7Ideal (hReference7Ideal := hReference7Ideal)
    ∧ quiescent_Reference7Ideal_pre_ffn_finite (hReference7Ideal := hReference7Ideal) (hPre_ffn_finite := hPre_ffn_finite)
    ∧ quiescent_Kernel8 (hKernel8 := hKernel8)
    ∧ quiescent_Kernel8Ideal (hKernel8Ideal := hKernel8Ideal)
    ∧ quiescent_Kernel8Ideal_pre_in_pool_finite (hKernel8Ideal := hKernel8Ideal) (hPre_in_pool_finite := hPre_in_pool_finite)
    ∧ quiescent_Reference8Ideal (hReference8Ideal := hReference8Ideal)
    ∧ quiescent_Reference8Ideal_pre_in_pool_finite (hReference8Ideal := hReference8Ideal) (hPre_in_pool_finite := hPre_in_pool_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_ffn_up_finite (hKernelIdeal := hKernelIdeal) (hReferenceIdeal := hReferenceIdeal) (hPre_ffn_up_finite := hPre_ffn_up_finite)
    ∧ preserves_Kernel2_Kernel2Ideal
    ∧ algebraic_Kernel2Ideal_Reference2Ideal_pre_pool_finite (hKernel2Ideal := hKernel2Ideal) (hReference2Ideal := hReference2Ideal) (hPre_pool_finite := hPre_pool_finite)
    ∧ preserves_Kernel3_Kernel3Ideal
    ∧ algebraic_Kernel3Ideal_Reference3Ideal_pre_ffn_down_finite (hKernel3Ideal := hKernel3Ideal) (hReference3Ideal := hReference3Ideal) (hPre_ffn_down_finite := hPre_ffn_down_finite)
    ∧ preserves_Kernel4_Kernel4Ideal
    ∧ algebraic_Kernel4Ideal_Reference4Ideal_pre_merge_finite (hKernel4Ideal := hKernel4Ideal) (hReference4Ideal := hReference4Ideal) (hPre_merge_finite := hPre_merge_finite)
    ∧ preserves_Kernel5_Kernel5Ideal
    ∧ algebraic_Kernel5Ideal_Reference5Ideal_pre_ple_finite (hKernel5Ideal := hKernel5Ideal) (hReference5Ideal := hReference5Ideal) (hPre_ple_finite := hPre_ple_finite)
    ∧ preserves_Kernel6_Kernel6Ideal
    ∧ algebraic_Kernel6Ideal_Reference6Ideal_pre_mixer_in_finite (hKernel6Ideal := hKernel6Ideal) (hReference6Ideal := hReference6Ideal) (hPre_mixer_in_finite := hPre_mixer_in_finite)
    ∧ preserves_Kernel7_Kernel7Ideal
    ∧ algebraic_Kernel7Ideal_Reference7Ideal_pre_ffn_finite (hKernel7Ideal := hKernel7Ideal) (hReference7Ideal := hReference7Ideal) (hPre_ffn_finite := hPre_ffn_finite)
    ∧ preserves_Kernel8_Kernel8Ideal
    ∧ algebraic_Kernel8Ideal_Reference8Ideal_pre_in_pool_finite (hKernel8Ideal := hKernel8Ideal) (hReference8Ideal := hReference8Ideal) (hPre_in_pool_finite := hPre_in_pool_finite)
    ∧ preserves_Kernel9_Kernel9Ideal
    ∧ algebraic_Kernel9Ideal_Reference9Ideal (hKernel9Ideal := hKernel9Ideal) (hReference9Ideal := hReference9Ideal)
-- ==== Pre_ffn_down_finite.lean ====
abbrev S1x4096x6144 : Shape := ⟨3, ![1, 4096, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S1x4096x1024 : Shape := ⟨3, ![1, 4096, 1024]⟩
abbrev S_ : Shape := ⟨0, ![]⟩

class Facts : Prop where
  bcast_S_S1x4096x6144 : S_.BroadcastsInDim S1x4096x6144 (![] : Fin 0 → Fin S1x4096x6144.rank)
  bcast_S_S3x3072 : S_.BroadcastsInDim S3x3072 (![] : Fin 0 → Fin S3x3072.rank)
  bcast_S_S3072 : S_.BroadcastsInDim S3072 (![] : Fin 0 → Fin S3072.rank)
  bcast_S_S3072x1024 : S_.BroadcastsInDim S3072x1024 (![] : Fin 0 → Fin S3072x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S1x4096x6144 .f32) (main_arg1 : FVec F S3x3072 .f32) (main_arg2 : FVec F S3072 .f32) (main_arg3 : FVec F S3072x1024 .f32) (main_arg4 : FVec F S1024 .f32) (main_arg5 : FVec F S1x4096x1024 .f32) : IVec S1x4096x6144 1 × IVec S3x3072 1 × IVec S3072 1 × IVec S3072x1024 1 × IVec S1024 1 × IVec S1x4096x1024 1 :=
  let main_v0 : FVec F S1x4096x6144 .f32 := Host.absf main_arg0
  let main_cst : FVec F S_ .f32 := constant S_ .f32 0x7F800000#32
  let main_v1 : FVec F S1x4096x6144 .f32 := broadcastInDim S1x4096x6144 ![] bcast_S_S1x4096x6144 main_cst
  let main_v2 : IVec S1x4096x6144 1 := cmpf .olt main_v0 main_v1
  let main_v3 : FVec F S3x3072 .f32 := Host.absf main_arg1
  let main_cst_0 : FVec F S_ .f32 := constant S_ .f32 0x7F800000#32
  let main_v4 : FVec F S3x3072 .f32 := broadcastInDim S3x3072 ![] bcast_S_S3x3072 main_cst_0
  let main_v5 : IVec S3x3072 1 := cmpf .olt main_v3 main_v4
  let main_v6 : FVec F S3072 .f32 := Host.absf main_arg2
  let main_cst_1 : FVec F S_ .f32 := constant S_ .f32 0x7F800000#32
  let main_v7 : FVec F S3072 .f32 := broadcastInDim S3072 ![] bcast_S_S3072 main_cst_1
  let main_v8 : IVec S3072 1 := cmpf .olt main_v6 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_ffn_finite.lean ====
abbrev S1x4096x1024 : Shape := ⟨3, ![1, 4096, 1024]⟩
abbrev S1024 : Shape := ⟨1, ![1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x6144 : S_.BroadcastsInDim S1024x6144 (![] : Fin 0 → Fin S1024x6144.rank)
  bcast_S_S3x3072 : S_.BroadcastsInDim S3x3072 (![] : Fin 0 → Fin S3x3072.rank)
  bcast_S_S3072 : S_.BroadcastsInDim S3072 (![] : Fin 0 → Fin S3072.rank)
  bcast_S_S3072x1024 : S_.BroadcastsInDim S3072x1024 (![] : Fin 0 → Fin S3072x1024.rank)

variable [Facts]

def fn_part1 {F : FTy → Type} [FloatOps F] (main_arg6 : FVec F S1024 .f32) (main_v2 : IVec S1x4096x1024 1) (main_v5 : IVec S1024 1) (main_v8 : IVec S1024x6144 1) (main_v11 : IVec S3x3072 1) (main_v14 : IVec S3072 1) (main_v17 : IVec S3072x1024 1) : IVec S1x4096x1024 1 × IVec S1024 1 × IVec S1024x6144 1 × IVec S3x3072 1 × IVec S3072 1 × IVec S3072x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S1x4096x1024 .f32) (main_arg1 : FVec F S1024 .f32) (main_arg2 : FVec F S1024x6144 .f32) (main_arg3 : FVec F S3x3072 .f32) (main_arg4 : FVec F S3072 .f32) (main_arg5 : FVec F S3072x1024 .f32) (main_arg6 : FVec F S1024 .f32) : IVec S1x4096x1024 1 × IVec S1024 1 × IVec S1024x6144 1 × IVec S3x3072 1 × IVec S3072 1 × IVec S3072x1024 1 × IVec S1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6144 .f32 := Host.absf main_arg2
  let main_cst_1 : FVec F S_ .f32 := constant S_ .f32 0x7F800000#32
  let main_v7 : FVec F S1024x6144 .f32 := broadcastInDim S1024x6144 ![] bcast_S_S1024x6144 main_cst_1
  let main_v8 : IVec S1024x6144 1 := cmpf .olt main_v6 main_v7
  let main_v9 : FVec F S3x3072 .f32 := Host.absf main_arg3
  let main_cst_2 : FVec F S_ .f32 := constant S_ .f32 0x7F800000#32
  let main_v10 : FVec F S3x3072 .f32 := broadcastInDim S3x3072 ![] bcast_S_S3x3072 main_cst_2
  let main_v11 : IVec S3x3072 1 := cmpf .olt main_v9 main_v10
  let main_v12 : FVec F S3072 .f32 := Host.absf main_arg4
  let main_cst_3 : FVec F S_ .f32 := constant S_ .f32 0x7F800000#32
  let main_v13 : FVec F S3072 .f32 := broadcastInDim S3072 ![] bcast_S_S3072 main_cst_3
  let main_v14 : IVec S3072 1 := cmpf .olt main_v12 main_v13
  let main_v15 : FVec F S3072x1024 .f32 := Host.absf main_arg5
  let main_cst_4 : FVec F S_ .f32 := constant S_ .f32 0x7F800000#32
  let main_v16 : FVec F S3072x1024 .f32 := broadcastInDim S3072x1024 ![] bcast_S_S3072x1024 main_cst_4
  let main_v17 : IVec S3072x1024 1 := cmpf .olt main_v15 main_v16
  fn_part1 (F := F) main_arg6 main_v2 main_v5 main_v8 main_v11 main_v14 main_v17
-- ==== Pre_ffn_up_finite.lean ====
abbrev S1x4096x1024 : Shape := ⟨3, ![1, 4096, 1024]⟩
abbrev S1024 : Shape := ⟨1, ![1024]⟩
abbrev S1024x6144 : Shape := ⟨2, ![1024, 6144]⟩
abbrev S1x4096x6144 : Shape := ⟨3, ![1, 4096, 6144]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x6144 : S_.BroadcastsInDim S1024x6144 (![] : Fin 0 → Fin S1024x6144.rank)
  bcast_S_S1x4096x6144 : S_.BroadcastsInDim S1x4096x6144 (![] : Fin 0 → Fin S1x4096x6144.rank)

variable [Facts]

def fn {F : FTy → Type} [FloatOps F] (main_arg0 : FVec F S1x4096x1024 .f32) (main_arg1 : FVec F S1024 .f32) (main_arg2 : FVec F S1024x6144 .f32) (main_arg3 : FVec F S1x4096x6144 .f32) (main_arg4 : FVec F S1x4096x1024 .f32) : IVec S1x4096x1024 1 × IVec S1024 1 × IVec S1024x6144 1 × IVec S1x4096x6144 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6144 .f32 := Host.absf main_arg2
  let main_cst_1 : FVec F S_ .f32 := constant S_ .f32 0x7F800000#32
  let main_v7 : FVec F S1024x6144 .f32 := broadcastInDim S1024x6144 ![] bcast_S_S1024x6144 main_cst_1
  let main_v8 : IVec S1024x6144 1 := cmpf .olt main_v6 main_v7
  let main_v9 : FVec F S1x4096x6144 .f32 := Host.absf main_arg3
  let main_cst_2 : FVec F S_ .f32 := constant S_ .f32 0x7F800000#32
  let main_v10 : FVec F S1x4096x6144 .f32 := broadcastInDim S1x4096x6144 ![] bcast_S_S1x4096x6144 main_cst_2
  let main_v11 : IVec S1x4096x6144 1 := cmpf .olt main_v9 main_v10
  (main_v2, main_v5, main_v8, main_v11)
-- ==== Pre_in_pool_finite.lean ====
abbrev S1x4096x1024 : Shape := ⟨3, ![1, 4096, 1024]⟩
abbrev S1024 : Shape := ⟨1, ![1024]⟩
abbrev S1024x4608 : Shape := ⟨2, ![1024, 4608]⟩
abbrev S4x128x128 : Shape := ⟨3, ![4, 128, 128]⟩
abbrev S512 : Shape := ⟨1, ![512]⟩
abbrev S512x1024 : Shape := ⟨2, ![512, 1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x4608 : S_.BroadcastsInDim S1024x4608 (![] : Fin 0 → Fin S1024x4608.rank)
  bcast_S_S4x128x128 : S_.BroadcastsInDim S4x128x128 (![] : Fin 0 → Fin S4x128x128.rank)
  bcast_S_S512 : S_.BroadcastsInDim S512 (![] : Fin 0 → Fin S512.rank)
  bcast_S_S512x1024 : S_.BroadcastsInDim S512x1024 (![] : Fin 0 → Fin S512x1024.rank)

variable [Facts]

def fn {F : FTy → Type} [FloatOps F] (main_arg0 : FVec F S1x4096x1024 .f32) (main_arg1 : FVec F S1024 .f32) (main_arg2 : FVec F S1024x4608 .f32) (main_arg3 : FVec F S4x128x128 .f32) (main_arg4 : FVec F S512 .f32) (main_arg5 : FVec F S512x1024 .f32) : IVec S1x4096x1024 1 × IVec S1024 1 × IVec S1024x4608 1 × IVec S4x128x128 1 × IVec S512 1 × IVec S512x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4608 .f32 := Host.absf main_arg2
  let main_cst_1 : FVec F S_ .f32 := constant S_ .f32 0x7F800000#32
  let main_v7 : FVec F S1024x4608 .f32 := broadcastInDim S1024x4608 ![] bcast_S_S1024x4608 main_cst_1
  let main_v8 : IVec S1024x4608 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x1024 .f32 := Host.absf main_arg5
  let main_cst_4 : FVec F S_ .f32 := constant S_ .f32 0x7F800000#32
  let main_v16 : FVec F S512x1024 .f32 := broadcastInDim S512x1024 ![] bcast_S_S512x1024 main_cst_4
  let main_v17 : IVec S512x1024 1 := cmpf .olt main_v15 main_v16
  (main_v2, main_v5, main_v8, main_v11, main_v14, main_v17)
-- ==== Pre_merge_finite.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S1x4096x1024 .f32) (main_v2 : IVec S1x4096x1024 1) (main_v5 : IVec S1x4096x1024 1) (main_v8 : IVec S1x4096x1024 1) (main_v11 : IVec S1x4096x1024 1) (main_v14 : IVec S1024x1024 1) (main_v17 : IVec S1024 1) : IVec S1x4096x1024 1 × IVec S1x4096x1024 1 × IVec S1x4096x1024 1 × IVec S1x4096x1024 1 × IVec S1024x1024 1 × IVec S1024 1 × IVec S1x4096x1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  (main_v2, main_v5, main_v8, main_v11, main_v14, main_v17, main_v20)

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1024x1024 .f32) (main_arg5 : FVec F S1024 .f32) (main_arg6 : FVec F S1x4096x1024 .f32) : IVec S1x4096x1024 1 × IVec S1x4096x1024 1 × IVec S1x4096x1024 1 × IVec S1x4096x1024 1 × IVec S1024x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_mixer_in_finite.lean ====
abbrev S1x4096x1024 : Shape := ⟨3, ![1, 4096, 1024]⟩
abbrev S1024 : Shape := ⟨1, ![1024]⟩
abbrev S1024x4608 : Shape := ⟨2, ![1024, 4608]⟩
abbrev S1x4096x4608 : Shape := ⟨3, ![1, 4096, 4608]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x4608 : S_.BroadcastsInDim S1024x4608 (![] : Fin 0 → Fin S1024x4608.rank)
  bcast_S_S1x4096x4608 : S_.BroadcastsInDim S1x4096x4608 (![] : Fin 0 → Fin S1x4096x4608.rank)

variable [Facts]

def fn {F : FTy → Type} [FloatOps F] (main_arg0 : FVec F S1x4096x1024 .f32) (main_arg1 : FVec F S1024 .f32) (main_arg2 : FVec F S1024x4608 .f32) (main_arg3 : FVec F S1x4096x4608 .f32) (main_arg4 : FVec F S1x4096x1024 .f32) : IVec S1x4096x1024 1 × IVec S1024 1 × IVec S1024x4608 1 × IVec S1x4096x4608 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4608 .f32 := Host.absf main_arg2
  let main_cst_1 : FVec F S_ .f32 := constant S_ .f32 0x7F800000#32
  let main_v7 : FVec F S1024x4608 .f32 := broadcastInDim S1024x4608 ![] bcast_S_S1024x4608 main_cst_1
  let main_v8 : IVec S1024x4608 1 := cmpf .olt main_v6 main_v7
  let main_v9 : FVec F S1x4096x4608 .f32 := Host.absf main_arg3
  let main_cst_2 : FVec F S_ .f32 := constant S_ .f32 0x7F800000#32
  let main_v10 : FVec F S1x4096x4608 .f32 := broadcastInDim S1x4096x4608 ![] bcast_S_S1x4096x4608 main_cst_2
  let main_v11 : IVec S1x4096x4608 1 := cmpf .olt main_v9 main_v10
  (main_v2, main_v5, main_v8, main_v11)
-- ==== Pre_ple_finite.lean ====
abbrev S1x4096x1024 : Shape := ⟨3, ![1, 4096, 1024]⟩
abbrev S1x4096x256 : Shape := ⟨3, ![1, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S1x4096x1024 : S_.BroadcastsInDim S1x4096x1024 (![] : Fin 0 → Fin S1x4096x1024.rank)
  bcast_S_S1x4096x256 : S_.BroadcastsInDim S1x4096x256 (![] : Fin 0 → Fin S1x4096x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S1024 .f32) (main_v2 : IVec S1x4096x1024 1) (main_v5 : IVec S1x4096x256 1) (main_v8 : IVec S1x4096x1024 1) (main_v11 : IVec S1024 1) (main_v14 : IVec S1024x1024 1) (main_v17 : IVec S256x1024 1) : IVec S1x4096x1024 1 × IVec S1x4096x256 1 × IVec S1x4096x1024 1 × IVec S1024 1 × IVec S1024x1024 1 × IVec S256x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S1x4096x1024 .f32) (main_arg1 : FVec F S1x4096x256 .f32) (main_arg2 : FVec F S1x4096x1024 .f32) (main_arg3 : FVec F S1024 .f32) (main_arg4 : FVec F S1024x1024 .f32) (main_arg5 : FVec F S256x1024 .f32) (main_arg6 : FVec F S1024 .f32) : IVec S1x4096x1024 1 × IVec S1x4096x256 1 × IVec S1x4096x1024 1 × IVec S1024 1 × IVec S1024x1024 1 × IVec S256x1024 1 × IVec S1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x256 .f32 := Host.absf main_arg1
  let main_cst_0 : FVec F S_ .f32 := constant S_ .f32 0x7F800000#32
  let main_v4 : FVec F S1x4096x256 .f32 := broadcastInDim S1x4096x256 ![] bcast_S_S1x4096x256 main_cst_0
  let main_v5 : IVec S1x4096x256 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg6 main_v2 main_v5 main_v8 main_v11 main_v14 main_v17
-- ==== Pre_pool_finite.lean ====
abbrev S1x4096x512 : Shape := ⟨3, ![1, 4096, 512]⟩
abbrev S4x128x128 : Shape := ⟨3, ![4, 128, 128]⟩
abbrev S512 : Shape := ⟨1, ![512]⟩
abbrev S512x1024 : Shape := ⟨2, ![512, 1024]⟩
abbrev S1x4096x1024 : Shape := ⟨3, ![1, 4096, 1024]⟩
abbrev S_ : Shape := ⟨0, ![]⟩

class Facts : Prop where
  bcast_S_S4x128x128 : S_.BroadcastsInDim S4x128x128 (![] : Fin 0 → Fin S4x128x128.rank)
  bcast_S_S512 : S_.BroadcastsInDim S512 (![] : Fin 0 → Fin S512.rank)
  bcast_S_S512x1024 : S_.BroadcastsInDim S512x1024 (![] : Fin 0 → Fin S512x1024.rank)
  bcast_S_S1x4096x1024 : S_.BroadcastsInDim S1x4096x1024 (![] : Fin 0 → Fin S1x4096x1024.rank)

variable [Facts]

def fn {F : FTy → Type} [FloatOps F] (main_arg0 : FVec F S1x4096x512 .f32) (main_arg1 : FVec F S4x128x128 .f32) (main_arg2 : FVec F S512 .f32) (main_arg3 : FVec F S512x1024 .f32) (main_arg4 : FVec F S1x4096x1024 .f32) : IVec S4x128x128 1 × IVec S512 1 × IVec S512x1024 1 × IVec S1x4096x1024 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S512 .f32 := Host.absf main_arg2
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512x1024 .f32 := Host.absf main_arg3
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S1x4096x1024 .f32 := Host.absf main_arg4
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  (main_v2, main_v5, main_v8, main_v11)
-- ==== Kernel.lean ====
abbrev S1x4096x1024 : Shape := ⟨3, ![1, 4096, 1024]⟩
abbrev S1024 : Shape := ⟨1, ![1024]⟩
abbrev S1024x6144 : Shape := ⟨2, ![1024, 6144]⟩
abbrev S1x4096x6144 : Shape := ⟨3, ![1, 4096, 6144]⟩
abbrev S4096x6144 : Shape := ⟨2, ![4096, 6144]⟩
abbrev S4096x1024 : Shape := ⟨2, ![4096, 1024]⟩
abbrev S1x1024 : Shape := ⟨2, ![1, 1024]⟩
abbrev S1024x4x1536 : Shape := ⟨3, ![1024, 4, 1536]⟩
abbrev S4x1024x1536 : Shape := ⟨3, ![4, 1024, 1536]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 15
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S1x4096x6144, .f32⟩
  | .hbm, ⟨4, _⟩ => ⟨S1x4096x1024, .f32⟩
  | .hbm, ⟨5, _⟩ => ⟨S4096x6144, .f32⟩
  | .hbm, ⟨6, _⟩ => ⟨S4096x6144, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024x4x1536, .f32⟩
  | .hbm, ⟨11, _⟩ => ⟨S4x1024x1536, .f32⟩
  | .hbm, ⟨12, _⟩ => ⟨S4x1024x1536, .bf16⟩
  | .hbm, ⟨13, _⟩ => ⟨S4096x1024, .f32⟩
  | .hbm, ⟨14, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x4096x1024 : Shape := ⟨3, ![1, 4096, 1024]⟩
abbrev S1024 : Shape := ⟨1, ![1024]⟩
abbrev S1024x6144 : Shape := ⟨2, ![1024, 6144]⟩
abbrev S1x4096x6144 : Shape := ⟨3, ![1, 4096, 6144]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S1x4096x6144, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x6144, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel2.lean ====
abbrev S1x4096x512 : Shape := ⟨3, ![1, 4096, 512]⟩
abbrev S4x128x128 : Shape := ⟨3, ![4, 128, 128]⟩
abbrev S512 : Shape := ⟨1, ![512]⟩
abbrev S512x1024 : Shape := ⟨2, ![512, 1024]⟩
abbrev S1x4096x1024 : Shape := ⟨3, ![1, 4096, 1024]⟩
abbrev S512x4x256 : Shape := ⟨3, ![512, 4, 256]⟩
abbrev S4x512x256 : Shape := ⟨3, ![4, 512, 256]⟩
abbrev S4096x1024 : Shape := ⟨2, ![4096, 1024]⟩
abbrev S_ : Shape := ⟨0, ![]⟩
abbrev S1x1x512 : Shape := ⟨3, ![1, 1, 512]⟩
abbrev S1x4097x512 : Shape := ⟨3, ![1, 4097, 512]⟩
abbrev S4096 : Shape := ⟨1, ![4096]⟩
abbrev S1x4097x128 : Shape := ⟨3, ![1, 4097, 128]⟩
abbrev S1x1x128 : Shape := ⟨3, ![1, 1, 128]⟩
abbrev S1x4095x128 : Shape := ⟨3, ![1, 4095, 128]⟩
abbrev S1x4096x128 : Shape := ⟨3, ![1, 4096, 128]⟩
abbrev S1x4096x1 : Shape := ⟨3, ![1, 4096, 1]⟩
abbrev S1x3x128 : Shape := ⟨3, ![1, 3, 128]⟩
abbrev S1x4093x128 : Shape := ⟨3, ![1, 4093, 128]⟩
abbrev S1x7x128 : Shape := ⟨3, ![1, 7, 128]⟩
abbrev S1x4089x128 : Shape := ⟨3, ![1, 4089, 128]⟩
abbrev S1x15x128 : Shape := ⟨3, ![1, 15, 128]⟩
abbrev S1x4081x128 : Shape := ⟨3, ![1, 4081, 128]⟩
abbrev S4096x512 : Shape := ⟨2, ![4096, 512]⟩
abbrev S1x512 : Shape := ⟨2, ![1, 512]⟩
abbrev S512x512 : Shape := ⟨2, ![512, 512]⟩
abbrev S16x512 : Shape := ⟨2, ![16, 512]⟩
abbrev S512x256 : Shape := ⟨2, ![512, 256]⟩
abbrev S1x512x256 : Shape := ⟨3, ![1, 512, 256]⟩
abbrev S512x128 : Shape := ⟨2, ![512, 128]⟩
abbrev S1x128x128 : Shape := ⟨3, ![1, 128, 128]⟩
abbrev S128x128 : Shape := ⟨2, ![128, 128]⟩
abbrev S512x1 : Shape := ⟨2, ![512, 1]⟩
abbrev S16x128 : Shape := ⟨2, ![16, 128]⟩
abbrev S528x128 : Shape := ⟨2, ![528, 128]⟩

abbrev nBuf : Space → Nat
  | .hbm => 95
  | .vmem => 13
  | .smem => 0
  | _ => 0

abbrev bufTy : (tb : Table) → Fin (tcTables nBuf tb) → BufTy
  | .hbm, ⟨0, _⟩ => ⟨S1x4096x512, .f32⟩
  | .hbm, ⟨1, _⟩ => ⟨S4x128x128, .f32⟩
  | .hbm, ⟨2, _⟩ => ⟨S512, .f32⟩
  | .hbm, ⟨3, _⟩ => ⟨S512x1024, .f32⟩
  | .hbm, ⟨4, _⟩ => ⟨S1x4096x1024, .f32⟩
  | .hbm, ⟨5, _⟩ => ⟨S512x4x256, .f32⟩
  | .hbm, ⟨6, _⟩ => ⟨S4x512x256, .f32⟩
  | .hbm, ⟨7, _⟩ => ⟨S4096x1024, .f32⟩
  | .hbm, ⟨8, _⟩ => ⟨S4096x1024, .bf16⟩
  | .hbm, ⟨9, _⟩ => ⟨S_, .f32⟩
  | .hbm, ⟨10, _⟩ => ⟨S1x1x512, .f32⟩
  | .hbm, ⟨11, _⟩ => ⟨S_, .f32⟩
  | .hbm, ⟨12, _⟩ => ⟨S_, .f32⟩
  | .hbm, ⟨13, _⟩ => ⟨S1x4096x512, .f32⟩
  | .hbm, ⟨14, _⟩ => ⟨S1x4097x512, .f32⟩
  | .hbm, ⟨15, _⟩ => ⟨S4096, .i32⟩
  | .hbm, ⟨16, _⟩ => ⟨S1x4097x128, .f32⟩
  | .hbm, ⟨17, _⟩ => ⟨S_, .f32⟩
  | .hbm, ⟨18, _⟩ => ⟨S1x1x128, .f32⟩
  | .hbm, ⟨19, _⟩ => ⟨S1x4095x128, .f32⟩
  | .hbm, ⟨20, _⟩ => ⟨S1x4096x128, .f32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S1x4096x1, .f32⟩
  | .hbm, ⟨29, _⟩ => ⟨S1x4096x128, .f32⟩
  | .hbm, ⟨30, _⟩ => ⟨S1x4096x128, .f32⟩
  | .hbm, ⟨31, _⟩ => ⟨S1x4096x128, .f32⟩
  | .hbm, ⟨32, _⟩ => ⟨S1x4096x128, .f32⟩
  | .hbm, ⟨33, _⟩ => ⟨S1x4097x128, .f32⟩
  | .hbm, ⟨34, _⟩ => ⟨S_, .f32⟩
  | .hbm, ⟨35, _⟩ => ⟨S1x3x128, .f32⟩
  | .hbm, ⟨36, _⟩ => ⟨S1x4093x128, .f32⟩
  | .hbm, ⟨37, _⟩ => ⟨S1x4096x128, .f32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S1x4096x1, .f32⟩
  | .hbm, ⟨46, _⟩ => ⟨S1x4096x128, .f32⟩
  | .hbm, ⟨47, _⟩ => ⟨S1x4096x128, .f32⟩
  | .hbm, ⟨48, _⟩ => ⟨S1x4096x128, .f32⟩
  | .hbm, ⟨49, _⟩ => ⟨S1x4096x128, .f32⟩
  | .hbm, ⟨50, _⟩ => ⟨S1x4097x128, .f32⟩
  | .hbm, ⟨51, _⟩ => ⟨S_, .f32⟩
  | .hbm, ⟨52, _⟩ => ⟨S1x7x128, .f32⟩
  | .hbm, ⟨53, _⟩ => ⟨S1x4089x128, .f32⟩
  | .hbm, ⟨54, _⟩ => ⟨S1x4096x128, .f32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .f32⟩
  | .hbm, ⟨62, _⟩ => ⟨S1x4096x1, .f32⟩
  | .hbm, ⟨63, _⟩ => ⟨S1x4096x128, .f32⟩
  | .hbm, ⟨64, _⟩ => ⟨S1x4096x128, .f32⟩
  | .hbm, ⟨65, _⟩ => ⟨S1x4096x128, .f32⟩
  | .hbm, ⟨66, _⟩ => ⟨S1x4096x128, .f32⟩
  | .hbm, ⟨67, _⟩ => ⟨S1x4097x128, .f32⟩
  | .hbm, ⟨68, _⟩ => ⟨S_, .f32⟩
  | .hbm, ⟨69, _⟩ => ⟨S1x15x128, .f32⟩
  | .hbm, ⟨70, _⟩ => ⟨S1x4081x128, .f32⟩
  | .hbm, ⟨71, _⟩ => ⟨S1x4096x128, .f32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .f32⟩
  | .hbm, ⟨79, _⟩ => ⟨S1x4096x1, .f32⟩
  | .hbm, ⟨80, _⟩ => ⟨S1x4096x128, .f32⟩
  | .hbm, ⟨81, _⟩ => ⟨S1x4096x128, .f32⟩
  | .hbm, ⟨82, _⟩ => ⟨S1x4096x128, .f32⟩
  | .hbm, ⟨83, _⟩ => ⟨S1x4096x128, .f32⟩
  | .hbm, ⟨84, _⟩ => ⟨S1x4096x512, .f32⟩
  | .hbm, ⟨85, _⟩ => ⟨S1x4096x512, .f32⟩
  | .hbm, ⟨86, _⟩ => ⟨S4096x512, .f32⟩
  | .hbm, ⟨87, _⟩ => ⟨S4096x512, .bf16⟩
  | .hbm, ⟨88, _⟩ => ⟨S4x128x128, .bf16⟩
  | .hbm, ⟨89, _⟩ => ⟨S1x512, .f32⟩
  | .hbm, ⟨90, _⟩ => ⟨S4x512x256, .bf16⟩
  | .hbm, ⟨91, _⟩ => ⟨S4096x512, .bf16⟩
  | .hbm, ⟨92, _⟩ => ⟨S4x512x256, .f32⟩
  | .hbm, ⟨93, _⟩ => ⟨S4x128x128, .f32⟩
  | .hbm, ⟨94, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S4x128x128, .bf16⟩
  | .local _ .vmem, ⟨5, _⟩ => ⟨S1x512, .f32⟩
  | .local _ .vmem, ⟨6, _⟩ => ⟨S4x512x256, .bf16⟩
  | .local _ .vmem, ⟨7, _⟩ => ⟨S512x512, .bf16⟩
  | .local _ .vmem, ⟨8, _⟩ => ⟨S512x512, .bf16⟩
  | .local _ .vmem, ⟨9, _⟩ => ⟨S4x512x256, .f32⟩
  | .local _ .vmem, ⟨10, _⟩ => ⟨S4x128x128, .f32⟩
  | .local _ .vmem, ⟨11, _⟩ => ⟨S1x512, .f32⟩
  | .local _ .vmem, ⟨12, _⟩ => ⟨S16x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_call0_call0_cst : Ref sig .tc := ⟨.hbm, 11, rfl⟩
abbrev main_call0_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71_0 : Ref sig .tc := ⟨.hbm, 91, rfl⟩
abbrev main_v71_1 : Ref sig .tc := ⟨.hbm, 92, rfl⟩
abbrev main_v71_2 : Ref sig .tc := ⟨.hbm, 93, rfl⟩
abbrev main_v71_3 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S1x4096x512 : Shape := ⟨3, ![1, 4096, 512]⟩
abbrev S4x128x128 : Shape := ⟨3, ![4, 128, 128]⟩
abbrev S512 : Shape := ⟨1, ![512]⟩
abbrev S512x1024 : Shape := ⟨2, ![512, 1024]⟩
abbrev S1x4096x1024 : Shape := ⟨3, ![1, 4096, 1024]⟩
abbrev S_ : Shape := ⟨0, ![]⟩
abbrev S1x1x512 : Shape := ⟨3, ![1, 1, 512]⟩
abbrev S1x4097x512 : Shape := ⟨3, ![1, 4097, 512]⟩
abbrev S4096 : Shape := ⟨1, ![4096]⟩
abbrev S1x4097x128 : Shape := ⟨3, ![1, 4097, 128]⟩
abbrev S1x1x128 : Shape := ⟨3, ![1, 1, 128]⟩
abbrev S1x4095x128 : Shape := ⟨3, ![1, 4095, 128]⟩
abbrev S1x4096x128 : Shape := ⟨3, ![1, 4096, 128]⟩
abbrev S1x4096x1 : Shape := ⟨3, ![1, 4096, 1]⟩
abbrev S1x3x128 : Shape := ⟨3, ![1, 3, 128]⟩
abbrev S1x4093x128 : Shape := ⟨3, ![1, 4093, 128]⟩
abbrev S1x7x128 : Shape := ⟨3, ![1, 7, 128]⟩
abbrev S1x4089x128 : Shape := ⟨3, ![1, 4089, 128]⟩
abbrev S1x15x128 : Shape := ⟨3, ![1, 15, 128]⟩
abbrev S1x4081x128 : Shape := ⟨3, ![1, 4081, 128]⟩
abbrev S1x4096x4x128 : Shape := ⟨4, ![1, 4096, 4, 128]⟩
abbrev S4x128x1x4096 : Shape := ⟨4, ![4, 128, 1, 4096]⟩
abbrev S1024x512 : Shape := ⟨2, ![1024, 512]⟩
abbrev S1x512 : Shape := ⟨2, ![1, 512]⟩
abbrev S4x1x4096x128 : Shape := ⟨4, ![4, 1, 4096, 128]⟩
abbrev S4096x512 : Shape := ⟨2, ![4096, 512]⟩
abbrev S512x4x256 : Shape := ⟨3, ![512, 4, 256]⟩
abbrev S4x512x256 : Shape := ⟨3, ![4, 512, 256]⟩

abbrev nBuf : Space → Nat
  | .hbm => 185
  | .vmem => 0
  | .smem => 0
  | _ => 0

abbrev hbmTy0_0 (i : Nat) : BufTy := match i % 128 with
  | 0 => ⟨S1x4096x512, .f32⟩
  | 1 => ⟨S4x128x128, .f32⟩
  | 2 => ⟨S512, .f32⟩
  | 3 => ⟨S512x1024, .f32⟩
  | 4 => ⟨S1x4096x1024, .f32⟩
  | 5 => ⟨S_, .f32⟩
  | 6 => ⟨S1x1x512, .f32⟩
  | 7 => ⟨S_, .f32⟩
  | 8 => ⟨S_, .f32⟩
  | 9 => ⟨S1x4096x512, .f32⟩
  | 10 => ⟨S1x4097x512, .f32⟩
  | 11 => ⟨S_, .f32⟩
  | 12 => ⟨S1x1x512, .f32⟩
  | 13 => ⟨S4096, .i32⟩
  | 14 => ⟨S1x4097x128, .f32⟩
  | 15 => ⟨S_, .f32⟩
  | 16 => ⟨S1x1x128, .f32⟩
  | 17 => ⟨S1x4095x128, .f32⟩
  | 18 => ⟨S1x4096x128, .f32⟩
  | 19 => ⟨S_, .f32⟩
  | 20 => ⟨S1x1x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S1x4096x128, .f32⟩
  | 30 => ⟨S1x4096x128, .f32⟩
  | 31 => ⟨S1x4096x128, .f32⟩
  | 32 => ⟨S1x4096x128, .f32⟩
  | 33 => ⟨S1x4097x128, .f32⟩
  | 34 => ⟨S_, .f32⟩
  | 35 => ⟨S1x3x128, .f32⟩
  | 36 => ⟨S1x4093x128, .f32⟩
  | 37 => ⟨S1x4096x128, .f32⟩
  | 38 => ⟨S_, .f32⟩
  | 39 => ⟨S1x3x128, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S1x4096x1, .f32⟩
  | 48 => ⟨S1x4096x128, .f32⟩
  | 49 => ⟨S1x4096x128, .f32⟩
  | 50 => ⟨S1x4096x128, .f32⟩
  | 51 => ⟨S1x4096x128, .f32⟩
  | 52 => ⟨S1x4097x128, .f32⟩
  | 53 => ⟨S_, .f32⟩
  | 54 => ⟨S1x7x128, .f32⟩
  | 55 => ⟨S1x4089x128, .f32⟩
  | 56 => ⟨S1x4096x128, .f32⟩
  | 57 => ⟨S_, .f32⟩
  | 58 => ⟨S1x7x128, .f32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .f32⟩
  | 66 => ⟨S1x4096x1, .f32⟩
  | 67 => ⟨S1x4096x128, .f32⟩
  | 68 => ⟨S1x4096x128, .f32⟩
  | 69 => ⟨S1x4096x128, .f32⟩
  | 70 => ⟨S1x4096x128, .f32⟩
  | 71 => ⟨S1x4097x128, .f32⟩
  | 72 => ⟨S_, .f32⟩
  | 73 => ⟨S1x15x128, .f32⟩
  | 74 => ⟨S1x4081x128, .f32⟩
  | 75 => ⟨S1x4096x128, .f32⟩
  | 76 => ⟨S_, .f32⟩
  | 77 => ⟨S1x15x128, .f32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S4096, .f32⟩
  | 85 => ⟨S1x4096x1, .f32⟩
  | 86 => ⟨S1x4096x128, .f32⟩
  | 87 => ⟨S1x4096x128, .f32⟩
  | 88 => ⟨S1x4096x128, .f32⟩
  | 89 => ⟨S1x4096x128, .f32⟩
  | 90 => ⟨S1x4096x512, .f32⟩
  | 91 => ⟨S1x4096x512, .f32⟩
  | 92 => ⟨S1x4096x4x128, .f32⟩
  | 93 => ⟨S4x128x1x4096, .f32⟩
  | 94 => ⟨S1x4096x4x128, .f32⟩
  | 95 => ⟨S1x4096x512, .f32⟩
  | 96 => ⟨S1x1x512, .f32⟩
  | 97 => ⟨S1x4096x512, .f32⟩
  | 98 => ⟨S1x4096x512, .f32⟩
  | 99 => ⟨S1x4096x1024, .f32⟩
  | 100 => ⟨S1024x512, .f32⟩
  | 101 => ⟨S512x1024, .f32⟩
  | 102 => ⟨S1x4096x512, .f32⟩
  | 103 => ⟨S1x4096x512, .f32⟩
  | 104 => ⟨S_, .f32⟩
  | 105 => ⟨S1x512, .f32⟩
  | 106 => ⟨S1x1x512, .f32⟩
  | 107 => ⟨S1x4096x512, .f32⟩
  | 108 => ⟨S1x4096x512, .f32⟩
  | 109 => ⟨S_, .f32⟩
  | 110 => ⟨S512, .f32⟩
  | 111 => ⟨S1x4096x4x128, .f32⟩
  | 112 => ⟨S4x128x1x4096, .f32⟩
  | 113 => ⟨S4x1x4096x128, .f32⟩
  | 114 => ⟨S1x4096x4x128, .f32⟩
  | 115 => ⟨S4x128x128, .f32⟩
  | 116 => ⟨S4x128x128, .f32⟩
  | 117 => ⟨S1x4096x512, .f32⟩
  | 118 => ⟨S1x4096x512, .f32⟩
  | 119 => ⟨S1x4096x128, .f32⟩
  | 120 => ⟨S1x4096x128, .f32⟩
  | 121 => ⟨S1x4096x128, .f32⟩
  | 122 => ⟨S1x4096x128, .f32⟩
  | 123 => ⟨S1x4096x128, .f32⟩
  | 124 => ⟨S1x4096x128, .f32⟩
  | 125 => ⟨S1x4096x128, .f32⟩
  | 126 => ⟨S_, .f32⟩
  | 127 => ⟨S1x4097x128, .f32⟩
  | _ => ⟨S1x4096x512, .f32⟩

abbrev hbmTy0_1 (i : Nat) : BufTy := match i % 128 with
  | 0 => ⟨S1x15x128, .f32⟩
  | 1 => ⟨S1x4081x128, .f32⟩
  | 2 => ⟨S_, .f32⟩
  | 3 => ⟨S1x4097x128, .f32⟩
  | 4 => ⟨S1x4097x128, .f32⟩
  | 5 => ⟨S_, .f32⟩
  | 6 => ⟨S1x4097x512, .f32⟩
  | 7 => ⟨S1x4096x128, .f32⟩
  | 8 => ⟨S1x4096x128, .f32⟩
  | 9 => ⟨S1x4096x128, .f32⟩
  | 10 => ⟨S_, .f32⟩
  | 11 => ⟨S1x4097x128, .f32⟩
  | 12 => ⟨S1x7x128, .f32⟩
  | 13 => ⟨S1x4089x128, .f32⟩
  | 14 => ⟨S_, .f32⟩
  | 15 => ⟨S1x4097x128, .f32⟩
  | 16 => ⟨S1x4097x128, .f32⟩
  | 17 => ⟨S_, .f32⟩
  | 18 => ⟨S1x4097x512, .f32⟩
  | 19 => ⟨S1x4097x512, .f32⟩
  | 20 => ⟨S1x4096x128, .f32⟩
  | 21 => ⟨S1x4096x128, .f32⟩
  | 22 => ⟨S1x4096x128, .f32⟩
  | 23 => ⟨S_, .f32⟩
  | 24 => ⟨S1x4097x128, .f32⟩
  | 25 => ⟨S1x3x128, .f32⟩
  | 26 => ⟨S1x4093x128, .f32⟩
  | 27 => ⟨S_, .f32⟩
  | 28 => ⟨S1x4097x128, .f32⟩
  | 29 => ⟨S1x4097x128, .f32⟩
  | 30 => ⟨S_, .f32⟩
  | 31 => ⟨S1x4097x512, .f32⟩
  | 32 => ⟨S1x4097x512, .f32⟩
  | 33 => ⟨S1x4096x128, .f32⟩
  | 34 => ⟨S1x4096x128, .f32⟩
  | 35 => ⟨S1x4096x128, .f32⟩
  | 36 => ⟨S_, .f32⟩
  | 37 => ⟨S1x4097x128, .f32⟩
  | 38 => ⟨S1x1x128, .f32⟩
  | 39 => ⟨S1x4095x128, .f32⟩
  | 40 => ⟨S_, .f32⟩
  | 41 => ⟨S1x4097x128, .f32⟩
  | 42 => ⟨S1x4097x128, .f32⟩
  | 43 => ⟨S_, .f32⟩
  | 44 => ⟨S1x4097x512, .f32⟩
  | 45 => ⟨S1x4097x512, .f32⟩
  | 46 => ⟨S1x1x512, .f32⟩
  | 47 => ⟨S1x4096x512, .f32⟩
  | 48 => ⟨S_, .f32⟩
  | 49 => ⟨S_, .f32⟩
  | 50 => ⟨S1x4096x512, .f32⟩
  | 51 => ⟨S1x4096x512, .f32⟩
  | 52 => ⟨S4096x512, .f32⟩
  | 53 => ⟨S4096x512, .bf16⟩
  | 54 => ⟨S512x4x256, .f32⟩
  | 55 => ⟨S4x512x256, .f32⟩
  | 56 => ⟨S1x512, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_v56 : Ref sig .tc := ⟨.hbm, 80, rfl⟩
abbrev main_c_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_18 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_19 : Ref sig .tc := ⟨.hbm, 130, rfl⟩
abbrev main_v102 : Ref sig .tc := ⟨.hbm, 131, rfl⟩
abbrev main_v103 : Ref sig .tc := ⟨.hbm, 132, rfl⟩
abbrev main_cst_20 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_21 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_22 : Ref sig .tc := ⟨.hbm, 142, rfl⟩
abbrev main_v111 : Ref sig .tc := ⟨.hbm, 143, rfl⟩
abbrev main_v112 : Ref sig .tc := ⟨.hbm, 144, rfl⟩
abbrev main_cst_23 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_24 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_25 : Ref sig .tc := ⟨.hbm, 155, rfl⟩
abbrev main_v121 : Ref sig .tc := ⟨.hbm, 156, rfl⟩
abbrev main_v122 : Ref sig .tc := ⟨.hbm, 157, rfl⟩
abbrev main_cst_26 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_27 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_28 : Ref sig .tc := ⟨.hbm, 168, rfl⟩
abbrev main_v131 : Ref sig .tc := ⟨.hbm, 169, rfl⟩
abbrev main_v132 : Ref sig .tc := ⟨.hbm, 170, rfl⟩
abbrev main_cst_29 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_call1_call0_cst : Ref sig .tc := ⟨.hbm, 176, rfl⟩
abbrev main_call1_call0_v0 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]
-- ==== Kernel3.lean ====
abbrev S1x4096x6144 : Shape := ⟨3, ![1, 4096, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S1x4096x1024 : Shape := ⟨3, ![1, 4096, 1024]⟩
abbrev S1x4096x3072 : Shape := ⟨3, ![1, 4096, 3072]⟩
abbrev S_ : Shape := ⟨0, ![]⟩
abbrev S1x2x3072 : Shape := ⟨3, ![1, 2, 3072]⟩
abbrev S1x4098x3072 : Shape := ⟨3, ![1, 4098, 3072]⟩
abbrev S1x3072 : Shape := ⟨2, ![1, 3072]⟩
abbrev S1x1x3072 : Shape := ⟨3, ![1, 1, 3072]⟩
abbrev S4096x1024 : Shape := ⟨2, ![4096, 1024]⟩
abbrev S4096x6144 : Shape := ⟨2, ![4096, 6144]⟩
abbrev S4096x3072 : Shape := ⟨2, ![4096, 3072]⟩
abbrev S1x1024 : Shape := ⟨2, ![1, 1024]⟩
abbrev S256x1024 : Shape := ⟨2, ![256, 1024]⟩
abbrev S256x6144 : Shape := ⟨2, ![256, 6144]⟩
abbrev S256x3072 : Shape := ⟨2, ![256, 3072]⟩
abbrev S8x3072 : Shape := ⟨2, ![8, 3072]⟩
abbrev S256 : Shape := ⟨1, ![256]⟩
abbrev S256x1 : Shape := ⟨2, ![256, 1]⟩
abbrev S264x3072 : Shape := ⟨2, ![264, 3072]⟩

abbrev nBuf : Space → Nat
  | .hbm => 96
  | .vmem => 20
  | .smem => 0
  | _ => 0

abbrev bufTy : (tb : Table) → Fin (tcTables nBuf tb) → BufTy
  | .hbm, ⟨0, _⟩ => ⟨S1x4096x6144, .f32⟩
  | .hbm, ⟨1, _⟩ => ⟨S3x3072, .f32⟩
  | .hbm, ⟨2, _⟩ => ⟨S3072, .f32⟩
  | .hbm, ⟨3, _⟩ => ⟨S3072x1024, .f32⟩
  | .hbm, ⟨4, _⟩ => ⟨S1024, .f32⟩
  | .hbm, ⟨5, _⟩ => ⟨S1x4096x1024, .f32⟩
  | .hbm, ⟨6, _⟩ => ⟨S1x4096x3072, .f32⟩
  | .hbm, ⟨7, _⟩ => ⟨S_, .f32⟩
  | .hbm, ⟨8, _⟩ => ⟨S1x2x3072, .f32⟩
  | .hbm, ⟨9, _⟩ => ⟨S1x4098x3072, .f32⟩
  | .hbm, ⟨10, _⟩ => ⟨S1x4096x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S1x4096x3072, .f32⟩
  | .hbm, ⟨15, _⟩ => ⟨S1x4096x3072, .f32⟩
  | .hbm, ⟨16, _⟩ => ⟨S1x1x3072, .f32⟩
  | .hbm, ⟨17, _⟩ => ⟨S1x4096x3072, .f32⟩
  | .hbm, ⟨18, _⟩ => ⟨S1x4096x3072, .f32⟩
  | .hbm, ⟨19, _⟩ => ⟨S1x4096x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S1x4096x3072, .f32⟩
  | .hbm, ⟨24, _⟩ => ⟨S1x4096x3072, .f32⟩
  | .hbm, ⟨25, _⟩ => ⟨S1x4096x3072, .f32⟩
  | .hbm, ⟨26, _⟩ => ⟨S1x4096x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S1x4096x3072, .f32⟩
  | .hbm, ⟨31, _⟩ => ⟨S1x4096x3072, .f32⟩
  | .hbm, ⟨32, _⟩ => ⟨S1x4096x3072, .f32⟩
  | .hbm, ⟨33, _⟩ => ⟨S1x4096x3072, .f32⟩
  | .hbm, ⟨34, _⟩ => ⟨S1x4096x3072, .f32⟩
  | .hbm, ⟨35, _⟩ => ⟨S1x4096x3072, .f32⟩
  | .hbm, ⟨36, _⟩ => ⟨S_, .f32⟩
  | .hbm, ⟨37, _⟩ => ⟨S1x4096x3072, .f32⟩
  | .hbm, ⟨38, _⟩ => ⟨S1x4096x3072, .f32⟩
  | .hbm, ⟨39, _⟩ => ⟨S_, .f32⟩
  | .hbm, ⟨40, _⟩ => ⟨S1x4096x3072, .f32⟩
  | .hbm, ⟨41, _⟩ => ⟨S1x4096x3072, .f32⟩
  | .hbm, ⟨42, _⟩ => ⟨S1x4096x3072, .f32⟩
  | .hbm, ⟨43, _⟩ => ⟨S_, .f32⟩
  | .hbm, ⟨44, _⟩ => ⟨S1x4096x3072, .f32⟩
  | .hbm, ⟨45, _⟩ => ⟨S1x4096x3072, .f32⟩
  | .hbm, ⟨46, _⟩ => ⟨S1x4096x3072, .f32⟩
  | .hbm, ⟨47, _⟩ => ⟨S_, .f32⟩
  | .hbm, ⟨48, _⟩ => ⟨S1x4096x3072, .f32⟩
  | .hbm, ⟨49, _⟩ => ⟨S1x4096x3072, .f32⟩
  | .hbm, ⟨50, _⟩ => ⟨S_, .f32⟩
  | .hbm, ⟨51, _⟩ => ⟨S1x4096x3072, .f32⟩
  | .hbm, ⟨52, _⟩ => ⟨S1x4096x3072, .f32⟩
  | .hbm, ⟨53, _⟩ => ⟨S1x4096x3072, .f32⟩
  | .hbm, ⟨54, _⟩ => ⟨S_, .f32⟩
  | .hbm, ⟨55, _⟩ => ⟨S1x4096x3072, .f32⟩
  | .hbm, ⟨56, _⟩ => ⟨S1x4096x3072, .f32⟩
  | .hbm, ⟨57, _⟩ => ⟨S_, .f32⟩
  | .hbm, ⟨58, _⟩ => ⟨S1x4096x3072, .f32⟩
  | .hbm, ⟨59, _⟩ => ⟨S1x4096x3072, .f32⟩
  | .hbm, ⟨60, _⟩ => ⟨S1x4096x3072, .f32⟩
  | .hbm, ⟨61, _⟩ => ⟨S_, .f32⟩
  | .hbm, ⟨62, _⟩ => ⟨S1x4096x3072, .f32⟩
  | .hbm, ⟨63, _⟩ => ⟨S1x4096x3072, .f32⟩
  | .hbm, ⟨64, _⟩ => ⟨S1x4096x3072, .f32⟩
  | .hbm, ⟨65, _⟩ => ⟨S_, .f32⟩
  | .hbm, ⟨66, _⟩ => ⟨S1x4096x3072, .f32⟩
  | .hbm, ⟨67, _⟩ => ⟨S1x4096x3072, .f32⟩
  | .hbm, ⟨68, _⟩ => ⟨S1x4096x3072, .f32⟩
  | .hbm, ⟨69, _⟩ => ⟨S_, .f32⟩
  | .hbm, ⟨70, _⟩ => ⟨S1x4096x3072, .f32⟩
  | .hbm, ⟨71, _⟩ => ⟨S1x4096x3072, .f32⟩
  | .hbm, ⟨72, _⟩ => ⟨S1x4096x3072, .f32⟩
  | .hbm, ⟨73, _⟩ => ⟨S_, .f32⟩
  | .hbm, ⟨74, _⟩ => ⟨S1x4096x3072, .f32⟩
  | .hbm, ⟨75, _⟩ => ⟨S1x4096x3072, .f32⟩
  | .hbm, ⟨76, _⟩ => ⟨S1x4096x3072, .f32⟩
  | .hbm, ⟨77, _⟩ => ⟨S1x4096x3072, .f32⟩
  | .hbm, ⟨78, _⟩ => ⟨S1x4096x3072, .f32⟩
  | .hbm, ⟨79, _⟩ => ⟨S1x4096x3072, .f32⟩
  | .hbm, ⟨80, _⟩ => ⟨S1x4096x1024, .f32⟩
  | .hbm, ⟨81, _⟩ => ⟨S4096x1024, .f32⟩
  | .hbm, ⟨82, _⟩ => ⟨S4096x1024, .f32⟩
  | .hbm, ⟨83, _⟩ => ⟨S4096x6144, .f32⟩
  | .hbm, ⟨84, _⟩ => ⟨S4096x6144, .bf16⟩
  | .hbm, ⟨85, _⟩ => ⟨S4096x3072, .f32⟩
  | .hbm, ⟨86, _⟩ => ⟨S4096x3072, .bf16⟩
  | .hbm, ⟨87, _⟩ => ⟨S4096x3072, .f32⟩
  | .hbm, ⟨88, _⟩ => ⟨S4096x3072, .bf16⟩
  | .hbm, ⟨89, _⟩ => ⟨S3072x1024, .bf16⟩
  | .hbm, ⟨90, _⟩ => ⟨S1x1024, .f32⟩
  | .hbm, ⟨91, _⟩ => ⟨S4096x6144, .bf16⟩
  | .hbm, ⟨92, _⟩ => ⟨S3072x1024, .f32⟩
  | .hbm, ⟨93, _⟩ => ⟨S3x3072, .f32⟩
  | .hbm, ⟨94, _⟩ => ⟨S1x3072, .f32⟩
  | .hbm, ⟨95, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x6144, .bf16⟩
  | .local _ .vmem, ⟨5, _⟩ => ⟨S256x6144, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S3x3072, .f32⟩
  | .local _ .vmem, ⟨11, _⟩ => ⟨S3072x1024, .bf16⟩
  | .local _ .vmem, ⟨12, _⟩ => ⟨S1x1024, .f32⟩
  | .local _ .vmem, ⟨13, _⟩ => ⟨S256x6144, .bf16⟩
  | .local _ .vmem, ⟨14, _⟩ => ⟨S256x6144, .bf16⟩
  | .local _ .vmem, ⟨15, _⟩ => ⟨S3072x1024, .f32⟩
  | .local _ .vmem, ⟨16, _⟩ => ⟨S3x3072, .f32⟩
  | .local _ .vmem, ⟨17, _⟩ => ⟨S1x3072, .f32⟩
  | .local _ .vmem, ⟨18, _⟩ => ⟨S1x1024, .f32⟩
  | .local _ .vmem, ⟨19, _⟩ => ⟨S8x3072, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73_0 : Ref sig .tc := ⟨.hbm, 91, rfl⟩
abbrev main_v73_1 : Ref sig .tc := ⟨.hbm, 92, rfl⟩
abbrev main_v73_2 : Ref sig .tc := ⟨.hbm, 93, rfl⟩
abbrev main_v73_3 : Ref sig .tc := ⟨.hbm, 94, rfl⟩
abbrev main_v73_4 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3072x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S1x4096x6144 : Shape := ⟨3, ![1, 4096, 6144]⟩
abbrev S3x3072 : Shape := ⟨2, ![3, 3072]⟩
abbrev S3072 : Shape := ⟨1, ![3072]⟩
abbrev S3072x1024 : Shape := ⟨2, ![3072, 1024]⟩
abbrev S1024 : Shape := ⟨1, ![1024]⟩
abbrev S1x4096x1024 : Shape := ⟨3, ![1, 4096, 1024]⟩
abbrev S1x4096x3072 : Shape := ⟨3, ![1, 4096, 3072]⟩
abbrev S_ : Shape := ⟨0, ![]⟩
abbrev S1x2x3072 : Shape := ⟨3, ![1, 2, 3072]⟩
abbrev S1x4098x3072 : Shape := ⟨3, ![1, 4098, 3072]⟩
abbrev S1x3072 : Shape := ⟨2, ![1, 3072]⟩
abbrev S1x1x3072 : Shape := ⟨3, ![1, 1, 3072]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S1024x3072 : Shape := ⟨2, ![1024, 3072]⟩
abbrev S4096x6144 : Shape := ⟨2, ![4096, 6144]⟩

abbrev nBuf : Space → Nat
  | .hbm => 191
  | .vmem => 0
  | .smem => 0
  | _ => 0

abbrev hbmTy0_0 (i : Nat) : BufTy := match i % 128 with
  | 0 => ⟨S1x4096x6144, .f32⟩
  | 1 => ⟨S3x3072, .f32⟩
  | 2 => ⟨S3072, .f32⟩
  | 3 => ⟨S3072x1024, .f32⟩
  | 4 => ⟨S1024, .f32⟩
  | 5 => ⟨S1x4096x1024, .f32⟩
  | 6 => ⟨S1x4096x3072, .f32⟩
  | 7 => ⟨S_, .f32⟩
  | 8 => ⟨S1x2x3072, .f32⟩
  | 9 => ⟨S1x4098x3072, .f32⟩
  | 10 => ⟨S_, .f32⟩
  | 11 => ⟨S1x2x3072, .f32⟩
  | 12 => ⟨S1x4096x3072, .f32⟩
  | 13 => ⟨S1x3072, .f32⟩
  | 14 => ⟨S3072, .f32⟩
  | 15 => ⟨S1x1x3072, .f32⟩
  | 16 => ⟨S1x4096x3072, .f32⟩
  | 17 => ⟨S1x4096x3072, .f32⟩
  | 18 => ⟨S1x1x3072, .f32⟩
  | 19 => ⟨S1x4096x3072, .f32⟩
  | 20 => ⟨S1x4096x3072, .f32⟩
  | 21 => ⟨S1x4096x3072, .f32⟩
  | 22 => ⟨S1x3072, .f32⟩
  | 23 => ⟨S3072, .f32⟩
  | 24 => ⟨S1x1x3072, .f32⟩
  | 25 => ⟨S1x4096x3072, .f32⟩
  | 26 => ⟨S1x4096x3072, .f32⟩
  | 27 => ⟨S1x4096x3072, .f32⟩
  | 28 => ⟨S1x4096x3072, .f32⟩
  | 29 => ⟨S1x3072, .f32⟩
  | 30 => ⟨S3072, .f32⟩
  | 31 => ⟨S1x1x3072, .f32⟩
  | 32 => ⟨S1x4096x3072, .f32⟩
  | 33 => ⟨S1x4096x3072, .f32⟩
  | 34 => ⟨S1x4096x3072, .f32⟩
  | 35 => ⟨S1x4096x3072, .f32⟩
  | 36 => ⟨S1x4096x3072, .f32⟩
  | 37 => ⟨S1x4096x3072, .f32⟩
  | 38 => ⟨S_, .f32⟩
  | 39 => ⟨S1x4096x3072, .f32⟩
  | 40 => ⟨S1x4096x3072, .f32⟩
  | 41 => ⟨S_, .f32⟩
  | 42 => ⟨S1x4096x3072, .f32⟩
  | 43 => ⟨S1x4096x3072, .f32⟩
  | 44 => ⟨S1x4096x3072, .f32⟩
  | 45 => ⟨S_, .f32⟩
  | 46 => ⟨S1x4096x3072, .f32⟩
  | 47 => ⟨S1x4096x3072, .f32⟩
  | 48 => ⟨S1x4096x3072, .f32⟩
  | 49 => ⟨S_, .f32⟩
  | 50 => ⟨S1x4096x3072, .f32⟩
  | 51 => ⟨S1x4096x3072, .f32⟩
  | 52 => ⟨S_, .f32⟩
  | 53 => ⟨S1x4096x3072, .f32⟩
  | 54 => ⟨S1x4096x3072, .f32⟩
  | 55 => ⟨S1x4096x3072, .f32⟩
  | 56 => ⟨S_, .f32⟩
  | 57 => ⟨S1x4096x3072, .f32⟩
  | 58 => ⟨S1x4096x3072, .f32⟩
  | 59 => ⟨S_, .f32⟩
  | 60 => ⟨S1x4096x3072, .f32⟩
  | 61 => ⟨S1x4096x3072, .f32⟩
  | 62 => ⟨S1x4096x3072, .f32⟩
  | 63 => ⟨S1x4096x3072, .f32⟩
  | 64 => ⟨S1x4096x3072, .f32⟩
  | 65 => ⟨S1x4096x1024, .f32⟩
  | 66 => ⟨S1x4096x1024, .f32⟩
  | 67 => ⟨S_, .f32⟩
  | 68 => ⟨S1x4096, .f32⟩
  | 69 => ⟨S1x4096x1, .f32⟩
  | 70 => ⟨S_, .f32⟩
  | 71 => ⟨S1x4096x1, .f32⟩
  | 72 => ⟨S1x4096x1, .f32⟩
  | 73 => ⟨S_, .f32⟩
  | 74 => ⟨S1x4096x1, .f32⟩
  | 75 => ⟨S1x4096x1, .f32⟩
  | 76 => ⟨S1x4096x1, .f32⟩
  | 77 => ⟨S1x4096x1, .f32⟩
  | 78 => ⟨S_, .f32⟩
  | 79 => ⟨S1x4096x1, .f32⟩
  | 80 => ⟨S1x4096x1, .f32⟩
  | 81 => ⟨S1x4096x1024, .f32⟩
  | 82 => ⟨S1x4096x1024, .f32⟩
  | 83 => ⟨S1x1x1024, .f32⟩
  | 84 => ⟨S1x4096x1024, .f32⟩
  | 85 => ⟨S1x4096x1024, .f32⟩
  | 86 => ⟨S1x4096x1024, .f32⟩
  | 87 => ⟨S_, .f32⟩
  | 88 => ⟨S1x1024, .f32⟩
  | 89 => ⟨S1x1x1024, .f32⟩
  | 90 => ⟨S1x4096x1024, .f32⟩
  | 91 => ⟨S1x4096x1024, .f32⟩
  | 92 => ⟨S_, .f32⟩
  | 93 => ⟨S1024, .f32⟩
  | 94 => ⟨S1x4096x1024, .f32⟩
  | 95 => ⟨S_, .f32⟩
  | 96 => ⟨S1x4096, .f32⟩
  | 97 => ⟨S1x4096x1, .f32⟩
  | 98 => ⟨S1x4096x1024, .f32⟩
  | 99 => ⟨S1x4096x1024, .f32⟩
  | 100 => ⟨S1x4096x1, .f32⟩
  | 101 => ⟨S_, .f32⟩
  | 102 => ⟨S1x4096x1, .f32⟩
  | 103 => ⟨S1x4096x1, .f32⟩
  | 104 => ⟨S_, .f32⟩
  | 105 => ⟨S4096, .f32⟩
  | 106 => ⟨S1x4096, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S1024x3072, .f32⟩
  | 113 => ⟨S3072x1024, .f32⟩
  | 114 => ⟨S1x4096x3072, .f32⟩
  | 115 => ⟨S1x4096x3072, .f32⟩
  | 116 => ⟨S1x4096x3072, .f32⟩
  | 117 => ⟨S_, .f32⟩
  | 118 => ⟨S1x4096x6144, .f32⟩
  | 119 => ⟨S1x4096x3072, .f32⟩
  | 120 => ⟨S1x4096x3072, .f32⟩
  | 121 => ⟨S_, .f32⟩
  | 122 => ⟨S1x4096x3072, .f32⟩
  | 123 => ⟨S1x4096x3072, .f32⟩
  | 124 => ⟨S1x4096x3072, .f32⟩
  | 125 => ⟨S_, .f32⟩
  | 126 => ⟨S1x4096x3072, .f32⟩
  | 127 => ⟨S1x4096x3072, .f32⟩
  | _ => ⟨S1x4096x6144, .f32⟩

abbrev hbmTy0_1 (i : Nat) : BufTy := match i % 128 with
  | 0 => ⟨S1x4096x3072, .f32⟩
  | 1 => ⟨S_, .f32⟩
  | 2 => ⟨S1x4096x3072, .f32⟩
  | 3 => ⟨S1x4096x3072, .f32⟩
  | 4 => ⟨S1x4096x3072, .f32⟩
  | 5 => ⟨S1x4096x3072, .f32⟩
  | 6 => ⟨S1x4096x3072, .f32⟩
  | 7 => ⟨S_, .f32⟩
  | 8 => ⟨S1x3072, .f32⟩
  | 9 => ⟨S1x1x3072, .f32⟩
  | 10 => ⟨S1x4096x3072, .f32⟩
  | 11 => ⟨S1x4096x3072, .f32⟩
  | 12 => ⟨S_, .f32⟩
  | 13 => ⟨S3072, .f32⟩
  | 14 => ⟨S1x3072, .f32⟩
  | 15 => ⟨S_, .f32⟩
  | 16 => ⟨S3x3072, .f32⟩
  | 17 => ⟨S_, .f32⟩
  | 18 => ⟨S1x4098x3072, .f32⟩
  | 19 => ⟨S1x4096x3072, .f32⟩
  | 20 => ⟨S_, .f32⟩
  | 21 => ⟨S1x3072, .f32⟩
  | 22 => ⟨S1x1x3072, .f32⟩
  | 23 => ⟨S1x4096x3072, .f32⟩
  | 24 => ⟨S1x4096x3072, .f32⟩
  | 25 => ⟨S_, .f32⟩
  | 26 => ⟨S3072, .f32⟩
  | 27 => ⟨S1x3072, .f32⟩
  | 28 => ⟨S_, .f32⟩
  | 29 => ⟨S3x3072, .f32⟩
  | 30 => ⟨S3x3072, .f32⟩
  | 31 => ⟨S_, .f32⟩
  | 32 => ⟨S1x4098x3072, .f32⟩
  | 33 => ⟨S1x4098x3072, .f32⟩
  | 34 => ⟨S_, .f32⟩
  | 35 => ⟨S1x3072, .f32⟩
  | 36 => ⟨S1x1x3072, .f32⟩
  | 37 => ⟨S_, .f32⟩
  | 38 => ⟨S3072, .f32⟩
  | 39 => ⟨S1x4096x3072, .f32⟩
  | 40 => ⟨S_, .f32⟩
  | 41 => ⟨S1x3072, .f32⟩
  | 42 => ⟨S1x1x3072, .f32⟩
  | 43 => ⟨S1x4096x3072, .f32⟩
  | 44 => ⟨S1x4096x3072, .f32⟩
  | 45 => ⟨S_, .f32⟩
  | 46 => ⟨S3072, .f32⟩
  | 47 => ⟨S1x3072, .f32⟩
  | 48 => ⟨S_, .f32⟩
  | 49 => ⟨S3x3072, .f32⟩
  | 50 => ⟨S3x3072, .f32⟩
  | 51 => ⟨S_, .f32⟩
  | 52 => ⟨S1x4098x3072, .f32⟩
  | 53 => ⟨S1x4098x3072, .f32⟩
  | 54 => ⟨S1x2x3072, .f32⟩
  | 55 => ⟨S1x4096x3072, .f32⟩
  | 56 => ⟨S_, .f32⟩
  | 57 => ⟨S1x4096x6144, .f32⟩
  | 58 => ⟨S1x4096x6144, .f32⟩
  | 59 => ⟨S4096x6144, .f32⟩
  | 60 => ⟨S4096x6144, .bf16⟩
  | 61 => ⟨S1x3072, .f32⟩
  | 62 => ⟨S1x1024, .f32⟩
  | _ => ⟨S1x4096x6144, .f32⟩

abbrev hbmTy (i : Nat) : BufTy := match i / 128 with
  | 0 => hbmTy0_0 i
  | 1 => hbmTy0_1 i
  | _ => ⟨S1x4096x6144, .f32⟩

abbrev bufTy : (tb : Table) → Fin (tcTables nBuf tb) → BufTy
  | .hbm, ⟨i, _⟩ => hbmTy i
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_20 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_cst_23 : Ref sig .tc := ⟨.hbm, 143, rfl⟩
abbrev main_v113 : Ref sig .tc := ⟨.hbm, 144, rfl⟩
abbrev main_cst_24 : Ref sig .tc := ⟨.hbm, 145, rfl⟩
abbrev main_v114 : Ref sig .tc := ⟨.hbm, 146, rfl⟩
abbrev main_v115 : Ref sig .tc := ⟨.hbm, 147, rfl⟩
abbrev main_cst_25 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_26 : Ref sig .tc := ⟨.hbm, 153, rfl⟩
abbrev main_v120 : Ref sig .tc := ⟨.hbm, 154, rfl⟩
abbrev main_v121 : Ref sig .tc := ⟨.hbm, 155, rfl⟩
abbrev main_cst_27 : Ref sig .tc := ⟨.hbm, 156, rfl⟩
abbrev main_v122 : Ref sig .tc := ⟨.hbm, 157, rfl⟩
abbrev main_v123 : Ref sig .tc := ⟨.hbm, 158, rfl⟩
abbrev main_cst_28 : Ref sig .tc := ⟨.hbm, 159, rfl⟩
abbrev main_v124 : Ref sig .tc := ⟨.hbm, 160, rfl⟩
abbrev main_v125 : Ref sig .tc := ⟨.hbm, 161, rfl⟩
abbrev main_cst_29 : Ref sig .tc := ⟨.hbm, 162, rfl⟩
abbrev main_v126 : Ref sig .tc := ⟨.hbm, 163, rfl⟩
abbrev main_v127 : Ref sig .tc := ⟨.hbm, 164, rfl⟩
abbrev main_cst_30 : Ref sig .tc := ⟨.hbm, 165, rfl⟩
abbrev main_v128 : Ref sig .tc := ⟨.hbm, 166, rfl⟩
abbrev main_v129 : Ref sig .tc := ⟨.hbm, 167, rfl⟩
abbrev main_cst_31 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_32 : Ref sig .tc := ⟨.hbm, 173, rfl⟩
abbrev main_v134 : Ref sig .tc := ⟨.hbm, 174, rfl⟩
abbrev main_v135 : Ref sig .tc := ⟨.hbm, 175, rfl⟩
abbrev main_cst_33 : Ref sig .tc := ⟨.hbm, 176, rfl⟩
abbrev main_v136 : Ref sig .tc := ⟨.hbm, 177, rfl⟩
abbrev main_v137 : Ref sig .tc := ⟨.hbm, 178, rfl⟩
abbrev main_cst_34 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_35 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩

abbrev nD : Nat := 1
abbrev τ : Topo := Topo.v7x

variable {F : FTy → Type} [FloatOps F]
-- ==== Kernel4.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 44
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024x1024, .f32⟩
  | .hbm, ⟨5, _⟩ => ⟨S1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S_, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .hbm, ⟨32, _⟩ => ⟨S4096x1024, .bf16⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1024x1024, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S1024x1024, .f32⟩
  | .hbm, ⟨43, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .f32⟩
  | .local _ .vmem, ⟨23, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024x1024, .f32⟩
  | .hbm, ⟨5, _⟩ => ⟨S1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S_, .f32⟩
  | .hbm, ⟨43, _⟩ => ⟨S1x4096x1, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S_, .f32⟩
  | .hbm, ⟨48, _⟩ => ⟨S1x4096x1, .f32⟩
  | .hbm, ⟨49, _⟩ => ⟨S1x4096x1, .f32⟩
  | .hbm, ⟨50, _⟩ => ⟨S1x4096x1024, .f32⟩
  | .hbm, ⟨51, _⟩ => ⟨S1x4096x1024, .f32⟩
  | .hbm, ⟨52, _⟩ => ⟨S1x1x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x4096x1024, .f32⟩
  | .hbm, ⟨60, _⟩ => ⟨S1x4096x1024, .f32⟩
  | .hbm, ⟨61, _⟩ => ⟨S_, .f32⟩
  | .hbm, ⟨62, _⟩ => ⟨S1024, .f32⟩
  | .hbm, ⟨63, _⟩ => ⟨S1x4096x1024, .f32⟩
  | .hbm, ⟨64, _⟩ => ⟨S_, .f32⟩
  | .hbm, ⟨65, _⟩ => ⟨S1x4096, .f32⟩
  | .hbm, ⟨66, _⟩ => ⟨S1x4096x1, .f32⟩
  | .hbm, ⟨67, _⟩ => ⟨S1x4096x1024, .f32⟩
  | .hbm, ⟨68, _⟩ => ⟨S1x4096x1024, .f32⟩
  | .hbm, ⟨69, _⟩ => ⟨S1x4096x1, .f32⟩
  | .hbm, ⟨70, _⟩ => ⟨S_, .f32⟩
  | .hbm, ⟨71, _⟩ => ⟨S1x4096x1, .f32⟩
  | .hbm, ⟨72, _⟩ => ⟨S1x4096x1, .f32⟩
  | .hbm, ⟨73, _⟩ => ⟨S_, .f32⟩
  | .hbm, ⟨74, _⟩ => ⟨S4096, .f32⟩
  | .hbm, ⟨75, _⟩ => ⟨S1x4096, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1024x1024, .f32⟩
  | .hbm, ⟨82, _⟩ => ⟨S1024x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S1x4096x1024, .f32⟩
  | .hbm, ⟨88, _⟩ => ⟨S1x4096x1024, .f32⟩
  | .hbm, ⟨89, _⟩ => ⟨S1x4096x1024, .f32⟩
  | .hbm, ⟨90, _⟩ => ⟨S4096x1024, .f32⟩
  | .hbm, ⟨91, _⟩ => ⟨S4096x1024, .bf16⟩
  | .hbm, ⟨92, _⟩ => ⟨S4096x1024, .f32⟩
  | .hbm, ⟨93, _⟩ => ⟨S4096x1024, .bf16⟩
  | .hbm, ⟨94, _⟩ => ⟨S4096x1024, .f32⟩
  | .hbm, ⟨95, _⟩ => ⟨S4096x1024, .bf16⟩
  | .hbm, ⟨96, _⟩ => ⟨S4096x1024, .f32⟩
  | .hbm, ⟨97, _⟩ => ⟨S4096x1024, .bf16⟩
  | .hbm, ⟨98, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x4096x256 : Shape := ⟨3, ![1, 4096, 256]⟩
abbrev S1024 : Shape := ⟨1, ![1024]⟩
abbrev S1024x1024 : Shape := ⟨2, ![1024, 1024]⟩
abbrev S256x1024 : Shape := ⟨2, ![256, 1024]⟩
abbrev S4096x1024 : Shape := ⟨2, ![4096, 1024]⟩
abbrev S4096x256 : Shape := ⟨2, ![4096, 256]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1 : Shape := ⟨1, ![1]⟩
abbrev S1x1 : Shape := ⟨2, ![1, 1]⟩

abbrev nBuf : Space → Nat
  | .hbm => 22
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x4096x256, .f32⟩
  | .hbm, ⟨2, _⟩ => ⟨S1x4096x1024, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S4096x1024, .f32⟩
  | .hbm, ⟨8, _⟩ => ⟨S4096x256, .f32⟩
  | .hbm, ⟨9, _⟩ => ⟨S4096x1024, .f32⟩
  | .hbm, ⟨10, _⟩ => ⟨S1x1024, .f32⟩
  | .hbm, ⟨11, _⟩ => ⟨S1024x1024, .bf16⟩
  | .hbm, ⟨12, _⟩ => ⟨S256x4x256, .f32⟩
  | .hbm, ⟨13, _⟩ => ⟨S4x256x256, .f32⟩
  | .hbm, ⟨14, _⟩ => ⟨S4x256x256, .bf16⟩
  | .hbm, ⟨15, _⟩ => ⟨S1x1024, .f32⟩
  | .hbm, ⟨16, _⟩ => ⟨S4096x1024, .f32⟩
  | .hbm, ⟨17, _⟩ => ⟨S1x128, .f32⟩
  | .hbm, ⟨18, _⟩ => ⟨S1024x1024, .f32⟩
  | .hbm, ⟨19, _⟩ => ⟨S4x256x256, .f32⟩
  | .hbm, ⟨20, _⟩ => ⟨S1x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S4x256x256, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1024x1024, .f32⟩
  | .local _ .vmem, ⟨14, _⟩ => ⟨S4x256x256, .f32⟩
  | .local _ .vmem, ⟨15, _⟩ => ⟨S1x1024, .f32⟩
  | .local _ .vmem, ⟨16, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S1x4096x1024 : Shape := ⟨3, ![1, 4096, 1024]⟩
abbrev S1x4096x256 : Shape := ⟨3, ![1, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S1024x256 : Shape := ⟨2, ![1024, 256]⟩
abbrev S4096x1024 : Shape := ⟨2, ![4096, 1024]⟩
abbrev S1x128 : Shape := ⟨2, ![1, 128]⟩
abbrev S256x4x256 : Shape := ⟨3, ![256, 4, 256]⟩
abbrev S4x256x256 : Shape := ⟨3, ![4, 256, 256]⟩

abbrev nBuf : Space → Nat
  | .hbm => 153
  | .vmem => 0
  | .smem => 0
  | _ => 0

abbrev hbmTy0_0 (i : Nat) : BufTy := match i % 128 with
  | 0 => ⟨S1x4096x1024, .f32⟩
  | 1 => ⟨S1x4096x256, .f32⟩
  | 2 => ⟨S1x4096x1024, .f32⟩
  | 3 => ⟨S1024, .f32⟩
  | 4 => ⟨S1024x1024, .f32⟩
  | 5 => ⟨S256x1024, .f32⟩
  | 6 => ⟨S1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S_, .f32⟩
  | 43 => ⟨S1x4096, .f32⟩
  | 44 => ⟨S1x4096x1, .f32⟩
  | 45 => ⟨S_, .f32⟩
  | 46 => ⟨S1x4096x1, .f32⟩
  | 47 => ⟨S1x4096x1, .f32⟩
  | 48 => ⟨S_, .f32⟩
  | 49 => ⟨S1x4096x1, .f32⟩
  | 50 => ⟨S1x4096x1, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x1024, .f32⟩
  | 57 => ⟨S1x4096x1024, .f32⟩
  | 58 => ⟨S1x1x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S_, .f32⟩
  | 66 => ⟨S1x4096x1024, .f32⟩
  | 67 => ⟨S1x4096x1024, .f32⟩
  | 68 => ⟨S_, .f32⟩
  | 69 => ⟨S1x4096, .f32⟩
  | 70 => ⟨S_, .f32⟩
  | 71 => ⟨S1x4096, .f32⟩
  | 72 => ⟨S1x4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x4096, .f32⟩
  | 81 => ⟨S_, .f32⟩
  | 82 => ⟨S1x4096, .f32⟩
  | 83 => ⟨S1x4096, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S_, .f32⟩
  | 90 => ⟨S1x1024, .f32⟩
  | 91 => ⟨S1x1x1024, .f32⟩
  | 92 => ⟨S1x4096x1024, .f32⟩
  | 93 => ⟨S1x4096x1024, .f32⟩
  | 94 => ⟨S_, .f32⟩
  | 95 => ⟨S1024, .f32⟩
  | 96 => ⟨S1x4096x1024, .f32⟩
  | 97 => ⟨S_, .f32⟩
  | 98 => ⟨S1x4096, .f32⟩
  | 99 => ⟨S1x4096x1, .f32⟩
  | 100 => ⟨S1x4096x1024, .f32⟩
  | 101 => ⟨S1x4096x1024, .f32⟩
  | 102 => ⟨S1x4096x1, .f32⟩
  | 103 => ⟨S_, .f32⟩
  | 104 => ⟨S1x4096x1, .f32⟩
  | 105 => ⟨S1x4096x1, .f32⟩
  | 106 => ⟨S_, .f32⟩
  | 107 => ⟨S4096, .f32⟩
  | 108 => ⟨S1x4096, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x1024, .f32⟩
  | 114 => ⟨S1024x256, .f32⟩
  | 115 => ⟨S256x1024, .f32⟩
  | 116 => ⟨S1x4096x1024, .f32⟩
  | 117 => ⟨S1024x1024, .f32⟩
  | 118 => ⟨S1024x1024, .f32⟩
  | 119 => ⟨S1x4096x1024, .f32⟩
  | 120 => ⟨S1x4096x1024, .f32⟩
  | 121 => ⟨S_, .f32⟩
  | 122 => ⟨S1x1024, .f32⟩
  | 123 => ⟨S1x1x1024, .f32⟩
  | 124 => ⟨S1x4096x1024, .f32⟩
  | 125 => ⟨S1x4096x1024, .f32⟩
  | 126 => ⟨S_, .f32⟩
  | 127 => ⟨S1024, .f32⟩
  | _ => ⟨S1x4096x1024, .f32⟩

abbrev hbmTy0_1 (i : Nat) : BufTy := match i % 128 with
  | 0 => ⟨S1x4096x1024, .f32⟩
  | 1 => ⟨S_, .f32⟩
  | 2 => ⟨S1x4096, .f32⟩
  | 3 => ⟨S1x4096x1, .f32⟩
  | 4 => ⟨S1x4096x1024, .f32⟩
  | 5 => ⟨S1x4096x1024, .f32⟩
  | 6 => ⟨S1x4096x1024, .f32⟩
  | 7 => ⟨S1x4096x1, .f32⟩
  | 8 => ⟨S_, .f32⟩
  | 9 => ⟨S1x4096x1, .f32⟩
  | 10 => ⟨S1x4096x1, .f32⟩
  | 11 => ⟨S_, .f32⟩
  | 12 => ⟨S4096, .f32⟩
  | 13 => ⟨S1x4096, .f32⟩
  | 14 => ⟨S1x4096x1024, .f32⟩
  | 15 => ⟨S1x4096x1024, .f32⟩
  | 16 => ⟨S1x4096x1024, .f32⟩
  | 17 => ⟨S1x4096x1024, .f32⟩
  | 18 => ⟨S1x4096x1024, .f32⟩
  | 19 => ⟨S4096x1024, .f32⟩
  | 20 => ⟨S1x128, .f32⟩
  | 21 => ⟨S256x4x256, .f32⟩
  | 22 => ⟨S4x256x256, .f32⟩
  | 23 => ⟨S1x1024, .f32⟩
  | 24 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_cst_22 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_23 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_24 : Ref sig .tc := ⟨.hbm, 126, rfl⟩
abbrev main_v94 : Ref sig .tc := ⟨.hbm, 127, rfl⟩
abbrev main_v95 : Ref sig .tc := ⟨.hbm, 128, rfl⟩
abbrev main_cst_25 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_26 : Ref sig .tc := ⟨.hbm, 136, rfl⟩
abbrev main_v102 : Ref sig .tc := ⟨.hbm, 137, rfl⟩
abbrev main_v103 : Ref sig .tc := ⟨.hbm, 138, rfl⟩
abbrev main_cst_27 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩

abbrev nD : Nat := 1
abbrev τ : Topo := Topo.v7x

variable {F : FTy → Type} [FloatOps F]
-- ==== Kernel6.lean ====
abbrev S1x4096x1024 : Shape := ⟨3, ![1, 4096, 1024]⟩
abbrev S1024 : Shape := ⟨1, ![1024]⟩
abbrev S1024x4608 : Shape := ⟨2, ![1024, 4608]⟩
abbrev S1x4096x4608 : Shape := ⟨3, ![1, 4096, 4608]⟩
abbrev S1x4096x512 : Shape := ⟨3, ![1, 4096, 512]⟩
abbrev S4096x512 : Shape := ⟨2, ![4096, 512]⟩
abbrev S4096x1024 : Shape := ⟨2, ![4096, 1024]⟩
abbrev S1x1024 : Shape := ⟨2, ![1, 1024]⟩
abbrev S1024x4x1152 : Shape := ⟨3, ![1024, 4, 1152]⟩
abbrev S4x1024x1152 : Shape := ⟨3, ![4, 1024, 1152]⟩
abbrev S512x512 : Shape := ⟨2, ![512, 512]⟩
abbrev S512x1024 : Shape := ⟨2, ![512, 1024]⟩
abbrev S512x4608 : Shape := ⟨2, ![512, 4608]⟩
abbrev S512 : Shape := ⟨1, ![512]⟩
abbrev S512x1 : Shape := ⟨2, ![512, 1]⟩
abbrev S512x1152 : Shape := ⟨2, ![512, 1152]⟩
abbrev S1x1024x1152 : Shape := ⟨3, ![1, 1024, 1152]⟩
abbrev S1024x1152 : Shape := ⟨2, ![1024, 1152]⟩

abbrev nBuf : Space → Nat
  | .hbm => 28
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4608, .f32⟩
  | .hbm, ⟨3, _⟩ => ⟨S1x4096x4608, .f32⟩
  | .hbm, ⟨4, _⟩ => ⟨S1x4096x1024, .f32⟩
  | .hbm, ⟨5, _⟩ => ⟨S1x4096x512, .f32⟩
  | .hbm, ⟨6, _⟩ => ⟨S4096x512, .f32⟩
  | .hbm, ⟨7, _⟩ => ⟨S4096x512, .bf16⟩
  | .hbm, ⟨8, _⟩ => ⟨S1x4096x1024, .f32⟩
  | .hbm, ⟨9, _⟩ => ⟨S4096x1024, .f32⟩
  | .hbm, ⟨10, _⟩ => ⟨S4096x1024, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S1x4096x1024, .f32⟩
  | .hbm, ⟨15, _⟩ => ⟨S4096x1024, .f32⟩
  | .hbm, ⟨16, _⟩ => ⟨S4096x1024, .bf16⟩
  | .hbm, ⟨17, _⟩ => ⟨S1x4096x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024x4x1152, .f32⟩
  | .hbm, ⟨24, _⟩ => ⟨S4x1024x1152, .f32⟩
  | .hbm, ⟨25, _⟩ => ⟨S4x1024x1152, .bf16⟩
  | .hbm, ⟨26, _⟩ => ⟨S4096x1024, .f32⟩
  | .hbm, ⟨27, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x1152, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x4608, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S1x4096x1024 : Shape := ⟨3, ![1, 4096, 1024]⟩
abbrev S1024 : Shape := ⟨1, ![1024]⟩
abbrev S1024x4608 : Shape := ⟨2, ![1024, 4608]⟩
abbrev S1x4096x4608 : Shape := ⟨3, ![1, 4096, 4608]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4608, .f32⟩
  | .hbm, ⟨3, _⟩ => ⟨S1x4096x4608, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x4608, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S1x4096x1024 : Shape := ⟨3, ![1, 4096, 1024]⟩
abbrev S1024 : Shape := ⟨1, ![1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S4096x1024 : Shape := ⟨2, ![4096, 1024]⟩
abbrev S1x1024 : Shape := ⟨2, ![1, 1024]⟩
abbrev S1024x4x1536 : Shape := ⟨3, ![1024, 4, 1536]⟩
abbrev S4x1024x1536 : Shape := ⟨3, ![4, 1024, 1536]⟩
abbrev S1x3072 : Shape := ⟨2, ![1, 3072]⟩
abbrev S4096x6144 : Shape := ⟨2, ![4096, 6144]⟩
abbrev S4096x3072 : Shape := ⟨2, ![4096, 3072]⟩
abbrev S256x1024 : Shape := ⟨2, ![256, 1024]⟩
abbrev S256x6144 : Shape := ⟨2, ![256, 6144]⟩
abbrev S256x3072 : Shape := ⟨2, ![256, 3072]⟩
abbrev S8x3072 : Shape := ⟨2, ![8, 3072]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S264x3072 : Shape := ⟨2, ![264, 3072]⟩

abbrev nBuf : Space → Nat
  | .hbm => 21
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S3x3072, .f32⟩
  | .hbm, ⟨4, _⟩ => ⟨S3072, .f32⟩
  | .hbm, ⟨5, _⟩ => ⟨S3072x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | .hbm, ⟨12, _⟩ => ⟨S1x3072, .f32⟩
  | .hbm, ⟨13, _⟩ => ⟨S3072x1024, .bf16⟩
  | .hbm, ⟨14, _⟩ => ⟨S1x1024, .f32⟩
  | .hbm, ⟨15, _⟩ => ⟨S4096x6144, .bf16⟩
  | .hbm, ⟨16, _⟩ => ⟨S4096x3072, .bf16⟩
  | .hbm, ⟨17, _⟩ => ⟨S4096x3072, .bf16⟩
  | .hbm, ⟨18, _⟩ => ⟨S4096x1024, .bf16⟩
  | .hbm, ⟨19, _⟩ => ⟨S4096x1024, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1536, .bf16⟩
  | .local _ .vmem, ⟨4, _⟩ => ⟨S3x3072, .f32⟩
  | .local _ .vmem, ⟨5, _⟩ => ⟨S1x3072, .f32⟩
  | .local _ .vmem, ⟨6, _⟩ => ⟨S3072x1024, .bf16⟩
  | .local _ .vmem, ⟨7, _⟩ => ⟨S1x1024, .f32⟩
  | .local _ .vmem, ⟨8, _⟩ => ⟨S256x6144, .bf16⟩
  | .local _ .vmem, ⟨9, _⟩ => ⟨S256x6144, .bf16⟩
  | .local _ .vmem, ⟨10, _⟩ => ⟨S256x3072, .bf16⟩
  | .local _ .vmem, ⟨11, _⟩ => ⟨S256x3072, .bf16⟩
  | .local _ .vmem, ⟨12, _⟩ => ⟨S256x3072, .bf16⟩
  | .local _ .vmem, ⟨13, _⟩ => ⟨S256x3072, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x6144, .f32⟩
  | .local _ .vmem, ⟨21, _⟩ => ⟨S8x3072, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel7Ideal.lean ====
variable {F : FTy → Type} [FloatOps F] [Named F]
def κ : String → Option EReal := fun
  | "gelu_6ca" => some ((241015141496493 / 1125899906842624 : ℝ) : EReal)
  | "gelu_ca" => some ((80338380498831 / 2251799813685248 : ℝ) : EReal)
  | _ => none
-- ==== Reference7Ideal.lean ====
abbrev S1x4096x1024 : Shape := ⟨3, ![1, 4096, 1024]⟩
abbrev S1024 : Shape := ⟨1, ![1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x6144 : Shape := ⟨3, ![1, 4096, 6144]⟩
abbrev S1x4096x3072 : Shape := ⟨3, ![1, 4096, 3072]⟩
abbrev S1x2x3072 : Shape := ⟨3, ![1, 2, 3072]⟩
abbrev S1x4098x3072 : Shape := ⟨3, ![1, 4098, 3072]⟩
abbrev S1x3072 : Shape := ⟨2, ![1, 3072]⟩
abbrev S1x1x3072 : Shape := ⟨3, ![1, 1, 3072]⟩
abbrev S4096x6144 : Shape := ⟨2, ![4096, 6144]⟩
abbrev S4096x3072 : Shape := ⟨2, ![4096, 3072]⟩
abbrev S4096x1024 : Shape := ⟨2, ![4096, 1024]⟩

abbrev nBuf : Space → Nat
  | .hbm => 126
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x6144, .f32⟩
  | .hbm, ⟨3, _⟩ => ⟨S3x3072, .f32⟩
  | .hbm, ⟨4, _⟩ => ⟨S3072, .f32⟩
  | .hbm, ⟨5, _⟩ => ⟨S3072x1024, .f32⟩
  | .hbm, ⟨6, _⟩ => ⟨S1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x6144, .f32⟩
  | .hbm, ⟨24, _⟩ => ⟨S1x4096x3072, .f32⟩
  | .hbm, ⟨25, _⟩ => ⟨S_, .f32⟩
  | .hbm, ⟨26, _⟩ => ⟨S1x2x3072, .f32⟩
  | .hbm, ⟨27, _⟩ => ⟨S1x4098x3072, .f32⟩
  | .hbm, ⟨28, _⟩ => ⟨S1x4096x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S1x4096x3072, .f32⟩
  | .hbm, ⟨33, _⟩ => ⟨S1x4096x3072, .f32⟩
  | .hbm, ⟨34, _⟩ => ⟨S1x1x3072, .f32⟩
  | .hbm, ⟨35, _⟩ => ⟨S1x4096x3072, .f32⟩
  | .hbm, ⟨36, _⟩ => ⟨S1x4096x3072, .f32⟩
  | .hbm, ⟨37, _⟩ => ⟨S1x4096x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S1x4096x3072, .f32⟩
  | .hbm, ⟨42, _⟩ => ⟨S1x4096x3072, .f32⟩
  | .hbm, ⟨43, _⟩ => ⟨S1x4096x3072, .f32⟩
  | .hbm, ⟨44, _⟩ => ⟨S1x4096x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S1x4096x3072, .f32⟩
  | .hbm, ⟨49, _⟩ => ⟨S1x4096x3072, .f32⟩
  | .hbm, ⟨50, _⟩ => ⟨S1x4096x3072, .f32⟩
  | .hbm, ⟨51, _⟩ => ⟨S1x4096x3072, .f32⟩
  | .hbm, ⟨52, _⟩ => ⟨S1x4096x3072, .f32⟩
  | .hbm, ⟨53, _⟩ => ⟨S1x4096x3072, .f32⟩
  | .hbm, ⟨54, _⟩ => ⟨S_, .f32⟩
  | .hbm, ⟨55, _⟩ => ⟨S1x4096x3072, .f32⟩
  | .hbm, ⟨56, _⟩ => ⟨S1x4096x3072, .f32⟩
  | .hbm, ⟨57, _⟩ => ⟨S_, .f32⟩
  | .hbm, ⟨58, _⟩ => ⟨S1x4096x3072, .f32⟩
  | .hbm, ⟨59, _⟩ => ⟨S1x4096x3072, .f32⟩
  | .hbm, ⟨60, _⟩ => ⟨S1x4096x3072, .f32⟩
  | .hbm, ⟨61, _⟩ => ⟨S_, .f32⟩
  | .hbm, ⟨62, _⟩ => ⟨S1x4096x3072, .f32⟩
  | .hbm, ⟨63, _⟩ => ⟨S1x4096x3072, .f32⟩
  | .hbm, ⟨64, _⟩ => ⟨S1x4096x3072, .f32⟩
  | .hbm, ⟨65, _⟩ => ⟨S_, .f32⟩
  | .hbm, ⟨66, _⟩ => ⟨S1x4096x3072, .f32⟩
  | .hbm, ⟨67, _⟩ => ⟨S1x4096x3072, .f32⟩
  | .hbm, ⟨68, _⟩ => ⟨S_, .f32⟩
  | .hbm, ⟨69, _⟩ => ⟨S1x4096x3072, .f32⟩
  | .hbm, ⟨70, _⟩ => ⟨S1x4096x3072, .f32⟩
  | .hbm, ⟨71, _⟩ => ⟨S1x4096x3072, .f32⟩
  | .hbm, ⟨72, _⟩ => ⟨S_, .f32⟩
  | .hbm, ⟨73, _⟩ => ⟨S1x4096x3072, .f32⟩
  | .hbm, ⟨74, _⟩ => ⟨S1x4096x3072, .f32⟩
  | .hbm, ⟨75, _⟩ => ⟨S_, .f32⟩
  | .hbm, ⟨76, _⟩ => ⟨S1x4096x3072, .f32⟩
  | .hbm, ⟨77, _⟩ => ⟨S1x4096x3072, .f32⟩
  | .hbm, ⟨78, _⟩ => ⟨S1x4096x3072, .f32⟩
  | .hbm, ⟨79, _⟩ => ⟨S_, .f32⟩
  | .hbm, ⟨80, _⟩ => ⟨S1x4096x3072, .f32⟩
  | .hbm, ⟨81, _⟩ => ⟨S1x4096x3072, .f32⟩
  | .hbm, ⟨82, _⟩ => ⟨S1x4096x3072, .f32⟩
  | .hbm, ⟨83, _⟩ => ⟨S_, .f32⟩
  | .hbm, ⟨84, _⟩ => ⟨S1x4096x3072, .f32⟩
  | .hbm, ⟨85, _⟩ => ⟨S1x4096x3072, .f32⟩
  | .hbm, ⟨86, _⟩ => ⟨S1x4096x3072, .f32⟩
  | .hbm, ⟨87, _⟩ => ⟨S_, .f32⟩
  | .hbm, ⟨88, _⟩ => ⟨S1x4096x3072, .f32⟩
  | .hbm, ⟨89, _⟩ => ⟨S1x4096x3072, .f32⟩
  | .hbm, ⟨90, _⟩ => ⟨S1x4096x3072, .f32⟩
  | .hbm, ⟨91, _⟩ => ⟨S_, .f32⟩
  | .hbm, ⟨92, _⟩ => ⟨S1x4096x3072, .f32⟩
  | .hbm, ⟨93, _⟩ => ⟨S1x4096x3072, .f32⟩
  | .hbm, ⟨94, _⟩ => ⟨S1x4096x3072, .f32⟩
  | .hbm, ⟨95, _⟩ => ⟨S1x4096x3072, .f32⟩
  | .hbm, ⟨96, _⟩ => ⟨S1x4096x3072, .f32⟩
  | .hbm, ⟨97, _⟩ => ⟨S1x4096x3072, .f32⟩
  | .hbm, ⟨98, _⟩ => ⟨S1x4096x1024, .f32⟩
  | .hbm, ⟨99, _⟩ => ⟨S1x4096x1024, .f32⟩
  | .hbm, ⟨100, _⟩ => ⟨S_, .f32⟩
  | .hbm, ⟨101, _⟩ => ⟨S1x4096, .f32⟩
  | .hbm, ⟨102, _⟩ => ⟨S1x4096x1, .f32⟩
  | .hbm, ⟨103, _⟩ => ⟨S_, .f32⟩
  | .hbm, ⟨104, _⟩ => ⟨S1x4096x1, .f32⟩
  | .hbm, ⟨105, _⟩ => ⟨S1x4096x1, .f32⟩
  | .hbm, ⟨106, _⟩ => ⟨S_, .f32⟩
  | .hbm, ⟨107, _⟩ => ⟨S1x4096x1, .f32⟩
  | .hbm, ⟨108, _⟩ => ⟨S1x4096x1, .f32⟩
  | .hbm, ⟨109, _⟩ => ⟨S1x4096x1, .f32⟩
  | .hbm, ⟨110, _⟩ => ⟨S1x4096x1024, .f32⟩
  | .hbm, ⟨111, _⟩ => ⟨S1x4096x1024, .f32⟩
  | .hbm, ⟨112, _⟩ => ⟨S1x1x1024, .f32⟩
  | .hbm, ⟨113, _⟩ => ⟨S1x4096x1024, .f32⟩
  | .hbm, ⟨114, _⟩ => ⟨S1x4096x1024, .f32⟩
  | .hbm, ⟨115, _⟩ => ⟨S1x4096x1024, .f32⟩
  | .hbm, ⟨116, _⟩ => ⟨S4096x6144, .f32⟩
  | .hbm, ⟨117, _⟩ => ⟨S4096x6144, .bf16⟩
  | .hbm, ⟨118, _⟩ => ⟨S4096x3072, .f32⟩
  | .hbm, ⟨119, _⟩ => ⟨S4096x3072, .bf16⟩
  | .hbm, ⟨120, _⟩ => ⟨S4096x3072, .f32⟩
  | .hbm, ⟨121, _⟩ => ⟨S4096x3072, .bf16⟩
  | .hbm, ⟨122, _⟩ => ⟨S4096x1024, .f32⟩
  | .hbm, ⟨123, _⟩ => ⟨S4096x1024, .bf16⟩
  | .hbm, ⟨124, _⟩ => ⟨S4096x1024, .f32⟩
  | .hbm, ⟨125, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]
-- ==== Kernel8.lean ====
abbrev S1x4096x1024 : Shape := ⟨3, ![1, 4096, 1024]⟩
abbrev S1024 : Shape := ⟨1, ![1024]⟩
abbrev S1024x4608 : Shape := ⟨2, ![1024, 4608]⟩
abbrev S4x128x128 : Shape := ⟨3, ![4, 128, 128]⟩
abbrev S512 : Shape := ⟨1, ![512]⟩
abbrev S512x1024 : Shape := ⟨2, ![512, 1024]⟩
abbrev S4096x1024 : Shape := ⟨2, ![4096, 1024]⟩
abbrev S1x1024 : Shape := ⟨2, ![1, 1024]⟩
abbrev S1024x4x1152 : Shape := ⟨3, ![1024, 4, 1152]⟩
abbrev S4x1024x1152 : Shape := ⟨3, ![4, 1024, 1152]⟩
abbrev S1x512 : Shape := ⟨2, ![1, 512]⟩
abbrev S512x4x256 : Shape := ⟨3, ![512, 4, 256]⟩
abbrev S4x512x256 : Shape := ⟨3, ![4, 512, 256]⟩
abbrev S4096x512 : Shape := ⟨2, ![4096, 512]⟩
abbrev S256x1024 : Shape := ⟨2, ![256, 1024]⟩
abbrev S256x512 : Shape := ⟨2, ![256, 512]⟩
abbrev S16x512 : Shape := ⟨2, ![16, 512]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1x1024x640 : Shape := ⟨3, ![1, 1024, 640]⟩
abbrev S1024x640 : Shape := ⟨2, ![1024, 640]⟩
abbrev S256x640 : Shape := ⟨2, ![256, 640]⟩
abbrev S1x1024x384 : Shape := ⟨3, ![1, 1024, 384]⟩
abbrev S1024x384 : Shape := ⟨2, ![1024, 384]⟩
abbrev S256x384 : Shape := ⟨2, ![256, 384]⟩
abbrev S1x1024x768 : Shape := ⟨3, ![1, 1024, 768]⟩
abbrev S1024x768 : Shape := ⟨2, ![1024, 768]⟩
abbrev S256x768 : Shape := ⟨2, ![256, 768]⟩
abbrev S1x1024x256 : Shape := ⟨3, ![1, 1024, 256]⟩
abbrev S1024x256 : Shape := ⟨2, ![1024, 256]⟩
abbrev S256x256 : Shape := ⟨2, ![256, 256]⟩
abbrev S1x1024x896 : Shape := ⟨3, ![1, 1024, 896]⟩
abbrev S1024x896 : Shape := ⟨2, ![1024, 896]⟩
abbrev S256x896 : Shape := ⟨2, ![256, 896]⟩
abbrev S1x1024x128 : Shape := ⟨3, ![1, 1024, 128]⟩
abbrev S1024x128 : Shape := ⟨2, ![1024, 128]⟩
abbrev S256x128 : Shape := ⟨2, ![256, 128]⟩
abbrev S1x1024x1024 : Shape := ⟨3, ![1, 1024, 1024]⟩
abbrev S1024x1024 : Shape := ⟨2, ![1024, 1024]⟩
abbrev S272x512 : Shape := ⟨2, ![272, 512]⟩
abbrev S272x128 : Shape := ⟨2, ![272, 128]⟩
abbrev S1x128x128 : Shape := ⟨3, ![1, 128, 128]⟩
abbrev S128x128 : Shape := ⟨2, ![128, 128]⟩
abbrev S1x512x256 : Shape := ⟨3, ![1, 512, 256]⟩
abbrev S512x256 : Shape := ⟨2, ![512, 256]⟩

abbrev nBuf : Space → Nat
  | .hbm => 23
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4608, .f32⟩
  | .hbm, ⟨3, _⟩ => ⟨S4x128x128, .f32⟩
  | .hbm, ⟨4, _⟩ => ⟨S512, .f32⟩
  | .hbm, ⟨5, _⟩ => ⟨S512x1024, .f32⟩
  | .hbm, ⟨6, _⟩ => ⟨S4096x1024, .f32⟩
  | .hbm, ⟨7, _⟩ => ⟨S1x1024, .f32⟩
  | .hbm, ⟨8, _⟩ => ⟨S1024x4x1152, .f32⟩
  | .hbm, ⟨9, _⟩ => ⟨S4x1024x1152, .f32⟩
  | .hbm, ⟨10, _⟩ => ⟨S4x1024x1152, .bf16⟩
  | .hbm, ⟨11, _⟩ => ⟨S4x128x128, .bf16⟩
  | .hbm, ⟨12, _⟩ => ⟨S1x512, .f32⟩
  | .hbm, ⟨13, _⟩ => ⟨S512x4x256, .f32⟩
  | .hbm, ⟨14, _⟩ => ⟨S4x512x256, .f32⟩
  | .hbm, ⟨15, _⟩ => ⟨S4x512x256, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x512, .bf16⟩
  | .hbm, ⟨21, _⟩ => ⟨S4096x1024, .f32⟩
  | .hbm, ⟨22, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1152, .bf16⟩
  | .local _ .vmem, ⟨4, _⟩ => ⟨S4x128x128, .bf16⟩
  | .local _ .vmem, ⟨5, _⟩ => ⟨S1x512, .f32⟩
  | .local _ .vmem, ⟨6, _⟩ => ⟨S4x512x256, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x512, .bf16⟩
  | .local _ .vmem, ⟨16, _⟩ => ⟨S256x512, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S16x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S1x4096x1024 : Shape := ⟨3, ![1, 4096, 1024]⟩
abbrev S1024 : Shape := ⟨1, ![1024]⟩
abbrev S1024x4608 : Shape := ⟨2, ![1024, 4608]⟩
abbrev S4x128x128 : Shape := ⟨3, ![4, 128, 128]⟩
abbrev S512 : Shape := ⟨1, ![512]⟩
abbrev S512x1024 : Shape := ⟨2, ![512, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4608 : Shape := ⟨3, ![1, 4096, 4608]⟩
abbrev S1x4096x512 : Shape := ⟨3, ![1, 4096, 512]⟩
abbrev S1x1x512 : Shape := ⟨3, ![1, 1, 512]⟩
abbrev S1x4097x512 : Shape := ⟨3, ![1, 4097, 512]⟩
abbrev S4096 : Shape := ⟨1, ![4096]⟩
abbrev S1x4097x128 : Shape := ⟨3, ![1, 4097, 128]⟩
abbrev S1x1x128 : Shape := ⟨3, ![1, 1, 128]⟩
abbrev S1x4095x128 : Shape := ⟨3, ![1, 4095, 128]⟩
abbrev S1x4096x128 : Shape := ⟨3, ![1, 4096, 128]⟩
abbrev S1x3x128 : Shape := ⟨3, ![1, 3, 128]⟩
abbrev S1x4093x128 : Shape := ⟨3, ![1, 4093, 128]⟩
abbrev S1x7x128 : Shape := ⟨3, ![1, 7, 128]⟩
abbrev S1x4089x128 : Shape := ⟨3, ![1, 4089, 128]⟩
abbrev S1x15x128 : Shape := ⟨3, ![1, 15, 128]⟩
abbrev S1x4081x128 : Shape := ⟨3, ![1, 4081, 128]⟩
abbrev S1x4096x4x128 : Shape := ⟨4, ![1, 4096, 4, 128]⟩
abbrev S4x128x1x4096 : Shape := ⟨4, ![4, 128, 1, 4096]⟩
abbrev S4096x1024 : Shape := ⟨2, ![4096, 1024]⟩
abbrev S4096x512 : Shape := ⟨2, ![4096, 512]⟩

abbrev nBuf : Space → Nat
  | .hbm => 126
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x4608, .f32⟩
  | .hbm, ⟨3, _⟩ => ⟨S4x128x128, .f32⟩
  | .hbm, ⟨4, _⟩ => ⟨S512, .f32⟩
  | .hbm, ⟨5, _⟩ => ⟨S512x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1x4096x4608, .f32⟩
  | .hbm, ⟨23, _⟩ => ⟨S1x4096x512, .f32⟩
  | .hbm, ⟨24, _⟩ => ⟨S_, .f32⟩
  | .hbm, ⟨25, _⟩ => ⟨S1x1x512, .f32⟩
  | .hbm, ⟨26, _⟩ => ⟨S_, .f32⟩
  | .hbm, ⟨27, _⟩ => ⟨S_, .f32⟩
  | .hbm, ⟨28, _⟩ => ⟨S1x4096x512, .f32⟩
  | .hbm, ⟨29, _⟩ => ⟨S1x4097x512, .f32⟩
  | .hbm, ⟨30, _⟩ => ⟨S4096, .i32⟩
  | .hbm, ⟨31, _⟩ => ⟨S1x4097x128, .f32⟩
  | .hbm, ⟨32, _⟩ => ⟨S_, .f32⟩
  | .hbm, ⟨33, _⟩ => ⟨S1x1x128, .f32⟩
  | .hbm, ⟨34, _⟩ => ⟨S1x4095x128, .f32⟩
  | .hbm, ⟨35, _⟩ => ⟨S1x4096x128, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S1x4096x1, .f32⟩
  | .hbm, ⟨44, _⟩ => ⟨S1x4096x128, .f32⟩
  | .hbm, ⟨45, _⟩ => ⟨S1x4096x128, .f32⟩
  | .hbm, ⟨46, _⟩ => ⟨S1x4096x128, .f32⟩
  | .hbm, ⟨47, _⟩ => ⟨S1x4096x128, .f32⟩
  | .hbm, ⟨48, _⟩ => ⟨S1x4097x128, .f32⟩
  | .hbm, ⟨49, _⟩ => ⟨S_, .f32⟩
  | .hbm, ⟨50, _⟩ => ⟨S1x3x128, .f32⟩
  | .hbm, ⟨51, _⟩ => ⟨S1x4093x128, .f32⟩
  | .hbm, ⟨52, _⟩ => ⟨S1x4096x128, .f32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S1x4096x1, .f32⟩
  | .hbm, ⟨61, _⟩ => ⟨S1x4096x128, .f32⟩
  | .hbm, ⟨62, _⟩ => ⟨S1x4096x128, .f32⟩
  | .hbm, ⟨63, _⟩ => ⟨S1x4096x128, .f32⟩
  | .hbm, ⟨64, _⟩ => ⟨S1x4096x128, .f32⟩
  | .hbm, ⟨65, _⟩ => ⟨S1x4097x128, .f32⟩
  | .hbm, ⟨66, _⟩ => ⟨S_, .f32⟩
  | .hbm, ⟨67, _⟩ => ⟨S1x7x128, .f32⟩
  | .hbm, ⟨68, _⟩ => ⟨S1x4089x128, .f32⟩
  | .hbm, ⟨69, _⟩ => ⟨S1x4096x128, .f32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .f32⟩
  | .hbm, ⟨77, _⟩ => ⟨S1x4096x1, .f32⟩
  | .hbm, ⟨78, _⟩ => ⟨S1x4096x128, .f32⟩
  | .hbm, ⟨79, _⟩ => ⟨S1x4096x128, .f32⟩
  | .hbm, ⟨80, _⟩ => ⟨S1x4096x128, .f32⟩
  | .hbm, ⟨81, _⟩ => ⟨S1x4096x128, .f32⟩
  | .hbm, ⟨82, _⟩ => ⟨S1x4097x128, .f32⟩
  | .hbm, ⟨83, _⟩ => ⟨S_, .f32⟩
  | .hbm, ⟨84, _⟩ => ⟨S1x15x128, .f32⟩
  | .hbm, ⟨85, _⟩ => ⟨S1x4081x128, .f32⟩
  | .hbm, ⟨86, _⟩ => ⟨S1x4096x128, .f32⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S_, .i32⟩
  | .hbm, ⟨91, _⟩ => ⟨S4096, .i32⟩
  | .hbm, ⟨92, _⟩ => ⟨S4096, .i32⟩
  | .hbm, ⟨93, _⟩ => ⟨S4096, .f32⟩
  | .hbm, ⟨94, _⟩ => ⟨S1x4096x1, .f32⟩
  | .hbm, ⟨95, _⟩ => ⟨S1x4096x128, .f32⟩
  | .hbm, ⟨96, _⟩ => ⟨S1x4096x128, .f32⟩
  | .hbm, ⟨97, _⟩ => ⟨S1x4096x128, .f32⟩
  | .hbm, ⟨98, _⟩ => ⟨S1x4096x128, .f32⟩
  | .hbm, ⟨99, _⟩ => ⟨S1x4096x512, .f32⟩
  | .hbm, ⟨100, _⟩ => ⟨S1x4096x512, .f32⟩
  | .hbm, ⟨101, _⟩ => ⟨S1x4096x4x128, .f32⟩
  | .hbm, ⟨102, _⟩ => ⟨S4x128x1x4096, .f32⟩
  | .hbm, ⟨103, _⟩ => ⟨S1x4096x4x128, .f32⟩
  | .hbm, ⟨104, _⟩ => ⟨S1x4096x512, .f32⟩
  | .hbm, ⟨105, _⟩ => ⟨S1x1x512, .f32⟩
  | .hbm, ⟨106, _⟩ => ⟨S1x4096x512, .f32⟩
  | .hbm, ⟨107, _⟩ => ⟨S1x4096x512, .f32⟩
  | .hbm, ⟨108, _⟩ => ⟨S1x4096x1024, .f32⟩
  | .hbm, ⟨109, _⟩ => ⟨S1x4096x1024, .f32⟩
  | .hbm, ⟨110, _⟩ => ⟨S4096x1024, .f32⟩
  | .hbm, ⟨111, _⟩ => ⟨S4096x1024, .bf16⟩
  | .hbm, ⟨112, _⟩ => ⟨S1x4096x1024, .f32⟩
  | .hbm, ⟨113, _⟩ => ⟨S4096x1024, .f32⟩
  | .hbm, ⟨114, _⟩ => ⟨S4096x1024, .bf16⟩
  | .hbm, ⟨115, _⟩ => ⟨S1x4096x1024, .f32⟩
  | .hbm, ⟨116, _⟩ => ⟨S4096x1024, .f32⟩
  | .hbm, ⟨117, _⟩ => ⟨S4096x1024, .bf16⟩
  | .hbm, ⟨118, _⟩ => ⟨S1x4096x1024, .f32⟩
  | .hbm, ⟨119, _⟩ => ⟨S4096x1024, .f32⟩
  | .hbm, ⟨120, _⟩ => ⟨S4096x1024, .bf16⟩
  | .hbm, ⟨121, _⟩ => ⟨S4096x512, .f32⟩
  | .hbm, ⟨122, _⟩ => ⟨S4096x512, .bf16⟩
  | .hbm, ⟨123, _⟩ => ⟨S4096x1024, .f32⟩
  | .hbm, ⟨124, _⟩ => ⟨S4096x1024, .f32⟩
  | .hbm, ⟨125, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_call0_call0_cst : Ref sig .tc := ⟨.hbm, 26, rfl⟩
abbrev main_call0_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩

abbrev nD : Nat := 1
abbrev τ : Topo := Topo.v7x

variable {F : FTy → Type} [FloatOps F]
-- ==== Kernel9.lean ====
abbrev S4x256 : Shape := ⟨2, ![4, 256]⟩
abbrev S2x256 : Shape := ⟨2, ![2, 256]⟩
abbrev S3x768 : Shape := ⟨2, ![3, 768]⟩
abbrev S1x4x256 : Shape := ⟨3, ![1, 4, 256]⟩
abbrev S1x2x256 : Shape := ⟨3, ![1, 2, 256]⟩
abbrev S1x3x768 : Shape := ⟨3, ![1, 3, 768]⟩
abbrev S_ : Shape := ⟨0, ![]⟩
abbrev S1x4x768 : Shape := ⟨3, ![1, 4, 768]⟩
abbrev S1x2x768 : Shape := ⟨3, ![1, 2, 768]⟩
abbrev S1x5x768 : Shape := ⟨3, ![1, 5, 768]⟩
abbrev S1x16x768 : Shape := ⟨3, ![1, 16, 768]⟩
abbrev S16x768 : Shape := ⟨2, ![16, 768]⟩

abbrev nBuf : Space → Nat
  | .hbm => 39
  | .vmem => 22
  | .smem => 0
  | _ => 0

abbrev bufTy : (tb : Table) → Fin (tcTables nBuf tb) → BufTy
  | .hbm, ⟨0, _⟩ => ⟨S4x256, .f32⟩
  | .hbm, ⟨1, _⟩ => ⟨S2x256, .f32⟩
  | .hbm, ⟨2, _⟩ => ⟨S3x768, .f32⟩
  | .hbm, ⟨3, _⟩ => ⟨S4x256, .f32⟩
  | .hbm, ⟨4, _⟩ => ⟨S2x256, .f32⟩
  | .hbm, ⟨5, _⟩ => ⟨S3x768, .f32⟩
  | .hbm, ⟨6, _⟩ => ⟨S4x256, .f32⟩
  | .hbm, ⟨7, _⟩ => ⟨S2x256, .f32⟩
  | .hbm, ⟨8, _⟩ => ⟨S3x768, .f32⟩
  | .hbm, ⟨9, _⟩ => ⟨S4x256, .f32⟩
  | .hbm, ⟨10, _⟩ => ⟨S2x256, .f32⟩
  | .hbm, ⟨11, _⟩ => ⟨S3x768, .f32⟩
  | .hbm, ⟨12, _⟩ => ⟨S1x4x256, .f32⟩
  | .hbm, ⟨13, _⟩ => ⟨S1x2x256, .f32⟩
  | .hbm, ⟨14, _⟩ => ⟨S1x3x768, .f32⟩
  | .hbm, ⟨15, _⟩ => ⟨S_, .i32⟩
  | .hbm, ⟨16, _⟩ => ⟨S_, .f32⟩
  | .hbm, ⟨17, _⟩ => ⟨S1x4x768, .f32⟩
  | .hbm, ⟨18, _⟩ => ⟨S_, .i32⟩
  | .hbm, ⟨19, _⟩ => ⟨S_, .f32⟩
  | .hbm, ⟨20, _⟩ => ⟨S1x2x768, .f32⟩
  | .hbm, ⟨21, _⟩ => ⟨S_, .f32⟩
  | .hbm, ⟨22, _⟩ => ⟨S1x2x768, .f32⟩
  | .hbm, ⟨23, _⟩ => ⟨S_, .f32⟩
  | .hbm, ⟨24, _⟩ => ⟨S1x5x768, .f32⟩
  | .hbm, ⟨25, _⟩ => ⟨S1x16x768, .f32⟩
  | .hbm, ⟨26, _⟩ => ⟨S16x768, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S4x256, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S2x256, .f32⟩
  | .hbm, ⟨35, _⟩ => ⟨S3x768, .f32⟩
  | .hbm, ⟨36, _⟩ => ⟨S3x768, .f32⟩
  | .hbm, ⟨37, _⟩ => ⟨S3x768, .f32⟩
  | .hbm, ⟨38, _⟩ => ⟨S3x768, .f32⟩
  | .local _ .vmem, ⟨0, _⟩ => ⟨S16x768, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S3x768, .f32⟩
  | .local _ .vmem, ⟨8, _⟩ => ⟨S3x768, .f32⟩
  | .local _ .vmem, ⟨9, _⟩ => ⟨S3x768, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S2x256, .f32⟩
  | .local _ .vmem, ⟨15, _⟩ => ⟨S2x256, .f32⟩
  | .local _ .vmem, ⟨16, _⟩ => ⟨S2x256, .f32⟩
  | .local _ .vmem, ⟨17, _⟩ => ⟨S2x256, .f32⟩
  | .local _ .vmem, ⟨18, _⟩ => ⟨S3x768, .f32⟩
  | .local _ .vmem, ⟨19, _⟩ => ⟨S3x768, .f32⟩
  | .local _ .vmem, ⟨20, _⟩ => ⟨S3x768, .f32⟩
  | .local _ .vmem, ⟨21, _⟩ => ⟨S3x768, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference9Ideal.lean ====
abbrev S4x256 : Shape := ⟨2, ![4, 256]⟩
abbrev S2x256 : Shape := ⟨2, ![2, 256]⟩
abbrev S3x768 : Shape := ⟨2, ![3, 768]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S2x256, .f32⟩
  | .hbm, ⟨2, _⟩ => ⟨S3x768, .f32⟩
  | .hbm, ⟨3, _⟩ => ⟨S4x256, .f32⟩
  | .hbm, ⟨4, _⟩ => ⟨S2x256, .f32⟩
  | .hbm, ⟨5, _⟩ => ⟨S3x768, .f32⟩
  | .hbm, ⟨6, _⟩ => ⟨S4x256, .f32⟩
  | .hbm, ⟨7, _⟩ => ⟨S2x256, .f32⟩
  | .hbm, ⟨8, _⟩ => ⟨S3x768, .f32⟩
  | .hbm, ⟨9, _⟩ => ⟨S4x256, .f32⟩
  | .hbm, ⟨10, _⟩ => ⟨S2x256, .f32⟩
  | .hbm, ⟨11, _⟩ => ⟨S3x768, .f32⟩
  | .hbm, ⟨12, _⟩ => ⟨S_, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S4x256, .f32⟩
  | .hbm, ⟨23, _⟩ => ⟨S_, .f32⟩
  | .hbm, ⟨24, _⟩ => ⟨S4x256, .f32⟩
  | .hbm, ⟨25, _⟩ => ⟨S4x256, .f32⟩
  | .hbm, ⟨26, _⟩ => ⟨S4x256, .f32⟩
  | .hbm, ⟨27, _⟩ => ⟨S_, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | .hbm, ⟨37, _⟩ => ⟨S4x256, .f32⟩
  | .hbm, ⟨38, _⟩ => ⟨S_, .f32⟩
  | .hbm, ⟨39, _⟩ => ⟨S4x256, .f32⟩
  | .hbm, ⟨40, _⟩ => ⟨S4x256, .f32⟩
  | .hbm, ⟨41, _⟩ => ⟨S4x256, .f32⟩
  | .hbm, ⟨42, _⟩ => ⟨S_, .f32⟩
  | .hbm, ⟨43, _⟩ => ⟨S4x256, .f32⟩
  | .hbm, ⟨44, _⟩ => ⟨S4x256, .f32⟩
  | .hbm, ⟨45, _⟩ => ⟨S_, .f32⟩
  | .hbm, ⟨46, _⟩ => ⟨S2x256, .f32⟩
  | .hbm, ⟨47, _⟩ => ⟨S2x256, .f32⟩
  | .hbm, ⟨48, _⟩ => ⟨S_, .f32⟩
  | .hbm, ⟨49, _⟩ => ⟨S2x256, .f32⟩
  | .hbm, ⟨50, _⟩ => ⟨S2x256, .f32⟩
  | .hbm, ⟨51, _⟩ => ⟨S2x256, .f32⟩
  | .hbm, ⟨52, _⟩ => ⟨S_, .f32⟩
  | .hbm, ⟨53, _⟩ => ⟨S2x256, .f32⟩
  | .hbm, ⟨54, _⟩ => ⟨S2x256, .f32⟩
  | .hbm, ⟨55, _⟩ => ⟨S2x256, .f32⟩
  | .hbm, ⟨56, _⟩ => ⟨S_, .f32⟩
  | .hbm, ⟨57, _⟩ => ⟨S2x256, .f32⟩
  | .hbm, ⟨58, _⟩ => ⟨S2x256, .f32⟩
  | .hbm, ⟨59, _⟩ => ⟨S2x256, .f32⟩
  | .hbm, ⟨60, _⟩ => ⟨S_, .f32⟩
  | .hbm, ⟨61, _⟩ => ⟨S2x256, .f32⟩
  | .hbm, ⟨62, _⟩ => ⟨S2x256, .f32⟩
  | .hbm, ⟨63, _⟩ => ⟨S_, .f32⟩
  | .hbm, ⟨64, _⟩ => ⟨S2x256, .f32⟩
  | .hbm, ⟨65, _⟩ => ⟨S2x256, .f32⟩
  | .hbm, ⟨66, _⟩ => ⟨S2x256, .f32⟩
  | .hbm, ⟨67, _⟩ => ⟨S_, .f32⟩
  | .hbm, ⟨68, _⟩ => ⟨S2x256, .f32⟩
  | .hbm, ⟨69, _⟩ => ⟨S2x256, .f32⟩
  | .hbm, ⟨70, _⟩ => ⟨S2x256, .f32⟩
  | .hbm, ⟨71, _⟩ => ⟨S_, .f32⟩
  | .hbm, ⟨72, _⟩ => ⟨S2x256, .f32⟩
  | .hbm, ⟨73, _⟩ => ⟨S2x256, .f32⟩
  | .hbm, ⟨74, _⟩ => ⟨S2x256, .f32⟩
  | .hbm, ⟨75, _⟩ => ⟨S_, .f32⟩
  | .hbm, ⟨76, _⟩ => ⟨S2x256, .f32⟩
  | .hbm, ⟨77, _⟩ => ⟨S2x256, .f32⟩
  | .hbm, ⟨78, _⟩ => ⟨S_, .f32⟩
  | .hbm, ⟨79, _⟩ => ⟨S3x768, .f32⟩
  | .hbm, ⟨80, _⟩ => ⟨S3x768, .f32⟩
  | .hbm, ⟨81, _⟩ => ⟨S_, .f32⟩
  | .hbm, ⟨82, _⟩ => ⟨S3x768, .f32⟩
  | .hbm, ⟨83, _⟩ => ⟨S3x768, .f32⟩
  | .hbm, ⟨84, _⟩ => ⟨S3x768, .f32⟩
  | .hbm, ⟨85, _⟩ => ⟨S_, .f32⟩
  | .hbm, ⟨86, _⟩ => ⟨S3x768, .f32⟩
  | .hbm, ⟨87, _⟩ => ⟨S3x768, .f32⟩
  | .hbm, ⟨88, _⟩ => ⟨S3x768, .f32⟩
  | .hbm, ⟨89, _⟩ => ⟨S_, .f32⟩
  | .hbm, ⟨90, _⟩ => ⟨S3x768, .f32⟩
  | .hbm, ⟨91, _⟩ => ⟨S3x768, .f32⟩
  | .hbm, ⟨92, _⟩ => ⟨S3x768, .f32⟩
  | .hbm, ⟨93, _⟩ => ⟨S_, .f32⟩
  | .hbm, ⟨94, _⟩ => ⟨S3x768, .f32⟩
  | .hbm, ⟨95, _⟩ => ⟨S3x768, .f32⟩
  | .hbm, ⟨96, _⟩ => ⟨S_, .f32⟩
  | .hbm, ⟨97, _⟩ => ⟨S3x768, .f32⟩
  | .hbm, ⟨98, _⟩ => ⟨S3x768, .f32⟩
  | .hbm, ⟨99, _⟩ => ⟨S3x768, .f32⟩
  | .hbm, ⟨100, _⟩ => ⟨S_, .f32⟩
  | .hbm, ⟨101, _⟩ => ⟨S3x768, .f32⟩
  | .hbm, ⟨102, _⟩ => ⟨S3x768, .f32⟩
  | .hbm, ⟨103, _⟩ => ⟨S3x768, .f32⟩
  | .hbm, ⟨104, _⟩ => ⟨S_, .f32⟩
  | .hbm, ⟨105, _⟩ => ⟨S3x768, .f32⟩
  | .hbm, ⟨106, _⟩ => ⟨S3x768, .f32⟩
  | .hbm, ⟨107, _⟩ => ⟨S3x768, .f32⟩
  | .hbm, ⟨108, _⟩ => ⟨S_, .f32⟩
  | .hbm, ⟨109, _⟩ => ⟨S3x768, .f32⟩
  | .hbm, ⟨110, _⟩ => ⟨S3x768, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Reals.lean ====
/-
  Extended reals that are real numbers: how sums, quotients and the other operations of the programs act on them,
  what the programs' constants are, and how a precondition "every entry is finite" gives the real numbers.
-/
module

public import Idealize.ShloMosaic.Lib.Pipeline.ValueKit
public import Idealize.ShloMosaic.Lib.Pointwise
public import Idealize.ShloMosaic.Lib.IdealHost

@[expose] public section

noncomputable section

namespace Cert.Reals

open Idealize.ShloMosaic

/-- A sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers whose divisor is not zero. -/
theorem coe_div {a b : ℝ} (hb : b ≠ 0) : Ideal.div (a : EReal) (b : EReal) = ((a / b : ℝ) : EReal) := by
  rw [Ideal.div, if_neg (by exact_mod_cast hb), div_eq_mul_inv, EReal.coe_mul, EReal.coe_inv]

/-- The reciprocal square root of a positive number. -/
theorem coe_rsqrt {a : ℝ} (ha : 0 < a) : Ideal.rsqrt (a : EReal) = (((Real.sqrt a)⁻¹ : ℝ) : EReal) := by
  rw [Ideal.rsqrt_coe, if_neg (not_lt.mpr ha.le), if_neg ha.ne']

/-- An extended real below infinity in absolute value is a real number. -/
theorem eq_coe_of_abs_lt {x : EReal} (h : max x (-x) < ⊤) : ∃ r : ℝ, x = (r : EReal) := by
  induction x using EReal.rec with
  | bot => simp at h
  | top => simp at h
  | coe r => exact ⟨r, rfl⟩

theorem ofBits_inf : Ideal.ofBits .f32 0x7F800000#32 = (⊤ : EReal) := by
  simp [Ideal.ofBits, Ideal.ieee]

theorem ofBits_1024 : Ideal.ofBits .f32 0x44800000#32 = ((1024 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The constant added under the square root, the number its word denotes. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps]; rw [← EReal.coe_mul]; norm_num

/-- An array all of whose comparisons `|x| < ∞` hold has real entries. -/
theorem exists_real {s : Shape} (x : FVec Ideal s .f32)
    (h : ∀ i, max (x i) (-x i) < (⊤ : EReal)) : ∃ r : s.Idx → ℝ, ∀ i, x i = ((r i : ℝ) : EReal) := by
  choose r hr using fun i => eq_coe_of_abs_lt (h i)
  exact ⟨r, hr⟩

/-- The comparison word `|x| < ∞` is one exactly when it holds. -/
theorem lt_of_word {a b : EReal} (h : BitVec.ofBool (decide (a < b)) = 1#1) : a < b := by
  by_contra hn
  rw [decide_eq_false hn] at h
  exact absurd h (by decide)

/-- The precondition's comparison of one array gives its real entries. -/
theorem real_of_finite {s : Shape} (x : FVec Ideal s .f32)
    (b : (⟨0, ![]⟩ : Shape).BroadcastsInDim s (![] : Fin 0 → Fin s.rank))
    (h : cmpf .olt (Host.absf x) (broadcastInDim s ![] b (constant ⟨0, ![]⟩ .f32 0x7F800000#32)) = fun _ => 1#1) :
    ∃ r : s.Idx → ℝ, ∀ i, x i = ((r i : ℝ) : EReal) := by
  refine exists_real x fun i => ?_
  have e : BitVec.ofBool (decide (max (x i) (-x i) < Ideal.ofBits .f32 0x7F800000#32)) = 1#1 := congrFun h i
  exact ofBits_inf ▸ lt_of_word e

end Cert.Reals

end
-- ==== Proof.Norm.lean ====
/-
  The root-mean-square norm of a row of 1024 numbers and its gradient: what the kernels' formula and the formula of
  the reference's derivative are as real numbers, and that they agree.
-/
module

public import proofs.«01_k».proof.Proof.Reals

@[expose] public section

noncomputable section

namespace Cert.Norm

open Idealize.ShloMosaic Cert.Reals

/-- The mean square of a row, the small constant added. -/
def meanSq (x : Fin 1024 → ℝ) : ℝ := (∑ k, x k * x k) / 1024 + eps

/-- One over the root of the mean square. -/
def invRms (x : Fin 1024 → ℝ) : ℝ := (Real.sqrt (meanSq x))⁻¹

/-- The gradient of `x * invRms x * g` with respect to `x` at the cotangent `d`. -/
def back (x g d : Fin 1024 → ℝ) (k : Fin 1024) : ℝ :=
  invRms x * (d k * g k - x k * invRms x * ((∑ l, d l * g l * (x l * invRms x)) / 1024))

theorem meanSq_pos (x : Fin 1024 → ℝ) : 0 < meanSq x := by
  have h : 0 ≤ (∑ k, x k * x k) / 1024 := div_nonneg (Finset.sum_nonneg fun k _ => mul_self_nonneg _) (by norm_num)
  unfold meanSq
  linarith [eps_pos]

theorem coe_meanSq (X : Fin 1024 → EReal) (x : Fin 1024 → ℝ) (hX : ∀ k, X k = ((x k : ℝ) : EReal)) :
    Ideal.div (∑ k, X k * X k) (Ideal.ofBits .f32 0x44800000#32) + Ideal.ofBits .f32 0x358637BD#32 = ((meanSq x : ℝ) : EReal) := by
  simp only [hX, ofBits_1024, ofBits_eps, ← EReal.coe_mul, coe_sum]
  rw [coe_div (by norm_num), ← EReal.coe_add, meanSq]

theorem rsqrt_meanSq (x : Fin 1024 → ℝ) : Ideal.rsqrt ((meanSq x : ℝ) : EReal) = ((invRms x : ℝ) : EReal) := by
  rw [coe_rsqrt (meanSq_pos x), invRms]

theorem coe_inv (X : Fin 1024 → EReal) (x : Fin 1024 → ℝ) (hX : ∀ k, X k = ((x k : ℝ) : EReal)) :
    Ideal.rsqrt (Ideal.div (∑ k, X k * X k) (Ideal.ofBits .f32 0x44800000#32) + Ideal.ofBits .f32 0x358637BD#32)
      = ((invRms x : ℝ) : EReal) := by
  rw [coe_meanSq X x hX, rsqrt_meanSq]

/-- The kernels' formula, the row's reciprocal root already a number. -/
theorem coe_back (X G D : Fin 1024 → EReal) (x g d : Fin 1024 → ℝ) (hX : ∀ k, X k = ((x k : ℝ) : EReal))
    (hG : ∀ k, G k = ((g k : ℝ) : EReal)) (hD : ∀ k, D k = ((d k : ℝ) : EReal)) (k : Fin 1024) :
    ((invRms x : ℝ) : EReal) * (D k * G k
        - X k * ((invRms x : ℝ) : EReal) * Ideal.div (∑ l, D l * G l * (X l * ((invRms x : ℝ) : EReal))) (Ideal.ofBits .f32 0x44800000#32))
      = ((back x g d k : ℝ) : EReal) := by
  simp only [hX, hG, hD, ofBits_1024, ← EReal.coe_mul, coe_sum]
  rw [coe_div (by norm_num), ← EReal.coe_mul, ← EReal.coe_sub, ← EReal.coe_mul, back]

/-- The coefficient of `x` in the derivative's formula, twice which is added to the cotangent's part. -/
def pull (x g d : Fin 1024 → ℝ) : ℝ := (∑ l, x l * (d l * g l)) * (-(1 / 2) * (invRms x / meanSq x)) / 1024

theorem coe_pull (X G D : Fin 1024 → EReal) (x g d : Fin 1024 → ℝ) (hX : ∀ k, X k = ((x k : ℝ) : EReal))
    (hG : ∀ k, G k = ((g k : ℝ) : EReal)) (hD : ∀ k, D k = ((d k : ℝ) : EReal)) :
    Ideal.div ((∑ l, X l * (D l * G l)) * (Ideal.ofBits .f32 0xBF000000#32 * Ideal.div ((invRms x : ℝ) : EReal) ((meanSq x : ℝ) : EReal)))
        (Ideal.ofBits .f32 0x44800000#32)
      = ((pull x g d : ℝ) : EReal) := by
  simp only [hX, hG, hD, ofBits_1024, ofBits_neg_half, coe_div (meanSq_pos x).ne', ← EReal.coe_mul, coe_sum]
  rw [coe_div (by norm_num), pull]

/-- The derivative's formula is the kernels'. -/
theorem back_eq (x g d : Fin 1024 → ℝ) (k : Fin 1024) :
    d k * g k * invRms x + x k * pull x g d + pull x g d * x k = back x g d k := by
  have hm : invRms x / meanSq x = invRms x * invRms x * invRms x := by
    have h : invRms x * invRms x = (meanSq x)⁻¹ := by
      rw [invRms, ← mul_inv, Real.mul_self_sqrt (meanSq_pos x).le]
    rw [h, div_eq_mul_inv, mul_comm]
  have hs : ∑ l, d l * g l * (x l * invRms x) = (∑ l, x l * (d l * g l)) * invRms x := by
    rw [Finset.sum_mul]
    exact Finset.sum_congr rfl fun l _ => by ring
  rw [back, pull, hm, hs]
  ring

/-- The derivative's formula with what is added before it, as extended reals. -/
theorem coe_add_back (P : EReal) (x g d : Fin 1024 → ℝ) (k : Fin 1024) :
    P + ((d k : ℝ) : EReal) * ((g k : ℝ) : EReal) * ((invRms x : ℝ) : EReal) + ((x k : ℝ) : EReal) * ((pull x g d : ℝ) : EReal)
        + ((pull x g d : ℝ) : EReal) * ((x k : ℝ) : EReal)
      = P + ((back x g d k : ℝ) : EReal) := by
  simp only [← EReal.coe_mul, add_assoc, ← EReal.coe_add]
  rw [← back_eq x g d k, add_assoc]

/-- The derivative's formula, as extended reals. -/
theorem coe_derived_back (x g d : Fin 1024 → ℝ) (k : Fin 1024) :
    ((d k : ℝ) : EReal) * ((g k : ℝ) : EReal) * ((invRms x : ℝ) : EReal) + ((x k : ℝ) : EReal) * ((pull x g d : ℝ) : EReal)
        + ((pull x g d : ℝ) : EReal) * ((x k : ℝ) : EReal)
      = ((back x g d k : ℝ) : EReal) := by
  simp only [← EReal.coe_mul, ← EReal.coe_add]
  rw [back_eq x g d k]

/-- The cotangent of a normed row that a projection to `n` columns follows. -/
def dh {N n : ℕ} (u : Fin N → Fin n → ℝ) (w : Fin 1024 → Fin n → ℝ) (t : Fin N) (k : Fin 1024) : ℝ := ∑ j, u t j * w k j

end Cert.Norm

end
-- ==== Proof.FfnUp.lean ====
/-
  The kernel of the gradient through the up projection: its two result arrays as functions of the arguments, which are
  real numbers.
-/
module

public import proofs.«01_k».proof.Proof.Gen.KernelIdeal.Value
public import proofs.«01_k».proof.Proof.Norm
import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Reals Cert.Norm

/-- The blocks one grid point reads, the arguments' real numbers at its rows `row r`. -/
structure Blocks (U : Vec Ideal S512x6144 .bf16) (X : Vec Ideal S512x1024 .f32) (G : Vec Ideal S1x1024 .f32)
    (W : Vec Ideal S4x1024x1536 .bf16) (x : Fin 4096 → Fin 1024 → ℝ) (g : Fin 1024 → ℝ) (w : Fin 1024 → Fin 6144 → ℝ)
    (u : Fin 4096 → Fin 6144 → ℝ) (row : Fin 512 → Fin 4096) : Prop where
  hU : ∀ r j, U (ix2 r j) = ((u (row r) j : ℝ) : EReal)
  hX : ∀ r k, X (ix2 r k) = ((x (row r) k : ℝ) : EReal)
  hG : ∀ k, G (ix2 0 k) = ((g k : ℝ) : EReal)
  hW : ∀ (s : Fin 4) (k : Fin 1024) (j : Fin 1536) (h : s.val * 1536 + j.val < 6144),
    W (ix3 s k j) = ((w k ⟨s.val * 1536 + j.val, h⟩ : ℝ) : EReal)

section
variable {U : Vec Ideal S512x6144 .bf16} {X : Vec Ideal S512x1024 .f32} {G : Vec Ideal S1x1024 .f32}
  {W : Vec Ideal S4x1024x1536 .bf16} {x : Fin 4096 → Fin 1024 → ℝ} {g : Fin 1024 → ℝ} {w : Fin 1024 → Fin 6144 → ℝ}
  {u : Fin 4096 → Fin 6144 → ℝ} {row : Fin 512 → Fin 4096}

/-- What the body's four products add up to. -/
theorem dh_block (b : Blocks U X G W x g w u row) (r : Fin 512) (k : Fin 1024) :
    k0_pay1 (k0_pay8 (View.ld U (Rect.unit ![0, 0] ![512, 1536] inb_S512x6144_S512x1536_0_0))
      (View.ld W (Rect.unit ![0, 0, 0] ![1, 1024, 1536] inb_S4x1024x1536_S1x1024x1536_0_0_0))
      (View.ld U (Rect.unit ![0, 1536] ![512, 1536] inb_S512x6144_S512x1536_0_1536))
      (View.ld W (Rect.unit ![1, 0, 0] ![1, 1024, 1536] inb_S4x1024x1536_S1x1024x1536_1_0_0))
      (View.ld U (Rect.unit ![0, 3072] ![512, 1536] inb_S512x6144_S512x1536_0_3072))
      (View.ld W (Rect.unit ![2, 0, 0] ![1, 1024, 1536] inb_S4x1024x1536_S1x1024x1536_2_0_0)))
      (View.ld U (Rect.unit ![0, 4608] ![512, 1536] inb_S512x6144_S512x1536_0_4608))
      (View.ld W (Rect.unit ![3, 0, 0] ![1, 1024, 1536] inb_S4x1024x1536_S1x1024x1536_3_0_0)) (ix2 r k)
      = ((dh u w (row r) k : ℝ) : EReal) := by
  pointwise [k0_pay8, k0_pay1]
  simp only [b.hU]
  have hw := fun (s : Fin 4) (j : Fin 1536) => b.hW s k j (by omega)
  have h0 := hw 0
  have h1 := hw 1
  have h2 := hw 2
  have h3 := hw 3
  simp only [h0, h1, h2, h3, ← EReal.coe_mul, coe_sum, ← EReal.coe_add]
  congr 1
  rw [dh, ← Fin.sum_mul_add_fin 4 1536 (fun j => u (row r) j * w k j), Fin.sum_univ_four]
  simp

theorem row_block (b : Blocks U X G W x g w u row) (D2 : Vec Ideal S512x1024 .f32) (DH : FVec Ideal S512x1024 .f32)
    (A B) (hd : ∀ r k, k0_pay1 DH A B (ix2 r k) = ((dh u w (row r) k : ℝ) : EReal)) (r : Fin 512) (k : Fin 1024) :
    k0_pay3 (k0_pay6 X) (k0_pay7 X) DH A B G D2 (ix2 r k)
      = D2 (ix2 r k) + ((back (x (row r)) g (dh u w (row r)) k : ℝ) : EReal) := by
  pointwise [k0_pay3, k0_pay6, k0_pay7, k0_pay5]
  rw [coe_inv (fun k => X (ix2 r k)) (x (row r)) (b.hX r)]
  rw [← coe_back (fun k => X (ix2 r k)) (fun k => G (ix2 0 k)) (fun k => k0_pay1 DH A B (ix2 r k)) (x (row r)) g _ (b.hX r)
    b.hG (hd r) k]

theorem scale_block (b : Blocks U X G W x g w u row) (acc : FVec Ideal S1x1024 .f32) (DH : FVec Ideal S512x1024 .f32)
    (A B) (hd : ∀ r k, k0_pay1 DH A B (ix2 r k) = ((dh u w (row r) k : ℝ) : EReal)) (i : Fin 1) (k : Fin 1024) :
    k0_pay2 (k0_pay7 X) DH A B acc (ix2 i k)
      = acc (ix2 i k) + ∑ r : Fin 512, ((dh u w (row r) k * (x (row r) k * invRms (x (row r))) : ℝ) : EReal) := by
  obtain rfl := Subsingleton.elim i 0
  pointwise [k0_pay2, k0_pay7, k0_pay6, k0_pay5]
  simp only [hd]
  congr 1
  refine Finset.sum_congr rfl fun r _ => ?_
  rw [coe_inv (fun k => X (ix2 r k)) (x (row r)) (b.hX r), b.hX, ← EReal.coe_mul, ← EReal.coe_mul]

end

theorem zero_block (i : Fin 1) (k : Fin 1024) : k0_pay4 (F := Ideal) (ix2 i k) = 0 := by pointwise [k0_pay4]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0] :=
  (by decide +kernel : ∀ t : Fin grid0.N, _)

/-- The arguments are real numbers. -/
structure Reads (c : Dev nD) (x : Fin 4096 → Fin 1024 → ℝ) (g : Fin 1024 → ℝ) (w : Fin 1024 → Fin 6144 → ℝ)
    (u : Fin 4096 → Fin 6144 → ℝ) : Prop where
  hx : ∀ t k, m ((c : Thread nD τ).loc main_arg0) (ix3 0 t k) = ((x t k : ℝ) : EReal)
  hg : ∀ k, m ((c : Thread nD τ).loc main_arg1) (ix1 k) = ((g k : ℝ) : EReal)
  hw : ∀ k j, m ((c : Thread nD τ).loc main_arg2) (ix2 k j) = ((w k j : ℝ) : EReal)
  hu : ∀ t j, m ((c : Thread nD τ).loc main_arg3) (ix3 0 t j) = ((u t j : ℝ) : EReal)

variable {c : Dev nD} {x : Fin 4096 → Fin 1024 → ℝ} {g : Fin 1024 → ℝ} {w : Fin 1024 → Fin 6144 → ℝ} {u : Fin 4096 → Fin 6144 → ℝ}

/-- Row `r` of the block at point `t`. -/
def rowAt (t : Fin cfg0.N) (r : Fin 512) : Fin 4096 := ⟨t.val * 512 + r.val, by have := lt_of_lt_of_eq t.isLt (show cfg0.N = 8 from N_0); omega⟩

theorem blocks (h : Reads m c x g w u) (t : Fin cfg0.N) :
    Blocks (iblk m c 0 t) (iblk m c 1 t) (iblk m c 3 t) (iblk m c 4 t) x g w u (rowAt t) where
  hU r j := by
    rw [← h.hu]
    blk_point [iblk, V, idx t]
    rfl
  hX r k := by
    rw [← h.hx]
    blk_point [iblk, V, idx t]
    rfl
  hG k := by
    rw [← h.hg]
    blk_point [iblk, V, idx t]
  hW s k j hl := by
    rw [← h.hw]
    blk_point [iblk, V, idx t]

theorem added (t : Fin cfg0.N) (r : Fin 512) (k : Fin 1024) :
    iblk m c 2 t (ix2 r k) = m ((c : Thread nD τ).loc main_arg4) (ix3 0 (rowAt t r) k) := by
  blk_point [iblk, V, idx t]
  rfl

theorem at5 (t : Fin cfg0.N) (r : Fin 512) (k : Fin 1024) :
    ((View.whole main_v8_0).slice (win0_5.rect t)).emb (ix2 r k) = ix2 (rowAt t r) k := by
  blk_ext [idx t]
  rfl

theorem rows (h : Reads m c x g w u) :
    (dats m 0 c).arrAt 5 (cfgs 0).N
      = fun i : S4096x1024.Idx => (show EReal from m ((c : Thread nD τ).loc main_arg4) (ix3 0 (i 0) (i 1)))
        + ((back (x (i 0)) g (dh u w (i 0)) (i 1) : ℝ) : EReal) := by
  refine (dats m 0 c).arrAt_eq_of_covers 5 _ (by decide +kernel) fun t _ y => ?_
  blk_simp
  rw [after0_5]
  have b := blocks m h t
  idx_vars y
  have hadd := added m (c := c) t
  by_cases hc : t.val % 8 = 0
  · rw [outsAt0_A m c t hc]; frame_out
    rw [row_block b _ _ _ _ (dh_block b), hadd]
    rw [at5 t]
    rfl
  · rw [outsAt0_B m c t hc]; frame_out
    rw [row_block b _ _ _ _ (dh_block b), hadd]
    rw [at5 t]
    rfl

theorem scale (h : Reads m c x g w u) :
    (dats m 0 c).arrAt 6 (cfgs 0).N
      = fun i : S1x1024.Idx => ((∑ t, dh u w t (i 1) * (x t (i 1) * invRms (x t)) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => ∑ r : Fin 512, ((dh u w (rowAt t r) (j 1) * (x (rowAt t r) (j 1) * invRms (x (rowAt t r))) : ℝ) : EReal))
    (fun t hc j => by
      rw [outsAt0_A m c t hc]; frame_out
      idx_vars j
      rw [scale_block (blocks m h t) _ _ _ _ (dh_block (blocks m h t)), zero_block])
    (fun t hc j => by
      rw [outsAt0_B m c t hc]; frame_out
      idx_vars j
      rw [scale_block (blocks m h t) _ _ _ _ (dh_block (blocks m h t))])
    (le_of_eq N_0) t0_7 rfl j, zero_add]
  show (_ : EReal) = _
  rw [← coe_sum]
  exact Fin.sum_mul_add_fin cfg0.N 512 (fun t : Fin 4096 => ((dh u w t (j 1) * (x t (j 1) * invRms (x t)) : ℝ) : EReal))

end Cert.KernelIdeal.Val

end
-- ==== Proof.HostSums.lean ====
/-
  The host's sums over two axes of extent one: the array read at the one index there is.
-/
module

public import Idealize.ShloMosaic.Lib.Pointwise

@[expose] public section

noncomputable section

namespace Cert.HostSums

open Idealize.ShloMosaic

section a01
variable {n : Nat} {t : Shape}

theorem rank_a01 (h : (⟨3, ![1, 1, n]⟩ : Shape).ReducesTo [0, 1] t) : t.rank = 1 := h.1
theorem lt_a01 (h : (⟨3, ![1, 1, n]⟩ : Shape).ReducesTo [0, 1] t) : 0 < t.rank := rank_a01 h ▸ (by decide)
theorem size_a01 (h : (⟨3, ![1, 1, n]⟩ : Shape).ReducesTo [0, 1] t) : t.size ⟨0, lt_a01 h⟩ = n := h.2 ⟨0, lt_a01 h⟩

/-- The first two of three axes. -/
@[pointwise] theorem hostReduceAdd_a01 (h : (⟨3, ![1, 1, n]⟩ : Shape).ReducesTo [0, 1] t) (v : (⟨3, ![1, 1, n]⟩ : Shape).Idx → EReal)
    (init : EReal) (j : t.Idx) :
    Ideal.hostReduceAdd h v init j
      = init + v (ix3 (0 : Fin 1) (0 : Fin 1) ⟨(j ⟨0, lt_a01 h⟩).val, Shape.coordLt (j ⟨0, lt_a01 h⟩) (size_a01 h)⟩) := by
  refine congrArg (init + ·) ?_
  refine (Finset.sum_eq_single_of_mem _ ?_ ?_).trans rfl
  · refine Finset.mem_filter.mpr ⟨Finset.mem_univ _, ?_⟩
    funext b
    apply Fin.ext
    match b with
    | ⟨0, _⟩ => rfl
    | ⟨_ + 1, hb⟩ => exact absurd hb (by have := rank_a01 h; omega)
  · intro i hi hne
    refine absurd ?_ hne
    have e := (Finset.mem_filter.mp hi).2
    funext a
    apply Fin.ext
    match a with
    | ⟨0, _⟩ => exact Nat.lt_one_iff.mp (i 0).isLt
    | ⟨1, _⟩ => exact Nat.lt_one_iff.mp (i 1).isLt
    | ⟨2, _⟩ => have e0 := congrArg Fin.val (congrFun e ⟨0, lt_a01 h⟩); exact e0

end a01

section a02
variable {n : Nat} {t : Shape}

theorem rank_a02 (h : (⟨3, ![1, n, 1]⟩ : Shape).ReducesTo [0, 2] t) : t.rank = 1 := h.1
theorem lt_a02 (h : (⟨3, ![1, n, 1]⟩ : Shape).ReducesTo [0, 2] t) : 0 < t.rank := rank_a02 h ▸ (by decide)
theorem size_a02 (h : (⟨3, ![1, n, 1]⟩ : Shape).ReducesTo [0, 2] t) : t.size ⟨0, lt_a02 h⟩ = n := h.2 ⟨0, lt_a02 h⟩

/-- The first and the last of three axes. -/
@[pointwise] theorem hostReduceAdd_a02 (h : (⟨3, ![1, n, 1]⟩ : Shape).ReducesTo [0, 2] t) (v : (⟨3, ![1, n, 1]⟩ : Shape).Idx → EReal)
    (init : EReal) (j : t.Idx) :
    Ideal.hostReduceAdd h v init j
      = init + v (ix3 (0 : Fin 1) ⟨(j ⟨0, lt_a02 h⟩).val, Shape.coordLt (j ⟨0, lt_a02 h⟩) (size_a02 h)⟩ (0 : Fin 1)) := by
  refine congrArg (init + ·) ?_
  refine (Finset.sum_eq_single_of_mem _ ?_ ?_).trans rfl
  · refine Finset.mem_filter.mpr ⟨Finset.mem_univ _, ?_⟩
    funext b
    apply Fin.ext
    match b with
    | ⟨0, _⟩ => rfl
    | ⟨_ + 1, hb⟩ => exact absurd hb (by have := rank_a02 h; omega)
  · intro i hi hne
    refine absurd ?_ hne
    have e := (Finset.mem_filter.mp hi).2
    funext a
    apply Fin.ext
    match a with
    | ⟨0, _⟩ => exact Nat.lt_one_iff.mp (i 0).isLt
    | ⟨1, _⟩ => have e0 := congrArg Fin.val (congrFun e ⟨0, lt_a02 h⟩); exact e0
    | ⟨2, _⟩ => exact Nat.lt_one_iff.mp (i 2).isLt

end a02

end Cert.HostSums

end
-- ==== Proof.FfnUpReference.lean ====
/-
  The reference's gradient through the up projection: its two results as functions of the arguments, which are real
  numbers.
-/
module

public import proofs.«01_k».proof.Proof.Gen.ReferenceIdeal.Read
public import proofs.«01_k».proof.Proof.Norm
public import proofs.«01_k».proof.Proof.HostSums

@[expose] public section

noncomputable section

namespace Cert.ReferenceIdeal.Val

open Cert.ReferenceIdeal Cert.ReferenceIdeal.Read Idealize.ShloMosaic Cert.Reals Cert.Norm

variable {X : Vec Ideal S1x4096x1024 .f32} {G : Vec Ideal S1024 .f32} {W : Vec Ideal S1024x6144 .f32} {U : Vec Ideal S1x4096x6144 .f32}
  {x : Fin 4096 → Fin 1024 → ℝ} {g : Fin 1024 → ℝ} {w : Fin 1024 → Fin 6144 → ℝ} {u : Fin 4096 → Fin 6144 → ℝ}

theorem cotangent (hW : ∀ k j, W (ix2 k j) = ((w k j : ℝ) : EReal)) (hU : ∀ t j, U (ix3 0 t j) = ((u t j : ℝ) : EReal))
    (t : Fin 4096) (k : Fin 1024) : val_main_v17 (F := Ideal) W U (ix3 0 t k) = ((dh u w t k : ℝ) : EReal) := by
  pointwise [val_main_v17]
  simp only [hW, hU, ← EReal.coe_mul, coe_sum]
  rfl

theorem normed (hX : ∀ t k, X (ix3 0 t k) = ((x t k : ℝ) : EReal)) (t : Fin 4096) (k : Fin 1024) :
    val_main_v12 (F := Ideal) X (ix3 0 t k) = ((x t k * invRms (x t) : ℝ) : EReal) := by
  pointwise [val_main_v0, val_main_cst, val_main_v1, val_main_v2, val_main_cst_0, val_main_v3, val_main_v4, val_main_cst_1, val_main_v5,
    val_main_v6, val_main_v7, val_main_v11, val_main_v12]
  have e := coe_inv (fun k => X (ix3 0 t k)) (x t) (hX t)
  rw [e, hX, ← EReal.coe_mul]

theorem rows (hX : ∀ t k, X (ix3 0 t k) = ((x t k : ℝ) : EReal)) (hG : ∀ k, G (ix1 k) = ((g k : ℝ) : EReal))
    (hW : ∀ k j, W (ix2 k j) = ((w k j : ℝ) : EReal)) (hU : ∀ t j, U (ix3 0 t j) = ((u t j : ℝ) : EReal))
    (D : Vec Ideal S1x4096x1024 .f32) (t : Fin 4096) (k : Fin 1024) :
    val_main_v40 (F := Ideal) X G W U D (ix2 t k) = D (ix3 0 t k) + ((back (x t) g (dh u w t) k : ℝ) : EReal) := by
  have hd := cotangent hW hU
  pointwise [val_main_v0, val_main_cst, val_main_v1, val_main_v2, val_main_cst_0, val_main_v3, val_main_v4, val_main_cst_1, val_main_v5,
    val_main_v6, val_main_v7,
    val_main_v8, val_main_v9, val_main_v10, val_main_v11,
    val_main_v13, val_main_v18, val_main_v21, val_main_v22, val_main_v24, val_main_v25, val_main_v26, val_main_v27,
    val_main_v28, val_main_v29, val_main_v30, val_main_v31, val_main_v32, val_main_v33, val_main_v34,
    val_main_v35, val_main_v36, val_main_v37, val_main_v38, val_main_v39, val_main_v40, val_main_cst_2,
    val_main_cst_5, val_main_cst_6, val_main_cst_7]
  simp only [hd, coe_meanSq (fun k => X (ix3 0 t k)) (x t) (hX t), rsqrt_meanSq]
  rw [coe_pull (fun k => X (ix3 0 t k)) (fun k => G (ix1 k)) (fun k => ((dh u w t k : ℝ) : EReal)) (x t) g _ (hX t) hG (fun _ => rfl),
    hX, hG, coe_add_back]

theorem scale (hX : ∀ t k, X (ix3 0 t k) = ((x t k : ℝ) : EReal))
    (hW : ∀ k j, W (ix2 k j) = ((w k j : ℝ) : EReal)) (hU : ∀ t j, U (ix3 0 t j) = ((u t j : ℝ) : EReal)) (i : Fin 1) (k : Fin 1024) :
    val_main_v41 (F := Ideal) X W U (ix2 i k) = ((∑ t, dh u w t k * (x t k * invRms (x t)) : ℝ) : EReal) := by
  pointwise [val_main_v41, val_main_v23, val_main_v20, val_main_v19, val_main_cst_4, val_main_cst_3, val_main_v18]
  simp only [normed hX, cotangent hW hU, ← EReal.coe_mul, coe_sum, mul_comm]

end Cert.ReferenceIdeal.Val

end
-- ==== Proof.FfnUpClaim.lean ====
/-
  The gradient through the up projection and its norm: the kernel's results are the reference's.
-/
module

public import proofs.«01_k».proof.Defs
public import proofs.«01_k».proof.Proof.Gen.KernelIdeal
public import proofs.«01_k».proof.Proof.Gen.ReferenceIdeal
public import proofs.«01_k».proof.Proof.Gen.Pre_ffn_up_finite
public import proofs.«01_k».proof.Proof.Gen.ReferenceIdeal.Run
public import proofs.«01_k».proof.Proof.FfnUp
public import proofs.«01_k».proof.Proof.FfnUpReference
public import Idealize.ShloMosaic.Adequacy
public import Idealize.ShloMosaic.Init

@[expose] public section

noncomputable section

namespace Cert.Proof

open Idealize.ShloMosaic Idealize.SL.Sem Cert.Reals Cert.Norm

/-- The reference runs on the host alone and declares no semaphore. -/
theorem ffn_up_reference_frame : quiescent_ReferenceIdeal := fun m ρ _ =>
  (θ_run _ _ _).mono (fun r h => ⟨fun c => (h c).2.2, sem_eq_zero_of_no_sems (by decide) r.2⟩) (Cert.ReferenceIdeal.Value.run m ρ)

/-- Both results of the call, the row gradient and the scale's gradient, for finite arguments. -/
theorem ffn_up : algebraic_KernelIdeal_ReferenceIdeal_pre_ffn_up_finite := by
  intro m ρ m' ρ' hpre hargs
  refine ⟨_, _, (θ_run _ _ _).mono (fun r h => h) (Cert.KernelIdeal.Value.run_blocks m ρ),
    (θ_run _ _ _).mono (fun r h c => ?_) (Cert.ReferenceIdeal.Value.run m' ρ')⟩
  obtain ⟨h0, h1, h2, h3⟩ := hpre c
  obtain ⟨a0, a1, a2, a3, a4⟩ := hargs c
  obtain ⟨x, hx⟩ := real_of_finite _ _ h0
  obtain ⟨g, hg⟩ := real_of_finite _ _ h1
  obtain ⟨w, hw⟩ := real_of_finite _ _ h2
  obtain ⟨u, hu⟩ := real_of_finite _ _ h3
  have reads : Cert.KernelIdeal.Val.Reads m c (fun t k => x (ix3 0 t k)) (fun k => g (ix1 k)) (fun k j => w (ix2 k j))
      (fun t j => u (ix3 0 t j)) := ⟨fun t k => hx _, fun k => hg _, fun k j => hw _, fun t j => hu _⟩
  obtain ⟨r0, r1, rest⟩ := h c
  refine ⟨?_, ?_, rest⟩
  · rw [r0, Cert.ReferenceIdeal.Read.val_main_v40_eq, a0, a1, a2, a3, a4]
    refine Eq.trans ?_ (Cert.KernelIdeal.Val.rows m reads).symm
    funext i
    idx_vars i
    exact Cert.ReferenceIdeal.Val.rows (fun t k => hx _) (fun k => hg _) (fun k j => hw _) (fun t j => hu _) _ _ _
  · rw [r1, Cert.ReferenceIdeal.Read.val_main_v41_eq, a0, a2, a3]
    refine Eq.trans ?_ (Cert.KernelIdeal.Val.scale m reads).symm
    funext i
    idx_vars i
    exact Cert.ReferenceIdeal.Val.scale (fun t k => hx _) (fun k j => hw _) (fun t j => hu _) _ _

end Cert.Proof

end
-- ==== Proof.Pieces.lean ====
/-
  What an array holds after stores to parts of it: the part an entry lies in, and the two ways the kernels cut an
  array into four parts, by planes and by lanes.
-/
module

public import Idealize.ShloMosaic.Lib.Pipeline.ValueKit
public import Idealize.ShloMosaic.Lib.Pointwise

@[expose] public section

noncomputable section

namespace Cert.Pieces

open Idealize.ShloMosaic Idealize.ShloMosaic.TcCoe

variable {S : Shape} {e : EltTy}

/-- An entry of the last part stored is the entry of what was stored. -/
theorem hit {off size : Fin S.rank → Nat} (inb : ∀ a, off a + size a ≤ S.size a) (w : (Rect.unit off size inb).shape.Idx → Elt Ideal e)
    (L : List (View.Piece (Elt Ideal) S e)) (y : S.Idx) (x : (Rect.unit off size inb).shape.Idx) (h : ∀ a, (y a).val = off a + (x a).val) :
    View.canon (⟨Rect.unit off size inb, w⟩ :: L) y = w x := by
  have : y = (Rect.unit off size inb).emb x := by
    funext a
    refine Fin.ext ((h a).trans ?_)
    show _ = off a + 1 * (x a).val
    rw [one_mul]
  rw [this]
  exact View.canon_cons_emb _ _ _ _

/-- An entry outside the last part stored is what was there before. -/
theorem miss {off size : Fin S.rank → Nat} (inb : ∀ a, off a + size a ≤ S.size a) (w : (Rect.unit off size inb).shape.Idx → Elt Ideal e)
    (L : List (View.Piece (Elt Ideal) S e)) (y : S.Idx) (a : Fin S.rank) (h : (y a).val < off a ∨ off a + size a ≤ (y a).val) :
    View.canon (⟨Rect.unit off size inb, w⟩ :: L) y = View.canon L y := by
  refine View.canon_cons_of_not_mem ⟨Rect.unit off size inb, w⟩ L fun hy => ?_
  have := (Rect.mem_set_unit (inb := inb)).mp hy a
  omega

/-- A load of a part is the stored contents at the part's place in the array. -/
theorem load {sig : RefSig} {κ : Kind} {sp : Space} (v : View sig κ sp S e) (L : List (View.Piece (Elt Ideal) S e)) {off size : Fin S.rank → Nat}
    (inb : ∀ a, off a + size a ≤ S.size a) (x : (Rect.unit off size inb).shape.Idx) (y : S.Idx) (h : ∀ a, (y a).val = off a + (x a).val) :
    v.readCov L (Rect.unit off size inb).toLoadRect x = View.canon L y := by
  rw [View.readCov_eq_canon']
  refine congrArg (View.canon L) (funext fun a => Fin.ext ?_)
  show off a + 1 * (x a).val = _
  rw [one_mul, h]

/-- An entry is what the first store, of the whole array, put there, if the parts stored since all lie elsewhere. -/
theorem first {off : Fin S.rank → Nat} (ho : ∀ a, off a = 0) (inb : ∀ a, off a + S.size a ≤ S.size a) (z : S.Idx → Elt Ideal e) (y : S.Idx) :
    ∀ L : List (View.Piece (Elt Ideal) S e), (∀ p ∈ L, y ∉ p.1.set) → View.canon (L ++ [⟨Rect.unit off S.size inb, z⟩]) y = z y
  | [], _ => hit (S := S) inb z [] y y fun a => by rw [ho, Nat.zero_add]
  | p :: L, h => by
    rw [List.cons_append, View.canon_cons_of_not_mem p _ (h p (by simp))]
    exact first ho inb z y L fun q hq => h q (by simp [hq])

/-- A part that starts elsewhere on one axis. -/
theorem off_part {off size : Fin S.rank → Nat} (inb : ∀ a, off a + size a ≤ S.size a) (y : S.Idx) (a : Fin S.rank)
    (h : (y a).val < off a ∨ off a + size a ≤ (y a).val) : y ∉ (Rect.unit off size inb).set := fun hy => by
  have := (Rect.mem_set_unit (inb := inb)).mp hy a
  omega

/-- The four groups. -/
theorem four : ∀ g : Fin 4, g = 0 ∨ g = 1 ∨ g = 2 ∨ g = 3 := by decide

/-- Lane `b` of the group `g` of 128 lanes. -/
abbrev lane (g : Fin 4) (b : Fin 128) : Fin 512 := ⟨g.val * 128 + b.val, by omega⟩

/-- The group of a lane, and its place there. -/
abbrev grp (k : Fin 512) : Fin 4 := ⟨k.val / 128, by omega⟩
abbrev plc (k : Fin 512) : Fin 128 := ⟨k.val % 128, Nat.mod_lt _ (by decide)⟩

theorem lane_grp (k : Fin 512) : lane (grp k) (plc k) = k := Fin.ext (by show k.val / 128 * 128 + k.val % 128 = k.val; omega)

/-- Every lane is a lane of a group. -/
theorem exists_lane (c : Fin 512) : ∃ g b, c = lane g b :=
  ⟨⟨c.val / 128, by omega⟩, ⟨c.val % 128, Nat.mod_lt _ (by decide)⟩, Fin.ext (by show c.val = c.val / 128 * 128 + c.val % 128; omega)⟩

/-- An array of four planes, stored plane by plane. -/
theorem planes {n k : Nat} (i0 : ∀ a, (![0, 0, 0] : Fin 3 → Nat) a + (![1, n, k] : Fin 3 → Nat) a ≤ (⟨3, ![4, n, k]⟩ : Shape).size a)
    (i1 : ∀ a, (![1, 0, 0] : Fin 3 → Nat) a + (![1, n, k] : Fin 3 → Nat) a ≤ (⟨3, ![4, n, k]⟩ : Shape).size a)
    (i2 : ∀ a, (![2, 0, 0] : Fin 3 → Nat) a + (![1, n, k] : Fin 3 → Nat) a ≤ (⟨3, ![4, n, k]⟩ : Shape).size a)
    (i3 : ∀ a, (![3, 0, 0] : Fin 3 → Nat) a + (![1, n, k] : Fin 3 → Nat) a ≤ (⟨3, ![4, n, k]⟩ : Shape).size a)
    (w0 w1 w2 w3 : (⟨3, ![1, n, k]⟩ : Shape).Idx → Elt Ideal e) (L : List (View.Piece (Elt Ideal) ⟨3, ![4, n, k]⟩ e))
    (g : Fin 4) (a : Fin n) (b : Fin k) :
    View.canon (⟨Rect.unit (s := ⟨3, ![4, n, k]⟩) ![3, 0, 0] ![1, n, k] i3, w3⟩ :: ⟨Rect.unit (s := ⟨3, ![4, n, k]⟩) ![2, 0, 0] ![1, n, k] i2, w2⟩
      :: ⟨Rect.unit (s := ⟨3, ![4, n, k]⟩) ![1, 0, 0] ![1, n, k] i1, w1⟩ :: ⟨Rect.unit (s := ⟨3, ![4, n, k]⟩) ![0, 0, 0] ![1, n, k] i0, w0⟩ :: L) (ix3 g a b)
      = (![w0, w1, w2, w3] : Fin 4 → _) g (ix3 0 a b) := by
  have at0 : ∀ d : Nat, ∀ c : Fin 3, d + 0 = g.val → ((ix3 g a b : (⟨3, ![4, n, k]⟩ : Shape).Idx) c).val
      = (![d, 0, 0] : Fin 3 → Nat) c + ((ix3 0 a b : (⟨3, ![1, n, k]⟩ : Shape).Idx) c).val := by
    intro d c h
    match c with
    | 0 => exact h.symm
    | 1 => exact (Nat.zero_add _).symm
    | 2 => exact (Nat.zero_add _).symm
  obtain rfl | rfl | rfl | rfl := four g
  · rw [miss _ _ _ _ (0 : Fin 3) (.inl (by decide : 0 < 3)), miss _ _ _ _ (0 : Fin 3) (.inl (by decide : 0 < 2)),
      miss _ _ _ _ (0 : Fin 3) (.inl (by decide : 0 < 1))]
    exact hit (S := ⟨3, ![4, n, k]⟩) i0 w0 _ (ix3 0 a b) (ix3 0 a b) fun c => at0 0 c rfl
  · rw [miss _ _ _ _ (0 : Fin 3) (.inl (by decide : 1 < 3)), miss _ _ _ _ (0 : Fin 3) (.inl (by decide : 1 < 2))]
    exact hit (S := ⟨3, ![4, n, k]⟩) i1 w1 _ (ix3 1 a b) (ix3 0 a b) fun c => at0 1 c rfl
  · rw [miss _ _ _ _ (0 : Fin 3) (.inl (by decide : 2 < 3))]
    exact hit (S := ⟨3, ![4, n, k]⟩) i2 w2 _ (ix3 2 a b) (ix3 0 a b) fun c => at0 2 c rfl
  · exact hit (S := ⟨3, ![4, n, k]⟩) i3 w3 _ (ix3 3 a b) (ix3 0 a b) fun c => at0 3 c rfl

/-- The part stored is a plane below the plane `g`. -/
def planeBelow {n k : Nat} (g : Nat) (p : View.Piece (Elt Ideal) ⟨3, ![4, n, k]⟩ e) : Prop :=
  ∃ a : Nat, a < g ∧ ∃ (inb : _) (w : _), p = ⟨Rect.unit (s := ⟨3, ![4, n, k]⟩) ![a, 0, 0] ![1, n, k] inb, w⟩

theorem planeBelow_cons {n k g : Nat} (a : Nat) (h : a < g) {inb w} {L : List (View.Piece (Elt Ideal) ⟨3, ![4, n, k]⟩ e)} (hL : ∀ p ∈ L, planeBelow g p) :
    ∀ p ∈ (⟨Rect.unit (s := ⟨3, ![4, n, k]⟩) ![a, 0, 0] ![1, n, k] inb, w⟩ : View.Piece (Elt Ideal) ⟨3, ![4, n, k]⟩ e) :: L, planeBelow g p :=
  List.forall_mem_cons.mpr ⟨⟨a, h, inb, w, rfl⟩, hL⟩

/-- A plane loaded after stores to the planes below it only, over an array stored whole. -/
theorem fresh_plane {sig : RefSig} {κ : Kind} {sp : Space} {n k : Nat} (v : View sig κ sp ⟨3, ![4, n, k]⟩ e) (g : Fin 4)
    (z : (⟨3, ![4, n, k]⟩ : Shape).Idx → Elt Ideal e) (L : List (View.Piece (Elt Ideal) ⟨3, ![4, n, k]⟩ e)) (hL : ∀ p ∈ L, planeBelow g.val p)
    (iz : ∀ a, (![0, 0, 0] : Fin 3 → Nat) a + (![4, n, k] : Fin 3 → Nat) a ≤ (⟨3, ![4, n, k]⟩ : Shape).size a)
    (inb : ∀ a, (![g.val, 0, 0] : Fin 3 → Nat) a + (![1, n, k] : Fin 3 → Nat) a ≤ (⟨3, ![4, n, k]⟩ : Shape).size a) (a : Fin n) (b : Fin k) :
    v.readCov (L ++ [⟨Rect.unit (s := ⟨3, ![4, n, k]⟩) ![0, 0, 0] ![4, n, k] iz, z⟩])
      (Rect.unit (s := ⟨3, ![4, n, k]⟩) ![g.val, 0, 0] ![1, n, k] inb).toLoadRect (ix3 0 a b) = z (ix3 g a b) := by
  refine (load v _ inb (ix3 0 a b) (ix3 g a b) fun c => ?_).trans
    (first (S := ⟨3, ![4, n, k]⟩) (off := ![0, 0, 0]) (fun c => match c with | 0 => rfl | 1 => rfl | 2 => rfl) iz z _ L fun p hp => ?_)
  · match c with
    | 0 => exact (Nat.add_zero _).symm
    | 1 => exact (Nat.zero_add _).symm
    | 2 => exact (Nat.zero_add _).symm
  · obtain ⟨d, hd, i, w, rfl⟩ := hL p hp
    exact off_part (S := ⟨3, ![4, n, k]⟩) i _ (0 : Fin 3) (.inr (by show d + 1 ≤ g.val; omega))

/-- An array of four groups of lanes, stored group by group. -/
theorem lanes {n : Nat} (i0 : ∀ a, (![0, 0] : Fin 2 → Nat) a + (![n, 128] : Fin 2 → Nat) a ≤ (⟨2, ![n, 512]⟩ : Shape).size a)
    (i1 : ∀ a, (![0, 128] : Fin 2 → Nat) a + (![n, 128] : Fin 2 → Nat) a ≤ (⟨2, ![n, 512]⟩ : Shape).size a)
    (i2 : ∀ a, (![0, 256] : Fin 2 → Nat) a + (![n, 128] : Fin 2 → Nat) a ≤ (⟨2, ![n, 512]⟩ : Shape).size a)
    (i3 : ∀ a, (![0, 384] : Fin 2 → Nat) a + (![n, 128] : Fin 2 → Nat) a ≤ (⟨2, ![n, 512]⟩ : Shape).size a)
    (w0 w1 w2 w3 : (⟨2, ![n, 128]⟩ : Shape).Idx → Elt Ideal e) (L : List (View.Piece (Elt Ideal) ⟨2, ![n, 512]⟩ e))
    (a : Fin n) (g : Fin 4) (b : Fin 128) :
    View.canon (⟨Rect.unit (s := ⟨2, ![n, 512]⟩) ![0, 384] ![n, 128] i3, w3⟩ :: ⟨Rect.unit (s := ⟨2, ![n, 512]⟩) ![0, 256] ![n, 128] i2, w2⟩
      :: ⟨Rect.unit (s := ⟨2, ![n, 512]⟩) ![0, 128] ![n, 128] i1, w1⟩ :: ⟨Rect.unit (s := ⟨2, ![n, 512]⟩) ![0, 0] ![n, 128] i0, w0⟩ :: L) (ix2 a (lane g b))
      = (![w0, w1, w2, w3] : Fin 4 → _) g (ix2 a b) := by
  have hb := b.isLt
  have at0 : ∀ d : Nat, ∀ c : Fin 2, d = g.val * 128 → ((ix2 a (lane g b) : (⟨2, ![n, 512]⟩ : Shape).Idx) c).val
      = (![0, d] : Fin 2 → Nat) c + ((ix2 a b : (⟨2, ![n, 128]⟩ : Shape).Idx) c).val := by
    intro d c h
    match c with
    | 0 => exact (Nat.zero_add _).symm
    | 1 => exact congrArg (· + b.val) h.symm
  obtain rfl | rfl | rfl | rfl := four g
  · rw [miss _ _ _ _ (1 : Fin 2) (.inl (by show 0 * 128 + b.val < 384; omega)), miss _ _ _ _ (1 : Fin 2) (.inl (by show 0 * 128 + b.val < 256; omega)),
      miss _ _ _ _ (1 : Fin 2) (.inl (by show 0 * 128 + b.val < 128; omega))]
    exact hit (S := ⟨2, ![n, 512]⟩) i0 w0 _ (ix2 a (lane 0 b)) (ix2 a b) fun c => at0 0 c rfl
  · rw [miss _ _ _ _ (1 : Fin 2) (.inl (by show 1 * 128 + b.val < 384; omega)), miss _ _ _ _ (1 : Fin 2) (.inl (by show 1 * 128 + b.val < 256; omega))]
    exact hit (S := ⟨2, ![n, 512]⟩) i1 w1 _ (ix2 a (lane 1 b)) (ix2 a b) fun c => at0 128 c rfl
  · rw [miss _ _ _ _ (1 : Fin 2) (.inl (by show 2 * 128 + b.val < 384; omega))]
    exact hit (S := ⟨2, ![n, 512]⟩) i2 w2 _ (ix2 a (lane 2 b)) (ix2 a b) fun c => at0 256 c rfl
  · exact hit (S := ⟨2, ![n, 512]⟩) i3 w3 _ (ix2 a (lane 3 b)) (ix2 a b) fun c => at0 384 c rfl

/-- The part stored is a group of lanes that ends at the lane `o` or before. -/
def lanesBelow {n : Nat} (o : Nat) (p : View.Piece (Elt Ideal) ⟨2, ![n, 512]⟩ e) : Prop :=
  ∃ a : Nat, a + 128 ≤ o ∧ ∃ (inb : _) (w : _), p = ⟨Rect.unit (s := ⟨2, ![n, 512]⟩) ![0, a] ![n, 128] inb, w⟩

theorem lanesBelow_cons {n o : Nat} (a : Nat) (h : a + 128 ≤ o) {inb w} {L : List (View.Piece (Elt Ideal) ⟨2, ![n, 512]⟩ e)} (hL : ∀ p ∈ L, lanesBelow o p) :
    ∀ p ∈ (⟨Rect.unit (s := ⟨2, ![n, 512]⟩) ![0, a] ![n, 128] inb, w⟩ : View.Piece (Elt Ideal) ⟨2, ![n, 512]⟩ e) :: L, lanesBelow o p :=
  List.forall_mem_cons.mpr ⟨⟨a, h, inb, w, rfl⟩, hL⟩

/-- A group of lanes loaded after stores to the groups before it only, over an array stored whole. -/
theorem fresh_lanes {sig : RefSig} {κ : Kind} {sp : Space} {n : Nat} (v : View sig κ sp ⟨2, ![n, 512]⟩ e) (g : Fin 4) (o : Nat) (ho : o = g.val * 128)
    (z : (⟨2, ![n, 512]⟩ : Shape).Idx → Elt Ideal e) (L : List (View.Piece (Elt Ideal) ⟨2, ![n, 512]⟩ e)) (hL : ∀ p ∈ L, lanesBelow o p)
    (iz : ∀ a, (![0, 0] : Fin 2 → Nat) a + (![n, 512] : Fin 2 → Nat) a ≤ (⟨2, ![n, 512]⟩ : Shape).size a)
    (inb : ∀ a, (![0, o] : Fin 2 → Nat) a + (![n, 128] : Fin 2 → Nat) a ≤ (⟨2, ![n, 512]⟩ : Shape).size a) (a : Fin n) (b : Fin 128) :
    v.readCov (L ++ [⟨Rect.unit (s := ⟨2, ![n, 512]⟩) ![0, 0] ![n, 512] iz, z⟩])
      (Rect.unit (s := ⟨2, ![n, 512]⟩) ![0, o] ![n, 128] inb).toLoadRect (ix2 a b) = z (ix2 a (lane g b)) := by
  refine (load v _ inb (ix2 a b) (ix2 a (lane g b)) fun c => ?_).trans
    (first (S := ⟨2, ![n, 512]⟩) (off := ![0, 0]) (fun c => match c with | 0 => rfl | 1 => rfl) iz z _ L fun p hp => ?_)
  · match c with
    | 0 => exact (Nat.zero_add _).symm
    | 1 => exact congrArg (· + b.val) ho.symm
  · obtain ⟨d, hd, i, w, rfl⟩ := hL p hp
    exact off_part (S := ⟨2, ![n, 512]⟩) i _ (1 : Fin 2) (.inr (by show d + 128 ≤ g.val * 128 + b.val; omega))

end Cert.Pieces

end
-- ==== Proof.PoolMath.lean ====
/-
  The gradient of the causal pooling mixer, entry by entry, over extended reals: the projected gradient, the mixed
  deviations, the gradient of the deviations, and how many tokens a window holds.  The rows are numbered by any type, so
  that one definition serves a block of rows and all of them.
-/
module

public import proofs.«01_k».proof.Proof.Pieces
public import proofs.«01_k».proof.Proof.Reals

@[expose] public section

noncomputable section

namespace Cert.Pool

open Idealize.ShloMosaic Cert.Pieces

/-- Column `n` of the column shard `j`. -/
abbrev col (j : Fin 4) (n : Fin 256) : Fin 1024 := ⟨j.val * 256 + n.val, by omega⟩

variable {ι : Type}

/-- The gradient before the output projection, which comes in four column shards. -/
def pre (y : ι → Fin 1024 → EReal) (w : Fin 4 → Fin 512 → Fin 256 → EReal) (t : ι) (c : Fin 512) : EReal :=
  ∑ j, ∑ n, y t (col j n) * w j c n

/-- The deviations mixed within a group of lanes. -/
def mix (d : ι → Fin 512 → EReal) (p : Fin 4 → Fin 128 → Fin 128 → EReal) (t : ι) (g : Fin 4) (b : Fin 128) : EReal :=
  ∑ k, d t (lane g k) * p g k b

/-- The gradient of the mixed deviations. -/
def scaled (y : ι → Fin 1024 → EReal) (w : Fin 4 → Fin 512 → Fin 256 → EReal) (s : Fin 512 → EReal) (t : ι) (c : Fin 512) : EReal :=
  pre y w t c * s c

/-- The gradient of the deviations. -/
def dev (y : ι → Fin 1024 → EReal) (w : Fin 4 → Fin 512 → Fin 256 → EReal) (s : Fin 512 → EReal) (p : Fin 4 → Fin 128 → Fin 128 → EReal)
    (t : ι) (g : Fin 4) (a : Fin 128) : EReal :=
  ∑ k, scaled y w s t (lane g k) * p g a k

/-- The window of each group. -/
def window : Fin 4 → Nat := ![2, 4, 8, 16]

/-- How many tokens the window ending at token `t` holds, as the programs count them. -/
def count (g : Fin 4) (t : Nat) : EReal :=
  FloatOps.sitofp (F := Ideal) .f32 (IntOp.minsi (IntOp.addi (BitVec.ofNat 32 t) 1#32) (BitVec.ofNat 32 (window g)))

/-- One token's part of a gradient of the mean over its window. -/
def share (g : Fin 4) (t : Nat) (v : EReal) : EReal := v * Ideal.div 1 (count g t)

/-- The parts of all tokens, and zero after the last. -/
def partOf (D : Fin 4096 → EReal) (g : Fin 4) (n : Nat) : EReal := if h : n < 4096 then share g n (D ⟨n, h⟩) else 0

/-- The gradient of the pooled rows: the parts over the window that starts at the token, less the token's own gradient. -/
def gradRows (y : Fin 4096 → Fin 1024 → EReal) (w : Fin 4 → Fin 512 → Fin 256 → EReal) (s : Fin 512 → EReal)
    (p : Fin 4 → Fin 128 → Fin 128 → EReal) (t : Fin 4096) (k : Fin 512) : EReal :=
  ∑ j ∈ Finset.range (window (grp k)), partOf (fun t => dev y w s p t (grp k) (plc k)) (grp k) (t.val + j)
    - dev y w s p t (grp k) (plc k)

end Cert.Pool

end
-- ==== Proof.PoolBlocks.lean ====
/-
  What the pooling mixer's backward kernel computes on one block of rows, entry by entry: each stored value as a
  function of the blocks read.
-/
module

public import proofs.«01_k».proof.Proof.Gen.Kernel2Ideal.Value
public import proofs.«01_k».proof.Proof.PoolMath
public import Idealize.ShloMosaic.Lib.KernelVsHost

@[expose] public section

set_option maxRecDepth 16384

noncomputable section

namespace Cert.Kernel2Ideal.Val

open Cert.Kernel2Ideal Cert.Kernel2Ideal.Gen Idealize.ShloMosaic Idealize.ShloMosaic.TcCoe Idealize.SL.Sem Cert.Pieces Cert.Pool

/-- Plane `g` of the group weights, as loaded. -/
abbrev plane (X : Vec Ideal S4x128x128 .bf16) : Fin 4 → Vec Ideal S1x128x128 .bf16 :=
  ![View.ld X (Rect.unit ![0, 0, 0] ![1, 128, 128] inb_S4x128x128_S1x128x128_0_0_0),
    View.ld X (Rect.unit ![1, 0, 0] ![1, 128, 128] inb_S4x128x128_S1x128x128_1_0_0),
    View.ld X (Rect.unit ![2, 0, 0] ![1, 128, 128] inb_S4x128x128_S1x128x128_2_0_0),
    View.ld X (Rect.unit ![3, 0, 0] ![1, 128, 128] inb_S4x128x128_S1x128x128_3_0_0)]

theorem plane_at (X : Vec Ideal S4x128x128 .bf16) (g : Fin 4) (a b : Fin 128) : plane X g (ix3 0 a b) = X (ix3 g a b) := by
  obtain rfl | rfl | rfl | rfl := four g <;> pointwise []

/-- The gradient before the projection, as the kernel adds it up over the four column shards. -/
abbrev preOf (Y : Vec Ideal S512x1024 .bf16) (W : Vec Ideal S4x512x256 .bf16) : FVec Ideal S512x512 .f32 :=
  k0_pay9 Y (View.ld W (Rect.unit ![0, 0, 0] ![1, 512, 256] inb_S4x512x256_S1x512x256_0_0_0))
    (View.ld W (Rect.unit ![1, 0, 0] ![1, 512, 256] inb_S4x512x256_S1x512x256_1_0_0))
    (View.ld W (Rect.unit ![2, 0, 0] ![1, 512, 256] inb_S4x512x256_S1x512x256_2_0_0))
    (View.ld W (Rect.unit ![3, 0, 0] ![1, 512, 256] inb_S4x512x256_S1x512x256_3_0_0))

/-- The mixed deviations, the four groups side by side. -/
abbrev mixOf (D : Vec Ideal S512x512 .bf16) (X : Vec Ideal S4x128x128 .bf16) : FVec Ideal S512x512 .f32 :=
  k0_pay11 (k0_pay7 D) (k0_pay10 D) (plane X 0) (plane X 1) (plane X 2) (plane X 3)

theorem pre_block (Y : Vec Ideal S512x1024 .bf16) (W : Vec Ideal S4x512x256 .bf16) (r : Fin 512) (c : Fin 512) :
    preOf Y W (ix2 r c) = pre (fun r k => Y (ix2 r k)) (fun j c n => W (ix3 j c n)) r c := by
  have z (n : Fin 256) : col 0 n = ⟨n.val, by omega⟩ := Fin.ext (by show 0 * 256 + n.val = n.val; omega)
  pointwise [preOf, k0_pay9, k0_pay6]
  unfold pre
  rw [Fin.sum_univ_four]
  simp only [z]
  rfl

theorem mix_block (D : Vec Ideal S512x512 .bf16) (X : Vec Ideal S4x128x128 .bf16) (r : Fin 512) (g : Fin 4) (b : Fin 128) :
    mixOf D X (ix2 r (lane g b)) = mix (fun r k => D (ix2 r k)) (fun g a b => X (ix3 g a b)) r g b := by
  have hb := b.isLt
  have z (n : Fin 128) : lane 0 n = ⟨n.val, by omega⟩ := Fin.ext (by show 0 * 128 + n.val = n.val; omega)
  unfold mix
  obtain rfl | rfl | rfl | rfl := four g
  all_goals pointwise [mixOf, k0_pay11, k0_pay7, k0_pay10]
  all_goals repeat rw [dif_neg (by omega)]
  all_goals try rw [dif_pos (by omega)]
  all_goals try simp only [z, Nat.sub_sub, Nat.reduceAdd, Nat.add_sub_cancel_left]
  all_goals rfl

/-- A column shard of the projection's gradient: what was there plus this block's product. -/
theorem proj_block (Y : Vec Ideal S512x1024 .bf16) (D : Vec Ideal S512x512 .bf16) (S : Vec Ideal S1x512 .f32) (X : Vec Ideal S4x128x128 .bf16)
    (A : Fin 4 → Vec Ideal S1x512x256 .f32) (j : Fin 4) (c : Fin 512) (n : Fin 256) :
    (![k0_pay13 (k0_pay6 Y) (k0_pay7 D) (k0_pay8 S) (k0_pay10 D) (plane X 0) (plane X 1) (plane X 2) (plane X 3) (A 0),
       k0_pay15 (k0_pay14 (k0_pay6 Y) (k0_pay7 D) (k0_pay8 S) (k0_pay10 D) (plane X 0) (plane X 1) (plane X 2) (plane X 3) (A 1)),
       k0_pay16 (k0_pay6 Y) (k0_pay12 (k0_pay7 D) (k0_pay8 S) (k0_pay10 D) (plane X 0) (plane X 1) (plane X 2) (plane X 3)) (A 2),
       k0_pay17 (k0_pay6 Y) (k0_pay12 (k0_pay7 D) (k0_pay8 S) (k0_pay10 D) (plane X 0) (plane X 1) (plane X 2) (plane X 3)) (A 3)] :
        Fin 4 → FVec Ideal S1x512x256 .f32) j (ix3 0 c n)
      = A j (ix3 0 c n) + ∑ r, mixOf D X (ix2 r c) * S (ix2 0 c) * Y (ix2 r (col j n)) := by
  have z (n : Fin 256) : col 0 n = ⟨n.val, by omega⟩ := Fin.ext (by show 0 * 256 + n.val = n.val; omega)
  obtain rfl | rfl | rfl | rfl := four j
  all_goals pointwise [k0_pay13, k0_pay15, k0_pay14, k0_pay16, k0_pay17, k0_pay12, k0_pay6, k0_pay8]
  all_goals try simp only [z]
  all_goals rfl

theorem scale_block (P M : FVec Ideal S512x512 .f32) (A : Vec Ideal S1x512 .f32) (i : Fin 1) (c : Fin 512) :
    k0_pay18 P M A (ix2 i c) = A (ix2 i c) + ∑ r, P (ix2 r c) * M (ix2 r c) := by
  obtain rfl := Subsingleton.elim i 0
  pointwise [k0_pay18]

/-- A group's weight gradient: what was there plus this block's product. -/
theorem mixer_block (D : Vec Ideal S512x512 .bf16) (V : FVec Ideal S512x512 .f32) (A : Fin 4 → Vec Ideal S1x128x128 .f32)
    (g : Fin 4) (a b : Fin 128) :
    (![k0_pay23 (k0_pay7 D) V (A 0), k0_pay29 (k0_pay7 D) V (A 1), k0_pay35 (k0_pay7 D) V (A 2), k0_pay41 (k0_pay7 D) V (A 3)] :
        Fin 4 → FVec Ideal S1x128x128 .f32) g (ix3 0 a b)
      = A g (ix3 0 a b) + ∑ r, D (ix2 r (lane g a)) * V (ix2 r (lane g b)) := by
  have z (n : Fin 128) : lane 0 n = ⟨n.val, by omega⟩ := Fin.ext (by show 0 * 128 + n.val = n.val; omega)
  obtain rfl | rfl | rfl | rfl := four g
  all_goals pointwise [k0_pay23, k0_pay29, k0_pay35, k0_pay41, k0_pay7]
  all_goals try simp only [z]
  all_goals rfl

theorem scaled_block (S : Vec Ideal S1x512 .f32) (P : FVec Ideal S512x512 .f32) (r : Fin 512) (c : Fin 512) :
    k0_pay19 (k0_pay8 S) P (ix2 r c) = P (ix2 r c) * S (ix2 0 c) := by
  pointwise [k0_pay19, k0_pay8]

/-- The gradients of the four groups' deviations, as computed. -/
abbrev devOf (S : Vec Ideal S1x512 .f32) (P : FVec Ideal S512x512 .f32) (X : Vec Ideal S4x128x128 .bf16) : Fin 4 → FVec Ideal S512x128 .f32 :=
  ![k0_pay22 (k0_pay21 (k0_pay8 S) P) (plane X 0), k0_pay28 (k0_pay27 (k0_pay19 (k0_pay8 S) P)) (plane X 1),
    k0_pay34 (k0_pay33 (k0_pay19 (k0_pay8 S) P)) (plane X 2), k0_pay40 (k0_pay19 (k0_pay8 S) P) (plane X 3)]

theorem dev_block (Y : Vec Ideal S512x1024 .bf16) (W : Vec Ideal S4x512x256 .bf16) (S : Vec Ideal S1x512 .f32) (X : Vec Ideal S4x128x128 .bf16)
    (r : Fin 512) (g : Fin 4) (a : Fin 128) :
    devOf S (preOf Y W) X g (ix2 r a)
      = dev (fun r k => Y (ix2 r k)) (fun j c n => W (ix3 j c n)) (fun c => S (ix2 0 c)) (fun g a b => X (ix3 g a b)) r g a := by
  have z (n : Fin 128) : lane 0 n = ⟨n.val, by omega⟩ := Fin.ext (by show 0 * 128 + n.val = n.val; omega)
  unfold dev scaled
  simp only [← pre_block]
  generalize preOf Y W = P
  obtain rfl | rfl | rfl | rfl := four g
  all_goals pointwise [devOf, k0_pay22, k0_pay21, k0_pay28, k0_pay27, k0_pay34, k0_pay33, k0_pay40, k0_pay19, k0_pay8]
  all_goals try simp only [z]
  all_goals rfl

/-- The gradients shared out over the windows, as computed. -/
abbrev shareOf (N : IVec S512x1 32) (S : Vec Ideal S1x512 .f32) (P : FVec Ideal S512x512 .f32) (X : Vec Ideal S4x128x128 .bf16) :
    Fin 4 → FVec Ideal S512x128 .f32 :=
  ![k0_pay24 N (k0_pay21 (k0_pay8 S) P) (plane X 0), k0_pay30 N (k0_pay27 (k0_pay19 (k0_pay8 S) P)) (plane X 1),
    k0_pay36 N (k0_pay33 (k0_pay19 (k0_pay8 S) P)) (plane X 2), k0_pay42 (k0_pay19 (k0_pay8 S) P) N (plane X 3)]

theorem share_block (N : IVec S512x1 32) (S : Vec Ideal S1x512 .f32) (P : FVec Ideal S512x512 .f32) (X : Vec Ideal S4x128x128 .bf16)
    (n : Nat) (r : Fin 512) (hN : N (ix2 r 0) = BitVec.ofNat 32 n) (g : Fin 4) (a : Fin 128) :
    shareOf N S P X g (ix2 r a) = share g n (devOf S P X g (ix2 r a)) := by
  obtain rfl | rfl | rfl | rfl := four g
  all_goals pointwise [shareOf, k0_pay24, k0_pay30, k0_pay36, k0_pay42]
  all_goals rw [hN]
  all_goals rfl

/-- What is kept of a block for the block before it: its first sixteen rows. -/
theorem kept_block (N : IVec S512x1 32) (S : Vec Ideal S1x512 .f32) (P : FVec Ideal S512x512 .f32) (X : Vec Ideal S4x128x128 .bf16)
    (g : Fin 4) (i : Fin 16) (a : Fin 128) :
    (![k0_pay25 N (k0_pay21 (k0_pay8 S) P) (plane X 0), k0_pay31 N (k0_pay27 (k0_pay19 (k0_pay8 S) P)) (plane X 1),
       k0_pay37 N (k0_pay33 (k0_pay19 (k0_pay8 S) P)) (plane X 2), k0_pay43 (k0_pay19 (k0_pay8 S) P) N (plane X 3)] :
        Fin 4 → FVec Ideal S16x128 .f32) g (ix2 i a) = shareOf N S P X g (ix2 ⟨i.val, by omega⟩ a) := by
  obtain rfl | rfl | rfl | rfl := four g
  all_goals pointwise [k0_pay25, k0_pay31, k0_pay37, k0_pay43]
  all_goals rfl

/-- Adding the rows `w` further on to sums over `w` rows gives sums over `2 w` rows, away from the end. -/
theorem doubled (U : FVec Ideal S528x128 .f32) (z : Nat → Fin 128 → EReal) (w : Nat) (n : BitVec 32) (hn : n.toNat = 528 - w)
    (hw : 0 < w) (hU : ∀ (r : Nat) (h : r < 528) b, r + w ≤ 528 → U (ix2 ⟨r, h⟩ b) = ∑ j ∈ Finset.range w, z (r + j) b)
    (r : Nat) (h : r < 528) (b : Fin 128) (hr : r + (w + w) ≤ 528) :
    addf U (dynamicRotate 0 n none U rotates_S528x128_d0) (ix2 ⟨r, h⟩ b) = ∑ j ∈ Finset.range (w + w), z (r + j) b := by
  have e : dynamicRotate 0 n none U rotates_S528x128_d0 (ix2 ⟨r, h⟩ b) = U (ix2 ⟨r + w, by omega⟩ b) := by
    refine dynamicRotate_apply _ _ _ _ _ _ fun a => ?_
    match a with
    | 0 =>
      show r + w = (r + 528 - n.toNat % 528) % 528
      rw [hn, Nat.mod_eq_of_lt (by omega : 528 - w < 528)]
      omega
    | 1 => rfl
  show U (ix2 ⟨r, h⟩ b) + _ = _
  rw [e, hU r h b (by omega), hU (r + w) (by omega) b (by omega), Finset.sum_range_add]
  simp only [Nat.add_assoc]

/-- A block's rows with the sixteen rows after it below them, by row number. -/
def extended (e : FVec Ideal S512x128 .f32) (after : Vec Ideal S16x128 .f32) (n : Nat) (a : Fin 128) : EReal :=
  if h : n < 512 then e (ix2 ⟨n, h⟩ a) else if h : n - 512 < 16 then after (ix2 ⟨n - 512, h⟩ a) else 0

theorem joined (e : FVec Ideal S512x128 .f32) (after : Vec Ideal S16x128 .f32) (r : Nat) (h : r < 528) (a : Fin 128) :
    (concatenate S528x128 0 [⟨S512x128, e⟩, ⟨S16x128, after⟩] concatenates_S512x128_S16x128_S528x128_d0 : FVec Ideal S528x128 .f32)
      (ix2 ⟨r, h⟩ a) = ∑ j ∈ Finset.range 1, extended e after (r + j) a := by
  rw [Finset.sum_range_one, Nat.add_zero]
  pointwise [extended]
  by_cases hr : r < 512
  · rw [dif_pos hr, dif_pos hr]
  · rw [dif_neg hr, dif_neg hr, dif_pos (by omega)]

theorem top (U : FVec Ideal S528x128 .f32) (r : Fin 512) (a : Fin 128) :
    extractStridedSlice S512x128 ![0, 0] U slices_S528x128_o0_0_S512x128 (ix2 r a) = U (ix2 ⟨r.val, by omega⟩ a) := by
  pointwise []

/-- The gradient of the pooled rows: the shares over the window that starts at a row, less the row's own gradient. -/
theorem window_block (N : IVec S512x1 32) (S : Vec Ideal S1x512 .f32) (P : FVec Ideal S512x512 .f32) (X : Vec Ideal S4x128x128 .bf16)
    (C : Fin 4 → Vec Ideal S16x128 .f32) (g : Fin 4) (r : Fin 512) (a : Fin 128) :
    (![k0_pay26 N (k0_pay21 (k0_pay8 S) P) (plane X 0) (C 0), k0_pay32 N (k0_pay27 (k0_pay19 (k0_pay8 S) P)) (plane X 1) (C 1),
       k0_pay39 (k0_pay38 N (k0_pay33 (k0_pay19 (k0_pay8 S) P)) (plane X 2) (C 2)),
       k0_pay1 (k0_pay40 (k0_pay19 (k0_pay8 S) P) (plane X 3)) (k0_pay44 (k0_pay19 (k0_pay8 S) P) N (plane X 3) (C 3))
         (k0_pay45 (k0_pay19 (k0_pay8 S) P) N (plane X 3) (C 3))] : Fin 4 → FVec Ideal S512x128 .bf16) g (ix2 r a)
      = ∑ j ∈ Finset.range (window g), extended (shareOf N S P X g) (C g) (r.val + j) a - devOf S P X g (ix2 r a) := by
  have hr := r.isLt
  have s0 := joined (shareOf N S P X g) (C g)
  have s1 := doubled _ _ 1 527#32 rfl (by decide) fun r h b _ => s0 r h b
  have s2 := doubled _ _ 2 526#32 rfl (by decide) s1
  have s3 := doubled _ _ 4 524#32 rfl (by decide) s2
  have s4 := doubled _ _ 8 520#32 rfl (by decide) s3
  obtain rfl | rfl | rfl | rfl := four g
  · exact congrArg (· - _) ((top _ r a).trans (s1 r.val (by omega) a (by omega)))
  · exact congrArg (· - _) ((top _ r a).trans (s2 r.val (by omega) a (by omega)))
  · exact congrArg (· - _) ((top _ r a).trans (s3 r.val (by omega) a (by omega)))
  · exact congrArg (· - _) ((top _ r a).trans (s4 r.val (by omega) a (by omega)))

end Cert.Kernel2Ideal.Val

end
-- ==== Proof.PoolHost.lean ====
/-
  The pooling mixer's gradient: the arrays that the host prepares for the kernel, entry by entry in the arguments.  The
  deviations of the pooled inputs are the same operations as the reference's own, so they are only named here.
-/
module

public import proofs.«01_k».proof.Proof.Gen.Kernel2Ideal.Value
public import proofs.«01_k».proof.Proof.Gen.Reference2Ideal.Read
public import proofs.«01_k».proof.Proof.PoolMath
import Idealize.ShloMosaic.Lib.Claim
import Idealize.ShloMosaic.Lib.StableHlo.ReadAt

@[expose] public section

set_option maxRecDepth 16384
set_option maxHeartbeats 1000000

noncomputable section

namespace Cert.Kernel2Ideal.Val

open Cert.Kernel2Ideal Cert.Kernel2Ideal.Gen Idealize.ShloMosaic Idealize.ShloMosaic.TcCoe Idealize.SL.Sem Cert.Pool

variable (m : (ℓ : Loc nD τ sig) → Buf (Elt Ideal) ℓ)

theorem host_y (c : Dev nD) (t : Fin 4096) (k : Fin 1024) : V m c main_v3 (ix2 t k) = m ((c : Thread nD τ).loc main_arg4) (ix3 0 t k) := by
  unfold V hostOps0 hostOps0_1 hostOps0_2
  simp only [List.flatten_cons, List.flatten_nil, List.append_nil, List.cons_append, List.nil_append]
  after_reads_at

theorem host_p (c : Dev nD) (g : Fin 4) (a b : Fin 128) : V m c main_v68 (ix3 g a b) = m ((c : Thread nD τ).loc main_arg1) (ix3 g a b) := by
  unfold V hostOps0 hostOps0_1 hostOps0_2
  simp only [List.flatten_cons, List.flatten_nil, List.append_nil, List.cons_append, List.nil_append]
  after_reads_at

theorem host_s (c : Dev nD) (k : Fin 512) : V m c main_v69 (ix2 0 k) = m ((c : Thread nD τ).loc main_arg2) (ix1 k) := by
  unfold V hostOps0 hostOps0_1 hostOps0_2
  simp only [List.flatten_cons, List.flatten_nil, List.append_nil, List.cons_append, List.nil_append]
  after_reads_at

theorem host_w (c : Dev nD) (j : Fin 4) (k : Fin 512) (n : Fin 256) :
    V m c main_v70 (ix3 j k n) = m ((c : Thread nD τ).loc main_arg3) (ix2 k (col j n)) := by
  unfold V hostOps0 hostOps0_1 hostOps0_2
  simp only [List.flatten_cons, List.flatten_nil, List.append_nil, List.cons_append, List.nil_append]
  after_reads_at

/-- Four arrays side by side, each rewritten. -/
theorem side_by_side {a b c d a' b' c' d' : Vec Ideal S1x4096x128 .f32} (ha : a = a') (hb : b = b') (hc : c = c') (hd : d = d') (h) :
   (concatenate S1x4096x512 2 [⟨S1x4096x128, a⟩, ⟨S1x4096x128, b⟩, ⟨S1x4096x128, c⟩, ⟨S1x4096x128, d⟩] h : Vec Ideal S1x4096x512 .f32)
     = concatenate S1x4096x512 2 [⟨S1x4096x128, a'⟩, ⟨S1x4096x128, b'⟩, ⟨S1x4096x128, c'⟩, ⟨S1x4096x128, d'⟩] h := by
  rw [ha, hb, hc, hd]
/-- The pooled inputs, the four groups side by side, are the reference's. -/
theorem pooled (c : Dev nD) : V m c main_v64 = Cert.Reference2Ideal.Read.val_main_v65 (F := Ideal) (m ((c : Thread nD τ).loc main_arg0)) := by
  unfold V hostOps0 hostOps0_1 hostOps0_2
  simp only [List.flatten_cons, List.flatten_nil, List.append_nil, List.cons_append, List.nil_append]
  after_reads_simp
  unfold Cert.Reference2Ideal.Read.val_main_v65
  refine side_by_side ?_ ?_ ?_ ?_ _
  · show StableHlo.upto _ _ 79 (Proc.devRef .tc main_v21) = _
    after_reads_simp
    rfl
  · show StableHlo.upto _ _ 79 (Proc.devRef .tc main_v35) = _
    after_reads_simp
    rfl
  · show StableHlo.upto _ _ 79 (Proc.devRef .tc main_v49) = _
    after_reads_simp
    rfl
  · show StableHlo.upto _ _ 79 (Proc.devRef .tc main_v63) = _
    after_reads_simp
    rfl
/-- The deviations are the pooled inputs less the inputs. -/
theorem less (c : Dev nD) : V m c main_v67 = truncf (F := Ideal) .bf16 (shapeCast S4096x512 (subf (F := Ideal) (V m c main_v64) (m ((c : Thread nD τ).loc main_arg0)))
    shapeCasts_S1x4096x512_S4096x512) bitsLt_bf16_f32 := by
  unfold V hostOps0 hostOps0_1 hostOps0_2
  simp only [List.flatten_cons, List.flatten_nil, List.append_nil, List.cons_append, List.nil_append]
  after_reads_simp
  rfl
/-- An array flattened and rounded, read at a row. -/
theorem flat (y x : Vec Ideal S1x4096x512 .f32) (t : Fin 4096) (k : Fin 512) :
    truncf (F := Ideal) .bf16 (shapeCast S4096x512 (subf (F := Ideal) y x) shapeCasts_S1x4096x512_S4096x512) bitsLt_bf16_f32 (ix2 t k)
      = FloatOps.subf (y (ix3 0 t k)) (x (ix3 0 t k)) := by
  pointwise []

theorem host_d (c : Dev nD) (t : Fin 4096) (k : Fin 512) :
    V m c main_v67 (ix2 t k) = Cert.Reference2Ideal.Read.val_main_v66 (F := Ideal) (m ((c : Thread nD τ).loc main_arg0)) (ix3 0 t k) := by
  rw [less m c, pooled m c]
  exact flat _ _ t k

end Cert.Kernel2Ideal.Val

end
-- ==== Proof.Pool.lean ====
/-
  The pooling mixer's gradient kernel: what a grid point adds to its sums, entry by
  entry in the arguments.
-/
module

public import proofs.«01_k».proof.Proof.PoolBlocks
public import proofs.«01_k».proof.Proof.PoolHost
import Idealize.ShloMosaic.Lib.Claim

@[expose] public section

set_option maxRecDepth 16384
set_option maxHeartbeats 1000000

noncomputable section

namespace Cert.Kernel2Ideal.Val

open Cert.Kernel2Ideal Cert.Kernel2Ideal.Gen Idealize.ShloMosaic Idealize.ShloMosaic.TcCoe Idealize.SL.Sem Cert.Pieces Cert.Pool

variable (m : (ℓ : Loc nD τ sig) → Buf (Elt Ideal) ℓ) (c : Dev nD)

theorem idx : ∀ t : Fin cfg0.N, win0_0.index t = ![7 - t.val, 0] ∧ win0_1.index t = ![7 - t.val, 0] ∧ win0_2.index t = ![0, 0, 0]
    ∧ win0_3.index t = ![0, 0] ∧ win0_4.index t = ![0, 0, 0] ∧ win0_5.index t = ![7 - t.val, 0] ∧ win0_6.index t = ![0, 0, 0]
    ∧ win0_7.index t = ![0, 0, 0] ∧ win0_8.index t = ![0, 0] :=
  (by decide +kernel : ∀ t : Fin grid0.N, _)

/-- Row `r` of the block at point `t`: the blocks are visited from the last to the first. -/
def rowAt (t : Fin cfg0.N) (r : Fin 512) : Fin 4096 := ⟨(7 - t.val) * 512 + r.val, by omega⟩

/-- The arguments as the claim reads them. -/
abbrev yA (t : Fin 4096) (k : Fin 1024) : EReal := m ((c : Thread nD τ).loc main_arg4) (ix3 0 t k)
abbrev dA (t : Fin 4096) (k : Fin 512) : EReal :=
  Cert.Reference2Ideal.Read.val_main_v66 (F := Ideal) (m ((c : Thread nD τ).loc main_arg0)) (ix3 0 t k)
abbrev pA (g : Fin 4) (a b : Fin 128) : EReal := m ((c : Thread nD τ).loc main_arg1) (ix3 g a b)
abbrev sA (k : Fin 512) : EReal := m ((c : Thread nD τ).loc main_arg2) (ix1 k)
abbrev wA (j : Fin 4) (k : Fin 512) (n : Fin 256) : EReal := m ((c : Thread nD τ).loc main_arg3) (ix2 k (col j n))

theorem blk_y (t : Fin cfg0.N) (r : Fin 512) (k : Fin 1024) : iblk m c 0 t (ix2 r k) = yA m c (rowAt t r) k := by
  refine Eq.trans ?_ (host_y m c _ _)
  blk_point [iblk, idx t]
  rfl

theorem blk_d (t : Fin cfg0.N) (r : Fin 512) (k : Fin 512) : iblk m c 1 t (ix2 r k) = dA m c (rowAt t r) k := by
  refine Eq.trans ?_ (host_d m c _ _)
  blk_point [iblk, idx t]
  rfl

theorem blk_p (t : Fin cfg0.N) (g : Fin 4) (a b : Fin 128) : iblk m c 2 t (ix3 g a b) = pA m c g a b := by
  refine Eq.trans ?_ (host_p m c _ _ _)
  blk_point [iblk, idx t]

theorem blk_s (t : Fin cfg0.N) (k : Fin 512) : iblk m c 3 t (ix2 0 k) = sA m c k := by
  refine Eq.trans ?_ (host_s m c _)
  blk_point [iblk, idx t]

theorem blk_w (t : Fin cfg0.N) (j : Fin 4) (k : Fin 512) (n : Fin 256) : iblk m c 4 t (ix3 j k n) = wA m c j k n := by
  refine Eq.trans ?_ (host_w m c _ _ _)
  blk_point [iblk, idx t]

/-- The gradient before the projection, at a point. -/
abbrev preAt (t : Fin cfg0.N) : FVec Ideal S512x512 .f32 := preOf (iblk m c 0 t) (iblk m c 4 t)

theorem pre_at (t : Fin cfg0.N) (r : Fin 512) (k : Fin 512) : preAt m c t (ix2 r k) = pre (yA m c) (wA m c) (rowAt t r) k := by
  refine (pre_block _ _ r k).trans ?_
  unfold pre
  simp only [blk_y, blk_w]

theorem mix_at (t : Fin cfg0.N) (r : Fin 512) (g : Fin 4) (b : Fin 128) :
    mixOf (iblk m c 1 t) (iblk m c 2 t) (ix2 r (lane g b)) = mix (dA m c) (pA m c) (rowAt t r) g b := by
  rw [mix_block]
  unfold mix
  simp only [blk_d, blk_p]

/-- The gradient of the deviations, over the arguments. -/
abbrev devA (t : Fin 4096) (g : Fin 4) (a : Fin 128) : EReal := dev (yA m c) (wA m c) (sA m c) (pA m c) t g a

theorem dev_at (t : Fin cfg0.N) (r : Fin 512) (g : Fin 4) (a : Fin 128) :
    devOf (iblk m c 3 t) (preAt m c t) (iblk m c 2 t) g (ix2 r a) = devA m c (rowAt t r) g a := by
  rw [dev_block]
  unfold devA dev scaled pre
  simp only [blk_y, blk_w, blk_s, blk_p]

/-- The row numbers of a point's block. -/
abbrev rowsOf (t : Fin cfg0.N) : IVec S512x1 32 := k0_pay20 (Scalar.subi (7#32) (BitVec.ofNat 32 ↑(grid0.coords t 0)))

theorem rows_at (t : Fin cfg0.N) (r : Fin 512) : rowsOf t (ix2 r 0) = BitVec.ofNat 32 (rowAt t r).val := by
  have hc : (grid0.coords t 0).val = t.val := by revert t; decide +kernel
  have h : t.val < 8 := lt_of_lt_of_eq t.isLt (show cfg0.N = 8 from N_0)
  pointwise [rowsOf, k0_pay20]
  rw [hc]
  show IntOp.addi (Scalar.muli (Scalar.subi (7#32) (BitVec.ofNat 32 t.val)) 512#32) (BitVec.ofNat 32 r.val) = BitVec.ofNat 32 ((7 - t.val) * 512 + r.val)
  have e : Scalar.muli (Scalar.subi (7#32) (BitVec.ofNat 32 t.val)) 512#32 = BitVec.ofNat 32 ((7 - t.val) * 512) := by
    generalize t.val = n at h
    interval_cases n <;> decide
  rw [e]
  exact (BitVec.ofNat_add ..).symm

/-- The shares at a point. -/
abbrev sharesAt (t : Fin cfg0.N) : Fin 4 → FVec Ideal S512x128 .f32 := shareOf (rowsOf t) (iblk m c 3 t) (preAt m c t) (iblk m c 2 t)

/-- A row's share, over the arguments. -/
abbrev shareA (t : Fin 4096) (g : Fin 4) (a : Fin 128) : EReal := share g t.val (devA m c t g a)

theorem share_at (t : Fin cfg0.N) (r : Fin 512) (g : Fin 4) (a : Fin 128) : sharesAt m c t g (ix2 r a) = shareA m c (rowAt t r) g a := by
  unfold sharesAt
  rw [share_block _ _ _ _ _ r (rows_at t r), dev_at]

theorem sum_rows (f : Fin 4096 → EReal) : ∑ s : Fin cfg0.N, ∑ r, f (rowAt s r) = ∑ l, f l := by
  refine Eq.trans ?_ (Fin.sum_mul_add_fin 8 512 f)
  refine Eq.trans ?_ (Equiv.sum_comp (Fin.revPerm (n := 8)) fun s => ∑ k : Fin 512, f ⟨s.val * 512 + k.val, _⟩)
  refine Fintype.sum_equiv (finCongr N_0) _ _ fun s => Finset.sum_congr rfl fun r _ => congrArg f (Fin.ext ?_)
  have h : s.val < 8 := lt_of_lt_of_eq s.isLt (show cfg0.N = 8 from N_0)
  show (7 - s.val) * 512 + r.val = (8 - (s.val + 1)) * 512 + r.val
  omega

theorem proj_B (t : Fin cfg0.N) (h : ¬ t.val % 8 = 0) (j : Fin 4) (k : Fin 512) (n : Fin 256) :
    (outsAt0 m c t.val t.isLt).2.1 (ix3 j k n) = (outsAt0 m c (t.val - 1) (Nat.lt_of_le_of_lt (Nat.sub_le _ _) t.isLt)).2.1 (ix3 j k n)
      + ∑ r, mixOf (iblk m c 1 t) (iblk m c 2 t) (ix2 r k) * iblk m c 3 t (ix2 0 k) * iblk m c 0 t (ix2 r (col j n)) := by
  rw [outsAt0_B m c t h]; frame_out
  rw [planes]
  generalize (iblk m c 2 t) = X
  generalize (iblk m c 0 t) = Y
  generalize (iblk m c 1 t) = D
  generalize (iblk m c 3 t) = S
  refine (proj_block Y D S X ![_, _, _, _] j k n).trans (congrArg (· + _) ?_)
  obtain rfl | rfl | rfl | rfl := four j <;> pointwise []

theorem zero_proj (i : S4x512x256.Idx) : k0_pay3 (F := Ideal) i = 0 := by pointwise [k0_pay3]

theorem zero_mixer (i : S4x128x128.Idx) : k0_pay4 (F := Ideal) i = 0 := by pointwise [k0_pay4]

theorem zero_scale (i : S1x512.Idx) : k0_pay5 (F := Ideal) i = 0 := by pointwise [k0_pay5]

theorem zero_kept (i : S16x512.Idx) : k0_pay2 (F := Ideal) i = 0 := by pointwise [k0_pay2]

theorem proj_A (t : Fin cfg0.N) (h : t.val % 8 = 0) (j : Fin 4) (k : Fin 512) (n : Fin 256) :
    (outsAt0 m c t.val t.isLt).2.1 (ix3 j k n) = 0
      + ∑ r, mixOf (iblk m c 1 t) (iblk m c 2 t) (ix2 r k) * iblk m c 3 t (ix2 0 k) * iblk m c 0 t (ix2 r (col j n)) := by
  rw [outsAt0_A m c t h]; frame_out
  rw [planes]
  generalize (iblk m c 2 t) = X
  generalize (iblk m c 0 t) = Y
  generalize (iblk m c 1 t) = D
  generalize (iblk m c 3 t) = S
  refine (proj_block Y D S X ![_, _, _, _] j k n).trans (congrArg (· + _) ?_)
  obtain rfl | rfl | rfl | rfl := four j
  · exact (fresh_plane _ 0 _ [] (by simp) _ _ k n).trans (zero_proj _)
  · exact (fresh_plane _ 1 _ [_] (planeBelow_cons 0 (by decide) (by simp)) _ _ k n).trans (zero_proj _)
  · exact (fresh_plane _ 2 _ [_, _] (planeBelow_cons 1 (by decide) (planeBelow_cons 0 (by decide) (by simp))) _ _ k n).trans (zero_proj _)
  · exact (fresh_plane _ 3 _ [_, _, _] (planeBelow_cons 2 (by decide) (planeBelow_cons 1 (by decide) (planeBelow_cons 0 (by decide) (by simp)))) _ _ k n).trans (zero_proj _)

/-- The gradient of the mixed deviations, at a point. -/
abbrev scaledAt (t : Fin cfg0.N) : FVec Ideal S512x512 .f32 := k0_pay19 (k0_pay8 (iblk m c 3 t)) (preAt m c t)

theorem mixer_B (t : Fin cfg0.N) (h : ¬ t.val % 8 = 0) (g : Fin 4) (a b : Fin 128) :
    (outsAt0 m c t.val t.isLt).2.2.1 (ix3 g a b) = (outsAt0 m c (t.val - 1) (Nat.lt_of_le_of_lt (Nat.sub_le _ _) t.isLt)).2.2.1 (ix3 g a b)
      + ∑ r, (show EReal from iblk m c 1 t (ix2 r (lane g a))) * scaledAt m c t (ix2 r (lane g b)) := by
  rw [outsAt0_B m c t h]; frame_out
  rw [planes]
  simp only [scaledAt, preAt, preOf]
  generalize (iblk m c 1 t) = D
  generalize (k0_pay19 (F := Ideal) _ _) = Z
  refine (mixer_block D Z ![_, _, _, _] g a b).trans (congrArg (· + _) ?_)
  obtain rfl | rfl | rfl | rfl := four g <;> pointwise []

theorem mixer_A (t : Fin cfg0.N) (h : t.val % 8 = 0) (g : Fin 4) (a b : Fin 128) :
    (outsAt0 m c t.val t.isLt).2.2.1 (ix3 g a b) = 0
      + ∑ r, (show EReal from iblk m c 1 t (ix2 r (lane g a))) * scaledAt m c t (ix2 r (lane g b)) := by
  rw [outsAt0_A m c t h]; frame_out
  rw [planes]
  simp only [scaledAt, preAt, preOf]
  generalize (iblk m c 1 t) = D
  generalize (k0_pay19 (F := Ideal) _ _) = Z
  refine (mixer_block D Z ![_, _, _, _] g a b).trans (congrArg (· + _) ?_)
  obtain rfl | rfl | rfl | rfl := four g
  · exact (fresh_plane _ 0 _ [] (by simp) _ _ a b).trans (zero_mixer _)
  · exact (fresh_plane _ 1 _ [_] (planeBelow_cons 0 (by decide) (by simp)) _ _ a b).trans (zero_mixer _)
  · exact (fresh_plane _ 2 _ [_, _] (planeBelow_cons 1 (by decide) (planeBelow_cons 0 (by decide) (by simp))) _ _ a b).trans (zero_mixer _)
  · exact (fresh_plane _ 3 _ [_, _, _] (planeBelow_cons 2 (by decide) (planeBelow_cons 1 (by decide) (planeBelow_cons 0 (by decide) (by simp)))) _ _ a b).trans
      (zero_mixer _)

theorem scale_B (t : Fin cfg0.N) (h : ¬ t.val % 8 = 0) (i : Fin 1) (k : Fin 512) :
    (outsAt0 m c t.val t.isLt).2.2.2.1 (ix2 i k) = (outsAt0 m c (t.val - 1) (Nat.lt_of_le_of_lt (Nat.sub_le _ _) t.isLt)).2.2.2.1 (ix2 i k)
      + ∑ r, preAt m c t (ix2 r k) * mixOf (iblk m c 1 t) (iblk m c 2 t) (ix2 r k) := by
  rw [outsAt0_B m c t h]; frame_out
  exact scale_block _ _ _ i k

theorem scale_A (t : Fin cfg0.N) (h : t.val % 8 = 0) (i : Fin 1) (k : Fin 512) :
    (outsAt0 m c t.val t.isLt).2.2.2.1 (ix2 i k) = 0
      + ∑ r, preAt m c t (ix2 r k) * mixOf (iblk m c 1 t) (iblk m c 2 t) (ix2 r k) := by
  rw [outsAt0_A m c t h]; frame_out
  refine (scale_block _ _ _ i k).trans (congrArg (· + _) ?_)
  exact zero_scale _

end Cert.Kernel2Ideal.Val

end
-- ==== Proof.PoolRows.lean ====
/-
  The pooling mixer's gradient kernel: the rows that a grid point writes and
  the rows that it leaves for the next.
-/
module

public import proofs.«01_k».proof.Proof.Pool
import Idealize.ShloMosaic.Lib.Claim
import Idealize.ShloMosaic.Lib.Pipeline.ReadBack

@[expose] public section

set_option maxRecDepth 16384
set_option maxHeartbeats 1000000

noncomputable section

namespace Cert.Kernel2Ideal.Val

open Cert.Kernel2Ideal Cert.Kernel2Ideal.Gen Idealize.ShloMosaic Idealize.ShloMosaic.TcCoe Idealize.SL.Sem Cert.Pieces Cert.Pool

variable (m : (ℓ : Loc nD τ sig) → Buf (Elt Ideal) ℓ) (c : Dev nD)

theorem extended_congr (e : FVec Ideal S512x128 .f32) (x y : Vec Ideal S16x128 .f32) (n : Nat) (a : Fin 128) (h : ∀ i, x (ix2 i a) = y (ix2 i a)) :
    extended e x n a = extended e y n a := by
  unfold extended
  simp only [h]

/-- A point leaves the shares of its first sixteen rows for the next. -/
theorem kept_at (t : Fin cfg0.N) (i : Fin 16) (g : Fin 4) (a : Fin 128) :
    (outsAt0 m c t.val t.isLt).2.2.2.2 (ix2 i (lane g a)) = sharesAt m c t g (ix2 ⟨i.val, by omega⟩ a) := by
  by_cases h : t.val % 8 = 0
  · rw [outsAt0_A m c t h]; frame_out
    rw [lanes]
    simp only [sharesAt, preAt, preOf, rowsOf]
    generalize (iblk m c 2 t) = X
    generalize (iblk m c 3 t) = S
    generalize k0_pay20 _ = N
    generalize k0_pay9 (F := Ideal) _ _ _ _ _ = P
    exact kept_block N S P X g i a
  · rw [outsAt0_B m c t h]; frame_out
    rw [lanes]
    simp only [sharesAt, preAt, preOf, rowsOf]
    generalize (iblk m c 2 t) = X
    generalize (iblk m c 3 t) = S
    generalize k0_pay20 _ = N
    generalize k0_pay9 (F := Ideal) _ _ _ _ _ = P
    exact kept_block N S P X g i a

/-- The rows of a block, the rows after it named one by one. -/
theorem window_block' (N : IVec S512x1 32) (S : Vec Ideal S1x512 .f32) (P : FVec Ideal S512x512 .f32) (X : Vec Ideal S4x128x128 .bf16)
    (c0 c1 c2 c3 : Vec Ideal S16x128 .f32) (g : Fin 4) (r : Fin 512) (a : Fin 128) :
    (![k0_pay26 N (k0_pay21 (k0_pay8 S) P) (plane X 0) c0, k0_pay32 N (k0_pay27 (k0_pay19 (k0_pay8 S) P)) (plane X 1) c1,
       k0_pay39 (k0_pay38 N (k0_pay33 (k0_pay19 (k0_pay8 S) P)) (plane X 2) c2),
       k0_pay1 (k0_pay40 (k0_pay19 (k0_pay8 S) P) (plane X 3)) (k0_pay44 (k0_pay19 (k0_pay8 S) P) N (plane X 3) c3)
         (k0_pay45 (k0_pay19 (k0_pay8 S) P) N (plane X 3) c3)] : Fin 4 → FVec Ideal S512x128 .bf16) g (ix2 r a)
      = ∑ j ∈ Finset.range (window g), extended (shareOf N S P X g) ((![c0, c1, c2, c3] : Fin 4 → Vec Ideal S16x128 .f32) g) (r.val + j) a
        - devOf S P X g (ix2 r a) :=
  window_block N S P X ![c0, c1, c2, c3] g r a

theorem rows_A (t : Fin cfg0.N) (h : t.val % 8 = 0) (r : Fin 512) (g : Fin 4) (a : Fin 128) (C : Fin 4 → Vec Ideal S16x128 .f32)
    (hC : ∀ g i a, C g (ix2 i a) = 0) :
    (outsAt0 m c t.val t.isLt).1 (ix2 r (lane g a))
      = ∑ j ∈ Finset.range (window g), extended (sharesAt m c t g) (C g) (r.val + j) a - devOf (iblk m c 3 t) (preAt m c t) (iblk m c 2 t) g (ix2 r a) := by
  rw [outsAt0_A m c t h]; frame_out
  rw [lanes]
  simp only [sharesAt, preAt, preOf, rowsOf]
  generalize (iblk m c 2 t) = X
  generalize (iblk m c 3 t) = S
  generalize k0_pay20 _ = N
  generalize k0_pay9 (F := Ideal) _ _ _ _ _ = P
  refine (window_block' N S P X _ _ _ _ g r a).trans (congrArg (· - _) (Finset.sum_congr rfl fun j _ => extended_congr _ _ _ _ _ fun i => ?_))
  rw [hC]
  obtain rfl | rfl | rfl | rfl := four g
  all_goals simp only [Matrix.cons_val]
  · refine (fresh_lanes _ 0 0 rfl _ [] (by simp) _ _ i a).trans ?_
    exact zero_kept _
  · refine (fresh_lanes _ 1 128 rfl _ [_] (lanesBelow_cons 0 (by decide) (by simp)) _ _ i a).trans ?_
    exact zero_kept _
  · refine (fresh_lanes _ 2 256 rfl _ [_, _] (lanesBelow_cons 128 (by decide) (lanesBelow_cons 0 (by decide) (by simp))) _ _ i a).trans ?_
    exact zero_kept _
  · refine (fresh_lanes _ 3 384 rfl _ [_, _, _] (lanesBelow_cons 256 (by decide) (lanesBelow_cons 128 (by decide) (lanesBelow_cons 0 (by decide) (by simp)))) _ _
      i a).trans ?_
    exact zero_kept _

theorem rows_B (t : Fin cfg0.N) (h : ¬ t.val % 8 = 0) (r : Fin 512) (g : Fin 4) (a : Fin 128) (C : Fin 4 → Vec Ideal S16x128 .f32)
    (hC : ∀ g i a, C g (ix2 i a) = (outsAt0 m c (t.val - 1) (Nat.lt_of_le_of_lt (Nat.sub_le _ _) t.isLt)).2.2.2.2 (ix2 i (lane g a))) :
    (outsAt0 m c t.val t.isLt).1 (ix2 r (lane g a))
      = ∑ j ∈ Finset.range (window g), extended (sharesAt m c t g) (C g) (r.val + j) a - devOf (iblk m c 3 t) (preAt m c t) (iblk m c 2 t) g (ix2 r a) := by
  rw [outsAt0_B m c t h]; frame_out
  rw [lanes]
  simp only [sharesAt, preAt, preOf, rowsOf]
  generalize (iblk m c 2 t) = X
  generalize (iblk m c 3 t) = S
  generalize k0_pay20 _ = N
  generalize k0_pay9 (F := Ideal) _ _ _ _ _ = P
  refine (window_block' N S P X _ _ _ _ g r a).trans (congrArg (· - _) (Finset.sum_congr rfl fun j _ => extended_congr _ _ _ _ _ fun i => ?_))
  rw [hC]
  simp only [read_unread_whole]
  obtain rfl | rfl | rfl | rfl := four g
  all_goals pointwise []
  · exact congrArg (fun n : Fin 512 => (outsAt0 m c (t.val - 1) (Nat.lt_of_le_of_lt (Nat.sub_le _ _) t.isLt)).2.2.2.2 (ix2 i n))
      (Fin.ext (by show a.val = 0 * 128 + a.val; omega))
  all_goals rfl

/-- The shares of all tokens, and zero after the last. -/
def shareOr (g : Fin 4) (a : Fin 128) (n : Nat) : EReal := if h : n < 4096 then shareA m c ⟨n, h⟩ g a else 0

theorem shareOr_rowAt (t : Fin cfg0.N) (r : Fin 512) (g : Fin 4) (a : Fin 128) (n : Nat) (h : n = (rowAt t r).val) :
    shareOr m c g a n = shareA m c (rowAt t r) g a := by
  subst h
  exact dif_pos (rowAt t r).isLt

theorem window_le : ∀ g : Fin 4, window g ≤ 16 := by decide

/-- What a point writes: each row's shares over the window that starts there, less the row's own gradient. -/
theorem rows_out (t : Fin cfg0.N) (r : Fin 512) (g : Fin 4) (a : Fin 128) :
    (outsAt0 m c t.val t.isLt).1 (ix2 r (lane g a))
      = ∑ j ∈ Finset.range (window g), shareOr m c g a ((rowAt t r).val + j) - devA m c (rowAt t r) g a := by
  have ht : t.val < 8 := lt_of_lt_of_eq t.isLt (show cfg0.N = 8 from N_0)
  by_cases h : t.val % 8 = 0
  · rw [rows_A m c t h r g a (fun _ _ => 0) fun _ _ _ => rfl, dev_at]
    refine congrArg (· - _) (Finset.sum_congr rfl fun j hj => ?_)
    have hj : j < 16 := lt_of_lt_of_le (Finset.mem_range.mp hj) (window_le g)
    unfold extended
    by_cases hr : r.val + j < 512
    · rw [dif_pos hr, share_at, shareOr_rowAt m c t ⟨r.val + j, hr⟩]
      show (7 - t.val) * 512 + r.val + j = (7 - t.val) * 512 + (r.val + j)
      omega
    · rw [dif_neg hr]
      refine Eq.trans (by split <;> rfl) (dif_neg ?_).symm
      show ¬ (7 - t.val) * 512 + r.val + j < 4096
      omega
  · have hs : t.val - 1 < cfg0.N := Nat.lt_of_le_of_lt (Nat.sub_le _ _) t.isLt
    rw [rows_B m c t h r g a (fun g i => (outsAt0 m c (t.val - 1) hs).2.2.2.2 (ix2 (i 0) (lane g (i 1)))) fun _ _ _ => rfl, dev_at]
    refine congrArg (· - _) (Finset.sum_congr rfl fun j hj => ?_)
    have hj : j < 16 := lt_of_lt_of_le (Finset.mem_range.mp hj) (window_le g)
    unfold extended
    by_cases hr : r.val + j < 512
    · rw [dif_pos hr, share_at, shareOr_rowAt m c t ⟨r.val + j, hr⟩]
      show (7 - t.val) * 512 + r.val + j = (7 - t.val) * 512 + (r.val + j)
      omega
    · have hk : r.val + j - 512 < 16 := by omega
      rw [dif_neg hr, dif_pos hk]
      refine (kept_at m c ⟨t.val - 1, hs⟩ ⟨r.val + j - 512, hk⟩ g a).trans ?_
      rw [share_at, shareOr_rowAt m c ⟨t.val - 1, hs⟩]
      show (7 - t.val) * 512 + r.val + j = (7 - (t.val - 1)) * 512 + (r.val + j - 512)
      omega

end Cert.Kernel2Ideal.Val

end
-- ==== Proof.PoolArrays.lean ====
/-
  The pooling mixer's gradient kernel: its four output arrays, entry by entry in the arguments.
-/
module

public import proofs.«01_k».proof.Proof.PoolRows
import Idealize.ShloMosaic.Lib.Claim

@[expose] public section

set_option maxRecDepth 16384
set_option maxHeartbeats 1000000

noncomputable section

namespace Cert.Kernel2Ideal.Val

open Cert.Kernel2Ideal Cert.Kernel2Ideal.Gen Idealize.ShloMosaic Idealize.ShloMosaic.TcCoe Idealize.SL.Sem Cert.Pieces Cert.Pool

variable (m : (ℓ : Loc nD τ sig) → Buf (Elt Ideal) ℓ) (c : Dev nD)

theorem at5 (t : Fin cfg0.N) (r : Fin 512) (k : Fin 512) :
    ((View.whole main_v71_0).slice (win0_5.rect t)).emb (ix2 r k) = ix2 (rowAt t r) k := by
  blk_ext [idx t]
  rfl

/-- The gradient of the pooled rows, at a token and a lane. -/
def rowsA (t : Fin 4096) (k : Fin 512) : EReal :=
  ∑ j ∈ Finset.range (window (grp k)), shareOr m c (grp k) (plc k) (t.val + j) - devA m c t (grp k) (plc k)

theorem rowsA_at (t : Fin cfg0.N) (r k : Fin 512) : (outsAt0 m c t.val t.isLt).1 (ix2 r k) = rowsA m c (rowAt t r) k := by
  have h := rows_out m c t r (grp k) (plc k)
  rw [lane_grp] at h
  exact h

theorem rowsA_eq (t : Fin 4096) (k : Fin 512) : rowsA m c t k = gradRows (yA m c) (wA m c) (sA m c) (pA m c) t k := by
  unfold rowsA shareOr gradRows partOf
  rfl

attribute [local irreducible] rowsA

/-- The gradient of the pooled rows. -/
theorem rows_array : (dats m 0 c).arrAt 5 cfg0.N = fun i => rowsA m c (i 0) (i 1) := by
  refine (dats m 0 c).arrAt_eq_of_covers 5 _ (by decide +kernel) fun t _ y => ?_
  blk_simp
  rw [after0_5]
  idx_vars y
  rw [at5 t]
  exact rowsA_at m c t y0 y1

/-- The mixed deviations over all lanes. -/
abbrev mixA (t : Fin 4096) (k : Fin 512) : EReal := mix (dA m c) (pA m c) t (grp k) (plc k)

theorem mixA_at (t : Fin cfg0.N) (r : Fin 512) (k : Fin 512) : mixOf (iblk m c 1 t) (iblk m c 2 t) (ix2 r k) = mixA m c (rowAt t r) k := by
  have h := mix_at m c t r (grp k) (plc k)
  rw [lane_grp] at h
  exact h

theorem scaled_at (t : Fin cfg0.N) (r : Fin 512) (k : Fin 512) : scaledAt m c t (ix2 r k) = scaled (yA m c) (wA m c) (sA m c) (rowAt t r) k := by
  refine (scaled_block _ _ r k).trans ?_
  rw [pre_at, blk_s]
  rfl

/-- The projection's weight gradient. -/
theorem proj_array : (dats m 0 c).arrAt 6 cfg0.N = fun i => ∑ t, mixA m c t (i 1) * sA m c (i 1) * yA m c t (col (i 0) (i 2)) := by
  refine (dats m 0 c).arrAt_eq_of_after_last 6 t0_7 (by decide +kernel) _ fun i => ?_
  blk_simp
  rw [after0_6, Pipeline.eq_sum_fin_of_reset_step_apply_last (fun n h => (outsAt0 m c n h).2.1) 8 (fun _ => 0)
    (fun t i => ∑ r, mixOf (iblk m c 1 t) (iblk m c 2 t) (ix2 r (i 1)) * iblk m c 3 t (ix2 0 (i 1)) * iblk m c 0 t (ix2 r (col (i 0) (i 2))))
    (fun t hc i => by idx_vars i; exact proj_A m c t hc _ _ _)
    (fun t hc i => by idx_vars i; exact proj_B m c t hc _ _ _) (le_of_eq N_0) t0_7 rfl i, zero_add]
  idx_vars i
  simp only [mixA_at, blk_s, blk_y]
  exact sum_rows fun t => mixA m c t i1 * sA m c i1 * yA m c t (col i0 i2)

/-- A token's part of the mixer's weight gradient. -/
def mixerA (t : Fin 4096) (g : Fin 4) (a b : Fin 128) : EReal := dA m c t (lane g a) * scaled (yA m c) (wA m c) (sA m c) t (lane g b)

theorem mixerA_at (t : Fin cfg0.N) (g : Fin 4) (a b : Fin 128) :
    ∑ r, (show EReal from iblk m c 1 t (ix2 r (lane g a))) * scaledAt m c t (ix2 r (lane g b)) = ∑ r, mixerA m c (rowAt t r) g a b :=
  Finset.sum_congr rfl fun r _ => congrArg₂ (fun x y : EReal => x * y) (blk_d m c t r _) (scaled_at m c t r _)

attribute [local irreducible] mixerA

/-- The mixer's weight gradient. -/
theorem mixer_array : (dats m 0 c).arrAt 7 cfg0.N = fun i => ∑ t, mixerA m c t (i 0) (i 1) (i 2) := by
  refine (dats m 0 c).arrAt_eq_of_after_last 7 t0_7 (by decide +kernel) _ fun i => ?_
  blk_simp
  rw [after0_7, Pipeline.eq_sum_fin_of_reset_step_apply_last (fun n h => (outsAt0 m c n h).2.2.1) 8 (fun _ => 0)
    (fun t i => ∑ r, mixerA m c (rowAt t r) (i 0) (i 1) (i 2))
    (fun t hc i => by idx_vars i; exact (mixer_A m c t hc _ _ _).trans (congrArg (0 + ·) (mixerA_at m c t i0 i1 i2)))
    (fun t hc i => by idx_vars i; exact (mixer_B m c t hc _ _ _).trans (congrArg (_ + ·) (mixerA_at m c t i0 i1 i2))) (le_of_eq N_0) t0_7 rfl i, zero_add]
  idx_vars i
  exact sum_rows fun t => mixerA m c t i0 i1 i2

/-- The scale's gradient. -/
theorem scale_array : (dats m 0 c).arrAt 8 cfg0.N = fun i => ∑ t, pre (yA m c) (wA m c) t (i 1) * mixA m c t (i 1) := by
  refine (dats m 0 c).arrAt_eq_of_after_last 8 t0_7 (by decide +kernel) _ fun i => ?_
  blk_simp
  rw [after0_8, Pipeline.eq_sum_fin_of_reset_step_apply_last (fun n h => (outsAt0 m c n h).2.2.2.1) 8 (fun _ => 0)
    (fun t i => ∑ r, preAt m c t (ix2 r (i 1)) * mixOf (iblk m c 1 t) (iblk m c 2 t) (ix2 r (i 1)))
    (fun t hc i => by idx_vars i; exact scale_A m c t hc _ _)
    (fun t hc i => by idx_vars i; exact scale_B m c t hc _ _) (le_of_eq N_0) t0_7 rfl i, zero_add]
  idx_vars i
  simp only [mixA_at, pre_at]
  exact sum_rows fun t => pre (yA m c) (wA m c) t i1 * mixA m c t i1

end Cert.Kernel2Ideal.Val

end
-- ==== Proof.WindowSum.lean ====
/-
  The host's running sums along the middle of three axes, forwards and in reverse: a window as long as the axis, padded
  before the first entry or after the last.
-/
module

public import Idealize.ShloMosaic.Lib.Pointwise

@[expose] public section

noncomputable section

namespace Cert.WindowSum

open Idealize.ShloMosaic

/-- Adding the terms of a list one after another. -/
theorem foldl_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The indices of a column, by their middle coordinate. -/
def column (n : Nat) : Fin n ≃ (⟨3, ![1, n, 1]⟩ : Shape).Idx where
  toFun l := ix3 (0 : Fin 1) l (0 : Fin 1)
  invFun i := i 1
  left_inv _ := rfl
  right_inv i := by
    funext a
    match a with
    | ⟨0, _⟩ => exact Fin.ext (Nat.lt_one_iff.mp (i 0).isLt).symm
    | ⟨1, _⟩ => rfl
    | ⟨2, _⟩ => exact Fin.ext (Nat.lt_one_iff.mp (i 2).isLt).symm

variable {n k : Nat}

/-- A sum over a window as long as the axis, `p` entries of padding before the first: the entries of the window that the
    array has. -/
theorem window_sum (p : Nat) (hi : Fin 3 → Nat)
    (h : (⟨3, ![1, n, k]⟩ : Shape).ReduceWindows ![1, n, 1] ![1, 1, 1] ![0, p, 0] hi ⟨3, ![1, n, k]⟩)
    (x : (⟨3, ![1, n, k]⟩ : Shape).Idx → EReal) (t : Fin n) (c : Fin k) :
    Ideal.hostReduceWindowAdd ![1, n, 1] ![1, 1, 1] ![0, p, 0] hi h x 0 (ix3 (0 : Fin 1) t c)
      = ∑ l : Fin n, if hl : p ≤ t.val + l.val ∧ t.val + l.val - p < n then x (ix3 (0 : Fin 1) ⟨t.val + l.val - p, hl.2⟩ c) else 0 := by
  unfold Ideal.hostReduceWindowAdd Host.reduceWindow
  refine (foldl_sum _ _ _).trans ?_
  rw [zero_add, ← Fin.sum_univ_def, ← Equiv.sum_comp (Shape.rowMajor ⟨3, ![1, n, 1]⟩), ← Equiv.sum_comp (column n)]
  refine Finset.sum_congr rfl fun l _ => ?_
  have e := Equiv.symm_apply_apply (Shape.rowMajor ⟨3, ![1, n, 1]⟩) (column n l)
  have e0 : ((Shape.rowMajor ⟨3, ![1, n, 1]⟩).symm (Shape.rowMajor ⟨3, ![1, n, 1]⟩ (column n l)) 0).val = 0 := congrArg Fin.val (congrFun e 0)
  have e1 : ((Shape.rowMajor ⟨3, ![1, n, 1]⟩).symm (Shape.rowMajor ⟨3, ![1, n, 1]⟩ (column n l)) 1).val = l.val := congrArg Fin.val (congrFun e 1)
  have e2 : ((Shape.rowMajor ⟨3, ![1, n, 1]⟩).symm (Shape.rowMajor ⟨3, ![1, n, 1]⟩ (column n l)) 2).val = 0 := congrArg Fin.val (congrFun e 2)
  have c2 := c.isLt
  by_cases hl : p ≤ t.val + l.val ∧ t.val + l.val - p < n
  · rw [dif_pos hl, dif_pos]
    · refine congrArg x ?_
      funext a
      match a with
      | ⟨0, _⟩ => exact Fin.ext ((congrArg (fun z : Nat => 0 * 1 + z - 0) e0).trans rfl)
      | ⟨1, _⟩ => exact Fin.ext ((congrArg (fun z => t.val * 1 + z - p) e1).trans (show t.val * 1 + l.val - p = t.val + l.val - p from by omega))
      | ⟨2, _⟩ => exact Fin.ext ((congrArg (fun z => c.val * 1 + z - 0) e2).trans (show c.val * 1 + 0 - 0 = c.val from by omega))
    · intro a
      match a with
      | ⟨0, _⟩ => exact ⟨Nat.zero_le _, lt_of_eq_of_lt (b := 0 * 1 + 0 - 0) (congrArg (fun z => 0 * 1 + z - 0) e0) (show _ < 1 from by omega)⟩
      | ⟨1, _⟩ => exact ⟨le_of_le_of_eq (show p ≤ t.val * 1 + l.val from by omega) (congrArg (fun z => t.val * 1 + z) e1).symm,
          lt_of_eq_of_lt (b := t.val * 1 + l.val - p) (congrArg (fun z => t.val * 1 + z - p) e1) (show _ < n from by omega)⟩
      | ⟨2, _⟩ => exact ⟨Nat.zero_le _, lt_of_eq_of_lt (b := c.val * 1 + 0 - 0) (congrArg (fun z => c.val * 1 + z - 0) e2) (show _ < k from by omega)⟩
  · rw [dif_neg hl, dif_neg]
    intro ha
    have h0 : p ≤ t.val * 1 + l.val := le_of_le_of_eq (ha 1).1 (congrArg (fun z => t.val * 1 + z) e1)
    have h1 : t.val * 1 + l.val - p < n := lt_of_eq_of_lt (congrArg (fun z => t.val * 1 + z - p) e1).symm (ha 1).2
    exact hl (by omega)

/-- The running sum from an entry to the end. -/
theorem reverse_sum (hi : Fin 3 → Nat)
    (h : (⟨3, ![1, n, k]⟩ : Shape).ReduceWindows ![1, n, 1] ![1, 1, 1] ![0, 0, 0] hi ⟨3, ![1, n, k]⟩)
    (x : (⟨3, ![1, n, k]⟩ : Shape).Idx → EReal) (t : Fin n) (c : Fin k) :
    Ideal.hostReduceWindowAdd ![1, n, 1] ![1, 1, 1] ![0, 0, 0] hi h x 0 (ix3 (0 : Fin 1) t c)
      = ∑ l : Fin n, if hl : t.val + l.val < n then x (ix3 (0 : Fin 1) ⟨t.val + l.val, hl⟩ c) else 0 := by
  refine (window_sum 0 hi h x t c).trans (Finset.sum_congr rfl fun l _ => ?_)
  by_cases hl : t.val + l.val < n
  · rw [dif_pos hl, dif_pos ⟨Nat.zero_le _, hl⟩]
    rfl
  · rw [dif_neg hl, dif_neg fun q => hl q.2]

/-- What a sum of differences at a distance leaves, of a function that ends. -/
theorem sum_differences (N w : Nat) (f : Nat → ℝ) (hf : ∀ i, N ≤ i → f i = 0) (t : Nat) :
    ∑ l : Fin N, (if t + l.val < N then f (t + l.val) + -f (t + l.val + w) else 0) = ∑ j ∈ Finset.range w, f (t + j) := by
  have e : ∀ l : Fin N, (if t + l.val < N then f (t + l.val) + -f (t + l.val + w) else 0) = f (t + l.val) - f (t + w + l.val) := fun l => by
    have c : t + l.val + w = t + w + l.val := by omega
    by_cases hl : t + l.val < N
    · rw [if_pos hl, c]; ring
    · rw [if_neg hl, hf _ (by omega), hf _ (by omega)]; ring
  rw [Finset.sum_congr rfl fun l _ => e l, Finset.sum_sub_distrib, Fin.sum_univ_eq_sum_range (fun l => f (t + l)) N,
    Fin.sum_univ_eq_sum_range (fun l => f (t + w + l)) N]
  have a := Finset.sum_range_add (fun l => f (t + l)) w N
  have b := Finset.sum_range_add (fun l => f (t + l)) N w
  have z : ∑ x ∈ Finset.range w, f (t + (N + x)) = 0 := Finset.sum_eq_zero fun x _ => hf _ (by omega)
  rw [Nat.add_comm w N] at a
  rw [b, z] at a
  simp only [← Nat.add_assoc] at a
  linarith

end Cert.WindowSum

end
-- ==== Proof.PoolReference.lean ====
/-
  The reference's gradient of the pooling mixer: its four results, entry by entry in the arguments.
-/
module

public import proofs.«01_k».proof.Proof.Gen.Reference2Ideal.Read
public import proofs.«01_k».proof.Proof.PoolMath
public import proofs.«01_k».proof.Proof.HostSums
public import proofs.«01_k».proof.Proof.WindowSum

@[expose] public section

set_option maxRecDepth 16384

noncomputable section

namespace Cert.Reference2Ideal.Val

open Cert.Reference2Ideal Cert.Reference2Ideal.Read Idealize.ShloMosaic Cert.Reals Cert.Pieces Cert.Pool

variable (U : Vec Ideal S1x4096x512 .f32) (P : Vec Ideal S4x128x128 .f32) (S : Vec Ideal S512 .f32) (W : Vec Ideal S512x1024 .f32)
  (Y : Vec Ideal S1x4096x1024 .f32)

abbrev yR (t : Fin 4096) (k : Fin 1024) : EReal := Y (ix3 0 t k)
abbrev dR (t : Fin 4096) (k : Fin 512) : EReal := val_main_v66 (F := Ideal) U (ix3 0 t k)
abbrev pR (g : Fin 4) (a b : Fin 128) : EReal := P (ix3 g a b)
abbrev sR (k : Fin 512) : EReal := S (ix1 k)
abbrev wR (j : Fin 4) (k : Fin 512) (n : Fin 256) : EReal := W (ix2 k (col j n))

/-- The gradient before the projection. -/
theorem pre_ref (t : Fin 4096) (k : Fin 512) : val_main_v77 (F := Ideal) W Y (ix3 0 t k) = pre (yR Y) (wR W) t k := by
  pointwise [val_main_v77]
  exact (Fin.sum_mul_add_fin 4 256 fun n => Y (ix3 0 t n) * W (ix2 k n)).symm

theorem scaled_ref (t : Fin 4096) (k : Fin 512) : val_main_v82 (F := Ideal) S W Y (ix3 0 t k) = scaled (yR Y) (wR W) (sR S) t k := by
  have h := pre_ref W Y t k
  pointwise [val_main_v82, val_main_v81, val_main_v71]
  rw [h]
  rfl

/-- The gradient of the deviations. -/
theorem dev_ref (t : Fin 4096) (k : Fin 512) :
    val_main_v90 (F := Ideal) P S W Y (ix3 0 t k) = dev (yR Y) (wR W) (sR S) (pR P) t (grp k) (plc k) := by
  have h := scaled_ref S W Y t
  pointwise [val_main_v90, val_main_v87, val_main_v86, val_main_v85, val_main_v84]
  exact Finset.sum_congr rfl fun x _ => congrArg (· * pR P (grp k) (plc k) x) (h (lane (grp k) x))

/-- The mixed deviations. -/
theorem mix_ref (t : Fin 4096) (k : Fin 512) : val_main_v70 (F := Ideal) U P (ix3 0 t k) = mix (dR U) (pR P) t (grp k) (plc k) := by
  pointwise [val_main_v70, val_main_v69, val_main_v68, val_main_v67]
  exact Finset.sum_congr rfl fun x _ => mul_comm _ _

/-- The projection's weight gradient. -/
theorem proj_ref (j : Fin 4) (k : Fin 512) (n : Fin 256) :
    val_main_v142 (F := Ideal) U P S Y (ix3 j k n) = ∑ t, mix (dR U) (pR P) t (grp k) (plc k) * sR S k * yR Y t (col j n) := by
  have h := fun t => mix_ref U P t k
  pointwise [val_main_v142, val_main_v141, val_main_v76, val_main_v75, val_main_v73, val_main_v72, val_main_v71]
  rw [Fin.sum_univ_one]
  exact Finset.sum_congr rfl fun x _ => (mul_comm _ _).trans (congrArg (fun z => z * sR S k * yR Y x (col j n)) (h x))

/-- The mixer's weight gradient. -/
theorem mixer_ref (g : Fin 4) (a b : Fin 128) :
    val_main_v89 (F := Ideal) U S W Y (ix3 g a b) = ∑ t, dR U t (lane g a) * scaled (yR Y) (wR W) (sR S) t (lane g b) := by
  have h := fun t => scaled_ref S W Y t (lane g b)
  pointwise [val_main_v89, val_main_v88, val_main_v85, val_main_v84, val_main_v67]
  rw [Fin.sum_univ_one]
  exact Finset.sum_congr rfl fun x _ => (mul_comm _ _).trans (congrArg (dR U x (lane g a) * ·) (h x))

/-- The scale's gradient. -/
theorem scale_ref (k : Fin 512) :
    val_main_v143 (F := Ideal) U P W Y (ix2 0 k) = ∑ t, pre (yR Y) (wR W) t k * mix (dR U) (pR P) t (grp k) (plc k) := by
  have h := fun t => mix_ref U P t k
  have h' := fun t => pre_ref W Y t k
  pointwise [val_main_v143, val_main_v83, val_main_v80, val_main_v79, val_main_v78, val_main_cst_16, val_main_cst_17]
  exact Finset.sum_congr rfl fun x _ => (congrArg₂ (fun y z : EReal => y * z) (h x) (h' x)).trans (mul_comm _ _)

/-- How many tokens a window holds is a positive real number. -/
theorem count_pos (g : Fin 4) (t : Nat) (ht : t < 4096) : ∃ r : ℝ, 0 < r ∧ count g t = (r : EReal) := by
  have h : 0 < (IntOp.minsi (IntOp.addi (BitVec.ofNat 32 t) 1#32) (BitVec.ofNat 32 (window g))).toInt := by
    unfold IntOp.minsi
    split
    · show 0 < (BitVec.ofNat 32 t + BitVec.ofNat 32 1).toInt
      rw [← BitVec.ofNat_add, BitVec.toInt_eq_toNat_of_lt (by rw [BitVec.toNat_ofNat]; omega), BitVec.toNat_ofNat]
      omega
    · obtain rfl | rfl | rfl | rfl := four g <;> decide
  exact ⟨_, Int.cast_pos.mpr h, rfl⟩

/-- A token's part as the reference divides it. -/
theorem div_count (g : Fin 4) (t : Nat) (ht : t < 4096) (v : EReal) : Ideal.div v (count g t) = share g t v := by
  obtain ⟨r, hr, e⟩ := count_pos g t ht
  have h0 : (r : EReal) ≠ 0 := by exact_mod_cast hr.ne'
  unfold share
  rw [e, Ideal.div, if_neg h0, Ideal.div, if_neg h0, one_mul]

/-- A group's part of the differences that the reference sums. -/
def diffOf (g : Fin 4) : Vec Ideal S1x4097x128 .f32 := (![val_main_v132 (F := Ideal) P S W Y, val_main_v122 (F := Ideal) P S W Y, val_main_v112 (F := Ideal) P S W Y, val_main_v103 (F := Ideal) P S W Y]) g

/-- The groups stand side by side. -/
theorem diff_at (n : Fin 4096) (g : Fin 4) (a : Fin 128) :
    val_main_v136 (F := Ideal) P S W Y (ix3 0 n (lane g a)) = diffOf P S W Y g (ix3 0 ⟨1 + n.val, by omega⟩ a) := by
  have hn : 1 + n.val < 4097 := by omega
  have ha : a.val < 128 := a.isLt
  obtain rfl | rfl | rfl | rfl := four g
  · show _ = val_main_v132 (F := Ideal) P S W Y _
    pointwise [val_main_v136, val_main_v134, val_main_v124, val_main_v114, val_main_v104, val_main_v113, val_main_v123, val_main_v133, val_main_cst_20, val_main_cst_23,
      val_main_cst_26, val_main_cst_29]
    rw [dif_neg (by omega), dif_neg (by omega), dif_neg (fun h => h.2.1), dif_pos hn, zero_add, zero_add, zero_add]
  · show _ = val_main_v122 (F := Ideal) P S W Y _
    pointwise [val_main_v136, val_main_v134, val_main_v124, val_main_v114, val_main_v104, val_main_v113, val_main_v123, val_main_v133, val_main_cst_20, val_main_cst_23,
      val_main_cst_26, val_main_cst_29]
    rw [dif_neg (by omega), dif_neg (by omega), dif_pos (by omega), dif_neg (fun h => h.2), zero_add, zero_add, add_zero]
  · show _ = val_main_v112 (F := Ideal) P S W Y _
    pointwise [val_main_v136, val_main_v134, val_main_v124, val_main_v114, val_main_v104, val_main_v113, val_main_v123, val_main_v133, val_main_cst_20, val_main_cst_23,
      val_main_cst_26, val_main_cst_29]
    rw [dif_neg (by omega), dif_pos (by omega), dif_neg (by omega), dif_neg (by omega), zero_add, add_zero, add_zero]
  · show _ = val_main_v103 (F := Ideal) P S W Y _
    pointwise [val_main_v136, val_main_v134, val_main_v124, val_main_v114, val_main_v104, val_main_v113, val_main_v123, val_main_v133, val_main_cst_20, val_main_cst_23,
      val_main_cst_26, val_main_cst_29]
    have e1 : ¬ 384 + a.val - 256 < 128 := by omega
    have e2 : ¬ 384 + a.val - 128 < 128 := by omega
    have e3 : ¬ 384 + a.val < 128 := by omega
    simp only [hn, e1, e2, e3, and_false, dite_true, dite_false, add_zero]

/-- The part of the token a window later, however its place is written. -/
theorem later (g : Fin 4) (f : Fin 4096 → EReal) (n : Nat) {p : Prop} [Decidable p] (i : p → Fin 4096) (hp : p ↔ n + window g < 4096)
    (hi : ∀ h, (i h).val = n + window g) :
    (if h : p then -Ideal.div (f (i h)) (count g (i h).val) else 0)
      = if h : n + window g < 4096 then -share g (n + window g) (f ⟨n + window g, h⟩) else 0 := by
  by_cases h : p
  · rw [dif_pos h, dif_pos (hp.mp h), div_count g _ (i h).isLt, hi h]
    exact congrArg (fun t => -share g (n + window g) (f t)) (Fin.ext (hi h))
  · rw [dif_neg h, dif_neg (fun e => h (hp.mpr e))]

/-- A group's part at a token: the token's own part less that of the token a window later. -/
def partAt (g : Fin 4) (a : Fin 128) (n : Fin 4096) : EReal :=
  Ideal.div (val_main_v90 (F := Ideal) P S W Y (ix3 0 n (lane g a))) (count g n)
    + if h : n.val + window g < 4096 then
        -share g (n.val + window g) (val_main_v90 (F := Ideal) P S W Y (ix3 0 ⟨n.val + window g, h⟩ (lane g a))) else 0

/-- The group whose window is 2. -/
theorem diffOf_2 (n : Fin 4096) (a : Fin 128) :
    val_main_v132 (F := Ideal) P S W Y (ix3 0 ⟨1 + n.val, by omega⟩ a) = partAt P S W Y 0 a n := by
  unfold partAt
  have ea : (⟨a.val, by omega⟩ : Fin 512) = lane 0 a := Fin.ext (by show a.val = 0 * 128 + a.val; omega)
  pointwise [val_main_v132, val_main_v128, val_main_v131, val_main_v126, val_main_v127, val_main_v130, val_main_v92, val_main_v125,
    val_main_cst_28, val_main_cst_27, val_main_v15, val_main_v14, val_main_v13, val_main_v12, val_main_v11, val_main_v10, val_main_v4,
    val_main_c, val_main_c_3]
  rw [ea]
  refine congrArg₂ (fun x y : EReal => x + y) ?_ (Eq.trans ?_ (later 0 (fun t => val_main_v90 (F := Ideal) P S W Y (ix3 0 t (lane 0 a))) n
    (fun h : 1 + n.val < 4095 => ⟨1 + (1 + n.val), by omega⟩) (show _ ↔ n.val + 2 < 4096 from by omega) fun h => (show 1 + (1 + n.val) = n.val + 2 from by omega)))
  · rfl
  · exact dite_congr rfl (fun h => congrArg (fun k => -Ideal.div (val_main_v90 (F := Ideal) P S W Y (ix3 0 ⟨1 + (1 + n.val), _⟩ k)) _) ea) fun _ => rfl

/-- The group whose window is 4. -/
theorem diffOf_4 (n : Fin 4096) (a : Fin 128) :
    val_main_v122 (F := Ideal) P S W Y (ix3 0 ⟨1 + n.val, by omega⟩ a) = partAt P S W Y 1 a n := by
  unfold partAt
  pointwise [val_main_v122, val_main_v118, val_main_v116, val_main_v93, val_main_v115, val_main_v30, val_main_v29, val_main_v28,
    val_main_v26, val_main_v4, val_main_v25, val_main_c_6, val_main_v27, val_main_c_7, val_main_cst_24, val_main_v121,
    val_main_v120, val_main_v117, val_main_cst_25]
  refine congrArg₂ (fun x y : EReal => x + y) ?_ (Eq.trans ?_ (later 1 (fun t => val_main_v90 (F := Ideal) P S W Y (ix3 0 t (lane 1 a))) n
    (fun h : 1 + n.val < 4093 => ⟨3 + (1 + n.val), by omega⟩) (show _ ↔ n.val + 4 < 4096 from by omega) fun h => (show 3 + (1 + n.val) = n.val + 4 from by omega)))
  · rfl
  · rfl

/-- The group whose window is 8. -/
theorem diffOf_8 (n : Fin 4096) (a : Fin 128) :
    val_main_v112 (F := Ideal) P S W Y (ix3 0 ⟨1 + n.val, by omega⟩ a) = partAt P S W Y 2 a n := by
  unfold partAt
  pointwise [val_main_v112, val_main_v108, val_main_v106, val_main_v94, val_main_v105, val_main_v45, val_main_v44, val_main_v43,
    val_main_v41, val_main_v4, val_main_v40, val_main_c_10, val_main_v42, val_main_c_11, val_main_cst_21, val_main_v111,
    val_main_v110, val_main_v107, val_main_cst_22]
  refine congrArg₂ (fun x y : EReal => x + y) ?_ (Eq.trans ?_ (later 2 (fun t => val_main_v90 (F := Ideal) P S W Y (ix3 0 t (lane 2 a))) n
    (fun h : 1 + n.val < 4089 => ⟨7 + (1 + n.val), by omega⟩) (show _ ↔ n.val + 8 < 4096 from by omega) fun h => (show 7 + (1 + n.val) = n.val + 8 from by omega)))
  · rfl
  · rfl

/-- The group whose window is 16. -/
theorem diffOf_16 (n : Fin 4096) (a : Fin 128) :
    val_main_v103 (F := Ideal) P S W Y (ix3 0 ⟨1 + n.val, by omega⟩ a) = partAt P S W Y 3 a n := by
  unfold partAt
  pointwise [val_main_v103, val_main_v99, val_main_v97, val_main_v95, val_main_v96, val_main_v60, val_main_v59, val_main_v58,
    val_main_v56, val_main_v4, val_main_v55, val_main_c_14, val_main_v57, val_main_c_15, val_main_cst_18, val_main_v102,
    val_main_v101, val_main_v98, val_main_cst_19]
  refine congrArg₂ (fun x y : EReal => x + y) ?_ (Eq.trans ?_ (later 3 (fun t => val_main_v90 (F := Ideal) P S W Y (ix3 0 t (lane 3 a))) n
    (fun h : 1 + n.val < 4081 => ⟨15 + (1 + n.val), by omega⟩) (show _ ↔ n.val + 16 < 4096 from by omega) fun h => (show 15 + (1 + n.val) = n.val + 16 from by omega)))
  · rfl
  · rfl

/-- The gradient of the deviations, over all lanes. -/
abbrev devR (t : Fin 4096) (k : Fin 512) : EReal := dev (yR Y) (wR W) (sR S) (pR P) t (grp k) (plc k)

theorem diff_part (n : Fin 4096) (k : Fin 512) :
    val_main_v136 (F := Ideal) P S W Y (ix3 0 n k)
      = partOf (fun t => devR P S W Y t k) (grp k) n.val + -partOf (fun t => devR P S W Y t k) (grp k) (n.val + window (grp k)) := by
  have h := diff_at P S W Y n (grp k) (plc k)
  rw [lane_grp] at h
  have e : diffOf P S W Y (grp k) (ix3 0 ⟨1 + n.val, by omega⟩ (plc k)) = partAt P S W Y (grp k) (plc k) n := by
    generalize grp k = g
    obtain rfl | rfl | rfl | rfl := four g
    · exact diffOf_2 P S W Y n (plc k)
    · exact diffOf_4 P S W Y n (plc k)
    · exact diffOf_8 P S W Y n (plc k)
    · exact diffOf_16 P S W Y n (plc k)
  rw [h, e]
  unfold partAt partOf
  rw [div_count _ _ n.isLt, lane_grp, dev_ref, dif_pos n.isLt]
  by_cases hw : n.val + window (grp k) < 4096
  · rw [dif_pos hw, dif_pos hw, dev_ref]
  · rw [dif_neg hw, dif_neg hw, neg_zero]

/-- The real numbers that the parts are, when the gradient of the deviations is real. -/
theorem parts_real (g : Fin 4) (D : Fin 4096 → EReal) (hD : ∀ t, ∃ r : ℝ, D t = (r : EReal)) :
    ∃ f : Nat → ℝ, (∀ n, 4096 ≤ n → f n = 0) ∧ ∀ n, partOf D g n = (f n : EReal) := by
  choose f hf using hD
  choose q hq hc using fun (n : Fin 4096) => count_pos g n.val n.isLt
  refine ⟨fun n => if h : n < 4096 then f ⟨n, h⟩ * (1 / q ⟨n, h⟩) else 0, fun n hn => dif_neg (by omega), fun n => ?_⟩
  unfold partOf
  by_cases h : n < 4096
  · rw [dif_pos h, hf]
    dsimp only
    rw [dif_pos h]
    unfold share
    rw [hc ⟨n, h⟩, ← EReal.coe_one, coe_div (hq _).ne', EReal.coe_mul]
  · rw [dif_neg h]
    dsimp only
    rw [dif_neg h, EReal.coe_zero]

/-- The gradient of the pooled rows, when the gradient of the deviations is real. -/
theorem rows_ref (hD : ∀ t g a, ∃ r : ℝ, dev (yR Y) (wR W) (sR S) (pR P) t g a = (r : EReal)) (t : Fin 4096) (k : Fin 512) :
    val_main_v140 (F := Ideal) P S W Y (ix2 t k)
      = gradRows (yR Y) (wR W) (sR S) (pR P) t k := by
  have h : val_main_v137 (F := Ideal) P S W Y (ix3 0 t k)
      = ∑ l : Fin 4096, if hl : t.val + l.val < 4096 then val_main_v136 (F := Ideal) P S W Y (ix3 (0 : Fin 1) ⟨t.val + l.val, hl⟩ k) else 0 := by
    unfold val_main_v137 Host.reduceWindowAdd
    rw [Ideal.hostReduceWindowAdd_def]
    have z : val_main_call1_call0_v0 (F := Ideal) (Shape.Idx.first (by decide)) = (0 : EReal) := by
      pointwise [val_main_call1_call0_v0, val_main_call1_call0_cst]
    rw [z]
    exact Cert.WindowSum.reverse_sum _ _ _ t k
  have q : val_main_v140 (F := Ideal) P S W Y (ix2 t k)
      = -val_main_v90 (F := Ideal) P S W Y (ix3 0 t k) + val_main_v137 (F := Ideal) P S W Y (ix3 0 t k) := by
    pointwise [val_main_v140, val_main_v139, val_main_v138, val_main_v91]
  have e : val_main_v90 (F := Ideal) P S W Y (ix3 0 t k) = devR P S W Y t k := dev_ref P S W Y t k
  obtain ⟨f, hz, hf⟩ := parts_real (grp k) (fun t => devR P S W Y t k) fun t => hD t _ _
  obtain ⟨d, hd⟩ : ∃ r : ℝ, devR P S W Y t k = (r : EReal) := hD t (grp k) (plc k)
  have s : (∑ l : Fin 4096, if hl : t.val + l.val < 4096 then val_main_v136 (F := Ideal) P S W Y (ix3 (0 : Fin 1) ⟨t.val + l.val, hl⟩ k) else 0)
      = ((∑ l : Fin 4096, (if t.val + l.val < 4096 then f (t.val + l.val) + -f (t.val + l.val + window (grp k)) else 0) : ℝ) : EReal) := by
    rw [← coe_sum]
    refine Finset.sum_congr rfl fun l _ => ?_
    by_cases hl : t.val + l.val < 4096
    · rw [dif_pos hl, if_pos hl, diff_part, hf, hf, EReal.coe_add, EReal.coe_neg]
    · rw [dif_neg hl, if_neg hl, EReal.coe_zero]
  show _ = ∑ j ∈ Finset.range (window (grp k)), partOf (fun t => devR P S W Y t k) (grp k) (t.val + j) - devR P S W Y t k
  rw [q, h, e, hd, s, Cert.WindowSum.sum_differences 4096 _ f hz]
  simp only [hf, coe_sum]
  rw [← EReal.coe_neg, ← EReal.coe_add, ← EReal.coe_sub]
  exact congrArg Real.toEReal (neg_add_eq_sub d _)

end Cert.Reference2Ideal.Val

end
-- ==== Proof.PoolClaim.lean ====
/-
  The gradient of the pooling mixer: the kernel's results are the reference's.
-/
module

public import proofs.«01_k».proof.Defs
public import proofs.«01_k».proof.Proof.Gen.Kernel2Ideal
public import proofs.«01_k».proof.Proof.Gen.Reference2Ideal
public import proofs.«01_k».proof.Proof.Gen.Pre_pool_finite
public import proofs.«01_k».proof.Proof.Gen.Reference2Ideal.Run
public import proofs.«01_k».proof.Proof.PoolArrays
public import proofs.«01_k».proof.Proof.PoolReference
public import Idealize.ShloMosaic.Adequacy
public import Idealize.ShloMosaic.Init

@[expose] public section

set_option maxHeartbeats 2000000

noncomputable section

namespace Cert.Proof

open Idealize.ShloMosaic Idealize.SL.Sem Cert.Reals Cert.Pieces Cert.Pool

/-- The reference runs on the host alone and declares no semaphore. -/
theorem pool_reference_frame : quiescent_Reference2Ideal := fun m ρ _ =>
  (θ_run _ _ _).mono (fun r h => ⟨fun c => (h c).2.2.2.2, sem_eq_zero_of_no_sems (by decide) r.2⟩) (Cert.Reference2Ideal.Value.run m ρ)

/-- The gradient of the deviations is real when the arguments it takes are. -/
theorem dev_real {y : Fin 4096 → Fin 1024 → EReal} {w : Fin 4 → Fin 512 → Fin 256 → EReal} {s : Fin 512 → EReal}
    {p : Fin 4 → Fin 128 → Fin 128 → EReal} (hy : ∀ t k, ∃ r : ℝ, y t k = (r : EReal)) (hw : ∀ j k n, ∃ r : ℝ, w j k n = (r : EReal))
    (hs : ∀ k, ∃ r : ℝ, s k = (r : EReal)) (hp : ∀ g a b, ∃ r : ℝ, p g a b = (r : EReal)) (t : Fin 4096) (g : Fin 4) (a : Fin 128) :
    ∃ r : ℝ, dev y w s p t g a = (r : EReal) := by
  choose y' hy using hy
  choose w' hw using hw
  choose s' hs using hs
  choose p' hp using hp
  unfold dev scaled pre
  simp only [hy, hw, hs, hp, ← EReal.coe_mul, coe_sum]
  exact ⟨_, rfl⟩

attribute [local irreducible] gradRows dev

/-- All four results of the call: the rows' gradient, the projection's, the mixer's and the scale's. -/
theorem pool : algebraic_Kernel2Ideal_Reference2Ideal_pre_pool_finite := by
  intro m ρ m' ρ' hpre hargs
  refine ⟨_, _, _, _, (θ_run _ _ _).mono (fun r h => h) (Cert.Kernel2Ideal.Value.run_blocks m ρ),
    (θ_run _ _ _).mono (fun r h c => ?_) (Cert.Reference2Ideal.Value.run m' ρ')⟩
  obtain ⟨h1, h2, h3, h4⟩ := hpre c
  obtain ⟨a0, a1, a2, a3, a4⟩ := hargs c
  obtain ⟨p, hp⟩ := real_of_finite _ _ h1
  obtain ⟨s, hs⟩ := real_of_finite _ _ h2
  obtain ⟨w, hw⟩ := real_of_finite _ _ h3
  obtain ⟨y, hy⟩ := real_of_finite _ _ h4
  obtain ⟨r0, r1, r2, r3, rest⟩ := h c
  refine ⟨?_, ?_, ?_, ?_, rest⟩
  · rw [r0, Cert.Reference2Ideal.Read.val_main_v140_eq, a1, a2, a3, a4]
    refine Eq.trans ?_ (Cert.Kernel2Ideal.Val.rows_array m c).symm
    funext i
    idx_vars i
    refine Eq.trans ?_ (Cert.Kernel2Ideal.Val.rowsA_eq m c i0 i1).symm
    exact Cert.Reference2Ideal.Val.rows_ref _ _ _ _ (dev_real (fun t k => ⟨_, hy _⟩) (fun j k n => ⟨_, hw _⟩) (fun k => ⟨_, hs _⟩)
      (fun g a b => ⟨_, hp _⟩)) i0 i1
  · rw [r1, Cert.Reference2Ideal.Read.val_main_v142_eq, a0, a1, a2, a4]
    refine Eq.trans ?_ (Cert.Kernel2Ideal.Val.proj_array m c).symm
    funext i
    idx_vars i
    exact Cert.Reference2Ideal.Val.proj_ref _ _ _ _ _ _ _
  · rw [r2, Cert.Reference2Ideal.Read.val_main_v89_eq, a0, a2, a3, a4]
    refine Eq.trans ?_ (Cert.Kernel2Ideal.Val.mixer_array m c).symm
    funext i
    idx_vars i
    exact Cert.Reference2Ideal.Val.mixer_ref _ _ _ _ _ _ _
  · rw [r3, Cert.Reference2Ideal.Read.val_main_v143_eq, a0, a1, a3, a4]
    refine Eq.trans ?_ (Cert.Kernel2Ideal.Val.scale_array m c).symm
    funext i
    idx_vars i
    obtain rfl : i0 = 0 := Fin.ext (Nat.lt_one_iff.mp i0.isLt)
    exact Cert.Reference2Ideal.Val.scale_ref _ _ _ _ _

end Cert.Proof

end
-- ==== Proof.Gelu.lean ====
/-
  The gate's activation `z * (1 + tanh (C * (z + D * z * z * z))) / 2` and its derivative, as real numbers, with the
  constants the programs hold.
-/
module

public import proofs.«01_k».proof.Proof.Reals

@[expose] public section

noncomputable section

namespace Cert.Gelu

open Idealize.ShloMosaic Cert.Reals

/-- The number that stands for the square root of two over pi. -/
def root : ℝ := 13386282 / 2 ^ 24

/-- The cubic term's coefficient. -/
def cubic : ℝ := 12003091 / 2 ^ 28

theorem ofBits_root : Ideal.ofBits .f32 0x3F4C422A#32 = ((root : ℝ) : EReal) := by
  simp [Ideal.ofBits, Ideal.ieee, root]; rw [← EReal.coe_mul]; norm_num

theorem ofBits_cubic : Ideal.ofBits .f32 0x3D372713#32 = ((cubic : ℝ) : EReal) := by
  simp [Ideal.ofBits, Ideal.ieee, cubic]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_three : Ideal.ofBits .f32 0x40400000#32 = ((3 : ℝ) : EReal) := by
  simp [Ideal.ofBits, Ideal.ieee]; rw [← EReal.coe_mul]; norm_num

theorem ofBits_one : Ideal.ofBits .f32 0x3F800000#32 = ((1 : ℝ) : EReal) := by
  simp [Ideal.ofBits, Ideal.ieee]; rw [← EReal.coe_mul]; norm_num

theorem tanh_coe (r : ℝ) : Ideal.tanh (r : EReal) = ((Real.tanh r : ℝ) : EReal) := rfl

/-- The hyperbolic tangent inside. -/
def th (z : ℝ) : ℝ := Real.tanh (root * (z + cubic * (z * z * z)))

/-- The activation. -/
def gelu (z : ℝ) : ℝ := z * (1 / 2 * (1 + th z))

/-- Its derivative. -/
def slope (z : ℝ) : ℝ :=
  1 / 2 * (1 + th z) + root * (1 / 2 * z * ((1 + th z) * (1 - th z)))
    + cubic * (root * (1 / 2 * z * ((1 + th z) * (1 - th z)))) * (3 * (z * z))

end Cert.Gelu

end
-- ==== Proof.FfnDownMath.lean ====
/-
  The convolved, gated channel mixer and its gradient in real numbers: what both programs compute.
-/
module

public import proofs.«01_k».proof.Proof.Norm
public import proofs.«01_k».proof.Proof.Gelu

@[expose] public section

noncomputable section

namespace Cert.FfnDown

open Idealize.ShloMosaic Cert.Reals Cert.Norm Cert.Gelu

/-- A lane of the gated half and a lane of the gate's half of the up projection. -/
abbrev gated (j : Fin 3072) : Fin 6144 := ⟨3072 + j.val, by omega⟩
abbrev gate (j : Fin 3072) : Fin 6144 := ⟨j.val, by omega⟩

/-- The entry `s` tokens before a token, zero before the first. -/
def before (u : Fin 4096 → ℝ) (s : Nat) (t : Fin 4096) : ℝ := if h : s ≤ t.val then u ⟨t.val - s, by omega⟩ else 0

/-- The entry `s` tokens after a token, zero after the last. -/
def after (u : Fin 4096 → ℝ) (s : Nat) (t : Fin 4096) : ℝ := if h : t.val + s < 4096 then u ⟨t.val + s, h⟩ else 0

/-- A product with what comes later sums to the product with what came before. -/
theorem sum_after (u v : Fin 4096 → ℝ) (s : Nat) (hs : s ≤ 4096) : ∑ t, u t * after v s t = ∑ t, before u s t * v t := by
  let U : Nat → ℝ := fun n => if h : n < 4096 then u ⟨n, h⟩ else 0
  let W : Nat → ℝ := fun n => if h : n < 4096 then v ⟨n, h⟩ else 0
  have hu (t : Fin 4096) : U t.val = u t := dif_pos t.isLt
  have hv (t : Fin 4096) : W t.val = v t := dif_pos t.isLt
  have ha (t : Fin 4096) : after v s t = W (t.val + s) := rfl
  have hb (t : Fin 4096) : before u s t = if s ≤ t.val then U (t.val - s) else 0 := by
    unfold before
    split
    · exact (hu ⟨t.val - s, by omega⟩).symm
    · rfl
  simp only [ha, hb, ← hu, ← hv]
  rw [Fin.sum_univ_eq_sum_range (fun n => U n * W (n + s)) 4096,
    Fin.sum_univ_eq_sum_range (fun n => (if s ≤ n then U (n - s) else 0) * W n) 4096]
  have e1 : ∑ n ∈ Finset.range 4096, U n * W (n + s) = ∑ n ∈ Finset.range (4096 - s), U n * W (n + s) := by
    refine (Finset.sum_subset (Finset.range_mono (Nat.sub_le _ _)) fun n _ h => ?_).symm
    have : ¬ n + s < 4096 := by
      rw [Finset.mem_range] at h
      omega
    rw [show W (n + s) = 0 from dif_neg this, mul_zero]
  have e2 : ∑ n ∈ Finset.range 4096, (if s ≤ n then U (n - s) else 0) * W n
      = ∑ n ∈ Finset.range (s + (4096 - s)), (if s ≤ n then U (n - s) else 0) * W n := by
    rw [Nat.add_sub_cancel' hs]
  rw [e1, e2, Finset.sum_range_add, Finset.sum_eq_zero (s := Finset.range s), zero_add]
  · refine Finset.sum_congr rfl fun n _ => ?_
    rw [if_pos (Nat.le_add_right s n), Nat.add_sub_cancel_left, Nat.add_comm s n]
  · intro n hn
    rw [if_neg (by rw [Finset.mem_range] at hn; omega), zero_mul]

section
variable (x : Fin 4096 → Fin 6144 → ℝ) (z : Fin 4096 → Fin 3072 → ℝ) (w : Fin 3072 → Fin 1024 → ℝ) (g : Fin 1024 → ℝ)
  (d : Fin 4096 → Fin 1024 → ℝ)

/-- The convolution of the gate's half: what `z` stands for above. -/
def conv (c : Fin 3 → Fin 3072 → ℝ) (b : Fin 3072 → ℝ) (t : Fin 4096) (j : Fin 3072) : ℝ :=
  b j + before (fun t => x t (gate j)) 2 t * c 0 j + before (fun t => x t (gate j)) 1 t * c 1 j + x t (gate j) * c 2 j

/-- The hidden row. -/
def hid (t : Fin 4096) (j : Fin 3072) : ℝ := gelu (z t j) * x t (gated j)

/-- The row that the norm takes. -/
def down (t : Fin 4096) (k : Fin 1024) : ℝ := ∑ j, hid x z t j * w j k

/-- Its gradient. -/
def ddown (t : Fin 4096) (k : Fin 1024) : ℝ := back (down x z w t) g (d t) k

/-- The hidden row's gradient. -/
def dhid (t : Fin 4096) (j : Fin 3072) : ℝ := ∑ k, ddown x z w g d t k * w j k

/-- The convolution's gradient. -/
def dconv (t : Fin 4096) (j : Fin 3072) : ℝ := dhid x z w g d t j * (x t (gated j) * slope (z t j))

/-- The gate half's gradient. -/
def dgate (c : Fin 3 → Fin 3072 → ℝ) (t : Fin 4096) (j : Fin 3072) : ℝ :=
  c 2 j * dconv x z w g d t j + c 1 j * after (fun t => dconv x z w g d t j) 1 t + c 0 j * after (fun t => dconv x z w g d t j) 2 t

/-- The up projection's gradient. -/
def dup (c : Fin 3 → Fin 3072 → ℝ) (t : Fin 4096) (j : Fin 6144) : ℝ :=
  if h : j.val < 3072 then dgate x z w g d c t ⟨j.val, h⟩
  else dhid x z w g d t ⟨j.val - 3072, by omega⟩ * gelu (z t ⟨j.val - 3072, by omega⟩)

/-- The convolution weights' gradient. -/
def dtap (i : Fin 3) (j : Fin 3072) : ℝ := ∑ t, x t (gate j) * after (fun t => dconv x z w g d t j) (2 - i.val) t

end

end Cert.FfnDown

end
-- ==== Proof.FfnDownBlocks.lean ====
/-
  What the channel mixer's backward kernel computes on one block of rows, the blocks it reads real numbers.
-/
module

public import proofs.«01_k».proof.Proof.Gen.Kernel3Ideal.Value
public import proofs.«01_k».proof.Proof.FfnDownMath
public import Idealize.ShloMosaic.Lib.KernelVsHost

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown

/-- The blocks at a point hold real numbers: row `r` of a block is the token `row r`. -/
structure Blocks (D N : Vec Ideal S256x1024 .f32) (U : Vec Ideal S256x6144 .bf16) (L Q : Vec Ideal S256x3072 .bf16)
    (C : Vec Ideal S3x3072 .f32) (W : Vec Ideal S3072x1024 .bf16) (G : Vec Ideal S1x1024 .f32)
    (x : Fin 4096 → Fin 6144 → ℝ) (z : Fin 4096 → Fin 3072 → ℝ) (w : Fin 3072 → Fin 1024 → ℝ) (g : Fin 1024 → ℝ)
    (d : Fin 4096 → Fin 1024 → ℝ) (c : Fin 3 → Fin 3072 → ℝ) (row : Fin 256 → Fin 4096) : Prop where
  hD : ∀ r k, D (ix2 r k) = ((d (row r) k : ℝ) : EReal)
  hN : ∀ r k, N (ix2 r k) = ((down x z w (row r) k : ℝ) : EReal)
  hU : ∀ r j, U (ix2 r j) = ((x (row r) j : ℝ) : EReal)
  hL : ∀ r j, L (ix2 r j) = ((gelu (z (row r) j) : ℝ) : EReal)
  hQ : ∀ r j, Q (ix2 r j) = ((Gelu.slope (z (row r) j) : ℝ) : EReal)
  hC : ∀ i j, C (ix2 i j) = ((c i j : ℝ) : EReal)
  hW : ∀ j k, W (ix2 j k) = ((w j k : ℝ) : EReal)
  hG : ∀ k, G (ix2 0 k) = ((g k : ℝ) : EReal)
  hrow : ∀ r, (row r).val = (row 0).val + r.val

variable {D N : Vec Ideal S256x1024 .f32} {U : Vec Ideal S256x6144 .bf16} {L Q : Vec Ideal S256x3072 .bf16}
  {C : Vec Ideal S3x3072 .f32} {W : Vec Ideal S3072x1024 .bf16} {G : Vec Ideal S1x1024 .f32}
  {x : Fin 4096 → Fin 6144 → ℝ} {z : Fin 4096 → Fin 3072 → ℝ} {w : Fin 3072 → Fin 1024 → ℝ} {g : Fin 1024 → ℝ}
  {d : Fin 4096 → Fin 1024 → ℝ} {c : Fin 3 → Fin 3072 → ℝ} {row : Fin 256 → Fin 4096}

/-- The two halves of the up projection's block, as loaded. -/
abbrev left (U : Vec Ideal S256x6144 .bf16) : Vec Ideal S256x3072 .bf16 := View.ld U (Rect.unit ![0, 0] ![256, 3072] inb_S256x6144_S256x3072_0_0)
abbrev right (U : Vec Ideal S256x6144 .bf16) : Vec Ideal S256x3072 .bf16 := View.ld U (Rect.unit ![0, 3072] ![256, 3072] inb_S256x6144_S256x3072_0_3072)

theorem left_at (b : Blocks D N U L Q C W G x z w g d c row) (r : Fin 256) (j : Fin 3072) : left U (ix2 r j) = ((x (row r) (gate j) : ℝ) : EReal) := by
  rw [← b.hU]
  pointwise [left]

theorem right_at (b : Blocks D N U L Q C W G x z w g d c row) (r : Fin 256) (j : Fin 3072) : right U (ix2 r j) = ((x (row r) (gated j) : ℝ) : EReal) := by
  rw [← b.hU]
  pointwise [right]

theorem down_block (b : Blocks D N U L Q C W G x z w g d c row) (r : Fin 256) (k : Fin 1024) :
    k0_pay11 N G D (ix2 r k) = ((ddown x z w g d (row r) k : ℝ) : EReal) := by
  pointwise [k0_pay11, k0_pay10, k0_pay9, k0_pay8, k0_pay7]
  rw [coe_inv (fun k => N (ix2 r k)) (down x z w (row r)) (b.hN r)]
  exact coe_back (fun k => N (ix2 r k)) (fun k => G (ix2 0 k)) (fun k => D (ix2 r k)) (down x z w (row r)) g (d (row r)) (b.hN r) b.hG (b.hD r) k

theorem hid_block (b : Blocks D N U L Q C W G x z w g d c row) (r : Fin 256) (j : Fin 3072) :
    k0_pay13 (k0_pay11 N G D) W (ix2 r j) = ((dhid x z w g d (row r) j : ℝ) : EReal) := by
  have h := down_block b
  generalize k0_pay11 N G D = Y at h ⊢
  pointwise [k0_pay13]
  simp only [h, b.hW, ← EReal.coe_mul, coe_sum]
  rfl

theorem conv_block (b : Blocks D N U L Q C W G x z w g d c row) (r : Fin 256) (j : Fin 3072) :
    k0_pay18 (k0_pay11 N G D) W (right U) Q (ix2 r j) = ((dconv x z w g d (row r) j : ℝ) : EReal) := by
  have h := hid_block b
  generalize k0_pay11 N G D = Y at h ⊢
  pointwise [k0_pay18, k0_pay15]
  rw [h, right_at b, b.hQ, ← EReal.coe_mul, ← EReal.coe_mul]
  rfl

theorem side_block (b : Blocks D N U L Q C W G x z w g d c row) (r : Fin 256) (j : Fin 3072) :
    k0_pay19 (k0_pay11 N G D) W L (ix2 r j) = ((dhid x z w g d (row r) j * gelu (z (row r) j) : ℝ) : EReal) := by
  have h := hid_block b
  generalize k0_pay11 N G D = Y at h ⊢
  pointwise [k0_pay19, k0_pay16]
  rw [h, b.hL, ← EReal.coe_mul]

theorem proj_block (b : Blocks D N U L Q C W G x z w g d c row) (A : Vec Ideal S3072x1024 .f32) (j : Fin 3072) (k : Fin 1024) :
    k0_pay17 (k0_pay11 N G D) (right U) L A (ix2 j k)
      = A (ix2 j k) + ∑ r, ((hid x z (row r) j * ddown x z w g d (row r) k : ℝ) : EReal) := by
  have h := down_block b
  generalize k0_pay11 N G D = Y at h ⊢
  pointwise [k0_pay17, k0_pay16, k0_pay15]
  simp only [h, b.hL, right_at b, ← EReal.coe_mul]
  rfl

theorem scale_block (b : Blocks D N U L Q C W G x z w g d c row) (A : Vec Ideal S1x1024 .f32) (i : Fin 1) (k : Fin 1024) :
    k0_pay12 N D A (ix2 i k)
      = A (ix2 i k) + ∑ r, ((d (row r) k * (down x z w (row r) k * invRms (down x z w (row r))) : ℝ) : EReal) := by
  obtain rfl := Subsingleton.elim i 0
  pointwise [k0_pay12, k0_pay10, k0_pay9, k0_pay8, k0_pay7]
  refine congrArg (_ + ·) (Finset.sum_congr rfl fun r _ => ?_)
  rw [coe_inv (fun k => N (ix2 r k)) (down x z w (row r)) (b.hN r), b.hN, b.hD, ← EReal.coe_mul, ← EReal.coe_mul]

theorem bias_block (b : Blocks D N U L Q C W G x z w g d c row) (A : Vec Ideal S1x3072 .f32) (i : Fin 1) (j : Fin 3072) :
    k0_pay1 (k0_pay18 (k0_pay11 N G D) W (right U) Q) A (ix2 i j)
      = A (ix2 i j) + ∑ r, ((dconv x z w g d (row r) j : ℝ) : EReal) := by
  have h := conv_block b
  generalize k0_pay18 (k0_pay11 N G D) W (right U) Q = Y at h ⊢
  obtain rfl := Subsingleton.elim i 0
  pointwise [k0_pay1]
  simp only [h]

/-- The rows kept for the block before are the first eight. -/
theorem kept_block (b : Blocks D N U L Q C W G x z w g d c row) (i : Fin 8) (j : Fin 3072) :
    k0_pay21 (k0_pay11 N G D) W (right U) Q (ix2 i j) = ((dconv x z w g d (row ⟨i.val, by omega⟩) j : ℝ) : EReal) := by
  rw [← conv_block b]
  generalize hY : k0_pay18 (k0_pay11 N G D) W (right U) Q = Y
  pointwise [k0_pay21]
  rw [hY]

/-- The rows kept of the block after this one: the convolution's gradient from row 256 on, counted from this block's first row. -/
def Kept (x : Fin 4096 → Fin 6144 → ℝ) (z : Fin 4096 → Fin 3072 → ℝ) (w : Fin 3072 → Fin 1024 → ℝ) (g : Fin 1024 → ℝ)
    (d : Fin 4096 → Fin 1024 → ℝ) (row : Fin 256 → Fin 4096) (K : Vec Ideal S8x3072 .f32) : Prop :=
  ∀ (i : Fin 8) (j : Fin 3072), K (ix2 i j) = ((after (fun t => dconv x z w g d t j) (256 + i.val) (row 0) : ℝ) : EReal)

theorem after_row (b : Blocks D N U L Q C W G x z w g d c row) (v : Fin 4096 → ℝ) (s : Nat) (r : Fin 256) :
    after v (r.val + s) (row 0) = after v s (row r) := by
  have h := b.hrow r
  unfold after
  by_cases q : (row r).val + s < 4096
  · rw [dif_pos q, dif_pos (by omega)]
    exact congrArg v (Fin.ext (by show (row 0).val + (r.val + s) = (row r).val + s; omega))
  · rw [dif_neg q, dif_neg (by omega)]

theorem after_zero (v : Fin 4096 → ℝ) (t : Fin 4096) : after v 0 t = v t := dif_pos t.isLt

/-- The block's rows with the eight kept rows below them. -/
theorem joined (b : Blocks D N U L Q C W G x z w g d c row) {K : Vec Ideal S8x3072 .f32} (hK : Kept x z w g d row K) (n : Nat) (h : n < 264) (j : Fin 3072) :
    k0_pay20 (k0_pay11 N G D) W (right U) Q K (ix2 ⟨n, h⟩ j) = ((after (fun t => dconv x z w g d t j) n (row 0) : ℝ) : EReal) := by
  have hb := conv_block b
  unfold k0_pay20
  generalize k0_pay18 (k0_pay11 N G D) W (right U) Q = Y at hb ⊢
  pointwise []
  by_cases hn : n < 256
  · rw [dif_pos hn, hb]
    exact congrArg Real.toEReal ((after_zero _ _).symm.trans (after_row b (fun t => dconv x z w g d t j) 0 ⟨n, hn⟩).symm)
  · rw [dif_neg hn, hK]
    exact congrArg (fun n => ((after (fun t => dconv x z w g d t j) n (row 0) : ℝ) : EReal)) (by show 256 + (n - 256) = n; omega)

/-- Turning the extended rows by `264 - s` brings row `r + s` to row `r`. -/
theorem turned (E : FVec Ideal S264x3072 .f32) (s : Nat) (n : BitVec 32) (hn : n.toNat = 264 - s) (h0 : 0 < s) (h8 : s ≤ 8) (r : Fin 256) (j : Fin 3072) :
    extractStridedSlice S256x3072 ![0, 0] (dynamicRotate 0 n none E rotates_S264x3072_d0) slices_S264x3072_o0_0_S256x3072 (ix2 r j)
      = E (ix2 ⟨r.val + s, by omega⟩ j) := by
  have e : dynamicRotate 0 n none E rotates_S264x3072_d0 (ix2 ⟨r.val, by omega⟩ j) = E (ix2 ⟨r.val + s, by omega⟩ j) := by
    refine dynamicRotate_apply _ _ _ _ _ _ fun a => ?_
    match a with
    | 0 =>
      show r.val + s = (r.val + 264 - n.toNat % 264) % 264
      rw [hn, Nat.mod_eq_of_lt (by omega : 264 - s < 264)]
      omega
    | 1 => rfl
  refine Eq.trans ?_ e
  pointwise []

theorem next_block (b : Blocks D N U L Q C W G x z w g d c row) {K : Vec Ideal S8x3072 .f32} (hK : Kept x z w g d row K) (r : Fin 256) (j : Fin 3072) :
    k0_pay22 (k0_pay20 (k0_pay11 N G D) W (right U) Q K) 263#32 (ix2 r j) = ((after (fun t => dconv x z w g d t j) 1 (row r) : ℝ) : EReal) := by
  rw [← after_row b, ← joined b hK _ (by omega)]
  exact turned _ 1 263#32 rfl (by decide) (by decide) r j

theorem next2_block (b : Blocks D N U L Q C W G x z w g d c row) {K : Vec Ideal S8x3072 .f32} (hK : Kept x z w g d row K) (r : Fin 256) (j : Fin 3072) :
    k0_pay23 (k0_pay20 (k0_pay11 N G D) W (right U) Q K) (ix2 r j) = ((after (fun t => dconv x z w g d t j) 2 (row r) : ℝ) : EReal) := by
  rw [← after_row b, ← joined b hK _ (by omega)]
  exact turned _ 2 262#32 rfl (by decide) (by decide) r j

/-- The gate half's gradient. -/
theorem gate_block (b : Blocks D N U L Q C W G x z w g d c row) {K : Vec Ideal S8x3072 .f32} (hK : Kept x z w g d row K) (r : Fin 256) (j : Fin 3072) :
    k0_pay24 C (k0_pay18 (k0_pay11 N G D) W (right U) Q) (k0_pay20 (k0_pay11 N G D) W (right U) Q K) 263#32 (ix2 r j)
      = ((dgate x z w g d c (row r) j : ℝ) : EReal) := by
  have h0 := conv_block b
  have h1 := next_block b hK
  have h2 := next2_block b hK
  generalize k0_pay18 (k0_pay11 N G D) W (right U) Q = Y at h0 ⊢
  generalize k0_pay20 (k0_pay11 N G D) W (right U) Q K = E at h1 h2 ⊢
  pointwise [k0_pay24]
  rw [h0, h1, h2, b.hC, b.hC, b.hC, ← EReal.coe_mul, ← EReal.coe_mul, ← EReal.coe_mul, ← EReal.coe_add, ← EReal.coe_add]
  rfl

/-- What is added to a row of the convolution weights' gradient. -/
abbrev tapOf (x : Fin 4096 → Fin 6144 → ℝ) (z : Fin 4096 → Fin 3072 → ℝ) (w : Fin 3072 → Fin 1024 → ℝ) (g : Fin 1024 → ℝ)
    (d : Fin 4096 → Fin 1024 → ℝ) (i : Fin 3) (t : Fin 4096) (j : Fin 3072) : ℝ :=
  x t (gate j) * after (fun t => dconv x z w g d t j) (2 - i.val) t

theorem taps_block (b : Blocks D N U L Q C W G x z w g d c row) {K : Vec Ideal S8x3072 .f32} (hK : Kept x z w g d row K)
    (A : Fin 3 → Vec Ideal S1x3072 .f32) (i : Fin 3) (j : Fin 3072) :
    (![k0_pay27 (k0_pay14 (left U)) (k0_pay20 (k0_pay11 N G D) W (right U) Q K) (A 0),
       k0_pay26 (k0_pay14 (left U)) (k0_pay20 (k0_pay11 N G D) W (right U) Q K) 263#32 (A 1),
       k0_pay25 (k0_pay14 (left U)) (k0_pay18 (k0_pay11 N G D) W (right U) Q) (A 2)] : Fin 3 → FVec Ideal S1x3072 .f32) i (ix2 0 j)
      = A i (ix2 0 j) + ∑ r, ((tapOf x z w g d i (row r) j : ℝ) : EReal) := by
  have h0 := conv_block b
  have h1 := next_block b hK
  have h2 := next2_block b hK
  generalize k0_pay18 (k0_pay11 N G D) W (right U) Q = Y at h0 ⊢
  generalize k0_pay20 (k0_pay11 N G D) W (right U) Q K = E at h1 h2 ⊢
  have three : ∀ i : Fin 3, i = 0 ∨ i = 1 ∨ i = 2 := by decide
  obtain rfl | rfl | rfl := three i
  · pointwise [k0_pay27, k0_pay14]
    simp only [h2, left_at b, ← EReal.coe_mul]
    rfl
  · pointwise [k0_pay26, k0_pay14]
    simp only [h1, left_at b, ← EReal.coe_mul]
    rfl
  · pointwise [k0_pay25, k0_pay14]
    simp only [h0, left_at b, ← EReal.coe_mul]
    refine congrArg (_ + ·) (Finset.sum_congr rfl fun r _ => congrArg Real.toEReal ?_)
    exact congrArg (_ * ·) (after_zero (fun t => dconv x z w g d t j) (row r)).symm

end Cert.Kernel3Ideal.Val

end
-- ==== Proof.FfnDownReference.lean ====
/-
  The reference's gradient of the convolved, gated channel mixer: its five results, the arguments real numbers.
-/
module

public import proofs.«01_k».proof.Proof.Gen.Reference3Ideal.Read
public import proofs.«01_k».proof.Proof.FfnDownMath
public import proofs.«01_k».proof.Proof.HostSums

@[expose] public section

set_option maxRecDepth 16384

noncomputable section

namespace Cert.Reference3Ideal.Val

open Cert.Reference3Ideal Cert.Reference3Ideal.Read Idealize.ShloMosaic Cert.Reals Cert.Norm Cert.Gelu Cert.FfnDown

/-- The arguments are real numbers. -/
structure Args (X : Vec Ideal S1x4096x6144 .f32) (C : Vec Ideal S3x3072 .f32) (B : Vec Ideal S3072 .f32) (W : Vec Ideal S3072x1024 .f32)
    (G : Vec Ideal S1024 .f32) (D : Vec Ideal S1x4096x1024 .f32) (x : Fin 4096 → Fin 6144 → ℝ) (c : Fin 3 → Fin 3072 → ℝ)
    (b : Fin 3072 → ℝ) (w : Fin 3072 → Fin 1024 → ℝ) (g : Fin 1024 → ℝ) (d : Fin 4096 → Fin 1024 → ℝ) : Prop where
  hx : ∀ t j, X (ix3 0 t j) = ((x t j : ℝ) : EReal)
  hc : ∀ i j, C (ix2 i j) = ((c i j : ℝ) : EReal)
  hb : ∀ j, B (ix1 j) = ((b j : ℝ) : EReal)
  hw : ∀ j k, W (ix2 j k) = ((w j k : ℝ) : EReal)
  hg : ∀ k, G (ix1 k) = ((g k : ℝ) : EReal)
  hd : ∀ t k, D (ix3 0 t k) = ((d t k : ℝ) : EReal)

variable {X : Vec Ideal S1x4096x6144 .f32} {C : Vec Ideal S3x3072 .f32} {B : Vec Ideal S3072 .f32} {W : Vec Ideal S3072x1024 .f32}
  {G : Vec Ideal S1024 .f32} {D : Vec Ideal S1x4096x1024 .f32} {x : Fin 4096 → Fin 6144 → ℝ} {c : Fin 3 → Fin 3072 → ℝ}
  {b : Fin 3072 → ℝ} {w : Fin 3072 → Fin 1024 → ℝ} {g : Fin 1024 → ℝ} {d : Fin 4096 → Fin 1024 → ℝ}

/-- The gate's rows with two zero rows above. -/
theorem padded (a : Args X C B W G D x c b w g d) (s : Nat) (hs : s ≤ 2) (t : Fin 4096) (j : Fin 3072) :
    val_main_v2 (F := Ideal) X (ix3 0 ⟨t.val + (2 - s), by omega⟩ j) = ((before (fun t => x t (gate j)) s t : ℝ) : EReal) := by
  have ht := t.isLt
  pointwise [val_main_v2, val_main_v0, val_main_v1, val_main_cst]
  unfold before
  by_cases h : s ≤ t.val
  · rw [dif_neg (by omega), dif_pos h]
    rw [← a.hx]
    congr 2
    exact Fin.ext (by show t.val + (2 - s) - 2 = t.val - s; omega)
  · rw [dif_pos (by omega), dif_neg h]
    rfl

theorem tap2 (a : Args X C B W G D x c b w g d) (t : Fin 4096) (j : Fin 3072) :
    val_main_v4 (F := Ideal) X (ix3 0 t j) = ((before (fun t => x t (gate j)) 2 t : ℝ) : EReal) := by
  rw [← padded a 2 (by omega)]
  pointwise [val_main_v4]

theorem tap1 (a : Args X C B W G D x c b w g d) (t : Fin 4096) (j : Fin 3072) :
    val_main_v13 (F := Ideal) X (ix3 0 t j) = ((before (fun t => x t (gate j)) 1 t : ℝ) : EReal) := by
  rw [← padded a 1 (by omega)]
  pointwise [val_main_v13]
  exact congrArg (fun n => val_main_v2 (F := Ideal) X (ix3 0 n j)) (Fin.ext (Nat.add_comm 1 t.val))

theorem tap0 (a : Args X C B W G D x c b w g d) (t : Fin 4096) (j : Fin 3072) :
    val_main_v20 (F := Ideal) X (ix3 0 t j) = ((before (fun t => x t (gate j)) 0 t : ℝ) : EReal) := by
  rw [← padded a 0 (by omega)]
  pointwise [val_main_v20]
  exact congrArg (fun n => val_main_v2 (F := Ideal) X (ix3 0 n j)) (Fin.ext (Nat.add_comm 2 t.val))

theorem conv_ref (a : Args X C B W G D x c b w g d) (t : Fin 4096) (j : Fin 3072) :
    val_main_v26 (F := Ideal) X C B (ix3 0 t j) = ((conv x c b t j : ℝ) : EReal) := by
  pointwise [val_main_v26, val_main_v25, val_main_v19, val_main_v18, val_main_v12, val_main_v11, val_main_v10, val_main_v9, val_main_v8,
    val_main_v7, val_main_v6, val_main_v5, val_main_v14, val_main_v15, val_main_v16, val_main_v17, val_main_v21, val_main_v22, val_main_v23,
    val_main_v24]
  simp only [tap0 a, tap1 a, tap2 a, a.hb, a.hc, ← EReal.coe_mul, ← EReal.coe_add]
  rfl

theorem half_ref (a : Args X C B W G D x c b w g d) (t : Fin 4096) (j : Fin 3072) :
    val_main_v46 (F := Ideal) X C B (ix3 0 t j) = ((1 / 2 * (1 + th (conv x c b t j)) : ℝ) : EReal) := by
  pointwise [val_main_v46, val_main_v45, val_main_cst_7, val_main_v44, val_main_v43, val_main_cst_6, val_main_v37, val_main_v36,
    val_main_v35, val_main_cst_3, val_main_v34, val_main_v33, val_main_v32, val_main_cst_2, val_main_v28, val_main_v27]
  simp only [conv_ref a, ofBits_half, ofBits_one, ofBits_root, ofBits_cubic, tanh_coe, ← EReal.coe_mul, ← EReal.coe_add]
  rfl

theorem both_ref (a : Args X C B W G D x c b w g d) (t : Fin 4096) (j : Fin 3072) :
    val_main_v42 (F := Ideal) X C B (ix3 0 t j) = (((1 + th (conv x c b t j)) * (1 - th (conv x c b t j)) : ℝ) : EReal) := by
  pointwise [val_main_v42, val_main_v41, val_main_v40, val_main_cst_5, val_main_v39, val_main_v38, val_main_cst_4, val_main_v37, val_main_v36,
    val_main_v35, val_main_cst_3, val_main_v34, val_main_v33, val_main_v32, val_main_cst_2, val_main_v28, val_main_v27]
  simp only [conv_ref a, ofBits_half, ofBits_one, ofBits_root, ofBits_cubic, tanh_coe, ← EReal.coe_mul, ← EReal.coe_add, ← EReal.coe_sub]
  rfl

theorem gelu_ref (a : Args X C B W G D x c b w g d) (t : Fin 4096) (j : Fin 3072) :
    val_main_v47 (F := Ideal) X C B (ix3 0 t j) = ((gelu (conv x c b t j) : ℝ) : EReal) := by
  pointwise [val_main_v47]
  simp only [half_ref a, conv_ref a, ← EReal.coe_mul]
  rfl

theorem hid_ref (a : Args X C B W G D x c b w g d) (t : Fin 4096) (j : Fin 3072) :
    val_main_v49 (F := Ideal) X C B (ix3 0 t j) = ((hid x (conv x c b) t j : ℝ) : EReal) := by
  pointwise [val_main_v49, val_main_v48]
  simp only [gelu_ref a, a.hx, ← EReal.coe_mul]
  rfl

theorem down_ref (a : Args X C B W G D x c b w g d) (t : Fin 4096) (k : Fin 1024) :
    val_main_v50 (F := Ideal) X C B W (ix3 0 t k) = ((down x (conv x c b) w t k : ℝ) : EReal) := by
  pointwise [val_main_v50]
  simp only [hid_ref a, a.hw, ← EReal.coe_mul, coe_sum]
  rfl

theorem ddown_ref (a : Args X C B W G D x c b w g d) (t : Fin 4096) (k : Fin 1024) :
    val_main_v87 (F := Ideal) X C B W G D (ix3 0 t k) = ((ddown x (conv x c b) w g d t k : ℝ) : EReal) := by
  have hn := down_ref a
  pointwise [val_main_v51, val_main_cst_8, val_main_v52, val_main_v53, val_main_cst_9, val_main_v54, val_main_v55, val_main_cst_10,
    val_main_v56, val_main_v57, val_main_v58, val_main_v59, val_main_cst_11, val_main_v60, val_main_v61, val_main_v64,
    val_main_v70, val_main_v71, val_main_v73, val_main_cst_14, val_main_v74, val_main_v75, val_main_v76, val_main_v77, val_main_v78,
    val_main_cst_15, val_main_v79, val_main_v80, val_main_cst_16, val_main_v81, val_main_v82, val_main_v83, val_main_v84, val_main_v85,
    val_main_v86, val_main_v87]
  generalize val_main_v50 (F := Ideal) X C B W = Y at hn ⊢
  simp only [coe_meanSq (fun k => Y (ix3 0 t k)) (down x (conv x c b) w t) (hn t), rsqrt_meanSq]
  rw [coe_pull (fun k => Y (ix3 0 t k)) (fun k => G (ix1 k)) (fun k => D (ix3 0 t k)) (down x (conv x c b) w t) g (d t) (hn t) a.hg (a.hd t),
    hn, a.hg, a.hd, coe_derived_back]
  rfl

theorem dhid_ref (a : Args X C B W G D x c b w g d) (t : Fin 4096) (j : Fin 3072) :
    val_main_v90 (F := Ideal) X C B W G D (ix3 0 t j) = ((dhid x (conv x c b) w g d t j : ℝ) : EReal) := by
  pointwise [val_main_v90]
  simp only [ddown_ref a, a.hw, ← EReal.coe_mul, coe_sum]
  rfl

theorem dconv_ref (a : Args X C B W G D x c b w g d) (t : Fin 4096) (j : Fin 3072) :
    val_main_v105 (F := Ideal) X C B W G D (ix3 0 t j) = ((dconv x (conv x c b) w g d t j : ℝ) : EReal) := by
  pointwise [val_main_v105, val_main_v104, val_main_v103, val_main_v102, val_main_cst_20, val_main_v101, val_main_v100, val_main_v99,
    val_main_cst_19, val_main_v98, val_main_v97, val_main_v96, val_main_cst_18, val_main_v95, val_main_v94, val_main_v92, val_main_v48,
    val_main_v31, val_main_v30, val_main_cst_1, val_main_v29]
  simp only [dhid_ref a, half_ref a, both_ref a, conv_ref a, a.hx, ofBits_half, ofBits_three, ofBits_root, ofBits_cubic, ← EReal.coe_mul,
    ← EReal.coe_add]
  refine congrArg Real.toEReal ?_
  unfold dconv Gelu.slope
  ring

theorem three : ∀ i : Fin 3, i = 0 ∨ i = 1 ∨ i = 2 := by decide

/-- The convolution weights' gradient, row by row. -/
theorem taps_ref (a : Args X C B W G D x c b w g d) (i : Fin 3) (j : Fin 3072) :
    val_main_v137 (F := Ideal) X C B W G D (ix2 i j) = ((dtap x (conv x c b) w g d i j : ℝ) : EReal) := by
  unfold dtap
  rw [sum_after _ _ _ (by omega)]
  obtain rfl | rfl | rfl := three i
  all_goals pointwise [val_main_v137, val_main_v136, val_main_cst_33, val_main_v135, val_main_v134, val_main_cst_32, val_main_v131,
    val_main_v130, val_main_cst_31, val_main_v129, val_main_v123, val_main_v122, val_main_cst_27, val_main_v121, val_main_v120,
    val_main_cst_26, val_main_v117, val_main_v116, val_main_cst_25, val_main_v115, val_main_v113, val_main_cst_23, val_main_v112,
    val_main_v111, val_main_cst_22, val_main_v108, val_main_v107, val_main_cst_21, val_main_v106]
  all_goals simp only [dconv_ref a, tap0 a, tap1 a, tap2 a, ← EReal.coe_mul, coe_sum]
  all_goals rfl

theorem bias_ref (a : Args X C B W G D x c b w g d) (i : Fin 1) (j : Fin 3072) :
    val_main_v146 (F := Ideal) X C B W G D (ix2 i j) = ((∑ t, dconv x (conv x c b) w g d t j : ℝ) : EReal) := by
  pointwise [val_main_v146, val_main_v128, val_main_cst_30, val_main_v127, val_main_v126, val_main_cst_29]
  simp only [dconv_ref a, coe_sum]

theorem proj_ref (a : Args X C B W G D x c b w g d) (j : Fin 3072) (k : Fin 1024) :
    val_main_v89 (F := Ideal) X C B W G D (ix2 j k) = ((∑ t, hid x (conv x c b) t j * ddown x (conv x c b) w g d t k : ℝ) : EReal) := by
  pointwise [val_main_v89, val_main_v88]
  rw [Fin.sum_univ_one]
  simp only [ddown_ref a, hid_ref a, ← EReal.coe_mul, coe_sum, mul_comm]

theorem scale_ref (a : Args X C B W G D x c b w g d) (i : Fin 1) (k : Fin 1024) :
    val_main_v147 (F := Ideal) X C B W D (ix2 i k)
      = ((∑ t, d t k * (down x (conv x c b) w t k * invRms (down x (conv x c b) w t)) : ℝ) : EReal) := by
  have hn := down_ref a
  pointwise [val_main_v147, val_main_v72, val_main_cst_13, val_main_v69, val_main_v68, val_main_cst_12, val_main_v67, val_main_v63,
    val_main_v62, val_main_v51, val_main_cst_8, val_main_v52, val_main_v53, val_main_cst_9, val_main_v54, val_main_v55, val_main_cst_10,
    val_main_v56, val_main_v57, val_main_v58]
  have e (t : Fin 4096) := coe_inv (fun k => val_main_v50 (F := Ideal) X C B W (ix3 0 t k)) (down x (conv x c b) w t) (hn t)
  simp only [e]
  simp only [hn, a.hd, ← EReal.coe_mul, coe_sum, mul_comm]

/-- A row's three taps, as extended reals. -/
theorem taps_add (u : Fin 4096 → ℝ) (p q r : ℝ) (t : Fin 4096) :
    ((u t * p : ℝ) : EReal) + (if h : 1 ≤ 2 + t.val ∧ 2 + t.val - 1 < 4096 then ((u ⟨2 + t.val - 1, h.2⟩ * q : ℝ) : EReal) else 0)
        + (if h : 2 + t.val < 4096 then ((u ⟨2 + t.val, h⟩ * r : ℝ) : EReal) else 0)
      = ((p * u t + q * after u 1 t + r * after u 2 t : ℝ) : EReal) := by
  have one (h : 1 ≤ 2 + t.val ∧ 2 + t.val - 1 < 4096) (h' : t.val + 1 < 4096) : u ⟨2 + t.val - 1, h.2⟩ = u ⟨t.val + 1, h'⟩ :=
    congrArg u (Fin.ext (by show 2 + t.val - 1 = t.val + 1; omega))
  have two (h : 2 + t.val < 4096) (h' : t.val + 2 < 4096) : u ⟨2 + t.val, h⟩ = u ⟨t.val + 2, h'⟩ := congrArg u (Fin.ext (Nat.add_comm _ _))
  have e1 : (if h : 1 ≤ 2 + t.val ∧ 2 + t.val - 1 < 4096 then ((u ⟨2 + t.val - 1, h.2⟩ * q : ℝ) : EReal) else 0) = ((q * after u 1 t : ℝ) : EReal) := by
    unfold after
    by_cases h : t.val + 1 < 4096
    · have h' : 1 ≤ 2 + t.val ∧ 2 + t.val - 1 < 4096 := by omega
      rw [dif_pos h, dif_pos h', one h' h, mul_comm]
    · rw [dif_neg h, dif_neg (by omega), mul_zero]
      rfl
  have e2 : (if h : 2 + t.val < 4096 then ((u ⟨2 + t.val, h⟩ * r : ℝ) : EReal) else 0) = ((r * after u 2 t : ℝ) : EReal) := by
    unfold after
    by_cases h : t.val + 2 < 4096
    · have h' : 2 + t.val < 4096 := by omega
      rw [dif_pos h, dif_pos h', two h' h, mul_comm]
    · rw [dif_neg h, dif_neg (by omega), mul_zero]
      rfl
  rw [e1, e2, mul_comm (u t), EReal.coe_add, EReal.coe_add]

/-- The convolution's transpose, before the rows are laid beside the gated half. -/
theorem turned_ref (a : Args X C B W G D x c b w g d) (t : Fin 4096) (j : Fin 3072) :
    val_main_v141 (F := Ideal) X C B W G D (ix3 0 t j) = ((dgate x (conv x c b) w g d c t j : ℝ) : EReal) := by
  have ht := t.isLt
  pointwise [val_main_v141, val_main_v139, val_main_v138,
    val_main_cst_34, val_main_v133, val_main_v132, val_main_v7, val_main_v6, val_main_v5, val_main_v125, val_main_v124, val_main_cst_28,
    val_main_v119, val_main_v118, val_main_v16, val_main_v15, val_main_v14, val_main_v114, val_main_cst_24, val_main_v110, val_main_v109,
    val_main_v23, val_main_v22, val_main_v21]
  simp only [dconv_ref a, a.hc, ← EReal.coe_mul]
  exact taps_add (fun t => dconv x (conv x c b) w g d t j) (c 2 j) (c 1 j) (c 0 j) t

theorem side_ref (a : Args X C B W G D x c b w g d) (t : Fin 4096) (j : Fin 3072) :
    val_main_v91 (F := Ideal) X C B W G D (ix3 0 t j) = ((dhid x (conv x c b) w g d t j * gelu (conv x c b t j) : ℝ) : EReal) := by
  pointwise [val_main_v91]
  simp only [dhid_ref a, gelu_ref a, ← EReal.coe_mul, mul_comm]

/-- The up projection's gradient: the gate's half through the convolution, the gated half beside it. -/
theorem rows_ref (a : Args X C B W G D x c b w g d) (t : Fin 4096) (j : Fin 6144) :
    val_main_v145 (F := Ideal) X C B W G D (ix2 t j) = ((dup x (conv x c b) w g d c t j : ℝ) : EReal) := by
  have hj := j.isLt
  unfold dup
  pointwise [val_main_v145, val_main_v144, val_main_v143, val_main_v142, val_main_cst_35, val_main_v93, val_main_cst_17]
  by_cases h : j.val < 3072
  · rw [dif_pos h, dif_pos h, dif_neg (by omega), zero_add, turned_ref a]
  · rw [dif_neg h, dif_neg h, dif_pos (by omega), add_zero, side_ref a]

end Cert.Reference3Ideal.Val

end
-- ==== Proof.FfnDownHost.lean ====
/-
  The channel mixer's gradient: the arrays that the host prepares for the kernel.  What the forward saved is the same
  operations as the reference's own, so it is only named here.
-/
module

public import proofs.«01_k».proof.Proof.Gen.Kernel3Ideal.Value
public import proofs.«01_k».proof.Proof.FfnDownReference
public import Idealize.ShloMosaic.Lib.Pointwise.Index
import Idealize.ShloMosaic.Lib.Claim
import Idealize.ShloMosaic.Lib.StableHlo.ReadAt

@[expose] public section

set_option maxRecDepth 16384
set_option maxHeartbeats 1000000

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown Cert.Reference3Ideal.Val

variable (m : (ℓ : Loc nD τ sig) → Buf (Elt Ideal) ℓ) (c : Dev nD)

theorem host_d (t : Fin 4096) (k : Fin 1024) : V m c main_v63 (ix2 t k) = m ((c : Thread nD τ).loc main_arg5) (ix3 0 t k) := by
  unfold V hostOps0
  after_reads_at

theorem host_u (t : Fin 4096) (j : Fin 6144) : V m c main_v66 (ix2 t j) = m ((c : Thread nD τ).loc main_arg0) (ix3 0 t j) := by
  unfold V hostOps0
  after_reads_at

theorem host_w (j : Fin 3072) (k : Fin 1024) : V m c main_v71 (ix2 j k) = m ((c : Thread nD τ).loc main_arg3) (ix2 j k) := by
  unfold V hostOps0
  after_reads_at

theorem host_g (k : Fin 1024) : V m c main_v72 (ix2 0 k) = m ((c : Thread nD τ).loc main_arg4) (ix1 k) := by
  unfold V hostOps0
  after_reads_at

/-- The arguments that the saved arrays are computed from. -/
abbrev argX : Vec Ideal S1x4096x6144 .f32 := m ((c : Thread nD τ).loc main_arg0)
abbrev argC : Vec Ideal S3x3072 .f32 := m ((c : Thread nD τ).loc main_arg1)
abbrev argB : Vec Ideal S3072 .f32 := m ((c : Thread nD τ).loc main_arg2)
abbrev argW : Vec Ideal S3072x1024 .f32 := m ((c : Thread nD τ).loc main_arg3)

/-- The convolution is the reference's. -/
theorem convolved : V m c main_v25 = Cert.Reference3Ideal.Read.val_main_v26 (F := Ideal) (argX m c) (argC m c) (argB m c) := by
  unfold V hostOps0
  after_reads_simp
  rfl

/-- The activation is the reference's. -/
theorem activated : V m c main_v46 = Cert.Reference3Ideal.Read.val_main_v47 (F := Ideal) (argX m c) (argC m c) (argB m c) := by
  unfold V hostOps0
  after_reads_simp
  rfl

/-- The row that the norm takes is the reference's. -/
theorem projected : V m c main_v62 = Cert.Reference3Ideal.Read.val_main_v50 (F := Ideal) (argX m c) (argC m c) (argB m c) (argW m c) := by
  unfold V hostOps0
  after_reads_simp
  rfl

/-- A constant spread over the hidden rows. -/
abbrev all (n : BitVec 32) : FVec Ideal S1x4096x3072 .f32 := broadcastInDim S1x4096x3072 ![] bcast_S_S1x4096x3072 (constant (F := Ideal) S_ .f32 n)

/-- The activation's slope, operation by operation. -/
def slopeOf (Z : FVec Ideal S1x4096x3072 .f32) : FVec Ideal S1x4096x3072 .f32 :=
  let h := tanh (F := Ideal) (mulf (all 0x3F4C422A#32) (addf Z (mulf (all 0x3D372713#32) (mulf (mulf Z Z) Z))))
  let p := mulf (all 0x3F4C422A#32) (mulf (mulf (all 0x3F000000#32) (mulf Z (all 0x3F800000#32)))
    (mulf (addf (all 0x3F800000#32) h) (subf (all 0x3F800000#32) h)))
  addf (addf (mulf (all 0x3F800000#32) (mulf (all 0x3F000000#32) (addf (all 0x3F800000#32) h))) p)
    (mulf (mulf (all 0x3D372713#32) p) (mulf (all 0x40400000#32) (mulf Z Z)))

theorem sloped : V m c main_v59 = slopeOf (V m c main_v25) := by
  unfold V hostOps0
  after_reads_simp
  rfl

theorem flat_gl : V m c main_v68 = truncf (F := Ideal) .bf16 (shapeCast S4096x3072 (V m c main_v46) shapeCasts_S1x4096x3072_S4096x3072) bitsLt_bf16_f32 := by
  unfold V hostOps0
  after_reads_simp
  rfl

theorem flat_gg : V m c main_v70 = truncf (F := Ideal) .bf16 (shapeCast S4096x3072 (V m c main_v59) shapeCasts_S1x4096x3072_S4096x3072) bitsLt_bf16_f32 := by
  unfold V hostOps0
  after_reads_simp
  rfl

theorem flat_dn : V m c main_v64 = shapeCast S4096x1024 (V m c main_v62) shapeCasts_S1x4096x1024_S4096x1024 := by
  unfold V hostOps0
  after_reads_simp
  rfl

abbrev argG : Vec Ideal S1024 .f32 := m ((c : Thread nD τ).loc main_arg4)
abbrev argD : Vec Ideal S1x4096x1024 .f32 := m ((c : Thread nD τ).loc main_arg5)

variable {m c} {x : Fin 4096 → Fin 6144 → ℝ} {k : Fin 3 → Fin 3072 → ℝ} {b : Fin 3072 → ℝ} {w : Fin 3072 → Fin 1024 → ℝ}
  {g : Fin 1024 → ℝ} {d : Fin 4096 → Fin 1024 → ℝ}

/-- A hidden array flattened and rounded, and a narrow one flattened, read at a row. -/
theorem flat_at (Z : FVec Ideal S1x4096x3072 .f32) (t : Fin 4096) (j : Fin 3072) :
    truncf (F := Ideal) .bf16 (shapeCast S4096x3072 Z shapeCasts_S1x4096x3072_S4096x3072) bitsLt_bf16_f32 (ix2 t j) = Z (ix3 0 t j) := by
  pointwise []

theorem narrow_at (Z : FVec Ideal S1x4096x1024 .f32) (t : Fin 4096) (j : Fin 1024) :
    shapeCast S4096x1024 Z shapeCasts_S1x4096x1024_S4096x1024 (ix2 t j) = Z (ix3 0 t j) := by
  pointwise []

theorem slope_at (Z : FVec Ideal S1x4096x3072 .f32) (t : Fin 4096) (j : Fin 3072) (z : ℝ) (h : Z (ix3 0 t j) = (z : EReal)) :
    slopeOf Z (ix3 0 t j) = ((Gelu.slope z : ℝ) : EReal) := by
  pointwise [slopeOf]
  simp only [h, ofBits_half, ofBits_one, ofBits_three, ofBits_root, ofBits_cubic, tanh_coe, ← EReal.coe_mul, ← EReal.coe_add, ← EReal.coe_sub]
  refine congrArg Real.toEReal ?_
  unfold Gelu.slope th
  ring

theorem host_gl (a : Args (argX m c) (argC m c) (argB m c) (argW m c) (argG m c) (argD m c) x k b w g d) (t : Fin 4096) (j : Fin 3072) :
    V m c main_v68 (ix2 t j) = ((gelu (conv x k b t j) : ℝ) : EReal) := by
  rw [flat_gl m c, activated m c, flat_at]
  exact gelu_ref a t j

theorem host_gg (a : Args (argX m c) (argC m c) (argB m c) (argW m c) (argG m c) (argD m c) x k b w g d) (t : Fin 4096) (j : Fin 3072) :
    V m c main_v70 (ix2 t j) = ((Gelu.slope (conv x k b t j) : ℝ) : EReal) := by
  rw [flat_gg m c, sloped m c, flat_at, slope_at _ t j _ ((congrFun (convolved m c) _).trans (conv_ref a t j))]

theorem host_n (a : Args (argX m c) (argC m c) (argB m c) (argW m c) (argG m c) (argD m c) x k b w g d) (t : Fin 4096) (j : Fin 1024) :
    V m c main_v64 (ix2 t j) = ((down x (conv x k b) w t j : ℝ) : EReal) := by
  rw [flat_dn m c, projected m c, narrow_at]
  exact down_ref a t j

end Cert.Kernel3Ideal.Val

end
-- ==== Proof.FfnDown.lean ====
/-
  The channel mixer's gradient kernel: the blocks of a grid point in the arguments, and what a point leaves for the next.
-/
module

public import proofs.«01_k».proof.Proof.FfnDownBlocks
public import proofs.«01_k».proof.Proof.FfnDownHost
public import proofs.«01_k».proof.Proof.Pieces
import Idealize.ShloMosaic.Lib.Claim
import Idealize.ShloMosaic.Lib.Pipeline.ReadBack

@[expose] public section

set_option maxRecDepth 16384
set_option maxHeartbeats 1000000

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown Cert.Reference3Ideal.Val Cert.Pieces

variable {m : (ℓ : Loc nD τ sig) → Buf (Elt Ideal) ℓ} {c : Dev nD} {x : Fin 4096 → Fin 6144 → ℝ} {k : Fin 3 → Fin 3072 → ℝ} {b : Fin 3072 → ℝ}
  {w : Fin 3072 → Fin 1024 → ℝ} {g : Fin 1024 → ℝ} {d : Fin 4096 → Fin 1024 → ℝ}

theorem idx : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![15 - t.val, 0] ∧ win0_5.index t = ![0, 0] ∧ win0_6.index t = ![0, 0]
    ∧ win0_7.index t = ![0, 0] ∧ win0_8.index t = ![15 - t.val, 0] ∧ win0_9.index t = ![0, 0] ∧ win0_10.index t = ![0, 0]
    ∧ win0_11.index t = ![0, 0] ∧ win0_12.index t = ![0, 0] :=
  (by decide +kernel : ∀ t : Fin grid0.N, _)

/-- Row `r` of the block at point `t`: the blocks are visited from the last to the first. -/
def rowAt (t : Fin cfg0.N) (r : Fin 256) : Fin 4096 := ⟨(15 - t.val) * 256 + r.val, by omega⟩

theorem blocks (a : Args (argX m c) (argC m c) (argB m c) (argW m c) (argG m c) (argD m c) x k b w g d) (t : Fin cfg0.N) :
    Blocks (iblk m c 0 t) (iblk m c 1 t) (iblk m c 2 t) (iblk m c 3 t) (iblk m c 4 t) (iblk m c 5 t) (iblk m c 6 t) (iblk m c 7 t)
      x (conv x k b) w g d k (rowAt t) where
  hD r j := by
    rw [← a.hd, argD, ← host_d m c]
    blk_point [iblk, idx t]
    rfl
  hN r j := by
    rw [← host_n a]
    blk_point [iblk, idx t]
    rfl
  hU r j := by
    rw [← a.hx, argX, ← host_u m c]
    blk_point [iblk, idx t]
    rfl
  hL r j := by
    rw [← host_gl a]
    blk_point [iblk, idx t]
    rfl
  hQ r j := by
    rw [← host_gg a]
    blk_point [iblk, idx t]
    rfl
  hC i j := by
    rw [← a.hc, argC, ← V_main_arg1 m c]
    blk_point [iblk, idx t]
  hW i j := by
    rw [← a.hw, argW, ← host_w m c]
    blk_point [iblk, idx t]
  hG j := by
    rw [← a.hg, argG, ← host_g m c]
    blk_point [iblk, idx t]
  hrow r := rfl

theorem kept_at (a : Args (argX m c) (argC m c) (argB m c) (argW m c) (argG m c) (argD m c) x k b w g d) (t : Fin cfg0.N) (i : Fin 8) (j : Fin 3072) :
    (outsAt0 m c t.val t.isLt).2.2.2.2.2 (ix2 i j) = ((dconv x (conv x k b) w g d (rowAt t ⟨i.val, by omega⟩) j : ℝ) : EReal) := by
  by_cases h : t.val % 16 = 0
  · rw [outsAt0_A m c t h]; frame_out
    exact kept_block (blocks a t) i j
  · rw [outsAt0_B m c t h]; frame_out
    exact kept_block (blocks a t) i j

theorem zero_kept (i : S8x3072.Idx) : k0_pay2 (F := Ideal) i = 0 := by pointwise [k0_pay2]

/-- Nothing comes after the first point's rows: they are the last tokens. -/
theorem kept_A (t : Fin cfg0.N) (h : t.val % 16 = 0) : Kept x (conv x k b) w g d (rowAt t) (k0_pay2 (F := Ideal)) := fun i j => by
  have ht : t.val < 16 := lt_of_lt_of_eq t.isLt (show cfg0.N = 16 from N_0)
  rw [zero_kept]
  unfold after
  rw [dif_neg]
  · rfl
  · show ¬ (15 - t.val) * 256 + 0 + (256 + i.val) < 4096
    omega

/-- What comes after a later point's rows is what the point before left. -/
theorem kept_B (a : Args (argX m c) (argC m c) (argB m c) (argW m c) (argG m c) (argD m c) x k b w g d) (t : Fin cfg0.N) (h : ¬ t.val % 16 = 0) :
    Kept x (conv x k b) w g d (rowAt t) (outsAt0 m c (t.val - 1) (Nat.lt_of_le_of_lt (Nat.sub_le _ _) t.isLt)).2.2.2.2.2 := fun i j => by
  have ht : t.val < 16 := lt_of_lt_of_eq t.isLt (show cfg0.N = 16 from N_0)
  refine (kept_at a ⟨t.val - 1, Nat.lt_of_le_of_lt (Nat.sub_le _ _) t.isLt⟩ i j).trans ?_
  have e : (15 - (t.val - 1)) * 256 + i.val = (15 - t.val) * 256 + 0 + (256 + i.val) := by omega
  have hl : (rowAt t 0).val + (256 + i.val) < 4096 := by
    show (15 - t.val) * 256 + 0 + (256 + i.val) < 4096
    omega
  unfold after
  rw [dif_pos hl]
  exact congrArg (fun n => ((dconv x (conv x k b) w g d n j : ℝ) : EReal)) (Fin.ext e)

end Cert.Kernel3Ideal.Val

end
-- ==== Proof.FfnDownRows.lean ====
/-
  The channel mixer's gradient kernel: the rows that a grid point writes.
-/
module

public import proofs.«01_k».proof.Proof.FfnDown
import Idealize.ShloMosaic.Lib.Claim
import Idealize.ShloMosaic.Lib.Pipeline.ReadBack

@[expose] public section

set_option maxRecDepth 16384
set_option maxHeartbeats 1000000

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown Cert.Reference3Ideal.Val Cert.Pieces

variable {m : (ℓ : Loc nD τ sig) → Buf (Elt Ideal) ℓ} {c : Dev nD} {x : Fin 4096 → Fin 6144 → ℝ} {k : Fin 3 → Fin 3072 → ℝ} {b : Fin 3072 → ℝ}
  {w : Fin 3072 → Fin 1024 → ℝ} {g : Fin 1024 → ℝ} {d : Fin 4096 → Fin 1024 → ℝ}

/-- Two halves of an array's lanes, stored one by one. -/
theorem halves (i0 : ∀ a, (![0, 0] : Fin 2 → Nat) a + (![256, 3072] : Fin 2 → Nat) a ≤ S256x6144.size a)
    (i1 : ∀ a, (![0, 3072] : Fin 2 → Nat) a + (![256, 3072] : Fin 2 → Nat) a ≤ S256x6144.size a)
    (w0 w1 : Vec Ideal S256x3072 .bf16) (L : List (View.Piece (Elt Ideal) S256x6144 .bf16)) (r : Fin 256) (j : Fin 6144) :
    View.canon (⟨Rect.unit (s := S256x6144) ![0, 0] ![256, 3072] i0, w0⟩ :: ⟨Rect.unit (s := S256x6144) ![0, 3072] ![256, 3072] i1, w1⟩ :: L) (ix2 r j)
      = if h : j.val < 3072 then w0 (ix2 r ⟨j.val, h⟩) else w1 (ix2 r ⟨j.val - 3072, by omega⟩) := by
  by_cases h : j.val < 3072
  · rw [dif_pos h]
    exact hit (S := S256x6144) i0 w0 _ (ix2 r j) (ix2 r ⟨j.val, h⟩) fun a => match a with
      | 0 => (Nat.zero_add _).symm
      | 1 => (Nat.zero_add _).symm
  · rw [dif_neg h, miss _ _ _ _ (1 : Fin 2) (.inr (by show 0 + 3072 ≤ j.val; omega))]
    exact hit (S := S256x6144) i1 w1 _ (ix2 r j) (ix2 r ⟨j.val - 3072, by omega⟩) fun a => match a with
      | 0 => (Nat.zero_add _).symm
      | 1 => by show j.val = 3072 + (j.val - 3072); omega

theorem rows_at (a : Args (argX m c) (argC m c) (argB m c) (argW m c) (argG m c) (argD m c) x k b w g d) (t : Fin cfg0.N) (r : Fin 256) (j : Fin 6144) :
    (outsAt0 m c t.val t.isLt).1 (ix2 r j) = ((dup x (conv x k b) w g d k (rowAt t r) j : ℝ) : EReal) := by
  have bl := blocks a t
  unfold dup
  by_cases h : t.val % 16 = 0
  · rw [outsAt0_A m c t h]; frame_out
    rw [halves]
    by_cases hj : j.val < 3072
    · rw [dif_pos hj, dif_pos hj]
      exact gate_block bl (kept_A t h) r _
    · rw [dif_neg hj, dif_neg hj]
      exact side_block bl r _
  · rw [outsAt0_B m c t h]; frame_out
    rw [halves]
    by_cases hj : j.val < 3072
    · rw [dif_pos hj, dif_pos hj]
      refine gate_block bl ?_ r _
      rw [read_unread_whole]
      exact kept_B a t h
    · rw [dif_neg hj, dif_neg hj]
      exact side_block bl r _

end Cert.Kernel3Ideal.Val

end
-- ==== Proof.FfnDownSums.lean ====
/-
  The channel mixer's gradient kernel: what a grid point adds to its sums.
-/
module

public import proofs.«01_k».proof.Proof.FfnDown
import Idealize.ShloMosaic.Lib.Claim
import Idealize.ShloMosaic.Lib.Pipeline.ReadBack

@[expose] public section

set_option maxRecDepth 16384
set_option maxHeartbeats 1000000

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown Cert.Reference3Ideal.Val Cert.Pieces

variable {m : (ℓ : Loc nD τ sig) → Buf (Elt Ideal) ℓ} {c : Dev nD} {x : Fin 4096 → Fin 6144 → ℝ} {k : Fin 3 → Fin 3072 → ℝ} {b : Fin 3072 → ℝ}
  {w : Fin 3072 → Fin 1024 → ℝ} {g : Fin 1024 → ℝ} {d : Fin 4096 → Fin 1024 → ℝ}

theorem zero_proj (i : S3072x1024.Idx) : k0_pay3 (F := Ideal) i = 0 := by pointwise [k0_pay3]

theorem zero_taps (i : S3x3072.Idx) : k0_pay4 (F := Ideal) i = 0 := by pointwise [k0_pay4]

theorem zero_bias (i : S1x3072.Idx) : k0_pay5 (F := Ideal) i = 0 := by pointwise [k0_pay5]

theorem zero_scale (i : S1x1024.Idx) : k0_pay6 (F := Ideal) i = 0 := by pointwise [k0_pay6]

theorem proj_A (a : Args (argX m c) (argC m c) (argB m c) (argW m c) (argG m c) (argD m c) x k b w g d) (t : Fin cfg0.N) (h : t.val % 16 = 0) (j : Fin 3072) (l : Fin 1024) :
    (outsAt0 m c t.val t.isLt).2.1 (ix2 j l) = 0
      + ∑ r, ((hid x (conv x k b) (rowAt t r) j * ddown x (conv x k b) w g d (rowAt t r) l : ℝ) : EReal) := by
  rw [outsAt0_A m c t h]; frame_out
  refine (proj_block (blocks a t) _ j l).trans (congrArg (· + _) ?_)
  exact zero_proj _

theorem proj_B (a : Args (argX m c) (argC m c) (argB m c) (argW m c) (argG m c) (argD m c) x k b w g d) (t : Fin cfg0.N) (h : ¬ t.val % 16 = 0) (j : Fin 3072) (l : Fin 1024) :
    (outsAt0 m c t.val t.isLt).2.1 (ix2 j l) = (outsAt0 m c (t.val - 1) (Nat.lt_of_le_of_lt (Nat.sub_le _ _) t.isLt)).2.1 (ix2 j l)
      + ∑ r, ((hid x (conv x k b) (rowAt t r) j * ddown x (conv x k b) w g d (rowAt t r) l : ℝ) : EReal) := by
  rw [outsAt0_B m c t h]; frame_out
  exact proj_block (blocks a t) _ j l

theorem bias_A (a : Args (argX m c) (argC m c) (argB m c) (argW m c) (argG m c) (argD m c) x k b w g d) (t : Fin cfg0.N) (h : t.val % 16 = 0) (i : Fin 1) (j : Fin 3072) :
    (outsAt0 m c t.val t.isLt).2.2.2.1 (ix2 i j) = 0
      + ∑ r, ((dconv x (conv x k b) w g d (rowAt t r) j : ℝ) : EReal) := by
  rw [outsAt0_A m c t h]; frame_out
  refine (bias_block (blocks a t) _ i j).trans (congrArg (· + _) ?_)
  exact zero_bias _

theorem bias_B (a : Args (argX m c) (argC m c) (argB m c) (argW m c) (argG m c) (argD m c) x k b w g d) (t : Fin cfg0.N) (h : ¬ t.val % 16 = 0) (i : Fin 1) (j : Fin 3072) :
    (outsAt0 m c t.val t.isLt).2.2.2.1 (ix2 i j) = (outsAt0 m c (t.val - 1) (Nat.lt_of_le_of_lt (Nat.sub_le _ _) t.isLt)).2.2.2.1 (ix2 i j)
      + ∑ r, ((dconv x (conv x k b) w g d (rowAt t r) j : ℝ) : EReal) := by
  rw [outsAt0_B m c t h]; frame_out
  exact bias_block (blocks a t) _ i j

theorem scale_A (a : Args (argX m c) (argC m c) (argB m c) (argW m c) (argG m c) (argD m c) x k b w g d) (t : Fin cfg0.N) (h : t.val % 16 = 0) (i : Fin 1) (l : Fin 1024) :
    (outsAt0 m c t.val t.isLt).2.2.2.2.1 (ix2 i l) = 0
      + ∑ r, ((d (rowAt t r) l * (down x (conv x k b) w (rowAt t r) l * invRms (down x (conv x k b) w (rowAt t r))) : ℝ) : EReal) := by
  rw [outsAt0_A m c t h]; frame_out
  refine (scale_block (blocks a t) _ i l).trans (congrArg (· + _) ?_)
  exact zero_scale _

theorem scale_B (a : Args (argX m c) (argC m c) (argB m c) (argW m c) (argG m c) (argD m c) x k b w g d) (t : Fin cfg0.N) (h : ¬ t.val % 16 = 0) (i : Fin 1) (l : Fin 1024) :
    (outsAt0 m c t.val t.isLt).2.2.2.2.1 (ix2 i l) = (outsAt0 m c (t.val - 1) (Nat.lt_of_le_of_lt (Nat.sub_le _ _) t.isLt)).2.2.2.2.1 (ix2 i l)
      + ∑ r, ((d (rowAt t r) l * (down x (conv x k b) w (rowAt t r) l * invRms (down x (conv x k b) w (rowAt t r))) : ℝ) : EReal) := by
  rw [outsAt0_B m c t h]; frame_out
  exact scale_block (blocks a t) _ i l

/-- Three rows of an array, stored from the last to the first. -/
theorem three_rows (i0 : ∀ a, (![0, 0] : Fin 2 → Nat) a + (![1, 3072] : Fin 2 → Nat) a ≤ S3x3072.size a)
    (i1 : ∀ a, (![1, 0] : Fin 2 → Nat) a + (![1, 3072] : Fin 2 → Nat) a ≤ S3x3072.size a)
    (i2 : ∀ a, (![2, 0] : Fin 2 → Nat) a + (![1, 3072] : Fin 2 → Nat) a ≤ S3x3072.size a)
    (w0 w1 w2 : Vec Ideal S1x3072 .f32) (L : List (View.Piece (Elt Ideal) S3x3072 .f32)) (i : Fin 3) (j : Fin 3072) :
    View.canon (⟨Rect.unit (s := S3x3072) ![0, 0] ![1, 3072] i0, w0⟩ :: ⟨Rect.unit (s := S3x3072) ![1, 0] ![1, 3072] i1, w1⟩
      :: ⟨Rect.unit (s := S3x3072) ![2, 0] ![1, 3072] i2, w2⟩ :: L) (ix2 i j) = (![w0, w1, w2] : Fin 3 → _) i (ix2 0 j) := by
  have at0 : ∀ n : Nat, ∀ a : Fin 2, n = i.val → ((ix2 i j : S3x3072.Idx) a).val = (![n, 0] : Fin 2 → Nat) a + ((ix2 0 j : S1x3072.Idx) a).val := by
    intro n a h
    match a with
    | 0 => exact h.symm
    | 1 => exact (Nat.zero_add _).symm
  obtain rfl | rfl | rfl := three i
  · exact hit (S := S3x3072) i0 w0 _ (ix2 0 j) (ix2 0 j) fun a => at0 0 a rfl
  · rw [miss _ _ _ _ (0 : Fin 2) (.inr (by decide : 0 + 1 ≤ 1))]
    exact hit (S := S3x3072) i1 w1 _ (ix2 1 j) (ix2 0 j) fun a => at0 1 a rfl
  · rw [miss _ _ _ _ (0 : Fin 2) (.inr (by decide : 0 + 1 ≤ 2)), miss _ _ _ _ (0 : Fin 2) (.inr (by decide : 1 + 1 ≤ 2))]
    exact hit (S := S3x3072) i2 w2 _ (ix2 2 j) (ix2 0 j) fun a => at0 2 a rfl

/-- The part stored is a row below the row `i`. -/
def rowBelow (i : Nat) (p : View.Piece (Elt Ideal) S3x3072 .f32) : Prop :=
  ∃ n : Nat, i < n ∧ ∃ (inb : _) (w : _), p = ⟨Rect.unit (s := S3x3072) ![n, 0] ![1, 3072] inb, w⟩

theorem rowBelow_cons {i : Nat} (n : Nat) (h : i < n) {inb w} {L : List (View.Piece (Elt Ideal) S3x3072 .f32)} (hL : ∀ p ∈ L, rowBelow i p) :
    ∀ p ∈ (⟨Rect.unit (s := S3x3072) ![n, 0] ![1, 3072] inb, w⟩ : View.Piece (Elt Ideal) S3x3072 .f32) :: L, rowBelow i p :=
  List.forall_mem_cons.mpr ⟨⟨n, h, inb, w, rfl⟩, hL⟩

/-- A row loaded after stores to the rows below it only, over an array stored whole. -/
theorem fresh_row {κ : Kind} {sp : Space} (v : View sig κ sp S3x3072 .f32) (i : Fin 3)
    (z : Vec Ideal S3x3072 .f32) (L : List (View.Piece (Elt Ideal) S3x3072 .f32)) (hL : ∀ p ∈ L, rowBelow i.val p)
    (iz : ∀ a, (![0, 0] : Fin 2 → Nat) a + (![3, 3072] : Fin 2 → Nat) a ≤ S3x3072.size a)
    (inb : ∀ a, (![i.val, 0] : Fin 2 → Nat) a + (![1, 3072] : Fin 2 → Nat) a ≤ S3x3072.size a) (j : Fin 3072) :
    v.readCov (L ++ [⟨Rect.unit (s := S3x3072) ![0, 0] ![3, 3072] iz, z⟩]) (Rect.unit (s := S3x3072) ![i.val, 0] ![1, 3072] inb).toLoadRect (ix2 0 j)
      = z (ix2 i j) := by
  refine (load v _ inb (ix2 0 j) (ix2 i j) fun a => ?_).trans
    (first (S := S3x3072) (off := ![0, 0]) (fun a => match a with | 0 => rfl | 1 => rfl) iz z _ L fun p hp => ?_)
  · match a with
    | 0 => exact (Nat.add_zero _).symm
    | 1 => exact (Nat.zero_add _).symm
  · obtain ⟨n, hn, q, w, rfl⟩ := hL p hp
    exact off_part (S := S3x3072) q _ (0 : Fin 2) (.inl hn)

theorem taps_A (a : Args (argX m c) (argC m c) (argB m c) (argW m c) (argG m c) (argD m c) x k b w g d) (t : Fin cfg0.N) (h : t.val % 16 = 0) (i : Fin 3) (j : Fin 3072) :
    (outsAt0 m c t.val t.isLt).2.2.1 (ix2 i j) = 0 + ∑ r, ((tapOf x (conv x k b) w g d i (rowAt t r) j : ℝ) : EReal) := by
  rw [outsAt0_A m c t h]; frame_out
  rw [three_rows]
  refine (taps_block (blocks a t) (kept_A t h) ![_, _, _] i j).trans (congrArg (· + _) ?_)
  obtain rfl | rfl | rfl := three i
  · exact (fresh_row _ 0 _ [_, _] (rowBelow_cons 1 (by decide) (rowBelow_cons 2 (by decide) (by simp))) _ _ j).trans (zero_taps _)
  · exact (fresh_row _ 1 _ [_] (rowBelow_cons 2 (by decide) (by simp)) _ _ j).trans (zero_taps _)
  · exact (fresh_row _ 2 _ [] (by simp) _ _ j).trans (zero_taps _)

theorem taps_B (a : Args (argX m c) (argC m c) (argB m c) (argW m c) (argG m c) (argD m c) x k b w g d) (t : Fin cfg0.N) (h : ¬ t.val % 16 = 0) (i : Fin 3) (j : Fin 3072) :
    (outsAt0 m c t.val t.isLt).2.2.1 (ix2 i j) = (outsAt0 m c (t.val - 1) (Nat.lt_of_le_of_lt (Nat.sub_le _ _) t.isLt)).2.2.1 (ix2 i j) + ∑ r, ((tapOf x (conv x k b) w g d i (rowAt t r) j : ℝ) : EReal) := by
  rw [outsAt0_B m c t h]; frame_out
  rw [three_rows]
  simp only [read_unread_whole]
  refine (taps_block (blocks a t) (kept_B a t h) ![_, _, _] i j).trans (congrArg (· + _) ?_)
  obtain rfl | rfl | rfl := three i <;> pointwise []

end Cert.Kernel3Ideal.Val

end
-- ==== Proof.FfnDownArrays.lean ====
/-
  The channel mixer's gradient kernel: its five output arrays, entry by entry.
-/
module

public import proofs.«01_k».proof.Proof.FfnDownRows
public import proofs.«01_k».proof.Proof.FfnDownSums
import Idealize.ShloMosaic.Lib.Claim
import Idealize.ShloMosaic.Lib.Pipeline.ReadBack

@[expose] public section

set_option maxRecDepth 16384
set_option maxHeartbeats 1000000

noncomputable section

namespace Cert.Kernel3Ideal.Val

open Cert.Kernel3Ideal Cert.Kernel3Ideal.Gen Idealize.ShloMosaic Idealize.ShloMosaic.TcCoe Idealize.SL.Sem
open Cert.Reals Cert.Norm Cert.Gelu Cert.FfnDown Cert.Reference3Ideal.Val Cert.Pieces

variable {m : (ℓ : Loc nD τ sig) → Buf (Elt Ideal) ℓ} {c : Dev nD} {x : Fin 4096 → Fin 6144 → ℝ} {k : Fin 3 → Fin 3072 → ℝ} {b : Fin 3072 → ℝ}
  {w : Fin 3072 → Fin 1024 → ℝ} {g : Fin 1024 → ℝ} {d : Fin 4096 → Fin 1024 → ℝ}

theorem at8 (t : Fin cfg0.N) (r : Fin 256) (j : Fin 6144) :
    ((View.whole main_v73_0).slice (win0_8.rect t)).emb (ix2 r j) = ix2 (rowAt t r) j := by
  blk_ext [idx t]
  rfl

/-- An entry of the up projection's gradient. -/
def rowsE (x : Fin 4096 → Fin 6144 → ℝ) (z : Fin 4096 → Fin 3072 → ℝ) (w : Fin 3072 → Fin 1024 → ℝ) (g : Fin 1024 → ℝ)
    (d : Fin 4096 → Fin 1024 → ℝ) (k : Fin 3 → Fin 3072 → ℝ) (t : Fin 4096) (j : Fin 6144) : EReal := ((dup x z w g d k t j : ℝ) : EReal)

theorem rowsE_at (a : Args (argX m c) (argC m c) (argB m c) (argW m c) (argG m c) (argD m c) x k b w g d) (t : Fin cfg0.N) (r : Fin 256) (j : Fin 6144) :
    (outsAt0 m c t.val t.isLt).1 (ix2 r j) = rowsE x (conv x k b) w g d k (rowAt t r) j := rows_at a t r j

attribute [local irreducible] rowsE

/-- The up projection's gradient. -/
theorem rows_array (a : Args (argX m c) (argC m c) (argB m c) (argW m c) (argG m c) (argD m c) x k b w g d) :
    (dats m 0 c).arrAt 8 cfg0.N = fun i => rowsE x (conv x k b) w g d k (i 0) (i 1) := by
  refine (dats m 0 c).arrAt_eq_of_covers 8 _ (by decide +kernel) fun t _ y => ?_
  blk_simp
  rw [after0_8]
  idx_vars y
  rw [at8 t]
  exact rowsE_at a t y0 y1

/-- Sums over the points and the rows of their blocks are sums over the tokens. -/
theorem sum_rows (f : Fin 4096 → EReal) : ∑ s : Fin cfg0.N, ∑ r, f (rowAt s r) = ∑ l, f l := by
  refine Eq.trans ?_ (Fin.sum_mul_add_fin 16 256 f)
  refine Eq.trans ?_ (Equiv.sum_comp (Fin.revPerm (n := 16)) fun s => ∑ k : Fin 256, f ⟨s.val * 256 + k.val, _⟩)
  refine Fintype.sum_equiv (finCongr N_0) _ _ fun s => Finset.sum_congr rfl fun r _ => congrArg f (Fin.ext ?_)
  have h : s.val < 16 := lt_of_lt_of_eq s.isLt (show cfg0.N = 16 from N_0)
  show (15 - s.val) * 256 + r.val = (16 - (s.val + 1)) * 256 + r.val
  omega

/-- A token's part of the down projection's gradient. -/
def projE (x : Fin 4096 → Fin 6144 → ℝ) (z : Fin 4096 → Fin 3072 → ℝ) (w : Fin 3072 → Fin 1024 → ℝ) (g : Fin 1024 → ℝ)
    (d : Fin 4096 → Fin 1024 → ℝ) (j : Fin 3072) (l : Fin 1024) (t : Fin 4096) : EReal := ((hid x z t j * ddown x z w g d t l : ℝ) : EReal)

/-- A token's part of the convolution weights' gradient. -/
def tapsE (x : Fin 4096 → Fin 6144 → ℝ) (z : Fin 4096 → Fin 3072 → ℝ) (w : Fin 3072 → Fin 1024 → ℝ) (g : Fin 1024 → ℝ)
    (d : Fin 4096 → Fin 1024 → ℝ) (i : Fin 3) (j : Fin 3072) (t : Fin 4096) : EReal := ((tapOf x z w g d i t j : ℝ) : EReal)

/-- A token's part of the convolution bias's gradient. -/
def biasE (x : Fin 4096 → Fin 6144 → ℝ) (z : Fin 4096 → Fin 3072 → ℝ) (w : Fin 3072 → Fin 1024 → ℝ) (g : Fin 1024 → ℝ)
    (d : Fin 4096 → Fin 1024 → ℝ) (j : Fin 3072) (t : Fin 4096) : EReal := ((dconv x z w g d t j : ℝ) : EReal)

/-- A token's part of the norm scale's gradient. -/
def scaleE (x : Fin 4096 → Fin 6144 → ℝ) (z : Fin 4096 → Fin 3072 → ℝ) (w : Fin 3072 → Fin 1024 → ℝ) (g : Fin 1024 → ℝ)
    (d : Fin 4096 → Fin 1024 → ℝ) (l : Fin 1024) (t : Fin 4096) : EReal := ((d t l * (down x z w t l * invRms (down x z w t)) : ℝ) : EReal)

theorem projE_A (a : Args (argX m c) (argC m c) (argB m c) (argW m c) (argG m c) (argD m c) x k b w g d) (t : Fin cfg0.N) (h : t.val % 16 = 0) (j : Fin 3072) (l : Fin 1024) :
    (outsAt0 m c t.val t.isLt).2.1 (ix2 j l) = 0 + ∑ r, projE x (conv x k b) w g d j l (rowAt t r) := proj_A a t h j l

theorem projE_B (a : Args (argX m c) (argC m c) (argB m c) (argW m c) (argG m c) (argD m c) x k b w g d) (t : Fin cfg0.N) (h : ¬ t.val % 16 = 0) (j : Fin 3072) (l : Fin 1024) :
    (outsAt0 m c t.val t.isLt).2.1 (ix2 j l) = (outsAt0 m c (t.val - 1) (Nat.lt_of_le_of_lt (Nat.sub_le _ _) t.isLt)).2.1 (ix2 j l) + ∑ r, projE x (conv x k b) w g d j l (rowAt t r) := proj_B a t h j l

theorem tapsE_A (a : Args (argX m c) (argC m c) (argB m c) (argW m c) (argG m c) (argD m c) x k b w g d) (t : Fin cfg0.N) (h : t.val % 16 = 0) (i : Fin 3) (j : Fin 3072) :
    (outsAt0 m c t.val t.isLt).2.2.1 (ix2 i j) = 0 + ∑ r, tapsE x (conv x k b) w g d i j (rowAt t r) := taps_A a t h i j

theorem tapsE_B (a : Args (argX m c) (argC m c) (argB m c) (argW m c) (argG m c) (argD m c) x k b w g d) (t : Fin cfg0.N) (h : ¬ t.val % 16 = 0) (i : Fin 3) (j : Fin 3072) :
    (outsAt0 m c t.val t.isLt).2.2.1 (ix2 i j) = (outsAt0 m c (t.val - 1) (Nat.lt_of_le_of_lt (Nat.sub_le _ _) t.isLt)).2.2.1 (ix2 i j) + ∑ r, tapsE x (conv x k b) w g d i j (rowAt t r) := taps_B a t h i j

theorem biasE_A (a : Args (argX m c) (argC m c) (argB m c) (argW m c) (argG m c) (argD m c) x k b w g d) (t : Fin cfg0.N) (h : t.val % 16 = 0) (i : Fin 1) (j : Fin 3072) :
    (outsAt0 m c t.val t.isLt).2.2.2.1 (ix2 i j) = 0 + ∑ r, biasE x (conv x k b) w g d j (rowAt t r) := bias_A a t h i j

theorem biasE_B (a : Args (argX m c) (argC m c) (argB m c) (argW m c) (argG m c) (argD m c) x k b w g d) (t : Fin cfg0.N) (h : ¬ t.val % 16 = 0) (i : Fin 1) (j : Fin 3072) :
    (outsAt0 m c t.val t.isLt).2.2.2.1 (ix2 i j) = (outsAt0 m c (t.val - 1) (Nat.lt_of_le_of_lt (Nat.sub_le _ _) t.isLt)).2.2.2.1 (ix2 i j) + ∑ r, biasE x (conv x k b) w g d j (rowAt t r) := bias_B a t h i j

theorem scaleE_A (a : Args (argX m c) (argC m c) (argB m c) (argW m c) (argG m c) (argD m c) x k b w g d) (t : Fin cfg0.N) (h : t.val % 16 = 0) (i : Fin 1) (l : Fin 1024) :
    (outsAt0 m c t.val t.isLt).2.2.2.2.1 (ix2 i l) = 0 + ∑ r, scaleE x (conv x k b) w g d l (rowAt t r) := scale_A a t h i l

theorem scaleE_B (a : Args (argX m c) (argC m c) (argB m c) (argW m c) (argG m c) (argD m c) x k b w g d) (t : Fin cfg0.N) (h : ¬ t.val % 16 = 0) (i : Fin 1) (l : Fin 1024) :
    (outsAt0 m c t.val t.isLt).2.2.2.2.1 (ix2 i l) = (outsAt0 m c (t.val - 1) (Nat.lt_of_le_of_lt (Nat.sub_le _ _) t.isLt)).2.2.2.2.1 (ix2 i l) + ∑ r, scaleE x (conv x k b) w g d l (rowAt t r) := scale_B a t h i l

attribute [local irreducible] projE tapsE biasE scaleE

theorem proj_array (a : Args (argX m c) (argC m c) (argB m c) (argW m c) (argG m c) (argD m c) x k b w g d) :
    (dats m 0 c).arrAt 9 cfg0.N = fun i => ∑ t, projE x (conv x k b) w g d (i 0) (i 1) t := by
  refine (dats m 0 c).arrAt_eq_of_after_last 9 t0_15 (by decide +kernel) _ fun i => ?_
  blk_simp
  rw [after0_9, Pipeline.eq_sum_fin_of_reset_step_apply_last (fun n h => (outsAt0 m c n h).2.1) 16 (fun _ => 0)
    (fun t i => ∑ r, projE x (conv x k b) w g d (i 0) (i 1) (rowAt t r))
    (fun t hc i => by idx_vars i; exact projE_A a t hc _ _)
    (fun t hc i => by idx_vars i; exact projE_B a t hc _ _) (le_of_eq N_0) t0_15 rfl i, zero_add]
  idx_vars i
  exact sum_rows (projE x (conv x k b) w g d i0 i1)

theorem taps_array (a : Args (argX m c) (argC m c) (argB m c) (argW m c) (argG m c) (argD m c) x k b w g d) :
    (dats m 0 c).arrAt 10 cfg0.N = fun i => ∑ t, tapsE x (conv x k b) w g d (i 0) (i 1) t := by
  refine (dats m 0 c).arrAt_eq_of_after_last 10 t0_15 (by decide +kernel) _ fun i => ?_
  blk_simp
  rw [after0_10, Pipeline.eq_sum_fin_of_reset_step_apply_last (fun n h => (outsAt0 m c n h).2.2.1) 16 (fun _ => 0)
    (fun t i => ∑ r, tapsE x (conv x k b) w g d (i 0) (i 1) (rowAt t r))
    (fun t hc i => by idx_vars i; exact tapsE_A a t hc _ _)
    (fun t hc i => by idx_vars i; exact tapsE_B a t hc _ _) (le_of_eq N_0) t0_15 rfl i, zero_add]
  idx_vars i
  exact sum_rows (tapsE x (conv x k b) w g d i0 i1)

theorem bias_array (a : Args (argX m c) (argC m c) (argB m c) (argW m c) (argG m c) (argD m c) x k b w g d) :
    (dats m 0 c).arrAt 11 cfg0.N = fun i => ∑ t, biasE x (conv x k b) w g d (i 1) t := by
  refine (dats m 0 c).arrAt_eq_of_after_last 11 t0_15 (by decide +kernel) _ fun i => ?_
  blk_simp
  rw [after0_11, Pipeline.eq_sum_fin_of_reset_step_apply_last (fun n h => (outsAt0 m c n h).2.2.2.1) 16 (fun _ => 0)
    (fun t i => ∑ r, biasE x (conv x k b) w g d (i 1) (rowAt t r))
    (fun t hc i => by idx_vars i; exact biasE_A a t hc _ _)
    (fun t hc i => by idx_vars i; exact biasE_B a t hc _ _) (le_of_eq N_0) t0_15 rfl i, zero_add]
  idx_vars i
  exact sum_rows (biasE x (conv x k b) w g d i1)

theorem scale_array (a : Args (argX m c) (argC m c) (argB m c) (argW m c) (argG m c) (argD m c) x k b w g d) :
    (dats m 0 c).arrAt 12 cfg0.N = fun i => ∑ t, scaleE x (conv x k b) w g d (i 1) t := by
  refine (dats m 0 c).arrAt_eq_of_after_last 12 t0_15 (by decide +kernel) _ fun i => ?_
  blk_simp
  rw [after0_12, Pipeline.eq_sum_fin_of_reset_step_apply_last (fun n h => (outsAt0 m c n h).2.2.2.2.1) 16 (fun _ => 0)
    (fun t i => ∑ r, scaleE x (conv x k b) w g d (i 1) (rowAt t r))
    (fun t hc i => by idx_vars i; exact scaleE_A a t hc _ _)
    (fun t hc i => by idx_vars i; exact scaleE_B a t hc _ _) (le_of_eq N_0) t0_15 rfl i, zero_add]
  idx_vars i
  exact sum_rows (scaleE x (conv x k b) w g d i1)

end Cert.Kernel3Ideal.Val

end
-- ==== Proof.FfnDownClaim.lean ====
/-
  The gradient of the down projection and the gated convolution before it: the kernel's results are the reference's.
-/
module

public import proofs.«01_k».proof.Defs
public import proofs.«01_k».proof.Proof.Gen.Kernel3Ideal
public import proofs.«01_k».proof.Proof.Gen.Reference3Ideal
public import proofs.«01_k».proof.Proof.Gen.Pre_ffn_down_finite
public import proofs.«01_k».proof.Proof.Gen.Reference3Ideal.Run
public import proofs.«01_k».proof.Proof.FfnDownArrays
public import proofs.«01_k».proof.Proof.FfnDownReference
public import Idealize.ShloMosaic.Adequacy
public import Idealize.ShloMosaic.Init

@[expose] public section

set_option maxHeartbeats 2000000

noncomputable section

namespace Cert.Proof

open Idealize.ShloMosaic Idealize.SL.Sem Cert.Reals Cert.Pieces Cert.FfnDown

/-- The reference runs on the host alone and declares no semaphore. -/
theorem ffn_down_reference_frame : quiescent_Reference3Ideal := fun m ρ _ =>
  (θ_run _ _ _).mono (fun r h => ⟨fun c => (h c).2.2.2.2.2, sem_eq_zero_of_no_sems (by decide) r.2⟩) (Cert.Reference3Ideal.Value.run m ρ)

/-- All five results of the call: the gradients of the up projection's rows, of the down projection, of the convolution's
    weights and bias, and of the norm's scale. -/
theorem ffn_down : algebraic_Kernel3Ideal_Reference3Ideal_pre_ffn_down_finite := by
  intro m ρ m' ρ' hpre hargs
  refine ⟨_, _, _, _, _, (θ_run _ _ _).mono (fun r h => h) (Cert.Kernel3Ideal.Value.run_blocks m ρ),
    (θ_run _ _ _).mono (fun r h c => ?_) (Cert.Reference3Ideal.Value.run m' ρ')⟩
  obtain ⟨h1, h2, h3, h4, h5, h6⟩ := hpre c
  obtain ⟨a0, a1, a2, a3, a4, a5⟩ := hargs c
  obtain ⟨x, hx⟩ := real_of_finite _ _ h1
  obtain ⟨k, hk⟩ := real_of_finite _ _ h2
  obtain ⟨b, hb⟩ := real_of_finite _ _ h3
  obtain ⟨w, hw⟩ := real_of_finite _ _ h4
  obtain ⟨g, hg⟩ := real_of_finite _ _ h5
  obtain ⟨d, hd⟩ := real_of_finite _ _ h6
  have a : Cert.Reference3Ideal.Val.Args (Cert.Kernel3Ideal.Val.argX m c) (Cert.Kernel3Ideal.Val.argC m c) (Cert.Kernel3Ideal.Val.argB m c)
      (Cert.Kernel3Ideal.Val.argW m c) (Cert.Kernel3Ideal.Val.argG m c) (Cert.Kernel3Ideal.Val.argD m c)
      (fun t j => x (ix3 0 t j)) (fun i j => k (ix2 i j)) (fun j => b (ix1 j)) (fun j l => w (ix2 j l)) (fun l => g (ix1 l))
      (fun t l => d (ix3 0 t l)) :=
    ⟨fun t j => hx _, fun i j => hk _, fun j => hb _, fun j l => hw _, fun l => hg _, fun t l => hd _⟩
  have a' : Cert.Reference3Ideal.Val.Args (Cert.Kernel3Ideal.Val.argX m c) (Cert.Kernel3Ideal.Val.argC m c) (Cert.Kernel3Ideal.Val.argB m c)
      (Cert.Kernel3Ideal.Val.argW m c) (Cert.Kernel3Ideal.Val.argG m c) (Cert.Kernel3Ideal.Val.argD m c)
      _ _ _ _ _ _ := a
  unfold Cert.Kernel3Ideal.Val.argX Cert.Kernel3Ideal.Val.argC Cert.Kernel3Ideal.Val.argB Cert.Kernel3Ideal.Val.argW Cert.Kernel3Ideal.Val.argG
    Cert.Kernel3Ideal.Val.argD at a'
  rw [← a0, ← a1, ← a2, ← a3, ← a4, ← a5] at a'
  obtain ⟨r0, r1, r2, r3, r4, rest⟩ := h c
  clear hpre hargs h h1 h2 h3 h4 h5 h6 hx hk hb hw hg hd a0 a1 a2 a3 a4 a5
  refine ⟨?_, ?_, ?_, ?_, ?_, rest⟩
  · rw [r0, Cert.Reference3Ideal.Read.val_main_v145_eq]
    refine Eq.trans ?_ (Cert.Kernel3Ideal.Val.rows_array a).symm
    funext i
    idx_vars i
    exact Cert.Reference3Ideal.Val.rows_ref a' i0 i1
  · rw [r1, Cert.Reference3Ideal.Read.val_main_v89_eq]
    refine Eq.trans ?_ (Cert.Kernel3Ideal.Val.proj_array a).symm
    funext i
    idx_vars i
    exact (Cert.Reference3Ideal.Val.proj_ref a' i0 i1).trans (coe_sum _ _).symm
  · rw [r2, Cert.Reference3Ideal.Read.val_main_v137_eq]
    refine Eq.trans ?_ (Cert.Kernel3Ideal.Val.taps_array a).symm
    funext i
    idx_vars i
    exact (Cert.Reference3Ideal.Val.taps_ref a' i0 i1).trans (coe_sum _ _).symm
  · rw [r3, Cert.Reference3Ideal.Read.val_main_v146_eq]
    refine Eq.trans ?_ (Cert.Kernel3Ideal.Val.bias_array a).symm
    funext i
    idx_vars i
    exact (Cert.Reference3Ideal.Val.bias_ref a' i0 i1).trans (coe_sum _ _).symm
  · rw [r4, Cert.Reference3Ideal.Read.val_main_v147_eq]
    refine Eq.trans ?_ (Cert.Kernel3Ideal.Val.scale_array a).symm
    funext i
    idx_vars i
    exact (Cert.Reference3Ideal.Val.scale_ref a' i0 i1).trans (coe_sum _ _).symm

end Cert.Proof

end
-- ==== Proof.MergeMath.lean ====
/-
  The gated merge of the two branches, its norm and their gradients, as functions of real numbers.
-/
module

public import proofs.«01_k».proof.Proof.Norm

@[expose] public section

noncomputable section

namespace Cert.Merge

open Idealize.ShloMosaic Cert.Reals Cert.Norm

/-- The logistic function. -/
def logistic (z : ℝ) : ℝ := 1 / (1 + Real.exp (-z))

/-- The form in which the host computes it. -/
theorem coe_logistic (z : ℝ) : Ideal.div (1 : EReal) (1 + Ideal.exp (-(z : EReal))) = ((logistic z : ℝ) : EReal) := by
  rw [← EReal.coe_neg, Ideal.exp_coe, ← EReal.coe_one, ← EReal.coe_add, coe_div (by positivity), logistic]

section
variable (a b u v : Fin 4096 → Fin 1024 → ℝ) (w : Fin 1024 → Fin 1024 → ℝ) (g : Fin 1024 → ℝ) (d : Fin 4096 → Fin 1024 → ℝ)

/-- The merged row, of the gates `a` and `b` and the branches `u` and `v`. -/
def mixed (t : Fin 4096) (k : Fin 1024) : ℝ := a t k * u t k + b t k * v t k

/-- The row that the norm takes. -/
def out (t : Fin 4096) (l : Fin 1024) : ℝ := ∑ k, mixed a b u v t k * w k l

/-- Its gradient. -/
def dout (t : Fin 4096) (l : Fin 1024) : ℝ := back (out a b u v w t) g (d t) l

/-- The merged row's gradient. -/
def dmixed (t : Fin 4096) (k : Fin 1024) : ℝ := ∑ l, dout a b u v w g d t l * w k l

/-- The gradient of a gate's argument: `s` the gate, `y` its branch. -/
def dgate (s y : Fin 4096 → Fin 1024 → ℝ) (t : Fin 4096) (k : Fin 1024) : ℝ := dmixed a b u v w g d t k * y t k * s t k * (1 - s t k)

/-- The gradient of a branch, `s` its gate. -/
def dbranch (s : Fin 4096 → Fin 1024 → ℝ) (t : Fin 4096) (k : Fin 1024) : ℝ := dmixed a b u v w g d t k * s t k

/-- A token's part of the projection's gradient, and of the scale's. -/
def projOf (t : Fin 4096) (k l : Fin 1024) : ℝ := mixed a b u v t k * dout a b u v w g d t l
def scaleOf (t : Fin 4096) (l : Fin 1024) : ℝ := d t l * (out a b u v w t l * invRms (out a b u v w t))

end

end Cert.Merge

end
-- ==== Proof.MergeBlocks.lean ====
/-
  What the merge's backward kernel computes on one block of rows, the blocks it reads real numbers.
-/
module

public import proofs.«01_k».proof.Proof.Gen.Kernel4Ideal.Value
public import proofs.«01_k».proof.Proof.MergeMath
public import proofs.«01_k».proof.Proof.Gelu
public import Idealize.ShloMosaic.Lib.KernelVsHost

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Cert.Reals Cert.Norm Cert.Gelu Cert.Merge

/-- The blocks at a point hold real numbers: row `r` of a block is the token `row r`. -/
structure Blocks (D N : Vec Ideal S512x1024 .f32) (A B : Vec Ideal S512x1024 .bf16) (U : Vec Ideal S512x1024 .f32) (V : Vec Ideal S512x1024 .bf16)
    (G : Vec Ideal S1x1024 .f32) (W : Vec Ideal S1024x1024 .bf16) (a b u v : Fin 4096 → Fin 1024 → ℝ) (w : Fin 1024 → Fin 1024 → ℝ)
    (g : Fin 1024 → ℝ) (d : Fin 4096 → Fin 1024 → ℝ) (row : Fin 512 → Fin 4096) : Prop where
  hD : ∀ r k, D (ix2 r k) = ((d (row r) k : ℝ) : EReal)
  hN : ∀ r k, N (ix2 r k) = ((out a b u v w (row r) k : ℝ) : EReal)
  hA : ∀ r k, A (ix2 r k) = ((a (row r) k : ℝ) : EReal)
  hB : ∀ r k, B (ix2 r k) = ((b (row r) k : ℝ) : EReal)
  hU : ∀ r k, U (ix2 r k) = ((u (row r) k : ℝ) : EReal)
  hV : ∀ r k, V (ix2 r k) = ((v (row r) k : ℝ) : EReal)
  hG : ∀ k, G (ix2 0 k) = ((g k : ℝ) : EReal)
  hW : ∀ k l, W (ix2 k l) = ((w k l : ℝ) : EReal)

variable {D N : Vec Ideal S512x1024 .f32} {A B : Vec Ideal S512x1024 .bf16} {U : Vec Ideal S512x1024 .f32} {V : Vec Ideal S512x1024 .bf16}
  {G : Vec Ideal S1x1024 .f32} {W : Vec Ideal S1024x1024 .bf16} {a b u v : Fin 4096 → Fin 1024 → ℝ} {w : Fin 1024 → Fin 1024 → ℝ}
  {g : Fin 1024 → ℝ} {d : Fin 4096 → Fin 1024 → ℝ} {row : Fin 512 → Fin 4096}

theorem dout_block (h : Blocks D N A B U V G W a b u v w g d row) (r : Fin 512) (k : Fin 1024) :
    k0_pay9 N G D (ix2 r k) = ((dout a b u v w g d (row r) k : ℝ) : EReal) := by
  pointwise [k0_pay9, k0_pay8, k0_pay7, k0_pay6, k0_pay5]
  rw [coe_inv (fun k => N (ix2 r k)) (out a b u v w (row r)) (h.hN r)]
  exact coe_back (fun k => N (ix2 r k)) (fun k => G (ix2 0 k)) (fun k => D (ix2 r k)) (out a b u v w (row r)) g (d (row r)) (h.hN r) h.hG (h.hD r) k

theorem dmixed_block (h : Blocks D N A B U V G W a b u v w g d row) (r : Fin 512) (k : Fin 1024) :
    k0_pay11 (k0_pay9 N G D) W (ix2 r k) = ((dmixed a b u v w g d (row r) k : ℝ) : EReal) := by
  have e := dout_block h
  generalize k0_pay9 N G D = Y at e ⊢
  pointwise [k0_pay11]
  simp only [e, h.hW, ← EReal.coe_mul, coe_sum]
  rfl

theorem gate_p_block (h : Blocks D N A B U V G W a b u v w g d row) (r : Fin 512) (k : Fin 1024) :
    k0_pay17 (k0_pay9 N G D) W A U (ix2 r k) = ((dgate a b u v w g d a u (row r) k : ℝ) : EReal) := by
  have e := dmixed_block h
  generalize k0_pay9 N G D = Y at e ⊢
  pointwise [k0_pay17, k0_pay14, k0_pay12]
  rw [e, h.hU, h.hA, ← EReal.coe_one, ← EReal.coe_sub, ← EReal.coe_mul, ← EReal.coe_mul, ← EReal.coe_mul]
  rfl

theorem gate_q_block (h : Blocks D N A B U V G W a b u v w g d row) (r : Fin 512) (k : Fin 1024) :
    k0_pay18 (k0_pay9 N G D) W B V (ix2 r k) = ((dgate a b u v w g d b v (row r) k : ℝ) : EReal) := by
  have e := dmixed_block h
  generalize k0_pay9 N G D = Y at e ⊢
  pointwise [k0_pay18, k0_pay15, k0_pay13]
  rw [e, h.hV, h.hB, ← EReal.coe_one, ← EReal.coe_sub, ← EReal.coe_mul, ← EReal.coe_mul, ← EReal.coe_mul]
  rfl

theorem branch_p_block (h : Blocks D N A B U V G W a b u v w g d row) (r : Fin 512) (k : Fin 1024) :
    k0_pay1 (k0_pay11 (k0_pay9 N G D) W) (k0_pay12 A) (ix2 r k) = ((dbranch a b u v w g d a (row r) k : ℝ) : EReal) := by
  have e := dmixed_block h
  generalize k0_pay11 (k0_pay9 N G D) W = Y at e ⊢
  pointwise [k0_pay1, k0_pay12]
  rw [e, h.hA, ← EReal.coe_mul]
  rfl

theorem branch_q_block (h : Blocks D N A B U V G W a b u v w g d row) (r : Fin 512) (k : Fin 1024) :
    k0_pay2 (k0_pay11 (k0_pay9 N G D) W) (k0_pay13 B) (ix2 r k) = ((dbranch a b u v w g d b (row r) k : ℝ) : EReal) := by
  have e := dmixed_block h
  generalize k0_pay11 (k0_pay9 N G D) W = Y at e ⊢
  pointwise [k0_pay2, k0_pay13]
  rw [e, h.hB, ← EReal.coe_mul]
  rfl

theorem proj_block (h : Blocks D N A B U V G W a b u v w g d row) (S : Vec Ideal S1024x1024 .f32) (k l : Fin 1024) :
    k0_pay16 (k0_pay9 N G D) A B U V S (ix2 k l) = S (ix2 k l) + ∑ r, ((projOf a b u v w g d (row r) k l : ℝ) : EReal) := by
  have e := dout_block h
  generalize k0_pay9 N G D = Y at e ⊢
  pointwise [k0_pay16, k0_pay15, k0_pay14, k0_pay13, k0_pay12]
  simp only [e, h.hA, h.hB, h.hU, h.hV, ← EReal.coe_mul, ← EReal.coe_add]
  rfl

theorem scale_block (h : Blocks D N A B U V G W a b u v w g d row) (S : Vec Ideal S1x1024 .f32) (i : Fin 1) (l : Fin 1024) :
    k0_pay10 N D S (ix2 i l) = S (ix2 i l) + ∑ r, ((scaleOf a b u v w d (row r) l : ℝ) : EReal) := by
  obtain rfl := Subsingleton.elim i 0
  pointwise [k0_pay10, k0_pay8, k0_pay7, k0_pay6, k0_pay5]
  refine congrArg (_ + ·) (Finset.sum_congr rfl fun r _ => ?_)
  rw [coe_inv (fun k => N (ix2 r k)) (out a b u v w (row r)) (h.hN r), h.hN, h.hD, ← EReal.coe_mul, ← EReal.coe_mul]
  rfl

theorem zero_proj (i : S1024x1024.Idx) : k0_pay3 (F := Ideal) i = 0 := by pointwise [k0_pay3]

theorem zero_scale (i : S1x1024.Idx) : k0_pay4 (F := Ideal) i = 0 := by pointwise [k0_pay4]

end Cert.Kernel4Ideal.Val

end
-- ==== Proof.MergeReference.lean ====
/-
  The reference of the merge's gradient, at real arguments.
-/
module

public import proofs.«01_k».proof.Proof.Gen.Reference4Ideal.Read
public import proofs.«01_k».proof.Proof.HostSums
public import proofs.«01_k».proof.Proof.MergeMath
public import proofs.«01_k».proof.Proof.Gelu
public import Idealize.ShloMosaic.Lib.Pointwise.Index
import Idealize.ShloMosaic.Lib.Claim

@[expose] public section

set_option maxRecDepth 16384
set_option maxHeartbeats 1000000

noncomputable section

namespace Cert.Reference4Ideal.Val

open Cert.Reference4Ideal Cert.Reference4Ideal.Read Idealize.ShloMosaic Cert.Reals Cert.Norm Cert.Gelu Cert.Merge

/-- The arguments hold real numbers; the gates' values are named `a` and `b`. -/
structure Args (P Q U V : Vec Ideal S1x4096x1024 .f32) (W : Vec Ideal S1024x1024 .f32) (G : Vec Ideal S1024 .f32) (D : Vec Ideal S1x4096x1024 .f32)
    (a b u v : Fin 4096 → Fin 1024 → ℝ) (w : Fin 1024 → Fin 1024 → ℝ) (g : Fin 1024 → ℝ) (d : Fin 4096 → Fin 1024 → ℝ) : Prop where
  hP : ∀ t k, ∃ z : ℝ, P (ix3 0 t k) = (z : EReal) ∧ a t k = logistic z
  hQ : ∀ t k, ∃ z : ℝ, Q (ix3 0 t k) = (z : EReal) ∧ b t k = logistic z
  hU : ∀ t k, U (ix3 0 t k) = ((u t k : ℝ) : EReal)
  hV : ∀ t k, V (ix3 0 t k) = ((v t k : ℝ) : EReal)
  hW : ∀ k l, W (ix2 k l) = ((w k l : ℝ) : EReal)
  hG : ∀ l, G (ix1 l) = ((g l : ℝ) : EReal)
  hD : ∀ t l, D (ix3 0 t l) = ((d t l : ℝ) : EReal)

variable {P Q U V : Vec Ideal S1x4096x1024 .f32} {W : Vec Ideal S1024x1024 .f32} {G : Vec Ideal S1024 .f32} {D : Vec Ideal S1x4096x1024 .f32}
  {a b u v : Fin 4096 → Fin 1024 → ℝ} {w : Fin 1024 → Fin 1024 → ℝ} {g : Fin 1024 → ℝ} {d : Fin 4096 → Fin 1024 → ℝ}

theorem gate_p (h : Args P Q U V W G D a b u v w g d) (t : Fin 4096) (k : Fin 1024) :
    val_main_v5 (F := Ideal) P (ix3 0 t k) = ((a t k : ℝ) : EReal) := by
  obtain ⟨z, hz, e⟩ := h.hP t k
  pointwise [val_main_v5, val_main_v4, val_main_cst_0, val_main_v3, val_main_v2, val_main_cst, val_main_v1, val_main_v0]
  rw [hz, e]
  exact coe_logistic z

theorem gate_q (h : Args P Q U V W G D a b u v w g d) (t : Fin 4096) (k : Fin 1024) :
    val_main_v15 (F := Ideal) Q (ix3 0 t k) = ((b t k : ℝ) : EReal) := by
  obtain ⟨z, hz, e⟩ := h.hQ t k
  pointwise [val_main_v15, val_main_v14, val_main_cst_3, val_main_v13, val_main_v12, val_main_cst_2, val_main_v11, val_main_v10]
  rw [hz, e]
  exact coe_logistic z

theorem mixed_ref (h : Args P Q U V W G D a b u v w g d) (t : Fin 4096) (k : Fin 1024) :
    val_main_v20 (F := Ideal) P Q U V (ix3 0 t k) = ((mixed a b u v t k : ℝ) : EReal) := by
  pointwise [val_main_v20, val_main_v19, val_main_v9]
  rw [gate_p h, gate_q h, h.hU, h.hV, ← EReal.coe_mul, ← EReal.coe_mul, ← EReal.coe_add]
  rfl

theorem out_ref (h : Args P Q U V W G D a b u v w g d) (t : Fin 4096) (l : Fin 1024) :
    val_main_v21 (F := Ideal) P Q U V W (ix3 0 t l) = ((out a b u v w t l : ℝ) : EReal) := by
  pointwise [val_main_v21]
  simp only [mixed_ref h, h.hW, ← EReal.coe_mul, coe_sum]
  rfl

theorem dout_ref (h : Args P Q U V W G D a b u v w g d) (t : Fin 4096) (l : Fin 1024) :
    val_main_v58 (F := Ideal) P Q U V W G D (ix3 0 t l) = ((dout a b u v w g d t l : ℝ) : EReal) := by
  have hn := out_ref h
  pointwise [val_main_v58, val_main_v57, val_main_v56, val_main_v55, val_main_v54, val_main_v53, val_main_v52, val_main_cst_13, val_main_v51,
    val_main_v50, val_main_cst_12, val_main_v49, val_main_v48, val_main_v47, val_main_v46, val_main_v45, val_main_cst_11, val_main_v44,
    val_main_v42, val_main_v41, val_main_v35, val_main_v32, val_main_v31, val_main_cst_8, val_main_v30, val_main_v29, val_main_v28,
    val_main_v27, val_main_cst_7, val_main_v26, val_main_v25, val_main_cst_6, val_main_v24, val_main_v23, val_main_cst_5, val_main_v22]
  generalize val_main_v21 (F := Ideal) P Q U V W = Y at hn ⊢
  simp only [coe_meanSq (fun k => Y (ix3 0 t k)) (out a b u v w t) (hn t), rsqrt_meanSq]
  rw [coe_pull (fun k => Y (ix3 0 t k)) (fun k => G (ix1 k)) (fun k => D (ix3 0 t k)) (out a b u v w t) g (d t) (hn t) h.hG (h.hD t),
    hn, h.hG, h.hD, coe_derived_back]
  rfl

theorem dmixed_ref (h : Args P Q U V W G D a b u v w g d) (t : Fin 4096) (k : Fin 1024) :
    val_main_v61 (F := Ideal) P Q U V W G D (ix3 0 t k) = ((dmixed a b u v w g d t k : ℝ) : EReal) := by
  pointwise [val_main_v61]
  simp only [dout_ref h, h.hW, ← EReal.coe_mul, coe_sum]
  rfl

/-- The gates' arguments, then the branches. -/
theorem dgate_p (h : Args P Q U V W G D a b u v w g d) (t : Fin 4096) (k : Fin 1024) :
    val_main_v69 (F := Ideal) P Q U V W G D (ix2 t k) = ((dgate a b u v w g d a u t k : ℝ) : EReal) := by
  pointwise [val_main_v69, val_main_v68, val_main_v67, val_main_v66, val_main_v8, val_main_v7, val_main_v6, val_main_cst_1]
  simp only [dmixed_ref h, gate_p h, h.hU, ofBits_one, ← EReal.coe_mul, ← EReal.coe_sub]
  refine congrArg Real.toEReal ?_
  unfold dgate
  ring

theorem dgate_q (h : Args P Q U V W G D a b u v w g d) (t : Fin 4096) (k : Fin 1024) :
    val_main_v71 (F := Ideal) P Q U V W G D (ix2 t k) = ((dgate a b u v w g d b v t k : ℝ) : EReal) := by
  pointwise [val_main_v71, val_main_v70, val_main_v64, val_main_v63, val_main_v18, val_main_v17, val_main_v16, val_main_cst_4]
  simp only [dmixed_ref h, gate_q h, h.hV, ofBits_one, ← EReal.coe_mul, ← EReal.coe_sub]
  refine congrArg Real.toEReal ?_
  unfold dgate
  ring

theorem dbranch_p (h : Args P Q U V W G D a b u v w g d) (t : Fin 4096) (k : Fin 1024) :
    val_main_v73 (F := Ideal) P Q U V W G D (ix2 t k) = ((dbranch a b u v w g d a t k : ℝ) : EReal) := by
  pointwise [val_main_v73, val_main_v72, val_main_v65]
  rw [dmixed_ref h, gate_p h, ← EReal.coe_mul, mul_comm]
  rfl

theorem dbranch_q (h : Args P Q U V W G D a b u v w g d) (t : Fin 4096) (k : Fin 1024) :
    val_main_v75 (F := Ideal) P Q U V W G D (ix2 t k) = ((dbranch a b u v w g d b t k : ℝ) : EReal) := by
  pointwise [val_main_v75, val_main_v74, val_main_v62]
  rw [dmixed_ref h, gate_q h, ← EReal.coe_mul, mul_comm]
  rfl

theorem proj_ref (h : Args P Q U V W G D a b u v w g d) (k l : Fin 1024) :
    val_main_v60 (F := Ideal) P Q U V W G D (ix2 k l) = ((∑ t, projOf a b u v w g d t k l : ℝ) : EReal) := by
  pointwise [val_main_v60, val_main_v59]
  rw [Fin.sum_univ_one]
  simp only [dout_ref h, mixed_ref h, ← EReal.coe_mul, coe_sum, projOf, mul_comm]

theorem scale_ref (h : Args P Q U V W G D a b u v w g d) (i : Fin 1) (l : Fin 1024) :
    val_main_v76 (F := Ideal) P Q U V W D (ix2 i l) = ((∑ t, scaleOf a b u v w d t l : ℝ) : EReal) := by
  have hn := out_ref h
  pointwise [val_main_v76, val_main_v43, val_main_cst_10, val_main_v40, val_main_v39, val_main_cst_9, val_main_v38, val_main_v34, val_main_v33,
    val_main_v29, val_main_v28, val_main_v27, val_main_cst_7, val_main_v26, val_main_v25, val_main_cst_6, val_main_v24, val_main_v23,
    val_main_cst_5, val_main_v22]
  have e (t : Fin 4096) := coe_inv (fun k => val_main_v21 (F := Ideal) P Q U V W (ix3 0 t k)) (out a b u v w t) (hn t)
  simp only [e]
  simp only [hn, h.hD, ← EReal.coe_mul, coe_sum, scaleOf, mul_comm]

end Cert.Reference4Ideal.Val

end
-- ==== Proof.MergeHost.lean ====
/-
  The merge's gradient: the arrays that the host prepares for the kernel, and the blocks of a grid point in the arguments.
-/
module

public import proofs.«01_k».proof.Proof.MergeBlocks
public import proofs.«01_k».proof.Proof.MergeReference
public import Idealize.ShloMosaic.Lib.Pointwise.Index
import Idealize.ShloMosaic.Lib.Claim
import Idealize.ShloMosaic.Lib.StableHlo.ReadAt

@[expose] public section

set_option maxRecDepth 16384
set_option maxHeartbeats 1000000

noncomputable section

namespace Cert.Kernel4Ideal.Val

open Cert.Kernel4Ideal Cert.Kernel4Ideal.Gen Idealize.ShloMosaic Idealize.ShloMosaic.TcCoe Idealize.SL.Sem
open Cert.Reals Cert.Norm Cert.Merge Cert.Reference4Ideal.Val

section
variable (m : (ℓ : Loc nD τ sig) → Buf (Elt Ideal) ℓ) (c : Dev nD)

/-- The arguments. -/
abbrev argP : Vec Ideal S1x4096x1024 .f32 := m ((c : Thread nD τ).loc main_arg0)
abbrev argQ : Vec Ideal S1x4096x1024 .f32 := m ((c : Thread nD τ).loc main_arg1)
abbrev argU : Vec Ideal S1x4096x1024 .f32 := m ((c : Thread nD τ).loc main_arg2)
abbrev argV : Vec Ideal S1x4096x1024 .f32 := m ((c : Thread nD τ).loc main_arg3)
abbrev argW : Vec Ideal S1024x1024 .f32 := m ((c : Thread nD τ).loc main_arg4)
abbrev argG : Vec Ideal S1024 .f32 := m ((c : Thread nD τ).loc main_arg5)
abbrev argD : Vec Ideal S1x4096x1024 .f32 := m ((c : Thread nD τ).loc main_arg6)

/-- They hold real numbers. -/
abbrev Saved (a b u v : Fin 4096 → Fin 1024 → ℝ) (w : Fin 1024 → Fin 1024 → ℝ) (g : Fin 1024 → ℝ) (d : Fin 4096 → Fin 1024 → ℝ) : Prop :=
  Args (argP m c) (argQ m c) (argU m c) (argV m c) (argW m c) (argG m c) (argD m c) a b u v w g d

theorem host_d (t : Fin 4096) (k : Fin 1024) : V m c main_v16 (ix2 t k) = m ((c : Thread nD τ).loc main_arg6) (ix3 0 t k) := by
  unfold V hostOps0
  after_reads_at

theorem host_u (t : Fin 4096) (k : Fin 1024) : V m c main_v22 (ix2 t k) = m ((c : Thread nD τ).loc main_arg2) (ix3 0 t k) := by
  unfold V hostOps0
  after_reads_at

theorem host_v (t : Fin 4096) (k : Fin 1024) : V m c main_v24 (ix2 t k) = m ((c : Thread nD τ).loc main_arg3) (ix3 0 t k) := by
  unfold V hostOps0
  after_reads_at

theorem host_g (k : Fin 1024) : V m c main_v25 (ix2 0 k) = m ((c : Thread nD τ).loc main_arg5) (ix1 k) := by
  unfold V hostOps0
  after_reads_at

theorem host_w (k l : Fin 1024) : V m c main_v26 (ix2 k l) = m ((c : Thread nD τ).loc main_arg4) (ix2 k l) := by
  unfold V hostOps0
  after_reads_at

/-- The gates and the row that the norm takes are the reference's, flattened. -/
theorem flat_a : V m c main_v19 = truncf (F := Ideal) .bf16 (shapeCast S4096x1024 (Cert.Reference4Ideal.Read.val_main_v5 (F := Ideal) (argP m c))
    shapeCasts_S1x4096x1024_S4096x1024) bitsLt_bf16_f32 := by
  unfold V hostOps0
  after_reads_simp
  rfl

theorem flat_b : V m c main_v21 = truncf (F := Ideal) .bf16 (shapeCast S4096x1024 (Cert.Reference4Ideal.Read.val_main_v15 (F := Ideal) (argQ m c))
    shapeCasts_S1x4096x1024_S4096x1024) bitsLt_bf16_f32 := by
  unfold V hostOps0
  after_reads_simp
  rfl

theorem flat_n : V m c main_v17 = shapeCast S4096x1024 (Cert.Reference4Ideal.Read.val_main_v21 (F := Ideal) (argP m c) (argQ m c) (argU m c) (argV m c)
    (argW m c)) shapeCasts_S1x4096x1024_S4096x1024 := by
  unfold V hostOps0
  after_reads_simp
  rfl

/-- A flattened array, and one rounded after it, read at a row. -/
theorem flat_at (Z : FVec Ideal S1x4096x1024 .f32) (t : Fin 4096) (j : Fin 1024) :
    shapeCast S4096x1024 Z shapeCasts_S1x4096x1024_S4096x1024 (ix2 t j) = Z (ix3 0 t j) := by
  pointwise []

theorem cut_at (Z : FVec Ideal S1x4096x1024 .f32) (t : Fin 4096) (j : Fin 1024) :
    truncf (F := Ideal) .bf16 (shapeCast S4096x1024 Z shapeCasts_S1x4096x1024_S4096x1024) bitsLt_bf16_f32 (ix2 t j) = Z (ix3 0 t j) := by
  pointwise []

end

variable {m : (ℓ : Loc nD τ sig) → Buf (Elt Ideal) ℓ} {c : Dev nD} {a b u v : Fin 4096 → Fin 1024 → ℝ} {w : Fin 1024 → Fin 1024 → ℝ}
  {g : Fin 1024 → ℝ} {d : Fin 4096 → Fin 1024 → ℝ}

theorem host_a (h : Saved m c a b u v w g d) (t : Fin 4096) (j : Fin 1024) : V m c main_v19 (ix2 t j) = ((a t j : ℝ) : EReal) := by
  rw [flat_a m c, cut_at]
  exact gate_p h t j

theorem host_b (h : Saved m c a b u v w g d) (t : Fin 4096) (j : Fin 1024) : V m c main_v21 (ix2 t j) = ((b t j : ℝ) : EReal) := by
  rw [flat_b m c, cut_at]
  exact gate_q h t j

theorem host_n (h : Saved m c a b u v w g d) (t : Fin 4096) (j : Fin 1024) : V m c main_v17 (ix2 t j) = ((out a b u v w t j : ℝ) : EReal) := by
  rw [flat_n m c, flat_at]
  exact out_ref h t j

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
     ∧ win0_5.index t = ![t.val, 0] ∧ win0_6.index t = ![0, 0] ∧ win0_7.index t = ![0, 0] ∧ win0_8.index t = ![t.val, 0] ∧ win0_9.index t = ![t.val, 0]
     ∧ win0_10.index t = ![t.val, 0] ∧ win0_11.index t = ![t.val, 0] ∧ win0_12.index t = ![0, 0] ∧ win0_13.index t = ![0, 0] :=
  (by decide +kernel : ∀ t : Fin grid0.N, _)

/-- Row `r` of the block at point `t`. -/
def rowAt (t : Fin cfg0.N) (r : Fin 512) : Fin 4096 := ⟨t.val * 512 + r.val, by have := lt_of_lt_of_eq t.isLt (show cfg0.N = 8 from N_0); omega⟩

theorem blocks (h : Saved m c a b u v w g d) (t : Fin cfg0.N) :
    Blocks (iblk m c 0 t) (iblk m c 1 t) (iblk m c 2 t) (iblk m c 3 t) (iblk m c 4 t) (iblk m c 5 t) (iblk m c 6 t) (iblk m c 7 t)
      a b u v w g d (rowAt t) where
  hD r k := by
    rw [← h.hD, argD, ← host_d m c]
    blk_point [iblk, idx t]
    rfl
  hN r k := by
    rw [← host_n h]
    blk_point [iblk, idx t]
    rfl
  hA r k := by
    rw [← host_a h]
    blk_point [iblk, idx t]
    rfl
  hB r k := by
    rw [← host_b h]
    blk_point [iblk, idx t]
    rfl
  hU r k := by
    rw [← h.hU, argU, ← host_u m c]
    blk_point [iblk, idx t]
    rfl
  hV r k := by
    rw [← h.hV, argV, ← host_v m c]
    blk_point [iblk, idx t]
    rfl
  hG k := by
    rw [← h.hG, argG, ← host_g m c]
    blk_point [iblk, idx t]
  hW k l := by
    rw [← h.hW, argW, ← host_w m c]
    blk_point [iblk, idx t]

end Cert.Kernel4Ideal.Val

end
-- ==== Proof.MergeArrays.lean ====
/-
  The merge's gradient kernel: its six output arrays, entry by entry.
-/
module

public import proofs.«01_k».proof.Proof.MergeHost
import Idealize.ShloMosaic.Lib.Claim
import Idealize.ShloMosaic.Lib.Pipeline.ReadBack

@[expose] public section

set_option maxRecDepth 16384
set_option maxHeartbeats 1000000

noncomputable section

namespace Cert.Kernel4Ideal.Val

open Cert.Kernel4Ideal Cert.Kernel4Ideal.Gen Idealize.ShloMosaic Idealize.ShloMosaic.TcCoe Idealize.SL.Sem
open Cert.Reals Cert.Norm Cert.Merge Cert.Reference4Ideal.Val

variable {m : (ℓ : Loc nD τ sig) → Buf (Elt Ideal) ℓ} {c : Dev nD} {a b u v : Fin 4096 → Fin 1024 → ℝ} {w : Fin 1024 → Fin 1024 → ℝ}
  {g : Fin 1024 → ℝ} {d : Fin 4096 → Fin 1024 → ℝ}

theorem gate_p_at (h : Saved m c a b u v w g d) (t : Fin cfg0.N) (r : Fin 512) (k : Fin 1024) : (outsAt0 m c t.val t.isLt).1 (ix2 r k) = ((dgate a b u v w g d a u (rowAt t r) k : ℝ) : EReal) := by
  by_cases hc : t.val % 8 = 0
  · rw [outsAt0_A m c t hc]; frame_out
    exact gate_p_block (blocks h t) r k
  · rw [outsAt0_B m c t hc]; frame_out
    exact gate_p_block (blocks h t) r k

theorem gate_q_at (h : Saved m c a b u v w g d) (t : Fin cfg0.N) (r : Fin 512) (k : Fin 1024) : (outsAt0 m c t.val t.isLt).2.1 (ix2 r k) = ((dgate a b u v w g d b v (rowAt t r) k : ℝ) : EReal) := by
  by_cases hc : t.val % 8 = 0
  · rw [outsAt0_A m c t hc]; frame_out
    exact gate_q_block (blocks h t) r k
  · rw [outsAt0_B m c t hc]; frame_out
    exact gate_q_block (blocks h t) r k

theorem branch_p_at (h : Saved m c a b u v w g d) (t : Fin cfg0.N) (r : Fin 512) (k : Fin 1024) : (outsAt0 m c t.val t.isLt).2.2.1 (ix2 r k) = ((dbranch a b u v w g d a (rowAt t r) k : ℝ) : EReal) := by
  by_cases hc : t.val % 8 = 0
  · rw [outsAt0_A m c t hc]; frame_out
    exact branch_p_block (blocks h t) r k
  · rw [outsAt0_B m c t hc]; frame_out
    exact branch_p_block (blocks h t) r k

theorem branch_q_at (h : Saved m c a b u v w g d) (t : Fin cfg0.N) (r : Fin 512) (k : Fin 1024) : (outsAt0 m c t.val t.isLt).2.2.2.1 (ix2 r k) = ((dbranch a b u v w g d b (rowAt t r) k : ℝ) : EReal) := by
  by_cases hc : t.val % 8 = 0
  · rw [outsAt0_A m c t hc]; frame_out
    exact branch_q_block (blocks h t) r k
  · rw [outsAt0_B m c t hc]; frame_out
    exact branch_q_block (blocks h t) r k

theorem proj_A (h : Saved m c a b u v w g d) (t : Fin cfg0.N) (hc : t.val % 8 = 0) (k l : Fin 1024) :
    (outsAt0 m c t.val t.isLt).2.2.2.2.1 (ix2 k l) = 0 + ∑ r, ((projOf a b u v w g d (rowAt t r) k l : ℝ) : EReal) := by
  rw [outsAt0_A m c t hc]; frame_out
  exact (proj_block (blocks h t) _ k l).trans (congrArg (· + _) (zero_proj _))

theorem proj_B (h : Saved m c a b u v w g d) (t : Fin cfg0.N) (hc : ¬ t.val % 8 = 0) (k l : Fin 1024) :
    (outsAt0 m c t.val t.isLt).2.2.2.2.1 (ix2 k l) = (outsAt0 m c (t.val - 1) (Nat.lt_of_le_of_lt (Nat.sub_le _ _) t.isLt)).2.2.2.2.1 (ix2 k l) + ∑ r, ((projOf a b u v w g d (rowAt t r) k l : ℝ) : EReal) := by
  rw [outsAt0_B m c t hc]; frame_out
  exact proj_block (blocks h t) _ k l

theorem scale_A (h : Saved m c a b u v w g d) (t : Fin cfg0.N) (hc : t.val % 8 = 0) (i : Fin 1) (l : Fin 1024) :
    (outsAt0 m c t.val t.isLt).2.2.2.2.2 (ix2 i l) = 0 + ∑ r, ((scaleOf a b u v w d (rowAt t r) l : ℝ) : EReal) := by
  rw [outsAt0_A m c t hc]; frame_out
  exact (scale_block (blocks h t) _ i l).trans (congrArg (· + _) (zero_scale _))

theorem scale_B (h : Saved m c a b u v w g d) (t : Fin cfg0.N) (hc : ¬ t.val % 8 = 0) (i : Fin 1) (l : Fin 1024) :
    (outsAt0 m c t.val t.isLt).2.2.2.2.2 (ix2 i l) = (outsAt0 m c (t.val - 1) (Nat.lt_of_le_of_lt (Nat.sub_le _ _) t.isLt)).2.2.2.2.2 (ix2 i l) + ∑ r, ((scaleOf a b u v w d (rowAt t r) l : ℝ) : EReal) := by
  rw [outsAt0_B m c t hc]; frame_out
  exact scale_block (blocks h t) _ i l

section
variable (a b u v w g d)
/-- An entry of each array; of the sums, a token's part. -/
def gateE (s y : Fin 4096 → Fin 1024 → ℝ) (t : Fin 4096) (k : Fin 1024) : EReal := ((dgate a b u v w g d s y t k : ℝ) : EReal)
def branchE (s : Fin 4096 → Fin 1024 → ℝ) (t : Fin 4096) (k : Fin 1024) : EReal := ((dbranch a b u v w g d s t k : ℝ) : EReal)
def projE (k l : Fin 1024) (t : Fin 4096) : EReal := ((projOf a b u v w g d t k l : ℝ) : EReal)
def scaleE (l : Fin 1024) (t : Fin 4096) : EReal := ((scaleOf a b u v w d t l : ℝ) : EReal)
end

theorem gate_pE (h : Saved m c a b u v w g d) (t : Fin cfg0.N) (r : Fin 512) (k : Fin 1024) :
    (outsAt0 m c t.val t.isLt).1 (ix2 r k) = gateE a b u v w g d a u (rowAt t r) k := gate_p_at h t r k

theorem gate_qE (h : Saved m c a b u v w g d) (t : Fin cfg0.N) (r : Fin 512) (k : Fin 1024) :
    (outsAt0 m c t.val t.isLt).2.1 (ix2 r k) = gateE a b u v w g d b v (rowAt t r) k := gate_q_at h t r k

theorem branch_pE (h : Saved m c a b u v w g d) (t : Fin cfg0.N) (r : Fin 512) (k : Fin 1024) :
    (outsAt0 m c t.val t.isLt).2.2.1 (ix2 r k) = branchE a b u v w g d a (rowAt t r) k := branch_p_at h t r k

theorem branch_qE (h : Saved m c a b u v w g d) (t : Fin cfg0.N) (r : Fin 512) (k : Fin 1024) :
    (outsAt0 m c t.val t.isLt).2.2.2.1 (ix2 r k) = branchE a b u v w g d b (rowAt t r) k := branch_q_at h t r k

theorem projE_A (h : Saved m c a b u v w g d) (t : Fin cfg0.N) (hc : t.val % 8 = 0) (k l : Fin 1024) :
    (outsAt0 m c t.val t.isLt).2.2.2.2.1 (ix2 k l) = 0 + ∑ r, projE a b u v w g d k l (rowAt t r) := proj_A h t hc k l

theorem projE_B (h : Saved m c a b u v w g d) (t : Fin cfg0.N) (hc : ¬ t.val % 8 = 0) (k l : Fin 1024) :
    (outsAt0 m c t.val t.isLt).2.2.2.2.1 (ix2 k l) = (outsAt0 m c (t.val - 1) (Nat.lt_of_le_of_lt (Nat.sub_le _ _) t.isLt)).2.2.2.2.1 (ix2 k l) + ∑ r, projE a b u v w g d k l (rowAt t r) := proj_B h t hc k l

theorem scaleE_A (h : Saved m c a b u v w g d) (t : Fin cfg0.N) (hc : t.val % 8 = 0) (i : Fin 1) (l : Fin 1024) :
    (outsAt0 m c t.val t.isLt).2.2.2.2.2 (ix2 i l) = 0 + ∑ r, scaleE a b u v w d l (rowAt t r) := scale_A h t hc i l

theorem scaleE_B (h : Saved m c a b u v w g d) (t : Fin cfg0.N) (hc : ¬ t.val % 8 = 0) (i : Fin 1) (l : Fin 1024) :
    (outsAt0 m c t.val t.isLt).2.2.2.2.2 (ix2 i l) = (outsAt0 m c (t.val - 1) (Nat.lt_of_le_of_lt (Nat.sub_le _ _) t.isLt)).2.2.2.2.2 (ix2 i l) + ∑ r, scaleE a b u v w d l (rowAt t r) := scale_B h t hc i l

attribute [local irreducible] gateE branchE projE scaleE

theorem at8 (t : Fin cfg0.N) (r : Fin 512) (k : Fin 1024) :
    ((View.whole main_v27_0).slice (win0_8.rect t)).emb (ix2 r k) = ix2 (rowAt t r) k := by
  blk_ext [idx t]
  rfl

theorem gate_p_array (h : Saved m c a b u v w g d) : (dats m 0 c).arrAt 8 cfg0.N = fun i => gateE a b u v w g d a u (i 0) (i 1) := by
  refine (dats m 0 c).arrAt_eq_of_covers 8 _ (by decide +kernel) fun t _ y => ?_
  blk_simp
  rw [after0_8]
  idx_vars y
  rw [at8 t]
  exact gate_pE h t y0 y1

theorem at9 (t : Fin cfg0.N) (r : Fin 512) (k : Fin 1024) :
    ((View.whole main_v27_1).slice (win0_9.rect t)).emb (ix2 r k) = ix2 (rowAt t r) k := by
  blk_ext [idx t]
  rfl

theorem gate_q_array (h : Saved m c a b u v w g d) : (dats m 0 c).arrAt 9 cfg0.N = fun i => gateE a b u v w g d b v (i 0) (i 1) := by
  refine (dats m 0 c).arrAt_eq_of_covers 9 _ (by decide +kernel) fun t _ y => ?_
  blk_simp
  rw [after0_9]
  idx_vars y
  rw [at9 t]
  exact gate_qE h t y0 y1

theorem at10 (t : Fin cfg0.N) (r : Fin 512) (k : Fin 1024) :
    ((View.whole main_v27_2).slice (win0_10.rect t)).emb (ix2 r k) = ix2 (rowAt t r) k := by
  blk_ext [idx t]
  rfl

theorem branch_p_array (h : Saved m c a b u v w g d) : (dats m 0 c).arrAt 10 cfg0.N = fun i => branchE a b u v w g d a (i 0) (i 1) := by
  refine (dats m 0 c).arrAt_eq_of_covers 10 _ (by decide +kernel) fun t _ y => ?_
  blk_simp
  rw [after0_10]
  idx_vars y
  rw [at10 t]
  exact branch_pE h t y0 y1

theorem at11 (t : Fin cfg0.N) (r : Fin 512) (k : Fin 1024) :
    ((View.whole main_v27_3).slice (win0_11.rect t)).emb (ix2 r k) = ix2 (rowAt t r) k := by
  blk_ext [idx t]
  rfl

theorem branch_q_array (h : Saved m c a b u v w g d) : (dats m 0 c).arrAt 11 cfg0.N = fun i => branchE a b u v w g d b (i 0) (i 1) := by
  refine (dats m 0 c).arrAt_eq_of_covers 11 _ (by decide +kernel) fun t _ y => ?_
  blk_simp
  rw [after0_11]
  idx_vars y
  rw [at11 t]
  exact branch_qE h t y0 y1

/-- Sums over the points and the rows of their blocks are sums over the tokens. -/
theorem sum_rows (f : Fin 4096 → EReal) : ∑ s : Fin cfg0.N, ∑ r, f (rowAt s r) = ∑ l, f l :=
  Fin.sum_mul_add_fin cfg0.N 512 f

theorem proj_array (h : Saved m c a b u v w g d) : (dats m 0 c).arrAt 12 cfg0.N = fun i => ∑ t, projE a b u v w g d (i 0) (i 1) t := by
  refine (dats m 0 c).arrAt_eq_of_after_last 12 t0_7 (by decide +kernel) _ fun i => ?_
  blk_simp
  rw [after0_12, Pipeline.eq_sum_fin_of_reset_step_apply_last (fun n h => (outsAt0 m c n h).2.2.2.2.1) 8 (fun _ => 0)
    (fun t i => ∑ r, projE a b u v w g d (i 0) (i 1) (rowAt t r))
    (fun t hc i => by idx_vars i; exact projE_A h t hc _ _)
    (fun t hc i => by idx_vars i; exact projE_B h t hc _ _) (le_of_eq N_0) t0_7 rfl i, zero_add]
  idx_vars i
  exact sum_rows (projE a b u v w g d i0 i1)

theorem scale_array (h : Saved m c a b u v w g d) : (dats m 0 c).arrAt 13 cfg0.N = fun i => ∑ t, scaleE a b u v w d (i 1) t := by
  refine (dats m 0 c).arrAt_eq_of_after_last 13 t0_7 (by decide +kernel) _ fun i => ?_
  blk_simp
  rw [after0_13, Pipeline.eq_sum_fin_of_reset_step_apply_last (fun n h => (outsAt0 m c n h).2.2.2.2.2) 8 (fun _ => 0)
    (fun t i => ∑ r, scaleE a b u v w d (i 1) (rowAt t r))
    (fun t hc i => by idx_vars i; exact scaleE_A h t hc _ _)
    (fun t hc i => by idx_vars i; exact scaleE_B h t hc _ _) (le_of_eq N_0) t0_7 rfl i, zero_add]
  idx_vars i
  exact sum_rows (scaleE a b u v w d i1)

end Cert.Kernel4Ideal.Val

end
-- ==== Proof.MergeClaim.lean ====
/-
  The gradient of the gated merge, its projection and norm: the kernel's results are the reference's.
-/
module

public import proofs.«01_k».proof.Defs
public import proofs.«01_k».proof.Proof.Gen.Kernel4Ideal
public import proofs.«01_k».proof.Proof.Gen.Reference4Ideal
public import proofs.«01_k».proof.Proof.Gen.Pre_merge_finite
public import proofs.«01_k».proof.Proof.Gen.Reference4Ideal.Run
public import proofs.«01_k».proof.Proof.MergeArrays
public import proofs.«01_k».proof.Proof.MergeReference
public import Idealize.ShloMosaic.Adequacy
public import Idealize.ShloMosaic.Init

@[expose] public section

set_option maxHeartbeats 2000000

noncomputable section

namespace Cert.Proof

open Idealize.ShloMosaic Idealize.SL.Sem Cert.Reals Cert.Merge

/-- The reference runs on the host alone and declares no semaphore. -/
theorem merge_reference_frame : quiescent_Reference4Ideal := fun m ρ _ =>
  (θ_run _ _ _).mono (fun r h => ⟨fun c => (h c).2.2.2.2.2.2, sem_eq_zero_of_no_sems (by decide) r.2⟩) (Cert.Reference4Ideal.Value.run m ρ)

/-- All six results of the call: the gradients of the gates' arguments, of the two branches, of the projection and of the
    norm's scale. -/
theorem merge : algebraic_Kernel4Ideal_Reference4Ideal_pre_merge_finite := by
  intro m ρ m' ρ' hpre hargs
  refine ⟨_, _, _, _, _, _, (θ_run _ _ _).mono (fun r h => h) (Cert.Kernel4Ideal.Value.run_blocks m ρ),
    (θ_run _ _ _).mono (fun r h c => ?_) (Cert.Reference4Ideal.Value.run m' ρ')⟩
  obtain ⟨h1, h2, h3, h4, h5, h6, h7⟩ := hpre c
  obtain ⟨a0, a1, a2, a3, a4, a5, a6⟩ := hargs c
  obtain ⟨p, hp⟩ := real_of_finite _ _ h1
  obtain ⟨q, hq⟩ := real_of_finite _ _ h2
  obtain ⟨u, hu⟩ := real_of_finite _ _ h3
  obtain ⟨v, hv⟩ := real_of_finite _ _ h4
  obtain ⟨w, hw⟩ := real_of_finite _ _ h5
  obtain ⟨g, hg⟩ := real_of_finite _ _ h6
  obtain ⟨d, hd⟩ := real_of_finite _ _ h7
  have a : Cert.Kernel4Ideal.Val.Saved m c (fun t k => logistic (p (ix3 0 t k))) (fun t k => logistic (q (ix3 0 t k)))
      (fun t k => u (ix3 0 t k)) (fun t k => v (ix3 0 t k)) (fun k l => w (ix2 k l)) (fun l => g (ix1 l)) (fun t l => d (ix3 0 t l)) :=
    ⟨fun t k => ⟨_, hp _, rfl⟩, fun t k => ⟨_, hq _, rfl⟩, fun t k => hu _, fun t k => hv _, fun k l => hw _, fun l => hg _, fun t l => hd _⟩
  have a' := a
  unfold Cert.Kernel4Ideal.Val.Saved Cert.Kernel4Ideal.Val.argP Cert.Kernel4Ideal.Val.argQ Cert.Kernel4Ideal.Val.argU Cert.Kernel4Ideal.Val.argV
    Cert.Kernel4Ideal.Val.argW Cert.Kernel4Ideal.Val.argG Cert.Kernel4Ideal.Val.argD at a'
  rw [← a0, ← a1, ← a2, ← a3, ← a4, ← a5, ← a6] at a'
  obtain ⟨r0, r1, r2, r3, r4, r5, rest⟩ := h c
  clear hpre hargs h h1 h2 h3 h4 h5 h6 h7 hp hq hu hv hw hg hd a0 a1 a2 a3 a4 a5 a6
  refine ⟨?_, ?_, ?_, ?_, ?_, ?_, rest⟩
  · rw [r0, Cert.Reference4Ideal.Read.val_main_v69_eq]
    refine Eq.trans ?_ (Cert.Kernel4Ideal.Val.gate_p_array a).symm
    funext i
    idx_vars i
    exact Cert.Reference4Ideal.Val.dgate_p a' i0 i1
  · rw [r1, Cert.Reference4Ideal.Read.val_main_v71_eq]
    refine Eq.trans ?_ (Cert.Kernel4Ideal.Val.gate_q_array a).symm
    funext i
    idx_vars i
    exact Cert.Reference4Ideal.Val.dgate_q a' i0 i1
  · rw [r2, Cert.Reference4Ideal.Read.val_main_v73_eq]
    refine Eq.trans ?_ (Cert.Kernel4Ideal.Val.branch_p_array a).symm
    funext i
    idx_vars i
    exact Cert.Reference4Ideal.Val.dbranch_p a' i0 i1
  · rw [r3, Cert.Reference4Ideal.Read.val_main_v75_eq]
    refine Eq.trans ?_ (Cert.Kernel4Ideal.Val.branch_q_array a).symm
    funext i
    idx_vars i
    exact Cert.Reference4Ideal.Val.dbranch_q a' i0 i1
  · rw [r4, Cert.Reference4Ideal.Read.val_main_v60_eq]
    refine Eq.trans ?_ (Cert.Kernel4Ideal.Val.proj_array a).symm
    funext i
    idx_vars i
    exact (Cert.Reference4Ideal.Val.proj_ref a' i0 i1).trans (coe_sum _ _).symm
  · rw [r5, Cert.Reference4Ideal.Read.val_main_v76_eq]
    refine Eq.trans ?_ (Cert.Kernel4Ideal.Val.scale_array a).symm
    funext i
    idx_vars i
    exact (Cert.Reference4Ideal.Val.scale_ref a' i0 i1).trans (coe_sum _ _).symm

end Cert.Proof

end
-- ==== Proof.PleMath.lean ====
/-
  The per-layer embedding's gate, the loss and their gradients, as functions of real numbers.
-/
module

public import proofs.«01_k».proof.Proof.MergeMath
public import proofs.«01_k».proof.Proof.Gelu

@[expose] public section

noncomputable section

namespace Cert.Ple

open Idealize.ShloMosaic Cert.Reals Cert.Norm Cert.Gelu Cert.Merge

/-- The arguments: the residual rows, the embedding, the target, the scale of the norm before the gate, the gate's
    matrix, the embedding's projection and the scale of the norm after it. -/
structure Data where
  x : Fin 4096 → Fin 1024 → ℝ
  p : Fin 4096 → Fin 256 → ℝ
  y : Fin 4096 → Fin 1024 → ℝ
  a : Fin 1024 → ℝ
  w : Fin 1024 → Fin 1024 → ℝ
  v : Fin 256 → Fin 1024 → ℝ
  b : Fin 1024 → ℝ

namespace Data

variable (E : Data) (t : Fin 4096)

/-- The row normed, and scaled. -/
def xh (k : Fin 1024) : ℝ := E.x t k * invRms (E.x t)
def n (k : Fin 1024) : ℝ := E.xh t k * E.a k

/-- The gate. -/
def s (l : Fin 1024) : ℝ := logistic (∑ k, E.n t k * E.w k l)

/-- The embedding projected, normed, and scaled. -/
def q (l : Fin 1024) : ℝ := ∑ j, E.p t j * E.v j l
def qh (l : Fin 1024) : ℝ := E.q t l * invRms (E.q t)
def e (l : Fin 1024) : ℝ := E.qh t l * E.b l

/-- How far the output is from the target, and a token's part of the loss. -/
def err (l : Fin 1024) : ℝ := E.x t l + E.s t l * E.e t l - E.y t l
def loss : ℝ := 1 / 2 * ((∑ l, E.err t l * E.err t l) / 1024)

/-- The gradient of the output, of the gate's argument, and of the scaled row. -/
def dy (l : Fin 1024) : ℝ := E.err t l * (1 / 1024)
def dz (l : Fin 1024) : ℝ := E.dy t l * E.e t l * E.s t l * (1 - E.s t l)
def dn (k : Fin 1024) : ℝ := ∑ l, E.dz t l * E.w k l

/-- The gradient of the scaled embedding, and of the projected one. -/
def de (l : Fin 1024) : ℝ := E.dy t l * E.s t l
def dq (l : Fin 1024) : ℝ := back (E.q t) E.b (E.de t) l

/-- The gradient of the residual rows. -/
def dx (k : Fin 1024) : ℝ := E.dy t k + back (E.x t) E.a (E.dn t) k

end Data

/-- The form in which the kernel computes the logistic function. -/
theorem half_tanh (z : ℝ) : 1 / 2 * Real.tanh (1 / 2 * z) + 1 / 2 = logistic z := by
  have h : Real.exp (-z) = Real.exp (-(1 / 2 * z)) * Real.exp (-(1 / 2 * z)) := by rw [← Real.exp_add]; congr 1; ring
  have p := Real.exp_pos (1 / 2 * z)
  have i : Real.exp (-(1 / 2 * z)) = (Real.exp (1 / 2 * z))⁻¹ := Real.exp_neg _
  unfold Cert.Merge.logistic
  rw [h, Real.tanh_eq_sinh_div_cosh, Real.sinh_eq, Real.cosh_eq, i]
  field_simp
  ring

theorem ofBits_inv_1024 : Ideal.ofBits .f32 0x3A800000#32 = ((1 / 1024 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

end Cert.Ple

end
-- ==== Proof.PleBlocks.lean ====
/-
  What the kernel of the embedding's gate and the loss computes on one block of rows, the blocks it reads real numbers.
-/
module

public import proofs.«01_k».proof.Proof.Gen.Kernel5Ideal.Value
public import proofs.«01_k».proof.Proof.PleMath
public import proofs.«01_k».proof.Proof.Pieces
public import Idealize.ShloMosaic.Lib.KernelVsHost
import Idealize.ShloMosaic.Lib.Claim

@[expose] public section

set_option maxRecDepth 16384
set_option maxHeartbeats 1000000

noncomputable section

namespace Cert.Kernel5Ideal.Val

open Cert.Kernel5Ideal Cert.Kernel5Ideal.Gen Idealize.ShloMosaic Idealize.ShloMosaic.TcCoe Idealize.SL.Sem
open Cert.Reals Cert.Norm Cert.Gelu Cert.Merge Cert.Ple Cert.Pieces

/-- The blocks at a point hold the real numbers of `E`: row `r` of a block is the token `row r`. -/
structure Blocks (X : Vec Ideal S512x1024 .f32) (P : Vec Ideal S512x256 .f32) (Y : Vec Ideal S512x1024 .f32) (A : Vec Ideal S1x1024 .f32)
    (W : Vec Ideal S1024x1024 .bf16) (V : Vec Ideal S4x256x256 .bf16) (B : Vec Ideal S1x1024 .f32) (E : Data) (row : Fin 512 → Fin 4096) : Prop where
  hX : ∀ r k, X (ix2 r k) = ((E.x (row r) k : ℝ) : EReal)
  hP : ∀ r j, P (ix2 r j) = ((E.p (row r) j : ℝ) : EReal)
  hY : ∀ r k, Y (ix2 r k) = ((E.y (row r) k : ℝ) : EReal)
  hA : ∀ k, A (ix2 0 k) = ((E.a k : ℝ) : EReal)
  hW : ∀ k l, W (ix2 k l) = ((E.w k l : ℝ) : EReal)
  hV : ∀ (s : Fin 4) (j l : Fin 256) (h : s.val * 256 + l.val < 1024), V (ix3 s j l) = ((E.v j ⟨s.val * 256 + l.val, h⟩ : ℝ) : EReal)
  hB : ∀ l, B (ix2 0 l) = ((E.b l : ℝ) : EReal)

/-- A shard of the projection's columns. -/
abbrev shard (V : Vec Ideal S4x256x256 .bf16) (s : Fin 4) (i : ∀ a, (![s.val, 0, 0] : Fin 3 → Nat) a + (![1, 256, 256] : Fin 3 → Nat) a ≤ S4x256x256.size a) :
    Vec Ideal S1x256x256 .bf16 := View.ld V (Rect.unit (s := S4x256x256) ![s.val, 0, 0] ![1, 256, 256] i)

section
variable {X : Vec Ideal S512x1024 .f32} {P : Vec Ideal S512x256 .f32} {Y : Vec Ideal S512x1024 .f32} {A : Vec Ideal S1x1024 .f32}
  {W : Vec Ideal S1024x1024 .bf16} {V : Vec Ideal S4x256x256 .bf16} {B : Vec Ideal S1x1024 .f32} {E : Data} {row : Fin 512 → Fin 4096}

theorem inv_block (h : Blocks X P Y A W V B E row) (r : Fin 512) (i : Fin 1) : k0_pay11 X (ix2 r i) = ((invRms (E.x (row r)) : ℝ) : EReal) := by
  obtain rfl := Subsingleton.elim i 0
  pointwise [k0_pay11, k0_pay10]
  exact coe_inv (fun k => X (ix2 r k)) (E.x (row r)) (h.hX r)

theorem xh_block (h : Blocks X P Y A W V B E row) (r : Fin 512) (k : Fin 1024) : k0_pay12 X (ix2 r k) = ((E.xh (row r) k : ℝ) : EReal) := by
  pointwise [k0_pay12, k0_pay10]
  rw [inv_block h, h.hX, ← EReal.coe_mul]
  rfl

theorem n_block (h : Blocks X P Y A W V B E row) (r : Fin 512) (k : Fin 1024) : k0_pay13 X A (ix2 r k) = ((E.n (row r) k : ℝ) : EReal) := by
  pointwise [k0_pay13]
  rw [xh_block h, h.hA, ← EReal.coe_mul]
  rfl

theorem gate_block (h : Blocks X P Y A W V B E row) (r : Fin 512) (l : Fin 1024) : k0_pay14 X A W (ix2 r l) = ((E.s (row r) l : ℝ) : EReal) := by
  pointwise [k0_pay14]
  simp only [n_block h, h.hW, ofBits_half, ← EReal.coe_mul, coe_sum, tanh_coe, ← EReal.coe_add]
  exact congrArg Real.toEReal (half_tanh _)

theorem shard_at (s : Fin 4) (i) (j l : Fin 256) : shard V s i (ix3 0 j l) = V (ix3 s j l) :=
  View.ld_unit_apply_of V _ _ i _ _ fun a => match a with
    | 0 => rfl
    | 1 => (Nat.zero_add _).symm
    | 2 => (Nat.zero_add _).symm

section
variable (X : Vec Ideal S512x1024 .f32) (P : Vec Ideal S512x256 .f32) (Y : Vec Ideal S512x1024 .f32) (A : Vec Ideal S1x1024 .f32)
  (W : Vec Ideal S1024x1024 .bf16) (V : Vec Ideal S4x256x256 .bf16) (B : Vec Ideal S1x1024 .f32)

/-- The embedding's projection as the body puts it together of four shards, one over the root of its mean square, the
    projection normed, and scaled. -/
abbrev projected : FVec Ideal S512x1024 .f32 :=
  k0_pay17 (k0_pay15 P) (k0_pay16 P (shard V 0 inb_S4x256x256_S1x256x256_0_0_0)) (shard V 1 inb_S4x256x256_S1x256x256_1_0_0)
    (shard V 2 inb_S4x256x256_S1x256x256_2_0_0) (shard V 3 inb_S4x256x256_S1x256x256_3_0_0)
abbrev inverse : FVec Ideal S512x1 .f32 :=
  k0_pay18 (k0_pay15 P) (k0_pay16 P (shard V 0 inb_S4x256x256_S1x256x256_0_0_0)) (shard V 1 inb_S4x256x256_S1x256x256_1_0_0)
    (shard V 2 inb_S4x256x256_S1x256x256_2_0_0) (shard V 3 inb_S4x256x256_S1x256x256_3_0_0)
abbrev normed : FVec Ideal S512x1024 .f32 :=
  k0_pay19 (k0_pay15 P) (k0_pay16 P (shard V 0 inb_S4x256x256_S1x256x256_0_0_0)) (shard V 1 inb_S4x256x256_S1x256x256_1_0_0)
    (shard V 2 inb_S4x256x256_S1x256x256_2_0_0) (shard V 3 inb_S4x256x256_S1x256x256_3_0_0)
abbrev scaled : FVec Ideal S512x1024 .f32 :=
  k0_pay20 (k0_pay15 P) (k0_pay16 P (shard V 0 inb_S4x256x256_S1x256x256_0_0_0)) (shard V 1 inb_S4x256x256_S1x256x256_1_0_0)
    (shard V 2 inb_S4x256x256_S1x256x256_2_0_0) (shard V 3 inb_S4x256x256_S1x256x256_3_0_0) B

/-- How far the output is from the target, and the mean squares of that, added up over the block's rows. -/
abbrev apart : FVec Ideal S512x1024 .f32 :=
  k0_pay21 (k0_pay10 X) (k0_pay14 X A W) (k0_pay15 P) (k0_pay16 P (shard V 0 inb_S4x256x256_S1x256x256_0_0_0))
    (shard V 1 inb_S4x256x256_S1x256x256_1_0_0) (shard V 2 inb_S4x256x256_S1x256x256_2_0_0) (shard V 3 inb_S4x256x256_S1x256x256_3_0_0) B Y
abbrev squares : FVec Ideal S1 .f32 :=
  k0_pay23 (k0_pay10 X) (k0_pay14 X A W) (k0_pay15 P) (k0_pay16 P (shard V 0 inb_S4x256x256_S1x256x256_0_0_0))
    (shard V 1 inb_S4x256x256_S1x256x256_1_0_0) (shard V 2 inb_S4x256x256_S1x256x256_2_0_0) (shard V 3 inb_S4x256x256_S1x256x256_3_0_0) B Y

end

theorem part_block (h : Blocks X P Y A W V B E row) (r : Fin 512) (l : Fin 1024) (s : Fin 4) (i) (k : Fin 256) (e : l.val = s.val * 256 + k.val) :
    (∑ j, P (ix2 r j) * shard V s i (ix3 0 j k) : EReal) = ((E.q (row r) l : ℝ) : EReal) := by
  have hk : (⟨s.val * 256 + k.val, e ▸ l.isLt⟩ : Fin 1024) = l := Fin.ext e.symm
  refine (Finset.sum_congr rfl fun j _ => ?_).trans (coe_sum _ _)
  rw [shard_at, h.hP, h.hV s j k (e ▸ l.isLt), hk, ← EReal.coe_mul]

theorem q_block (h : Blocks X P Y A W V B E row) (r : Fin 512) (l : Fin 1024) : projected P V (ix2 r l) = ((E.q (row r) l : ℝ) : EReal) := by
  have hl := l.isLt
  unfold projected
  pointwise [k0_pay17, k0_pay16, k0_pay15]
  by_cases h0 : l.val < 256
  · rw [dif_pos h0]
    exact part_block h r l 0 _ ⟨l.val, h0⟩ (by show l.val = 0 * 256 + l.val; omega)
  rw [dif_neg h0]
  by_cases h1 : l.val - 256 < 256
  · rw [dif_pos h1]
    exact part_block h r l 1 _ ⟨l.val - 256, h1⟩ (by show l.val = 1 * 256 + (l.val - 256); omega)
  rw [dif_neg h1]
  by_cases h2 : l.val - 256 - 256 < 256
  · rw [dif_pos h2]
    exact part_block h r l 2 _ ⟨l.val - 256 - 256, h2⟩ (by show l.val = 2 * 256 + (l.val - 256 - 256); omega)
  rw [dif_neg h2]
  exact part_block h r l 3 _ ⟨l.val - 256 - 256 - 256, by omega⟩ (by show l.val = 3 * 256 + (l.val - 256 - 256 - 256); omega)

theorem inverse_block (h : Blocks X P Y A W V B E row) (r : Fin 512) (i : Fin 1) : inverse P V (ix2 r i) = ((invRms (E.q (row r)) : ℝ) : EReal) := by
  obtain rfl := Subsingleton.elim i 0
  unfold inverse
  pointwise [k0_pay18]
  exact coe_inv (fun k => projected P V (ix2 r k)) (E.q (row r)) (q_block h r)

theorem qh_block (h : Blocks X P Y A W V B E row) (r : Fin 512) (l : Fin 1024) : normed P V (ix2 r l) = ((E.qh (row r) l : ℝ) : EReal) := by
  unfold normed
  pointwise [k0_pay19]
  refine (congrArg₂ (· * ·) (q_block h r l) (inverse_block h r 0)).trans ?_
  exact (EReal.coe_mul _ _).symm

theorem e_block (h : Blocks X P Y A W V B E row) (r : Fin 512) (l : Fin 1024) : scaled P V B (ix2 r l) = ((E.e (row r) l : ℝ) : EReal) := by
  unfold scaled
  pointwise [k0_pay20]
  refine (congrArg₂ (· * ·) (qh_block h r l) (h.hB l)).trans ?_
  exact (EReal.coe_mul _ _).symm

theorem err_block (h : Blocks X P Y A W V B E row) (r : Fin 512) (l : Fin 1024) : apart X P Y A W V B (ix2 r l) = ((E.err (row r) l : ℝ) : EReal) := by
  have he := e_block h r l
  have hs := gate_block h r l
  unfold apart
  unfold scaled at he
  pointwise [k0_pay21, k0_pay10]
  rw [he, hs, h.hX, h.hY, ← EReal.coe_mul, ← EReal.coe_add, ← EReal.coe_sub]
  rfl

theorem loss_block (h : Blocks X P Y A W V B E row) (acc : Vec Ideal S1x128 .f32) (i : Fin 1) (k : Fin 128) :
    k0_pay24 (k0_pay22 acc) (squares X P Y A W V B) (ix2 i k) = acc (ix2 i k) + ∑ r, ((E.loss (row r) : ℝ) : EReal) := by
  have he := err_block h
  obtain rfl := Subsingleton.elim i 0
  unfold squares
  unfold apart at he
  pointwise [k0_pay24, k0_pay22, k0_pay23]
  simp only [he, ofBits_1024, ofBits_half, ← EReal.coe_mul, coe_sum, coe_div (show (1024 : ℝ) ≠ 0 by norm_num)]
  refine congrArg (fun z : ℝ => acc (ix2 0 k) + (z : EReal)) ?_
  rw [Finset.mul_sum]
  rfl

end

section
variable {S L Q R N H : FVec Ideal S512x1024 .f32} {J : FVec Ideal S512x1 .f32} {P : FVec Ideal S512x256 .bf16} {W : Vec Ideal S1024x1024 .bf16}
  {A : Vec Ideal S1x1024 .f32} {E : Data} {row : Fin 512 → Fin 4096}

variable (S L Q R N H J P W A E row) in
/-- What the gradients are computed of: the gate, the scaled and the normed embedding, the distance to the target, the
    scaled and the normed row, and one over the roots of the two mean squares. -/
structure Saved (B : Vec Ideal S1x1024 .f32) (K : FVec Ideal S512x1 .f32) : Prop where
  hS : ∀ r l, S (ix2 r l) = ((E.s (row r) l : ℝ) : EReal)
  hL : ∀ r l, L (ix2 r l) = ((E.e (row r) l : ℝ) : EReal)
  hQ : ∀ r l, Q (ix2 r l) = ((E.qh (row r) l : ℝ) : EReal)
  hR : ∀ r l, R (ix2 r l) = ((E.err (row r) l : ℝ) : EReal)
  hN : ∀ r l, N (ix2 r l) = ((E.n (row r) l : ℝ) : EReal)
  hH : ∀ r l, H (ix2 r l) = ((E.xh (row r) l : ℝ) : EReal)
  hJ : ∀ r i, J (ix2 r i) = ((invRms (E.x (row r)) : ℝ) : EReal)
  hK : ∀ r i, K (ix2 r i) = ((invRms (E.q (row r)) : ℝ) : EReal)
  hP : ∀ r j, P (ix2 r j) = ((E.p (row r) j : ℝ) : EReal)
  hW : ∀ k l, W (ix2 k l) = ((E.w k l : ℝ) : EReal)
  hA : ∀ k, A (ix2 0 k) = ((E.a k : ℝ) : EReal)
  hB : ∀ k, B (ix2 0 k) = ((E.b k : ℝ) : EReal)

variable {B : Vec Ideal S1x1024 .f32} {K : FVec Ideal S512x1 .f32}

theorem dy_block (h : Saved S L Q R N H J P W A E row B K) (r : Fin 512) (l : Fin 1024) : k0_pay25 R (ix2 r l) = ((E.dy (row r) l : ℝ) : EReal) := by
  pointwise [k0_pay25]
  rw [h.hR, ofBits_inv_1024, ← EReal.coe_mul]
  rfl

theorem dz_block (h : Saved S L Q R N H J P W A E row B K) (r : Fin 512) (l : Fin 1024) :
    k0_pay26 S L R (ix2 r l) = ((E.dz (row r) l : ℝ) : EReal) := by
  pointwise [k0_pay26]
  simp only [dy_block h, h.hS, h.hL, ofBits_one, ← EReal.coe_one, ← EReal.coe_mul, ← EReal.coe_sub]
  rfl

theorem dn_block (h : Saved S L Q R N H J P W A E row B K) (r : Fin 512) (k : Fin 1024) :
    k0_pay28 S L R W (ix2 r k) = ((E.dn (row r) k : ℝ) : EReal) := by
  pointwise [k0_pay28]
  simp only [dz_block h, h.hW, ← EReal.coe_mul, coe_sum]
  rfl

theorem dx_block (h : Saved S L Q R N H J P W A E row B K) (r : Fin 512) (k : Fin 1024) :
    k0_pay4 (k0_pay25 R) (k0_pay32 (k0_pay30 H S L R A W) (k0_pay31 J)) (ix2 r k) = ((E.dx (row r) k : ℝ) : EReal) := by
  pointwise [k0_pay4, k0_pay32, k0_pay31, k0_pay30]
  simp only [dy_block h, dn_block h, h.hJ, h.hH, h.hA, ofBits_1024, ← EReal.coe_mul, coe_sum, coe_div (show (1024 : ℝ) ≠ 0 by norm_num),
    ← EReal.coe_sub, ← EReal.coe_add]
  rfl

theorem dw_block (h : Saved S L Q R N H J P W A E row B K) (acc : Vec Ideal S1024x1024 .f32) (k l : Fin 1024) :
    k0_pay27 N S L R acc (ix2 k l) = acc (ix2 k l) + ∑ r, ((E.n (row r) k * E.dz (row r) l : ℝ) : EReal) := by
  pointwise [k0_pay27]
  simp only [dz_block h, h.hN, ← EReal.coe_mul]

theorem da_block (h : Saved S L Q R N H J P W A E row B K) (acc : Vec Ideal S1x1024 .f32) (i : Fin 1) (k : Fin 1024) :
    k0_pay33 (k0_pay29 H S L R W) acc (ix2 i k) = acc (ix2 i k) + ∑ r, ((E.dn (row r) k * E.xh (row r) k : ℝ) : EReal) := by
  obtain rfl := Subsingleton.elim i 0
  pointwise [k0_pay33, k0_pay29]
  simp only [dn_block h, h.hH, ← EReal.coe_mul]

theorem db_block (h : Saved S L Q R N H J P W A E row B K) (acc : Vec Ideal S1x1024 .f32) (i : Fin 1) (l : Fin 1024) :
    k0_pay36 S Q (k0_pay25 R) acc (ix2 i l) = acc (ix2 i l) + ∑ r, ((E.de (row r) l * E.qh (row r) l : ℝ) : EReal) := by
  obtain rfl := Subsingleton.elim i 0
  pointwise [k0_pay36, k0_pay34]
  simp only [dy_block h, h.hS, h.hQ, ← EReal.coe_mul]
  rfl

theorem dq_block (h : Saved S L Q R N H J P W A E row B K) (r : Fin 512) (l : Fin 1024) :
    k0_pay35 S K Q (k0_pay25 R) B (ix2 r l) = ((E.dq (row r) l : ℝ) : EReal) := by
  pointwise [k0_pay35, k0_pay34]
  simp only [dy_block h, h.hS, h.hQ, h.hK, h.hB, ofBits_1024, ← EReal.coe_mul, coe_sum, coe_div (show (1024 : ℝ) ≠ 0 by norm_num), ← EReal.coe_sub]
  rfl

/-- A column shard of the embedding's projection: what was there plus this block's product. -/
theorem dv_block (h : Saved S L Q R N H J P W A E row B K) (C : Fin 4 → Vec Ideal S1x256x256 .f32) (s : Fin 4) (j l : Fin 256)
    (hl : s.val * 256 + l.val < 1024) :
    (![k0_pay37 S P K Q (k0_pay25 R) B (C 0), k0_pay1 P (k0_pay35 S K Q (k0_pay25 R) B) (C 1), k0_pay2 P (k0_pay35 S K Q (k0_pay25 R) B) (C 2),
        k0_pay3 P (k0_pay35 S K Q (k0_pay25 R) B) (C 3)] : Fin 4 → FVec Ideal S1x256x256 .f32) s (ix3 0 j l)
      = C s (ix3 0 j l) + ∑ r, ((E.p (row r) j * E.dq (row r) ⟨s.val * 256 + l.val, hl⟩ : ℝ) : EReal) := by
  have e := dq_block h
  obtain rfl | rfl | rfl | rfl := four s
  all_goals pointwise [k0_pay37, k0_pay1, k0_pay2, k0_pay3]
  all_goals simp only [e, h.hP, ← EReal.coe_mul]
  all_goals simp

end

theorem zero_loss (i : S1x128.Idx) : k0_pay5 (F := Ideal) i = 0 := by pointwise [k0_pay5]
theorem zero_dw (i : S1024x1024.Idx) : k0_pay6 (F := Ideal) i = 0 := by pointwise [k0_pay6]
theorem zero_dv (i : S4x256x256.Idx) : k0_pay7 (F := Ideal) i = 0 := by pointwise [k0_pay7]
theorem zero_da (i : S1x1024.Idx) : k0_pay8 (F := Ideal) i = 0 := by pointwise [k0_pay8]
theorem zero_db (i : S1x1024.Idx) : k0_pay9 (F := Ideal) i = 0 := by pointwise [k0_pay9]

end Cert.Kernel5Ideal.Val

end
-- ==== Proof.PleReference.lean ====
/-
  The reference of the embedding's gate and the loss, at real arguments.
-/
module

public import proofs.«01_k».proof.Proof.Gen.Reference5Ideal.Read
public import proofs.«01_k».proof.Proof.HostSums
public import proofs.«01_k».proof.Proof.PleMath
public import Idealize.ShloMosaic.Lib.Pointwise.Index
import Idealize.ShloMosaic.Lib.Claim

@[expose] public section

set_option maxRecDepth 16384
set_option maxHeartbeats 1000000

noncomputable section

namespace Cert.Reference5Ideal.Val

open Cert.Reference5Ideal Cert.Reference5Ideal.Read Idealize.ShloMosaic Cert.Reals Cert.Norm Cert.Gelu Cert.Merge Cert.Ple

/-- The arguments hold the real numbers of `E`. -/
structure Args (X : Vec Ideal S1x4096x1024 .f32) (P : Vec Ideal S1x4096x256 .f32) (Y : Vec Ideal S1x4096x1024 .f32) (A : Vec Ideal S1024 .f32)
    (W : Vec Ideal S1024x1024 .f32) (V : Vec Ideal S256x1024 .f32) (B : Vec Ideal S1024 .f32) (E : Data) : Prop where
  hX : ∀ t k, X (ix3 0 t k) = ((E.x t k : ℝ) : EReal)
  hP : ∀ t j, P (ix3 0 t j) = ((E.p t j : ℝ) : EReal)
  hY : ∀ t k, Y (ix3 0 t k) = ((E.y t k : ℝ) : EReal)
  hA : ∀ k, A (ix1 k) = ((E.a k : ℝ) : EReal)
  hW : ∀ k l, W (ix2 k l) = ((E.w k l : ℝ) : EReal)
  hV : ∀ j l, V (ix2 j l) = ((E.v j l : ℝ) : EReal)
  hB : ∀ l, B (ix1 l) = ((E.b l : ℝ) : EReal)

variable {X : Vec Ideal S1x4096x1024 .f32} {P : Vec Ideal S1x4096x256 .f32} {Y : Vec Ideal S1x4096x1024 .f32} {A : Vec Ideal S1024 .f32}
  {W : Vec Ideal S1024x1024 .f32} {V : Vec Ideal S256x1024 .f32} {B : Vec Ideal S1024 .f32} {E : Data}

theorem mean_ref (h : Args X P Y A W V B E) (t : Fin 4096) : val_main_v6 (F := Ideal) X (ix3 0 t 0) = ((meanSq (E.x t) : ℝ) : EReal) := by
  pointwise [val_main_v6, val_main_v5, val_main_cst_1, val_main_v4, val_main_v3, val_main_cst_0, val_main_v2, val_main_v1, val_main_cst, val_main_v0]
  exact coe_meanSq (fun k => X (ix3 0 t k)) (E.x t) (h.hX t)

theorem xh_ref (h : Args X P Y A W V B E) (t : Fin 4096) (k : Fin 1024) : val_main_v12 (F := Ideal) X (ix3 0 t k) = ((E.xh t k : ℝ) : EReal) := by
  pointwise [val_main_v12, val_main_v11, val_main_v7]
  rw [mean_ref h, rsqrt_meanSq, h.hX, ← EReal.coe_mul]
  rfl

theorem n_ref (h : Args X P Y A W V B E) (t : Fin 4096) (k : Fin 1024) : val_main_v15 (F := Ideal) X A (ix3 0 t k) = ((E.n t k : ℝ) : EReal) := by
  pointwise [val_main_v15, val_main_v14, val_main_v13]
  rw [xh_ref h, h.hA, ← EReal.coe_mul]
  rfl

theorem gate_ref (h : Args X P Y A W V B E) (t : Fin 4096) (l : Fin 1024) : val_main_v22 (F := Ideal) X A W (ix3 0 t l) = ((E.s t l : ℝ) : EReal) := by
  pointwise [val_main_v22, val_main_v21, val_main_cst_4, val_main_v20, val_main_v19, val_main_cst_3, val_main_v18, val_main_v17, val_main_v16]
  simp only [n_ref h, h.hW, ← EReal.coe_mul, coe_sum]
  exact coe_logistic _

theorem q_ref (h : Args X P Y A W V B E) (t : Fin 4096) (l : Fin 1024) : val_main_v26 (F := Ideal) P V (ix3 0 t l) = ((E.q t l : ℝ) : EReal) := by
  pointwise [val_main_v26]
  simp only [h.hP, h.hV, ← EReal.coe_mul, coe_sum]
  rfl

theorem meanq_ref (h : Args X P Y A W V B E) (t : Fin 4096) : val_main_v33 (F := Ideal) P V (ix3 0 t 0) = ((meanSq (E.q t) : ℝ) : EReal) := by
  pointwise [val_main_v33, val_main_v32, val_main_cst_8, val_main_v31, val_main_v30, val_main_cst_7, val_main_v29, val_main_v28, val_main_cst_6, val_main_v27]
  exact coe_meanSq (fun k => val_main_v26 (F := Ideal) P V (ix3 0 t k)) (E.q t) (q_ref h t)

theorem qh_ref (h : Args X P Y A W V B E) (t : Fin 4096) (l : Fin 1024) : val_main_v39 (F := Ideal) P V (ix3 0 t l) = ((E.qh t l : ℝ) : EReal) := by
  pointwise [val_main_v39, val_main_v38, val_main_v34]
  rw [meanq_ref h, rsqrt_meanSq, q_ref h, ← EReal.coe_mul]
  rfl

theorem e_ref (h : Args X P Y A W V B E) (t : Fin 4096) (l : Fin 1024) : val_main_v42 (F := Ideal) P V B (ix3 0 t l) = ((E.e t l : ℝ) : EReal) := by
  pointwise [val_main_v42, val_main_v41, val_main_v40]
  rw [qh_ref h, h.hB, ← EReal.coe_mul]
  rfl

theorem err_ref (h : Args X P Y A W V B E) (t : Fin 4096) (l : Fin 1024) :
    val_main_v45 (F := Ideal) X P Y A W V B (ix3 0 t l) = ((E.err t l : ℝ) : EReal) := by
  pointwise [val_main_v45, val_main_v44, val_main_v43]
  rw [gate_ref h, e_ref h, h.hX, h.hY, ← EReal.coe_mul, ← EReal.coe_add, ← EReal.coe_sub]
  rfl

theorem loss_ref (h : Args X P Y A W V B E) (i : Fin 1) (k : Fin 128) :
    val_main_v112 (F := Ideal) X P Y A W V B (ix2 i k) = ((∑ t, E.loss t : ℝ) : EReal) := by
  pointwise [val_main_v112, val_main_v53, val_main_cst_14, val_main_v52, val_main_cst_13, val_main_v51, val_main_v50, val_main_cst_12, val_main_v49,
    val_main_cst_11, val_main_v46]
  simp only [err_ref h, ofBits_1024, ofBits_half, ← EReal.coe_mul, coe_sum, coe_div (show (1024 : ℝ) ≠ 0 by norm_num)]
  refine congrArg Real.toEReal ?_
  rw [Fin.sum_univ_one, Finset.mul_sum]
  rfl

theorem dy_ref (h : Args X P Y A W V B E) (t : Fin 4096) (l : Fin 1024) :
    val_main_v59 (F := Ideal) X P Y A W V B (ix3 0 t l) = ((E.dy t l : ℝ) : EReal) := by
  pointwise [val_main_v59, val_main_v58, val_main_v57, val_main_v56, val_main_cst_17, val_main_v55, val_main_v54, val_main_cst_16, val_main_cst_15,
    val_main_v48, val_main_v47, val_main_cst_10]
  simp only [err_ref h, ofBits_1024, ofBits_half, ofBits_two, ofBits_one, mul_one, ← EReal.coe_mul, coe_div (show (1024 : ℝ) ≠ 0 by norm_num)]
  refine congrArg Real.toEReal ?_
  unfold Data.dy
  ring

theorem de_ref (h : Args X P Y A W V B E) (t : Fin 4096) (l : Fin 1024) :
    val_main_v60 (F := Ideal) X P Y A W V B (ix3 0 t l) = ((E.de t l : ℝ) : EReal) := by
  pointwise [val_main_v60]
  rw [gate_ref h, dy_ref h, ← EReal.coe_mul, mul_comm]
  rfl

theorem dq_ref (h : Args X P Y A W V B E) (t : Fin 4096) (l : Fin 1024) :
    val_main_v82 (F := Ideal) X P Y A W V B (ix3 0 t l) = ((E.dq t l : ℝ) : EReal) := by
  have hq := q_ref h
  have hm := meanq_ref h
  have hd := de_ref h
  pointwise [val_main_v82, val_main_v81, val_main_v80, val_main_v79, val_main_v78, val_main_v77, val_main_v76, val_main_cst_22, val_main_v75,
    val_main_v74, val_main_cst_21, val_main_v73, val_main_v72, val_main_v71, val_main_v70, val_main_v69, val_main_cst_20, val_main_v68,
    val_main_v66, val_main_v65, val_main_v40, val_main_v37, val_main_v36, val_main_cst_9, val_main_v35, val_main_v34]
  generalize val_main_v26 (F := Ideal) P V = Q at hq ⊢
  generalize val_main_v60 (F := Ideal) X P Y A W V B = D at hd ⊢
  simp only [hm, rsqrt_meanSq]
  rw [coe_pull (fun k => Q (ix3 0 t k)) (fun k => B (ix1 k)) (fun k => D (ix3 0 t k)) (E.q t) E.b (E.de t) (hq t) h.hB (hd t),
    hq, h.hB, hd, coe_derived_back]
  rfl

theorem dz_ref (h : Args X P Y A W V B E) (t : Fin 4096) (l : Fin 1024) :
    val_main_v85 (F := Ideal) X P Y A W V B (ix3 0 t l) = ((E.dz t l : ℝ) : EReal) := by
  pointwise [val_main_v85, val_main_v61, val_main_v25, val_main_v24, val_main_v23, val_main_cst_5]
  simp only [dy_ref h, e_ref h, gate_ref h, ofBits_one, ← EReal.coe_one, ← EReal.coe_mul, ← EReal.coe_sub]
  refine congrArg Real.toEReal ?_
  unfold Data.dz
  ring

theorem dn_ref (h : Args X P Y A W V B E) (t : Fin 4096) (k : Fin 1024) :
    val_main_v88 (F := Ideal) X P Y A W V B (ix3 0 t k) = ((E.dn t k : ℝ) : EReal) := by
  pointwise [val_main_v88]
  simp only [dz_ref h, h.hW, ← EReal.coe_mul, coe_sum]
  rfl

theorem dx_ref (h : Args X P Y A W V B E) (t : Fin 4096) (k : Fin 1024) :
    val_main_v111 (F := Ideal) X P Y A W V B (ix2 t k) = ((E.dx t k : ℝ) : EReal) := by
  have hm := mean_ref h
  have hd := dn_ref h
  pointwise [val_main_v111, val_main_v110, val_main_v109, val_main_v108, val_main_v107, val_main_v106, val_main_v105, val_main_v104, val_main_cst_27,
    val_main_v103, val_main_v102, val_main_cst_26, val_main_v101, val_main_v100, val_main_v99, val_main_v98, val_main_v97, val_main_v96,
    val_main_cst_25, val_main_v95, val_main_v93, val_main_v92, val_main_v13, val_main_v10, val_main_v9, val_main_cst_2, val_main_v8, val_main_v7]
  rw [dy_ref h]
  generalize val_main_v88 (F := Ideal) X P Y A W V B = D at hd ⊢
  simp only [hm, rsqrt_meanSq]
  rw [coe_pull (fun k => X (ix3 0 t k)) (fun k => A (ix1 k)) (fun k => D (ix3 0 t k)) (E.x t) E.a (E.dn t) (h.hX t) h.hA (hd t),
    h.hX, h.hA, hd, coe_add_back, ← EReal.coe_add]
  rfl

theorem dw_ref (h : Args X P Y A W V B E) (k l : Fin 1024) :
    val_main_v87 (F := Ideal) X P Y A W V B (ix2 k l) = ((∑ t, E.n t k * E.dz t l : ℝ) : EReal) := by
  pointwise [val_main_v87, val_main_v86]
  rw [Fin.sum_univ_one]
  simp only [dz_ref h, n_ref h, ← EReal.coe_mul, coe_sum, mul_comm]

/-- The projection's gradient, in four shards of its columns. -/
theorem dv_ref (h : Args X P Y A W V B E) (s : Fin 4) (j l : Fin 256) (hl : s.val * 256 + l.val < 1024) :
    val_main_v114 (F := Ideal) X P Y A W V B (ix3 s j l) = ((∑ t, E.p t j * E.dq t ⟨s.val * 256 + l.val, hl⟩ : ℝ) : EReal) := by
  pointwise [val_main_v114, val_main_v113, val_main_v84, val_main_v83]
  rw [Fin.sum_univ_one]
  simp only [dq_ref h, h.hP, ← EReal.coe_mul, coe_sum]
  exact congrArg Real.toEReal (Finset.sum_congr rfl fun t _ => mul_comm _ _)

theorem da_ref (h : Args X P Y A W V B E) (i : Fin 1) (k : Fin 1024) :
    val_main_v115 (F := Ideal) X P Y A W V B (ix2 i k) = ((∑ t, E.dn t k * E.xh t k : ℝ) : EReal) := by
  pointwise [val_main_v115, val_main_v94, val_main_cst_24, val_main_v91, val_main_v90, val_main_cst_23, val_main_v89]
  simp only [dn_ref h, xh_ref h, ← EReal.coe_mul, coe_sum, mul_comm]

theorem db_ref (h : Args X P Y A W V B E) (i : Fin 1) (l : Fin 1024) :
    val_main_v116 (F := Ideal) X P Y A W V B (ix2 i l) = ((∑ t, E.de t l * E.qh t l : ℝ) : EReal) := by
  pointwise [val_main_v116, val_main_v67, val_main_cst_19, val_main_v64, val_main_v63, val_main_cst_18, val_main_v62]
  simp only [de_ref h, qh_ref h, ← EReal.coe_mul, coe_sum, mul_comm]

end Cert.Reference5Ideal.Val

end
-- ==== Proof.PleArrays.lean ====
/-
  The embedding's gate and the loss: the blocks of a grid point in the arguments, and the kernel's six result arrays.
-/
module

public import proofs.«01_k».proof.Proof.PleBlocks
public import proofs.«01_k».proof.Proof.PleReference
public import Idealize.ShloMosaic.Lib.Pointwise.Index
import Idealize.ShloMosaic.Lib.Claim
import Idealize.ShloMosaic.Lib.StableHlo.ReadAt
import Idealize.ShloMosaic.Lib.Pipeline.ReadBack

@[expose] public section

set_option maxRecDepth 16384
set_option maxHeartbeats 2000000

noncomputable section

namespace Cert.Kernel5Ideal.Val

open Cert.Kernel5Ideal Cert.Kernel5Ideal.Gen Idealize.ShloMosaic Idealize.ShloMosaic.TcCoe Idealize.SL.Sem
open Cert.Reals Cert.Norm Cert.Merge Cert.Ple Cert.Pieces

section
variable (m : (ℓ : Loc nD τ sig) → Buf (Elt Ideal) ℓ) (c : Dev nD)

theorem host_x (t : Fin 4096) (k : Fin 1024) : V m c main_v0 (ix2 t k) = m ((c : Thread nD τ).loc main_arg0) (ix3 0 t k) := by
  unfold V hostOps0
  after_reads_at

theorem host_p (t : Fin 4096) (j : Fin 256) : V m c main_v1 (ix2 t j) = m ((c : Thread nD τ).loc main_arg1) (ix3 0 t j) := by
  unfold V hostOps0
  after_reads_at

theorem host_y (t : Fin 4096) (k : Fin 1024) : V m c main_v2 (ix2 t k) = m ((c : Thread nD τ).loc main_arg2) (ix3 0 t k) := by
  unfold V hostOps0
  after_reads_at

theorem host_a (k : Fin 1024) : V m c main_v3 (ix2 0 k) = m ((c : Thread nD τ).loc main_arg3) (ix1 k) := by
  unfold V hostOps0
  after_reads_at

theorem host_w (k l : Fin 1024) : V m c main_v4 (ix2 k l) = m ((c : Thread nD τ).loc main_arg4) (ix2 k l) := by
  unfold V hostOps0
  after_reads_at

theorem host_v (s : Fin 4) (j l : Fin 256) (h : s.val * 256 + l.val < 1024) :
    V m c main_v7 (ix3 s j l) = m ((c : Thread nD τ).loc main_arg5) (ix2 j ⟨s.val * 256 + l.val, h⟩) := by
  unfold V hostOps0
  after_reads_at

theorem host_b (k : Fin 1024) : V m c main_v8 (ix2 0 k) = m ((c : Thread nD τ).loc main_arg6) (ix1 k) := by
  unfold V hostOps0
  after_reads_at

/-- The arguments are the real numbers of `E`. -/
structure Reads (E : Data) : Prop where
  hX : ∀ t k, m ((c : Thread nD τ).loc main_arg0) (ix3 0 t k) = ((E.x t k : ℝ) : EReal)
  hP : ∀ t j, m ((c : Thread nD τ).loc main_arg1) (ix3 0 t j) = ((E.p t j : ℝ) : EReal)
  hY : ∀ t k, m ((c : Thread nD τ).loc main_arg2) (ix3 0 t k) = ((E.y t k : ℝ) : EReal)
  hA : ∀ k, m ((c : Thread nD τ).loc main_arg3) (ix1 k) = ((E.a k : ℝ) : EReal)
  hW : ∀ k l, m ((c : Thread nD τ).loc main_arg4) (ix2 k l) = ((E.w k l : ℝ) : EReal)
  hV : ∀ j l, m ((c : Thread nD τ).loc main_arg5) (ix2 j l) = ((E.v j l : ℝ) : EReal)
  hB : ∀ k, m ((c : Thread nD τ).loc main_arg6) (ix1 k) = ((E.b k : ℝ) : EReal)

end

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ win0_8.index t = ![0, 0] ∧ win0_9.index t = ![0, 0] ∧ win0_10.index t = ![0, 0, 0]
    ∧ win0_11.index t = ![0, 0] ∧ win0_12.index t = ![0, 0] :=
  (by decide +kernel : ∀ t : Fin grid0.N, _)

/-- Row `r` of the block at point `t`. -/
def rowAt (t : Fin cfg0.N) (r : Fin 512) : Fin 4096 := ⟨t.val * 512 + r.val, by have := lt_of_lt_of_eq t.isLt (show cfg0.N = 8 from N_0); omega⟩

variable {m : (ℓ : Loc nD τ sig) → Buf (Elt Ideal) ℓ} {c : Dev nD} {E : Data}

theorem blocks (h : Reads m c E) (t : Fin cfg0.N) :
    Blocks (iblk m c 0 t) (iblk m c 1 t) (iblk m c 2 t) (iblk m c 3 t) (iblk m c 4 t) (iblk m c 5 t) (iblk m c 6 t) E (rowAt t) where
  hX r k := by
    rw [← h.hX, ← host_x m c]
    blk_point [iblk, idx t]
    rfl
  hP r j := by
    rw [← h.hP, ← host_p m c]
    blk_point [iblk, idx t]
    rfl
  hY r k := by
    rw [← h.hY, ← host_y m c]
    blk_point [iblk, idx t]
    rfl
  hA k := by
    rw [← h.hA, ← host_a m c]
    blk_point [iblk, idx t]
  hW k l := by
    rw [← h.hW, ← host_w m c]
    blk_point [iblk, idx t]
  hV s j l hl := by
    rw [← h.hV, ← host_v m c]
    blk_point [iblk, idx t]
  hB l := by
    rw [← h.hB, ← host_b m c]
    blk_point [iblk, idx t]

/-- What the body computes first is what the gradients are computed of. -/
theorem saved {X : Vec Ideal S512x1024 .f32} {P : Vec Ideal S512x256 .f32} {Y : Vec Ideal S512x1024 .f32} {A : Vec Ideal S1x1024 .f32}
    {W : Vec Ideal S1024x1024 .bf16} {V : Vec Ideal S4x256x256 .bf16} {B : Vec Ideal S1x1024 .f32} {row : Fin 512 → Fin 4096}
    (b : Blocks X P Y A W V B E row) :
    Saved (k0_pay14 X A W) (scaled P V B) (normed P V) (apart X P Y A W V B) (k0_pay13 X A) (k0_pay12 X) (k0_pay11 X) (k0_pay15 P) W A E row
      B (inverse P V) where
  hS := gate_block b
  hL := e_block b
  hQ := qh_block b
  hR := err_block b
  hN := n_block b
  hH := xh_block b
  hJ := inv_block b
  hK := inverse_block b
  hP r j := by
    refine Eq.trans ?_ (b.hP r j)
    pointwise [k0_pay15]
  hW := b.hW
  hA := b.hA
  hB := b.hB

section
variable (E)
/-- An entry of the row gradient, and a token's part of each sum. -/
def rowE (t : Fin 4096) (k : Fin 1024) : EReal := ((E.dx t k : ℝ) : EReal)
def lossE (t : Fin 4096) : EReal := ((E.loss t : ℝ) : EReal)
def gateE (k l : Fin 1024) (t : Fin 4096) : EReal := ((E.n t k * E.dz t l : ℝ) : EReal)
def projE (s : Fin 4) (j l : Fin 256) (t : Fin 4096) : EReal := ((E.p t j * E.dq t ⟨s.val * 256 + l.val, by omega⟩ : ℝ) : EReal)
def beforeE (k : Fin 1024) (t : Fin 4096) : EReal := ((E.dn t k * E.xh t k : ℝ) : EReal)
def afterE (l : Fin 1024) (t : Fin 4096) : EReal := ((E.de t l * E.qh t l : ℝ) : EReal)
end

section
variable (h : Reads m c E) (t : Fin cfg0.N)
include h

theorem row_at (r : Fin 512) (k : Fin 1024) : (outsAt0 m c t.val t.isLt).1 (ix2 r k) = rowE E (rowAt t r) k := by
  have b := saved (blocks h t)
  by_cases hc : t.val % 8 = 0
  · rw [outsAt0_A m c t hc]; frame_out
    exact dx_block b r k
  · rw [outsAt0_B m c t hc]; frame_out
    exact dx_block b r k

theorem loss_A (hc : t.val % 8 = 0) (i : Fin 1) (k : Fin 128) :
    (outsAt0 m c t.val t.isLt).2.1 (ix2 i k) = 0 + ∑ r, lossE E (rowAt t r) := by
  rw [outsAt0_A m c t hc]; frame_out
  exact (loss_block (blocks h t) _ i k).trans (congrArg (· + _) (zero_loss _))

theorem loss_B (hc : ¬ t.val % 8 = 0) (i : Fin 1) (k : Fin 128) :
    (outsAt0 m c t.val t.isLt).2.1 (ix2 i k)
      = (outsAt0 m c (t.val - 1) (Nat.lt_of_le_of_lt (Nat.sub_le _ _) t.isLt)).2.1 (ix2 i k) + ∑ r, lossE E (rowAt t r) := by
  rw [outsAt0_B m c t hc]; frame_out
  exact loss_block (blocks h t) _ i k

theorem gate_A (hc : t.val % 8 = 0) (k l : Fin 1024) :
    (outsAt0 m c t.val t.isLt).2.2.1 (ix2 k l) = 0 + ∑ r, gateE E k l (rowAt t r) := by
  rw [outsAt0_A m c t hc]; frame_out
  exact (dw_block (saved (blocks h t)) _ k l).trans (congrArg (· + _) (zero_dw _))

theorem gate_B (hc : ¬ t.val % 8 = 0) (k l : Fin 1024) :
    (outsAt0 m c t.val t.isLt).2.2.1 (ix2 k l)
      = (outsAt0 m c (t.val - 1) (Nat.lt_of_le_of_lt (Nat.sub_le _ _) t.isLt)).2.2.1 (ix2 k l) + ∑ r, gateE E k l (rowAt t r) := by
  rw [outsAt0_B m c t hc]; frame_out
  exact dw_block (saved (blocks h t)) _ k l

theorem before_A (hc : t.val % 8 = 0) (i : Fin 1) (k : Fin 1024) :
    (outsAt0 m c t.val t.isLt).2.2.2.2.1 (ix2 i k) = 0 + ∑ r, beforeE E k (rowAt t r) := by
  rw [outsAt0_A m c t hc]; frame_out
  exact (da_block (saved (blocks h t)) _ i k).trans (congrArg (· + _) (zero_da _))

theorem before_B (hc : ¬ t.val % 8 = 0) (i : Fin 1) (k : Fin 1024) :
    (outsAt0 m c t.val t.isLt).2.2.2.2.1 (ix2 i k)
      = (outsAt0 m c (t.val - 1) (Nat.lt_of_le_of_lt (Nat.sub_le _ _) t.isLt)).2.2.2.2.1 (ix2 i k) + ∑ r, beforeE E k (rowAt t r) := by
  rw [outsAt0_B m c t hc]; frame_out
  exact da_block (saved (blocks h t)) _ i k

theorem after_A (hc : t.val % 8 = 0) (i : Fin 1) (k : Fin 1024) :
    (outsAt0 m c t.val t.isLt).2.2.2.2.2 (ix2 i k) = 0 + ∑ r, afterE E k (rowAt t r) := by
  rw [outsAt0_A m c t hc]; frame_out
  exact (db_block (saved (blocks h t)) _ i k).trans (congrArg (· + _) (zero_db _))

theorem after_B (hc : ¬ t.val % 8 = 0) (i : Fin 1) (k : Fin 1024) :
    (outsAt0 m c t.val t.isLt).2.2.2.2.2 (ix2 i k)
      = (outsAt0 m c (t.val - 1) (Nat.lt_of_le_of_lt (Nat.sub_le _ _) t.isLt)).2.2.2.2.2 (ix2 i k) + ∑ r, afterE E k (rowAt t r) := by
  rw [outsAt0_B m c t hc]; frame_out
  exact db_block (saved (blocks h t)) _ i k

theorem proj_A (hc : t.val % 8 = 0) (s : Fin 4) (j l : Fin 256) :
    (outsAt0 m c t.val t.isLt).2.2.2.1 (ix3 s j l) = 0 + ∑ r, projE E s j l (rowAt t r) := by
  have b := saved (blocks h t)
  rw [outsAt0_A m c t hc]; frame_out
  rw [planes]
  refine (dv_block b ![_, _, _, _] s j l (by omega)).trans (congrArg (· + _) ?_)
  obtain rfl | rfl | rfl | rfl := four s
  · exact (fresh_plane _ 0 _ [] (by simp) _ _ j l).trans (zero_dv _)
  · exact (fresh_plane _ 1 _ [_] (planeBelow_cons 0 (by decide) (by simp)) _ _ j l).trans (zero_dv _)
  · exact (fresh_plane _ 2 _ [_, _] (planeBelow_cons 1 (by decide) (planeBelow_cons 0 (by decide) (by simp))) _ _ j l).trans (zero_dv _)
  · exact (fresh_plane _ 3 _ [_, _, _] (planeBelow_cons 2 (by decide) (planeBelow_cons 1 (by decide) (planeBelow_cons 0 (by decide) (by simp)))) _ _ j l).trans
      (zero_dv _)

theorem proj_B (hc : ¬ t.val % 8 = 0) (s : Fin 4) (j l : Fin 256) :
    (outsAt0 m c t.val t.isLt).2.2.2.1 (ix3 s j l)
      = (outsAt0 m c (t.val - 1) (Nat.lt_of_le_of_lt (Nat.sub_le _ _) t.isLt)).2.2.2.1 (ix3 s j l) + ∑ r, projE E s j l (rowAt t r) := by
  have b := saved (blocks h t)
  rw [outsAt0_B m c t hc]; frame_out
  rw [planes]
  refine (dv_block b ![_, _, _, _] s j l (by omega)).trans (congrArg (· + _) ?_)
  obtain rfl | rfl | rfl | rfl := four s <;> pointwise []

end

attribute [local irreducible] rowE lossE gateE projE beforeE afterE

theorem at7 (t : Fin cfg0.N) (r : Fin 512) (k : Fin 1024) :
    ((View.whole main_v9_0).slice (win0_7.rect t)).emb (ix2 r k) = ix2 (rowAt t r) k := by
  blk_ext [idx t]
  rfl

theorem rows (h : Reads m c E) : (dats m 0 c).arrAt 7 cfg0.N = fun i => rowE E (i 0) (i 1) := by
  refine (dats m 0 c).arrAt_eq_of_covers 7 _ (by decide +kernel) fun t _ y => ?_
  blk_simp
  rw [after0_7]
  idx_vars y
  rw [at7 t]
  exact row_at h t y0 y1

/-- Sums over the points and the rows of their blocks are sums over the tokens. -/
theorem sum_rows (f : Fin 4096 → EReal) : ∑ s : Fin cfg0.N, ∑ r, f (rowAt s r) = ∑ l, f l :=
  Fin.sum_mul_add_fin cfg0.N 512 f

theorem loss_array (h : Reads m c E) : (dats m 0 c).arrAt 8 cfg0.N = fun _ => ∑ t, lossE E t := by
  refine (dats m 0 c).arrAt_eq_of_after_last 8 t0_7 (by decide +kernel) _ fun i => ?_
  blk_simp
  rw [after0_8, Pipeline.eq_sum_fin_of_reset_step_apply_last (fun n h => (outsAt0 m c n h).2.1) 8 (fun _ => 0)
    (fun t _ => ∑ r, lossE E (rowAt t r))
    (fun t hc i => by idx_vars i; exact loss_A h t hc _ _)
    (fun t hc i => by idx_vars i; exact loss_B h t hc _ _) (le_of_eq N_0) t0_7 rfl i, zero_add]
  exact sum_rows (lossE E)

theorem gate_array (h : Reads m c E) : (dats m 0 c).arrAt 9 cfg0.N = fun i => ∑ t, gateE E (i 0) (i 1) t := by
  refine (dats m 0 c).arrAt_eq_of_after_last 9 t0_7 (by decide +kernel) _ fun i => ?_
  blk_simp
  rw [after0_9, Pipeline.eq_sum_fin_of_reset_step_apply_last (fun n h => (outsAt0 m c n h).2.2.1) 8 (fun _ => 0)
    (fun t i => ∑ r, gateE E (i 0) (i 1) (rowAt t r))
    (fun t hc i => by idx_vars i; exact gate_A h t hc _ _)
    (fun t hc i => by idx_vars i; exact gate_B h t hc _ _) (le_of_eq N_0) t0_7 rfl i, zero_add]
  idx_vars i
  exact sum_rows (gateE E i0 i1)

theorem proj_array (h : Reads m c E) : (dats m 0 c).arrAt 10 cfg0.N = fun i => ∑ t, projE E (i 0) (i 1) (i 2) t := by
  refine (dats m 0 c).arrAt_eq_of_after_last 10 t0_7 (by decide +kernel) _ fun i => ?_
  blk_simp
  rw [after0_10, Pipeline.eq_sum_fin_of_reset_step_apply_last (fun n h => (outsAt0 m c n h).2.2.2.1) 8 (fun _ => 0)
    (fun t i => ∑ r, projE E (i 0) (i 1) (i 2) (rowAt t r))
    (fun t hc i => by idx_vars i; exact proj_A h t hc _ _ _)
    (fun t hc i => by idx_vars i; exact proj_B h t hc _ _ _) (le_of_eq N_0) t0_7 rfl i, zero_add]
  idx_vars i
  exact sum_rows (projE E i0 i1 i2)

theorem before_array (h : Reads m c E) : (dats m 0 c).arrAt 11 cfg0.N = fun i => ∑ t, beforeE E (i 1) t := by
  refine (dats m 0 c).arrAt_eq_of_after_last 11 t0_7 (by decide +kernel) _ fun i => ?_
  blk_simp
  rw [after0_11, Pipeline.eq_sum_fin_of_reset_step_apply_last (fun n h => (outsAt0 m c n h).2.2.2.2.1) 8 (fun _ => 0)
    (fun t i => ∑ r, beforeE E (i 1) (rowAt t r))
    (fun t hc i => by idx_vars i; exact before_A h t hc _ _)
    (fun t hc i => by idx_vars i; exact before_B h t hc _ _) (le_of_eq N_0) t0_7 rfl i, zero_add]
  idx_vars i
  exact sum_rows (beforeE E i1)

theorem after_array (h : Reads m c E) : (dats m 0 c).arrAt 12 cfg0.N = fun i => ∑ t, afterE E (i 1) t := by
  refine (dats m 0 c).arrAt_eq_of_after_last 12 t0_7 (by decide +kernel) _ fun i => ?_
  blk_simp
  rw [after0_12, Pipeline.eq_sum_fin_of_reset_step_apply_last (fun n h => (outsAt0 m c n h).2.2.2.2.2) 8 (fun _ => 0)
    (fun t i => ∑ r, afterE E (i 1) (rowAt t r))
    (fun t hc i => by idx_vars i; exact after_A h t hc _ _)
    (fun t hc i => by idx_vars i; exact after_B h t hc _ _) (le_of_eq N_0) t0_7 rfl i, zero_add]
  idx_vars i
  exact sum_rows (afterE E i1)

end Cert.Kernel5Ideal.Val

end
-- ==== Proof.PleClaim.lean ====
/-
  The embedding's gate, the loss and their gradients: the kernel's results are the reference's.
-/
module

public import proofs.«01_k».proof.Defs
public import proofs.«01_k».proof.Proof.Gen.Kernel5Ideal
public import proofs.«01_k».proof.Proof.Gen.Reference5Ideal
public import proofs.«01_k».proof.Proof.Gen.Pre_ple_finite
public import proofs.«01_k».proof.Proof.Gen.Reference5Ideal.Run
public import proofs.«01_k».proof.Proof.PleArrays
public import proofs.«01_k».proof.Proof.PleReference
public import Idealize.ShloMosaic.Adequacy
public import Idealize.ShloMosaic.Init

@[expose] public section

set_option maxHeartbeats 2000000

noncomputable section

namespace Cert.Proof

open Idealize.ShloMosaic Idealize.SL.Sem Cert.Reals Cert.Ple

/-- The reference runs on the host alone and declares no semaphore. -/
theorem ple_reference_frame : quiescent_Reference5Ideal := fun m ρ _ =>
  (θ_run _ _ _).mono (fun r h => ⟨fun c => (h c).2.2.2.2.2.2, sem_eq_zero_of_no_sems (by decide) r.2⟩) (Cert.Reference5Ideal.Value.run m ρ)

/-- All six results of the call: the loss, and the gradients of the residual rows, of the gate's matrix, of the embedding's
    projection and of the scales of the two norms. -/
theorem ple : algebraic_Kernel5Ideal_Reference5Ideal_pre_ple_finite := by
  intro m ρ m' ρ' hpre hargs
  refine ⟨_, _, _, _, _, _, (θ_run _ _ _).mono (fun r h => h) (Cert.Kernel5Ideal.Value.run_blocks m ρ),
    (θ_run _ _ _).mono (fun r h c => ?_) (Cert.Reference5Ideal.Value.run m' ρ')⟩
  obtain ⟨h1, h2, h3, h4, h5, h6, h7⟩ := hpre c
  obtain ⟨a0, a1, a2, a3, a4, a5, a6⟩ := hargs c
  obtain ⟨x, hx⟩ := real_of_finite _ _ h1
  obtain ⟨p, hp⟩ := real_of_finite _ _ h2
  obtain ⟨y, hy⟩ := real_of_finite _ _ h3
  obtain ⟨s, hs⟩ := real_of_finite _ _ h4
  obtain ⟨w, hw⟩ := real_of_finite _ _ h5
  obtain ⟨v, hv⟩ := real_of_finite _ _ h6
  obtain ⟨b, hb⟩ := real_of_finite _ _ h7
  have a : Cert.Kernel5Ideal.Val.Reads m c ⟨fun t k => x (ix3 0 t k), fun t j => p (ix3 0 t j), fun t k => y (ix3 0 t k), fun k => s (ix1 k),
      fun k l => w (ix2 k l), fun j l => v (ix2 j l), fun k => b (ix1 k)⟩ :=
    ⟨fun t k => hx _, fun t j => hp _, fun t k => hy _, fun k => hs _, fun k l => hw _, fun j l => hv _, fun k => hb _⟩
  have a' := Cert.Reference5Ideal.Val.Args.mk a.hX a.hP a.hY a.hA a.hW a.hV a.hB
  rw [← a0, ← a1, ← a2, ← a3, ← a4, ← a5, ← a6] at a'
  obtain ⟨r0, r1, r2, r3, r4, r5, rest⟩ := h c
  clear hpre hargs h h1 h2 h3 h4 h5 h6 h7 hx hp hy hs hw hv hb a0 a1 a2 a3 a4 a5 a6
  refine ⟨?_, ?_, ?_, ?_, ?_, ?_, rest⟩
  · rw [r0, Cert.Reference5Ideal.Read.val_main_v111_eq]
    refine Eq.trans ?_ (Cert.Kernel5Ideal.Val.rows a).symm
    funext i
    idx_vars i
    exact Cert.Reference5Ideal.Val.dx_ref a' i0 i1
  · rw [r1, Cert.Reference5Ideal.Read.val_main_v112_eq]
    refine Eq.trans ?_ (Cert.Kernel5Ideal.Val.loss_array a).symm
    funext i
    idx_vars i
    exact (Cert.Reference5Ideal.Val.loss_ref a' i0 i1).trans (coe_sum _ _).symm
  · rw [r2, Cert.Reference5Ideal.Read.val_main_v87_eq]
    refine Eq.trans ?_ (Cert.Kernel5Ideal.Val.gate_array a).symm
    funext i
    idx_vars i
    exact (Cert.Reference5Ideal.Val.dw_ref a' i0 i1).trans (coe_sum _ _).symm
  · rw [r3, Cert.Reference5Ideal.Read.val_main_v114_eq]
    refine Eq.trans ?_ (Cert.Kernel5Ideal.Val.proj_array a).symm
    funext i
    idx_vars i
    exact (Cert.Reference5Ideal.Val.dv_ref a' i0 i1 i2 (by omega)).trans (coe_sum _ _).symm
  · rw [r4, Cert.Reference5Ideal.Read.val_main_v115_eq]
    refine Eq.trans ?_ (Cert.Kernel5Ideal.Val.before_array a).symm
    funext i
    idx_vars i
    exact (Cert.Reference5Ideal.Val.da_ref a' i0 i1).trans (coe_sum _ _).symm
  · rw [r5, Cert.Reference5Ideal.Read.val_main_v116_eq]
    refine Eq.trans ?_ (Cert.Kernel5Ideal.Val.after_array a).symm
    funext i
    idx_vars i
    exact (Cert.Reference5Ideal.Val.db_ref a' i0 i1).trans (coe_sum _ _).symm

end Cert.Proof

end
-- ==== Proof.MixerIn.lean ====
/-
  The kernel of the gradient through the mixers' input projection: it puts the five cotangents side by side, multiplies
  them by the four column shards of the projection, and goes back through the norm. What a grid point computes.
-/
module

public import proofs.«01_k».proof.Proof.Gen.Kernel6Ideal.Value
public import proofs.«01_k».proof.Proof.Norm
public import proofs.«01_k».proof.Proof.Pieces

@[expose] public section

set_option maxRecDepth 16384

noncomputable section

namespace Cert.MixerIn

open Idealize.ShloMosaic Idealize.ShloMosaic.TcCoe

/-- Columns stored from column `o` on hold `f`, if what was there before holds `f` below. -/
theorem columns {n N o k : Nat} {e : EltTy} (f : Fin n → Fin N → Elt Ideal e)
    (inb : ∀ a, (![0, o] : Fin 2 → Nat) a + (![n, k] : Fin 2 → Nat) a ≤ (⟨2, ![n, N]⟩ : Shape).size a)
    (w : (⟨2, ![n, k]⟩ : Shape).Idx → Elt Ideal e) (L : List (View.Piece (Elt Ideal) ⟨2, ![n, N]⟩ e))
    (hw : ∀ r (j : Fin k) (h : o + j.val < N), w (ix2 r j) = f r ⟨o + j.val, h⟩) (r : Fin n) (j : Fin N) (hj : j.val < o + k)
    (hL : j.val < o → View.canon L (ix2 r j) = f r j) :
    View.canon (⟨Rect.unit (s := ⟨2, ![n, N]⟩) ![0, o] ![n, k] inb, w⟩ :: L) (ix2 r j) = f r j := by
  by_cases h : j.val < o
  · exact (Cert.Pieces.miss (S := ⟨2, ![n, N]⟩) inb w L (ix2 r j) (1 : Fin 2) (.inl h)).trans (hL h)
  · refine (Cert.Pieces.hit (S := ⟨2, ![n, N]⟩) inb w L (ix2 r j) (ix2 r ⟨j.val - o, by omega⟩) fun c => ?_).trans
      ((hw r ⟨j.val - o, by omega⟩ (by show o + (j.val - o) < N; omega)).trans ?_)
    · match c with
      | 0 => exact (Nat.zero_add _).symm
      | 1 => show j.val = o + (j.val - o); omega
    · exact congrArg (f r) (Fin.ext (by show o + (j.val - o) = j.val; omega))

end Cert.MixerIn

namespace Cert.Kernel6Ideal.Val

open Cert.Kernel6Ideal Cert.Kernel6Ideal.Gen Idealize.ShloMosaic Idealize.ShloMosaic.TcCoe Idealize.SL.Sem
open Cert.Reals Cert.Norm

/-- The blocks one grid point reads, the arguments' real numbers at its rows `row r`. -/
structure Blocks (P : Vec Ideal S512x512 .bf16) (A B C E : Vec Ideal S512x1024 .bf16) (X : Vec Ideal S512x1024 .f32) (G : Vec Ideal S1x1024 .f32)
    (W : Vec Ideal S4x1024x1152 .bf16) (x : Fin 4096 → Fin 1024 → ℝ) (g : Fin 1024 → ℝ) (w : Fin 1024 → Fin 4608 → ℝ)
    (u : Fin 4096 → Fin 4608 → ℝ) (row : Fin 512 → Fin 4096) : Prop where
  hP : ∀ r (j : Fin 512) (h : 0 + j.val < 4608), P (ix2 r j) = ((u (row r) ⟨0 + j.val, h⟩ : ℝ) : EReal)
  hA : ∀ r (j : Fin 1024) (h : 512 + j.val < 4608), A (ix2 r j) = ((u (row r) ⟨512 + j.val, h⟩ : ℝ) : EReal)
  hB : ∀ r (j : Fin 1024) (h : 1536 + j.val < 4608), B (ix2 r j) = ((u (row r) ⟨1536 + j.val, h⟩ : ℝ) : EReal)
  hC : ∀ r (j : Fin 1024) (h : 2560 + j.val < 4608), C (ix2 r j) = ((u (row r) ⟨2560 + j.val, h⟩ : ℝ) : EReal)
  hE : ∀ r (j : Fin 1024) (h : 3584 + j.val < 4608), E (ix2 r j) = ((u (row r) ⟨3584 + j.val, h⟩ : ℝ) : EReal)
  hX : ∀ r k, X (ix2 r k) = ((x (row r) k : ℝ) : EReal)
  hG : ∀ k, G (ix2 0 k) = ((g k : ℝ) : EReal)
  hW : ∀ (s : Fin 4) (k : Fin 1024) (j : Fin 1152) (h : s.val * 1152 + j.val < 4608),
    W (ix3 s k j) = ((w k ⟨s.val * 1152 + j.val, h⟩ : ℝ) : EReal)

section
variable {P : Vec Ideal S512x512 .bf16} {A B C E : Vec Ideal S512x1024 .bf16} {X : Vec Ideal S512x1024 .f32} {G : Vec Ideal S1x1024 .f32}
  {W : Vec Ideal S4x1024x1152 .bf16} {x : Fin 4096 → Fin 1024 → ℝ} {g : Fin 1024 → ℝ} {w : Fin 1024 → Fin 4608 → ℝ}
  {u : Fin 4096 → Fin 4608 → ℝ} {row : Fin 512 → Fin 4096}

/-- The five cotangents side by side, as the body stores them. -/
abbrev side (P : Vec Ideal S512x512 .bf16) (A B C E : Vec Ideal S512x1024 .bf16) : List (View.Piece (Elt Ideal) S512x4608 .bf16) :=
  [⟨Rect.unit ![0, 3584] ![512, 1024] inb_S512x4608_S512x1024_0_3584, k0_pay8 E⟩,
    ⟨Rect.unit ![0, 2560] ![512, 1024] inb_S512x4608_S512x1024_0_2560, k0_pay7 C⟩,
    ⟨Rect.unit ![0, 1536] ![512, 1024] inb_S512x4608_S512x1024_0_1536, k0_pay6 B⟩,
    ⟨Rect.unit ![0, 512] ![512, 1024] inb_S512x4608_S512x1024_0_512, k0_pay5 A⟩,
    ⟨Rect.unit ![0, 0] ![512, 512] inb_S512x4608_S512x512_0_0, k0_pay4 P⟩]

theorem side_at (b : Blocks P A B C E X G W x g w u row) (r : Fin 512) (j : Fin 4608) :
    View.canon (side P A B C E) (ix2 r j) = ((u (row r) j : ℝ) : EReal) := by
  have hj := j.isLt
  refine Cert.MixerIn.columns (e := .bf16) (fun r j => ((u (row r) j : ℝ) : EReal)) _ _ _ (fun r k h => ?_) r j (by omega) fun h3 => ?_
  · pointwise [k0_pay8]
    exact b.hE r k h
  refine Cert.MixerIn.columns (e := .bf16) (fun r j => ((u (row r) j : ℝ) : EReal)) _ _ _ (fun r k h => ?_) r j (by omega) fun h2 => ?_
  · pointwise [k0_pay7]
    exact b.hC r k h
  refine Cert.MixerIn.columns (e := .bf16) (fun r j => ((u (row r) j : ℝ) : EReal)) _ _ _ (fun r k h => ?_) r j (by omega) fun h1 => ?_
  · pointwise [k0_pay6]
    exact b.hB r k h
  refine Cert.MixerIn.columns (e := .bf16) (fun r j => ((u (row r) j : ℝ) : EReal)) _ _ _ (fun r k h => ?_) r j (by omega) fun h0 => ?_
  · pointwise [k0_pay5]
    exact b.hA r k h
  refine Cert.MixerIn.columns (e := .bf16) (fun r j => ((u (row r) j : ℝ) : EReal)) _ _ _ (fun r k h => ?_) r j (by omega) fun h => absurd h (by omega)
  pointwise [k0_pay4]
  simpa using b.hP r k h

/-- Columns loaded from column `o` on. -/
theorem load_at (b : Blocks P A B C E X G W x g w u row) {κ : Kind} {sp : Space} (v : View sig κ sp S512x4608 .bf16) {o : Nat}
    (inb : ∀ a, (![0, o] : Fin 2 → Nat) a + (![512, 1152] : Fin 2 → Nat) a ≤ S512x4608.size a) (s : Fin 4) (ho : o = s.val * 1152)
    (r : Fin 512) (j : Fin 1152) (h : s.val * 1152 + j.val < 4608) :
    v.readCov (side P A B C E) (Rect.unit (s := S512x4608) ![0, o] ![512, 1152] inb).toLoadRect (ix2 r j) = ((u (row r) ⟨s.val * 1152 + j.val, h⟩ : ℝ) : EReal) := by
  refine (Cert.Pieces.load (S := S512x4608) v _ inb (ix2 r j) (ix2 r ⟨s.val * 1152 + j.val, h⟩) fun c => ?_).trans (side_at b r _)
  match c with
  | 0 => exact (Nat.zero_add _).symm
  | 1 => exact congrArg (· + j.val) ho.symm

/-- What the body's four products add up to. -/
theorem dh_block (b : Blocks P A B C E X G W x g w u row) (U0 U1 U2 U3 : Vec Ideal S512x1152 .bf16)
    (h0 : ∀ r (j : Fin 1152) (h : (0 : Fin 4).val * 1152 + j.val < 4608), U0 (ix2 r j) = ((u (row r) ⟨(0 : Fin 4).val * 1152 + j.val, h⟩ : ℝ) : EReal))
    (h1 : ∀ r (j : Fin 1152) (h : (1 : Fin 4).val * 1152 + j.val < 4608), U1 (ix2 r j) = ((u (row r) ⟨(1 : Fin 4).val * 1152 + j.val, h⟩ : ℝ) : EReal))
    (h2 : ∀ r (j : Fin 1152) (h : (2 : Fin 4).val * 1152 + j.val < 4608), U2 (ix2 r j) = ((u (row r) ⟨(2 : Fin 4).val * 1152 + j.val, h⟩ : ℝ) : EReal))
    (h3 : ∀ r (j : Fin 1152) (h : (3 : Fin 4).val * 1152 + j.val < 4608), U3 (ix2 r j) = ((u (row r) ⟨(3 : Fin 4).val * 1152 + j.val, h⟩ : ℝ) : EReal))
    (r : Fin 512) (k : Fin 1024) :
    k0_pay12 U0 (View.ld W (Rect.unit ![0, 0, 0] ![1, 1024, 1152] inb_S4x1024x1152_S1x1024x1152_0_0_0))
      U1 (View.ld W (Rect.unit ![1, 0, 0] ![1, 1024, 1152] inb_S4x1024x1152_S1x1024x1152_1_0_0))
      U2 (View.ld W (Rect.unit ![2, 0, 0] ![1, 1024, 1152] inb_S4x1024x1152_S1x1024x1152_2_0_0))
      U3 (View.ld W (Rect.unit ![3, 0, 0] ![1, 1024, 1152] inb_S4x1024x1152_S1x1024x1152_3_0_0)) (ix2 r k)
      = ((dh u w (row r) k : ℝ) : EReal) := by
  pointwise [k0_pay12]
  have e0 := fun j : Fin 1152 => h0 r j (by show 0 * 1152 + _ < _; omega)
  have e1 := fun j : Fin 1152 => h1 r j (by show 1 * 1152 + _ < _; omega)
  have e2 := fun j : Fin 1152 => h2 r j (by show 2 * 1152 + _ < _; omega)
  have e3 := fun j : Fin 1152 => h3 r j (by show 3 * 1152 + _ < _; omega)
  have hw := fun (s : Fin 4) (j : Fin 1152) => b.hW s k j (by omega)
  have w0 := hw 0
  have w1 := hw 1
  have w2 := hw 2
  have w3 := hw 3
  simp only [e0, e1, e2, e3, w0, w1, w2, w3, ← EReal.coe_mul, coe_sum, ← EReal.coe_add]
  refine congrArg Real.toEReal ?_
  rw [dh, ← Fin.sum_mul_add_fin 4 1152 (fun j => u (row r) j * w k j), Fin.sum_univ_four]

theorem row_block (b : Blocks P A B C E X G W x g w u row) (D : Vec Ideal S512x1024 .f32) (H : FVec Ideal S512x1024 .f32)
    (hd : ∀ r k, H (ix2 r k) = ((dh u w (row r) k : ℝ) : EReal)) (r : Fin 512) (k : Fin 1024) :
    k0_pay2 (k0_pay10 X) (k0_pay11 X) H G D (ix2 r k) = D (ix2 r k) + ((back (x (row r)) g (dh u w (row r)) k : ℝ) : EReal) := by
  pointwise [k0_pay2, k0_pay9, k0_pay10, k0_pay11]
  rw [coe_inv (fun k => X (ix2 r k)) (x (row r)) (b.hX r),
    ← coe_back (fun k => X (ix2 r k)) (fun k => G (ix2 0 k)) (fun k => H (ix2 r k)) (x (row r)) g _ (b.hX r) b.hG (hd r) k]

theorem scale_block (b : Blocks P A B C E X G W x g w u row) (acc : FVec Ideal S1x1024 .f32) (H : FVec Ideal S512x1024 .f32)
    (hd : ∀ r k, H (ix2 r k) = ((dh u w (row r) k : ℝ) : EReal)) (i : Fin 1) (k : Fin 1024) :
    k0_pay1 (k0_pay11 X) H acc (ix2 i k)
      = acc (ix2 i k) + ∑ r : Fin 512, ((dh u w (row r) k * (x (row r) k * invRms (x (row r))) : ℝ) : EReal) := by
  obtain rfl := Subsingleton.elim i 0
  pointwise [k0_pay1, k0_pay9, k0_pay10, k0_pay11]
  refine congrArg (acc (ix2 0 k) + ·) (Finset.sum_congr rfl fun r _ => ?_)
  rw [hd, coe_inv (fun k => X (ix2 r k)) (x (row r)) (b.hX r), b.hX, ← EReal.coe_mul, ← EReal.coe_mul]

end

theorem zero_block (i : Fin 1) (k : Fin 1024) : k0_pay3 (F := Ideal) (ix2 i k) = 0 := by pointwise [k0_pay3]

end Cert.Kernel6Ideal.Val

end
-- ==== Proof.MixerInArrays.lean ====
/-
  The gradient through the mixers' input projection: the blocks of a grid point in the arguments, and the kernel's two
  result arrays.
-/
module

public import proofs.«01_k».proof.Proof.MixerIn
import Idealize.ShloMosaic.Lib.Claim
import Idealize.ShloMosaic.Lib.StableHlo.ReadAt

@[expose] public section

set_option maxRecDepth 16384
set_option maxHeartbeats 1000000

noncomputable section

namespace Cert.Kernel6Ideal.Val

open Cert.Kernel6Ideal Cert.Kernel6Ideal.Gen Idealize.ShloMosaic Idealize.ShloMosaic.TcCoe Idealize.SL.Sem
open Cert.Reals Cert.Norm

section
variable (m : (ℓ : Loc nD τ sig) → Buf (Elt Ideal) ℓ) (c : Dev nD)

/-- The columns that each of the five cotangents takes. -/
theorem host_p (t : Fin 4096) (j : Fin 512) (h : 0 + j.val < 4608) :
    V m c main_v2 (ix2 t j) = m ((c : Thread nD τ).loc main_arg3) (ix3 0 t ⟨0 + j.val, h⟩) := by
  unfold V hostOps0
  after_reads_at

theorem host_a (t : Fin 4096) (j : Fin 1024) (h : 512 + j.val < 4608) :
    V m c main_v5 (ix2 t j) = m ((c : Thread nD τ).loc main_arg3) (ix3 0 t ⟨512 + j.val, h⟩) := by
  unfold V hostOps0
  after_reads_at

theorem host_b (t : Fin 4096) (j : Fin 1024) (h : 1536 + j.val < 4608) :
    V m c main_v8 (ix2 t j) = m ((c : Thread nD τ).loc main_arg3) (ix3 0 t ⟨1536 + j.val, h⟩) := by
  unfold V hostOps0
  after_reads_at

theorem host_c (t : Fin 4096) (j : Fin 1024) (h : 2560 + j.val < 4608) :
    V m c main_v11 (ix2 t j) = m ((c : Thread nD τ).loc main_arg3) (ix3 0 t ⟨2560 + j.val, h⟩) := by
  unfold V hostOps0
  after_reads_at

theorem host_e (t : Fin 4096) (j : Fin 1024) (h : 3584 + j.val < 4608) :
    V m c main_v14 (ix2 t j) = m ((c : Thread nD τ).loc main_arg3) (ix3 0 t ⟨3584 + j.val, h⟩) := by
  unfold V hostOps0
  after_reads_at

theorem host_x (t : Fin 4096) (k : Fin 1024) : V m c main_v15 (ix2 t k) = m ((c : Thread nD τ).loc main_arg0) (ix3 0 t k) := by
  unfold V hostOps0
  after_reads_at

theorem host_d (t : Fin 4096) (k : Fin 1024) : V m c main_v16 (ix2 t k) = m ((c : Thread nD τ).loc main_arg4) (ix3 0 t k) := by
  unfold V hostOps0
  after_reads_at

theorem host_g (k : Fin 1024) : V m c main_v17 (ix2 0 k) = m ((c : Thread nD τ).loc main_arg1) (ix1 k) := by
  unfold V hostOps0
  after_reads_at

theorem host_w (s : Fin 4) (k : Fin 1024) (j : Fin 1152) (h : s.val * 1152 + j.val < 4608) :
    V m c main_v20 (ix3 s k j) = m ((c : Thread nD τ).loc main_arg2) (ix2 k ⟨s.val * 1152 + j.val, h⟩) := by
  unfold V hostOps0
  after_reads_at

/-- The arguments are real numbers. -/
structure Reads (x : Fin 4096 → Fin 1024 → ℝ) (g : Fin 1024 → ℝ) (w : Fin 1024 → Fin 4608 → ℝ) (u : Fin 4096 → Fin 4608 → ℝ) : Prop where
  hx : ∀ t k, m ((c : Thread nD τ).loc main_arg0) (ix3 0 t k) = ((x t k : ℝ) : EReal)
  hg : ∀ k, m ((c : Thread nD τ).loc main_arg1) (ix1 k) = ((g k : ℝ) : EReal)
  hw : ∀ k j, m ((c : Thread nD τ).loc main_arg2) (ix2 k j) = ((w k j : ℝ) : EReal)
  hu : ∀ t j, m ((c : Thread nD τ).loc main_arg3) (ix3 0 t j) = ((u t j : ℝ) : EReal)

end

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0, 0] ∧ win0_9.index t = ![t.val, 0] ∧ win0_10.index t = ![0, 0] :=
  (by decide +kernel : ∀ t : Fin grid0.N, _)

/-- Row `r` of the block at point `t`. -/
def rowAt (t : Fin cfg0.N) (r : Fin 512) : Fin 4096 := ⟨t.val * 512 + r.val, by have := lt_of_lt_of_eq t.isLt (show cfg0.N = 8 from N_0); omega⟩

variable {m : (ℓ : Loc nD τ sig) → Buf (Elt Ideal) ℓ} {c : Dev nD} {x : Fin 4096 → Fin 1024 → ℝ} {g : Fin 1024 → ℝ}
  {w : Fin 1024 → Fin 4608 → ℝ} {u : Fin 4096 → Fin 4608 → ℝ}

theorem blocks (h : Reads m c x g w u) (t : Fin cfg0.N) :
    Blocks (iblk m c 0 t) (iblk m c 1 t) (iblk m c 2 t) (iblk m c 3 t) (iblk m c 4 t) (iblk m c 5 t) (iblk m c 7 t) (iblk m c 8 t)
      x g w u (rowAt t) where
  hP r j hj := by
    rw [← h.hu, ← host_p m c]
    blk_point [iblk, idx t]
    rfl
  hA r j hj := by
    rw [← h.hu, ← host_a m c]
    blk_point [iblk, idx t]
    rfl
  hB r j hj := by
    rw [← h.hu, ← host_b m c]
    blk_point [iblk, idx t]
    rfl
  hC r j hj := by
    rw [← h.hu, ← host_c m c]
    blk_point [iblk, idx t]
    rfl
  hE r j hj := by
    rw [← h.hu, ← host_e m c]
    blk_point [iblk, idx t]
    rfl
  hX r k := by
    rw [← h.hx, ← host_x m c]
    blk_point [iblk, idx t]
    rfl
  hG k := by
    rw [← h.hg, ← host_g m c]
    blk_point [iblk, idx t]
  hW s k j hj := by
    rw [← h.hw, ← host_w m c]
    blk_point [iblk, idx t]

theorem added (t : Fin cfg0.N) (r : Fin 512) (k : Fin 1024) :
    iblk m c 6 t (ix2 r k) = m ((c : Thread nD τ).loc main_arg4) (ix3 0 (rowAt t r) k) := by
  rw [← host_d m c]
  blk_point [iblk, idx t]
  rfl

variable (m c x g w u) in
/-- An entry of the row gradient, and a token's part of the scale's. -/
def rowE (t : Fin 4096) (k : Fin 1024) : EReal :=
  (show EReal from m ((c : Thread nD τ).loc main_arg4) (ix3 0 t k)) + ((back (x t) g (dh u w t) k : ℝ) : EReal)

variable (x w u) in
def scaleE (k : Fin 1024) (t : Fin 4096) : EReal := ((dh u w t k * (x t k * invRms (x t)) : ℝ) : EReal)

section
variable (h : Reads m c x g w u) (t : Fin cfg0.N)
include h

theorem row_at (r : Fin 512) (k : Fin 1024) : (outsAt0 m c t.val t.isLt).1 (ix2 r k) = rowE m c x g w u (rowAt t r) k := by
  have b := blocks h t
  refine Eq.trans ?_ (congrArg (· + ((back (x (rowAt t r)) g (dh u w (rowAt t r)) k : ℝ) : EReal)) (added t r k))
  by_cases hc : t.val % 8 = 0
  · rw [outsAt0_A m c t hc]; frame_out
    exact row_block b _ _ (dh_block b _ _ _ _ (load_at b _ _ 0 rfl) (load_at b _ _ 1 rfl) (load_at b _ _ 2 rfl) (load_at b _ _ 3 rfl)) r k
  · rw [outsAt0_B m c t hc]; frame_out
    exact row_block b _ _ (dh_block b _ _ _ _ (load_at b _ _ 0 rfl) (load_at b _ _ 1 rfl) (load_at b _ _ 2 rfl) (load_at b _ _ 3 rfl)) r k

theorem scale_A (hc : t.val % 8 = 0) (i : Fin 1) (k : Fin 1024) :
    (outsAt0 m c t.val t.isLt).2 (ix2 i k) = 0 + ∑ r, scaleE x w u k (rowAt t r) := by
  have b := blocks h t
  rw [outsAt0_A m c t hc]; frame_out
  exact (scale_block b _ _ (dh_block b _ _ _ _ (load_at b _ _ 0 rfl) (load_at b _ _ 1 rfl) (load_at b _ _ 2 rfl) (load_at b _ _ 3 rfl)) i k).trans
    (congrArg (· + _) (zero_block i k))

theorem scale_B (hc : ¬ t.val % 8 = 0) (i : Fin 1) (k : Fin 1024) :
    (outsAt0 m c t.val t.isLt).2 (ix2 i k)
      = (outsAt0 m c (t.val - 1) (Nat.lt_of_le_of_lt (Nat.sub_le _ _) t.isLt)).2 (ix2 i k) + ∑ r, scaleE x w u k (rowAt t r) := by
  have b := blocks h t
  rw [outsAt0_B m c t hc]; frame_out
  exact scale_block b _ _ (dh_block b _ _ _ _ (load_at b _ _ 0 rfl) (load_at b _ _ 1 rfl) (load_at b _ _ 2 rfl) (load_at b _ _ 3 rfl)) i k

end

attribute [local irreducible] rowE scaleE

theorem at9 (t : Fin cfg0.N) (r : Fin 512) (k : Fin 1024) :
    ((View.whole main_v21_0).slice (win0_9.rect t)).emb (ix2 r k) = ix2 (rowAt t r) k := by
  blk_ext [idx t]
  rfl

theorem rows (h : Reads m c x g w u) : (dats m 0 c).arrAt 9 cfg0.N = fun i => rowE m c x g w u (i 0) (i 1) := by
  refine (dats m 0 c).arrAt_eq_of_covers 9 _ (by decide +kernel) fun t _ y => ?_
  blk_simp
  rw [after0_9]
  idx_vars y
  rw [at9 t]
  exact row_at h t y0 y1

theorem scale (h : Reads m c x g w u) : (dats m 0 c).arrAt 10 cfg0.N = fun i => ∑ t, scaleE x w u (i 1) t := by
  refine (dats m 0 c).arrAt_eq_of_after_last 10 t0_7 (by decide +kernel) _ fun i => ?_
  blk_simp
  rw [after0_10, Pipeline.eq_sum_fin_of_reset_step_apply_last (fun n h => (outsAt0 m c n h).2) 8 (fun _ => 0)
    (fun t i => ∑ r, scaleE x w u (i 1) (rowAt t r))
    (fun t hc i => by idx_vars i; exact scale_A h t hc _ _)
    (fun t hc i => by idx_vars i; exact scale_B h t hc _ _) (le_of_eq N_0) t0_7 rfl i, zero_add]
  idx_vars i
  exact Fin.sum_mul_add_fin cfg0.N 512 (scaleE x w u i1)

end Cert.Kernel6Ideal.Val

end
-- ==== Proof.MixerInReference.lean ====
/-
  The reference's gradient through the mixers' input projection and the norm before it: the normed rows' cotangent, and
  the two results.
-/
module

public import proofs.«01_k».proof.Proof.Gen.Reference6Ideal.Read
public import proofs.«01_k».proof.Proof.Norm
public import proofs.«01_k».proof.Proof.HostSums

@[expose] public section

noncomputable section

namespace Cert.Reference6Ideal.Val

open Cert.Reference6Ideal Cert.Reference6Ideal.Read Idealize.ShloMosaic Cert.Reals Cert.Norm

variable {X : Vec Ideal S1x4096x1024 .f32} {G : Vec Ideal S1024 .f32} {W : Vec Ideal S1024x4608 .f32} {U : Vec Ideal S1x4096x4608 .f32}
  {x : Fin 4096 → Fin 1024 → ℝ} {g : Fin 1024 → ℝ} {w : Fin 1024 → Fin 4608 → ℝ} {u : Fin 4096 → Fin 4608 → ℝ}

theorem cotangent (hW : ∀ k j, W (ix2 k j) = ((w k j : ℝ) : EReal)) (hU : ∀ t j, U (ix3 0 t j) = ((u t j : ℝ) : EReal))
    (t : Fin 4096) (k : Fin 1024) : val_main_v17 (F := Ideal) W U (ix3 0 t k) = ((dh u w t k : ℝ) : EReal) := by
  pointwise [val_main_v17]
  simp only [hW, hU, ← EReal.coe_mul, coe_sum]
  rfl

theorem normed (hX : ∀ t k, X (ix3 0 t k) = ((x t k : ℝ) : EReal)) (t : Fin 4096) (k : Fin 1024) :
    val_main_v12 (F := Ideal) X (ix3 0 t k) = ((x t k * invRms (x t) : ℝ) : EReal) := by
  pointwise [val_main_v0, val_main_cst, val_main_v1, val_main_v2, val_main_cst_0, val_main_v3, val_main_v4, val_main_cst_1, val_main_v5,
    val_main_v6, val_main_v7, val_main_v11, val_main_v12]
  have e := coe_inv (fun k => X (ix3 0 t k)) (x t) (hX t)
  rw [e, hX, ← EReal.coe_mul]

theorem rows (hX : ∀ t k, X (ix3 0 t k) = ((x t k : ℝ) : EReal)) (hG : ∀ k, G (ix1 k) = ((g k : ℝ) : EReal))
    (hW : ∀ k j, W (ix2 k j) = ((w k j : ℝ) : EReal)) (hU : ∀ t j, U (ix3 0 t j) = ((u t j : ℝ) : EReal))
    (D : Vec Ideal S1x4096x1024 .f32) (t : Fin 4096) (k : Fin 1024) :
    val_main_v40 (F := Ideal) X G W U D (ix2 t k) = D (ix3 0 t k) + ((back (x t) g (dh u w t) k : ℝ) : EReal) := by
  have hd := cotangent hW hU
  pointwise [val_main_v0, val_main_cst, val_main_v1, val_main_v2, val_main_cst_0, val_main_v3, val_main_v4, val_main_cst_1, val_main_v5,
    val_main_v6, val_main_v7,
    val_main_v8, val_main_v9, val_main_v10, val_main_v11,
    val_main_v13, val_main_v18, val_main_v21, val_main_v22, val_main_v24, val_main_v25, val_main_v26, val_main_v27,
    val_main_v28, val_main_v29, val_main_v30, val_main_v31, val_main_v32, val_main_v33, val_main_v34,
    val_main_v35, val_main_v36, val_main_v37, val_main_v38, val_main_v39, val_main_v40, val_main_cst_2,
    val_main_cst_5, val_main_cst_6, val_main_cst_7]
  simp only [hd, coe_meanSq (fun k => X (ix3 0 t k)) (x t) (hX t), rsqrt_meanSq]
  rw [coe_pull (fun k => X (ix3 0 t k)) (fun k => G (ix1 k)) (fun k => ((dh u w t k : ℝ) : EReal)) (x t) g _ (hX t) hG (fun _ => rfl),
    hX, hG, coe_add_back]

theorem scale (hX : ∀ t k, X (ix3 0 t k) = ((x t k : ℝ) : EReal))
    (hW : ∀ k j, W (ix2 k j) = ((w k j : ℝ) : EReal)) (hU : ∀ t j, U (ix3 0 t j) = ((u t j : ℝ) : EReal)) (i : Fin 1) (k : Fin 1024) :
    val_main_v41 (F := Ideal) X W U (ix2 i k) = ((∑ t, dh u w t k * (x t k * invRms (x t)) : ℝ) : EReal) := by
  pointwise [val_main_v41, val_main_v23, val_main_v20, val_main_v19, val_main_cst_4, val_main_cst_3, val_main_v18]
  simp only [normed hX, cotangent hW hU, ← EReal.coe_mul, coe_sum, mul_comm]

end Cert.Reference6Ideal.Val

end
-- ==== Proof.MixerInClaim.lean ====
/-
  The gradient through the mixers' input projection and the first norm: the kernel's results are the reference's.
-/
module

public import proofs.«01_k».proof.Defs
public import proofs.«01_k».proof.Proof.Gen.Kernel6Ideal
public import proofs.«01_k».proof.Proof.Gen.Reference6Ideal
public import proofs.«01_k».proof.Proof.Gen.Pre_mixer_in_finite
public import proofs.«01_k».proof.Proof.Gen.Reference6Ideal.Run
public import proofs.«01_k».proof.Proof.MixerInArrays
public import proofs.«01_k».proof.Proof.MixerInReference
public import Idealize.ShloMosaic.Adequacy
public import Idealize.ShloMosaic.Init

@[expose] public section

set_option maxHeartbeats 1000000

noncomputable section

namespace Cert.Proof

open Idealize.ShloMosaic Idealize.SL.Sem Cert.Reals Cert.Norm

/-- The reference runs on the host alone and declares no semaphore. -/
theorem mixer_in_reference_frame : quiescent_Reference6Ideal := fun m ρ _ =>
  (θ_run _ _ _).mono (fun r h => ⟨fun c => (h c).2.2, sem_eq_zero_of_no_sems (by decide) r.2⟩) (Cert.Reference6Ideal.Value.run m ρ)

/-- Both results of the call, the row gradient and the scale's gradient, for finite arguments. -/
theorem mixer_in : algebraic_Kernel6Ideal_Reference6Ideal_pre_mixer_in_finite := by
  intro m ρ m' ρ' hpre hargs
  refine ⟨_, _, (θ_run _ _ _).mono (fun r h => h) (Cert.Kernel6Ideal.Value.run_blocks m ρ),
    (θ_run _ _ _).mono (fun r h c => ?_) (Cert.Reference6Ideal.Value.run m' ρ')⟩
  obtain ⟨h0, h1, h2, h3⟩ := hpre c
  obtain ⟨a0, a1, a2, a3, a4⟩ := hargs c
  obtain ⟨x, hx⟩ := real_of_finite _ _ h0
  obtain ⟨g, hg⟩ := real_of_finite _ _ h1
  obtain ⟨w, hw⟩ := real_of_finite _ _ h2
  obtain ⟨u, hu⟩ := real_of_finite _ _ h3
  have reads : Cert.Kernel6Ideal.Val.Reads m c (fun t k => x (ix3 0 t k)) (fun k => g (ix1 k)) (fun k j => w (ix2 k j))
      (fun t j => u (ix3 0 t j)) := ⟨fun t k => hx _, fun k => hg _, fun k j => hw _, fun t j => hu _⟩
  obtain ⟨r0, r1, rest⟩ := h c
  refine ⟨?_, ?_, rest⟩
  · rw [r0, Cert.Reference6Ideal.Read.val_main_v40_eq, a0, a1, a2, a3, a4]
    refine Eq.trans ?_ (Cert.Kernel6Ideal.Val.rows reads).symm
    funext i
    idx_vars i
    exact Cert.Reference6Ideal.Val.rows (fun t k => hx _) (fun k => hg _) (fun k j => hw _) (fun t j => hu _) _ _ _
  · rw [r1, Cert.Reference6Ideal.Read.val_main_v41_eq, a0, a2, a3]
    refine Eq.trans ?_ (Cert.Kernel6Ideal.Val.scale reads).symm
    funext i
    idx_vars i
    exact (Cert.Reference6Ideal.Val.scale (fun t k => hx _) (fun k j => hw _) (fun t j => hu _) _ _).trans (coe_sum _ _).symm

end Cert.Proof

end
-- ==== Proof.FfnMath.lean ====
/-
  The channel mixer's forward pass in real numbers: what both programs compute.
-/
module

public import proofs.«01_k».proof.Proof.FfnDownMath

@[expose] public section

noncomputable section

namespace Cert.Ffn

open Idealize.ShloMosaic Cert.Reals Cert.Norm Cert.Gelu Cert.FfnDown

/-- The arguments, as real numbers: the rows, the first norm's scale, the up projection, the convolution's weights and
    bias, the down projection and the second norm's scale. -/
structure Data where
  x : Fin 4096 → Fin 1024 → ℝ
  g : Fin 1024 → ℝ
  w : Fin 1024 → Fin 6144 → ℝ
  c : Fin 3 → Fin 3072 → ℝ
  b : Fin 3072 → ℝ
  d : Fin 3072 → Fin 1024 → ℝ
  p : Fin 1024 → ℝ

/-- A row normed and scaled. -/
def scaled (y g : Fin 1024 → ℝ) (k : Fin 1024) : ℝ := y k * invRms y * g k

namespace Data
variable (e : Data)

/-- The normed rows. -/
def h (t : Fin 4096) (k : Fin 1024) : ℝ := scaled (e.x t) e.g k

/-- The up projection. -/
def up (t : Fin 4096) (j : Fin 6144) : ℝ := ∑ k, e.h t k * e.w k j

/-- The convolution of the gate's half. -/
def z (t : Fin 4096) (j : Fin 3072) : ℝ := conv e.up e.c e.b t j

/-- The down projection. -/
def dn (t : Fin 4096) (k : Fin 1024) : ℝ := down e.up e.z e.d t k

/-- The rows with the mixer's output added. -/
def y (t : Fin 4096) (k : Fin 1024) : ℝ := e.x t k + scaled (e.dn t) e.p k

end Data

/-- The tangent's argument with the constants' product folded. -/
theorem tangent_arg (z : ℝ) : z * (root + root * cubic * (z * z)) = root * (z + cubic * (z * z * z)) := by ring

/-- The activation as the kernel computes it. -/
theorem gelu_eq (z : ℝ) : z * (1 / 2 * th z + 1 / 2) = gelu z := by
  unfold gelu
  ring

/-- The slope as the kernel computes it. -/
theorem slope_eq (z : ℝ) :
    (1 / 2 * th z + 1 / 2) + gelu z * (1 - (1 / 2 * th z + 1 / 2)) * (2 * root + 6 * root * cubic * (z * z)) = Gelu.slope z := by
  unfold Gelu.slope gelu
  ring

end Cert.Ffn

end
-- ==== Proof.FfnProj.lean ====
/-
  The channel mixer's forward kernel on one block of rows, the blocks it reads real numbers: the norm and the up projection.
-/
module

public import proofs.«01_k».proof.Proof.Gen.Kernel7Ideal.Value
public import proofs.«01_k».proof.Proof.FfnMath
public import proofs.«01_k».proof.Proof.Pieces
public import Idealize.ShloMosaic.Lib.KernelVsHost
import Idealize.ShloMosaic.Lib.Claim

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Cert.Reals Cert.Norm Cert.Gelu Cert.FfnDown Cert.Ffn Cert.Pieces

/-- The kernel's first named constant: the product of the gelu's two. -/
theorem named_product : Named.named (F := Ideal) Cert.Kernel7Ideal.κ "gelu_ca" (φ := .f32) 0x3D122279#32 = ((root * cubic : ℝ) : EReal) := by
  rw [IdealRules.named_const.ideal_named_scalar _ _ _ ((80338380498831 / 2251799813685248 : ℝ) : EReal) rfl]
  exact congrArg Real.toEReal (by unfold root cubic; norm_num)

/-- The second: six times it. -/
theorem named_sextuple : Named.named (F := Ideal) Cert.Kernel7Ideal.κ "gelu_6ca" (φ := .f32) 0x3E5B33B6#32 = ((6 * root * cubic : ℝ) : EReal) := by
  rw [IdealRules.named_const.ideal_named_scalar _ _ _ ((241015141496493 / 1125899906842624 : ℝ) : EReal) rfl]
  exact congrArg Real.toEReal (by unfold root cubic; norm_num)

theorem ofBits_double : Ideal.ofBits .f32 0x3FCC422A#32 = ((2 * root : ℝ) : EReal) := by
  refine Eq.trans (b := ((6693141 / 4194304 : ℝ) : EReal)) ?_ (congrArg Real.toEReal (by unfold root; norm_num))
  simp [Ideal.ofBits, Ideal.ieee]; rw [← EReal.coe_mul]; norm_num

/-- The blocks at a point hold real numbers: row `r` of a block is the token `row r`. -/
structure Blocks (X : Vec Ideal S256x1024 .f32) (G : Vec Ideal S1x1024 .f32) (W : Vec Ideal S4x1024x1536 .bf16) (C : Vec Ideal S3x3072 .f32)
    (B : Vec Ideal S1x3072 .f32) (D : Vec Ideal S3072x1024 .bf16) (P : Vec Ideal S1x1024 .f32) (e : Data) (row : Fin 256 → Fin 4096) : Prop where
  hX : ∀ r k, X (ix2 r k) = ((e.x (row r) k : ℝ) : EReal)
  hG : ∀ k, G (ix2 0 k) = ((e.g k : ℝ) : EReal)
  hW : ∀ (s : Fin 4) k (n : Fin 1536), W (ix3 s k n) = ((e.w k ⟨s.val * 1536 + n.val, by omega⟩ : ℝ) : EReal)
  hC : ∀ i j, C (ix2 i j) = ((e.c i j : ℝ) : EReal)
  hB : ∀ j, B (ix2 0 j) = ((e.b j : ℝ) : EReal)
  hD : ∀ j k, D (ix2 j k) = ((e.d j k : ℝ) : EReal)
  hP : ∀ k, P (ix2 0 k) = ((e.p k : ℝ) : EReal)
  hrow : ∀ r, (row r).val = (row 0).val + r.val

variable {X : Vec Ideal S256x1024 .f32} {G : Vec Ideal S1x1024 .f32} {W : Vec Ideal S4x1024x1536 .bf16} {C : Vec Ideal S3x3072 .f32}
  {B : Vec Ideal S1x3072 .f32} {D : Vec Ideal S3072x1024 .bf16} {P : Vec Ideal S1x1024 .f32} {e : Data} {row : Fin 256 → Fin 4096}

theorem norm_block (b : Blocks X G W C B D P e row) (r : Fin 256) (k : Fin 1024) :
    k0_pay5 X G (ix2 r k) = ((e.h (row r) k : ℝ) : EReal) := by
  pointwise [k0_pay5, k0_pay4]
  rw [coe_inv (fun k => X (ix2 r k)) (e.x (row r)) (b.hX r), b.hX, b.hG, ← EReal.coe_mul, ← EReal.coe_mul]
  rfl

/-- A shard of the up projection, as loaded. -/
theorem shard_at (s : Fin 4) (i : ∀ a, (![s.val, 0, 0] : Fin 3 → Nat) a + (![1, 1024, 1536] : Fin 3 → Nat) a ≤ S4x1024x1536.size a)
    (k : Fin 1024) (n : Fin 1536) :
    View.ld W (Rect.unit (s := S4x1024x1536) ![s.val, 0, 0] ![1, 1024, 1536] i) (ix3 0 k n) = W (ix3 s k n) :=
  View.ld_unit_apply_of W _ _ i _ _ fun a => match a with
    | 0 => rfl
    | 1 => (Nat.zero_add _).symm
    | 2 => (Nat.zero_add _).symm

/-- The columns of the up projection that a shard gives. -/
theorem cols_block (b : Blocks X G W C B D P e row) (s : Fin 4)
    (i : ∀ a, (![s.val, 0, 0] : Fin 3 → Nat) a + (![1, 1024, 1536] : Fin 3 → Nat) a ≤ S4x1024x1536.size a) (r : Fin 256) (n : Fin 1536) :
    k0_pay8 (k0_pay5 X G) (View.ld W (Rect.unit (s := S4x1024x1536) ![s.val, 0, 0] ![1, 1024, 1536] i)) (ix2 r n)
      = ((e.up (row r) ⟨s.val * 1536 + n.val, by omega⟩ : ℝ) : EReal) := by
  have h := norm_block b
  generalize k0_pay5 X G = Y at h ⊢
  have hV : ∀ k n, View.ld W (Rect.unit (s := S4x1024x1536) ![s.val, 0, 0] ![1, 1024, 1536] i) (ix3 0 k n)
      = ((e.w k ⟨s.val * 1536 + n.val, by omega⟩ : ℝ) : EReal) := fun k n => (shard_at s i k n).trans (b.hW s k n)
  generalize View.ld W (Rect.unit (s := S4x1024x1536) ![s.val, 0, 0] ![1, 1024, 1536] i) = V at hV ⊢
  pointwise [k0_pay8]
  have hV' : ∀ k, V (ix3 0 k n) = ((e.w k ⟨s.val * 1536 + n.val, by omega⟩ : ℝ) : EReal) := fun k => hV k n
  simp only [h, hV', ← EReal.coe_mul, coe_sum]
  rfl

/-- The up projection's block, stored shard by shard. -/
abbrev ups (X : Vec Ideal S256x1024 .f32) (G : Vec Ideal S1x1024 .f32) (W : Vec Ideal S4x1024x1536 .bf16) : List (View.Piece (Elt Ideal) S256x6144 .f32) :=
  [⟨Rect.unit ![0, 4608] ![256, 1536] inb_S256x6144_S256x1536_0_4608,
      k0_pay9 (k0_pay5 X G) (View.ld W (Rect.unit ![3, 0, 0] ![1, 1024, 1536] inb_S4x1024x1536_S1x1024x1536_3_0_0))⟩,
    ⟨Rect.unit ![0, 3072] ![256, 1536] inb_S256x6144_S256x1536_0_3072,
      k0_pay8 (k0_pay5 X G) (View.ld W (Rect.unit ![2, 0, 0] ![1, 1024, 1536] inb_S4x1024x1536_S1x1024x1536_2_0_0))⟩,
    ⟨Rect.unit ![0, 1536] ![256, 1536] inb_S256x6144_S256x1536_0_1536,
      k0_pay7 X G (View.ld W (Rect.unit ![1, 0, 0] ![1, 1024, 1536] inb_S4x1024x1536_S1x1024x1536_1_0_0))⟩,
    ⟨Rect.unit ![0, 0] ![256, 1536] inb_S256x6144_S256x1536_0_0,
      k0_pay6 X G (View.ld W (Rect.unit ![0, 0, 0] ![1, 1024, 1536] inb_S4x1024x1536_S1x1024x1536_0_0_0))⟩]

theorem ups_at (b : Blocks X G W C B D P e row) (r : Fin 256) (j : Fin 6144) :
    View.canon (ups X G W) (ix2 r j) = ((e.up (row r) j : ℝ) : EReal) := by
  have hj := j.isLt
  have place (o : Nat) (n : Fin 1536) (h : j.val = o + n.val) : ∀ a : Fin 2, ((ix2 r j : S256x6144.Idx) a).val
      = (![0, o] : Fin 2 → Nat) a + ((ix2 r n : S256x1536.Idx) a).val := fun a => match a with
    | 0 => (Nat.zero_add _).symm
    | 1 => h
  have col (s : Fin 4) (n : Fin 1536) (h : s.val * 1536 + n.val = j.val) :
      ((e.up (row r) ⟨s.val * 1536 + n.val, by omega⟩ : ℝ) : EReal) = ((e.up (row r) j : ℝ) : EReal) :=
    congrArg (fun j => ((e.up (row r) j : ℝ) : EReal)) (Fin.ext h)
  by_cases h3 : 4608 ≤ j.val
  · refine (hit (S := S256x6144) _ _ _ (ix2 r j) (ix2 r ⟨j.val - 4608, by omega⟩) (place 4608 _ (by show j.val = 4608 + (j.val - 4608); omega))).trans ?_
    exact (cols_block b 3 _ r _).trans (col 3 _ (by show 3 * 1536 + (j.val - 4608) = j.val; omega))
  rw [miss (S := S256x6144) _ _ _ _ (1 : Fin 2) (.inl (by show j.val < 4608; omega))]
  by_cases h2 : 3072 ≤ j.val
  · refine (hit (S := S256x6144) _ _ _ (ix2 r j) (ix2 r ⟨j.val - 3072, by omega⟩) (place 3072 _ (by show j.val = 3072 + (j.val - 3072); omega))).trans ?_
    exact (cols_block b 2 _ r _).trans (col 2 _ (by show 2 * 1536 + (j.val - 3072) = j.val; omega))
  rw [miss (S := S256x6144) _ _ _ _ (1 : Fin 2) (.inl (by show j.val < 3072; omega))]
  by_cases h1 : 1536 ≤ j.val
  · refine (hit (S := S256x6144) _ _ _ (ix2 r j) (ix2 r ⟨j.val - 1536, by omega⟩) (place 1536 _ (by show j.val = 1536 + (j.val - 1536); omega))).trans ?_
    exact (cols_block b 1 _ r _).trans (col 1 _ (by show 1 * 1536 + (j.val - 1536) = j.val; omega))
  rw [miss (S := S256x6144) _ _ _ _ (1 : Fin 2) (.inl (by show j.val < 1536; omega))]
  refine (hit (S := S256x6144) _ _ _ (ix2 r j) (ix2 r ⟨j.val, by omega⟩) (place 0 _ (Nat.zero_add _).symm)).trans ?_
  exact (cols_block b 0 _ r _).trans (col 0 _ (by show 0 * 1536 + j.val = j.val; omega))

/-- The whole block and its two halves, as loaded. -/
abbrev whole (X : Vec Ideal S256x1024 .f32) (G : Vec Ideal S1x1024 .f32) (W : Vec Ideal S4x1024x1536 .bf16) : Vec Ideal S256x6144 .f32 :=
  (View.whole cc0_scratch0).readCov (ups X G W) (Rect.unit (s := S256x6144) ![0, 0] S256x6144.size inb_S256x6144_S256x6144_0_0).toLoadRect
abbrev left (X : Vec Ideal S256x1024 .f32) (G : Vec Ideal S1x1024 .f32) (W : Vec Ideal S4x1024x1536 .bf16) : Vec Ideal S256x3072 .f32 :=
  (View.whole cc0_scratch0).readCov (ups X G W) (Rect.unit (s := S256x6144) ![0, 0] ![256, 3072] inb_S256x6144_S256x3072_0_0).toLoadRect
abbrev right (X : Vec Ideal S256x1024 .f32) (G : Vec Ideal S1x1024 .f32) (W : Vec Ideal S4x1024x1536 .bf16) : Vec Ideal S256x3072 .f32 :=
  (View.whole cc0_scratch0).readCov (ups X G W) (Rect.unit (s := S256x6144) ![0, 3072] ![256, 3072] inb_S256x6144_S256x3072_0_3072).toLoadRect

theorem whole_at (b : Blocks X G W C B D P e row) (r : Fin 256) (j : Fin 6144) : whole X G W (ix2 r j) = ((e.up (row r) j : ℝ) : EReal) :=
  (load _ _ _ (ix2 r j) (ix2 r j) fun a => match a with
    | 0 => (Nat.zero_add _).symm
    | 1 => (Nat.zero_add _).symm).trans (ups_at b r j)

theorem half_at (b : Blocks X G W C B D P e row) (o : Nat) (i : ∀ a, (![0, o] : Fin 2 → Nat) a + (![256, 3072] : Fin 2 → Nat) a ≤ S256x6144.size a)
    (r : Fin 256) (j : Fin 3072) (l : Fin 6144) (h : l.val = o + j.val) :
    (View.whole cc0_scratch0).readCov (ups X G W) (Rect.unit (s := S256x6144) ![0, o] ![256, 3072] i).toLoadRect (ix2 r j)
      = ((e.up (row r) l : ℝ) : EReal) := by
  rw [← ups_at b r l]
  generalize ups X G W = L
  exact load _ L i (ix2 r j) (ix2 r l) fun a => match a with
    | 0 => (Nat.zero_add _).symm
    | 1 => h

theorem left_at (b : Blocks X G W C B D P e row) (r : Fin 256) (j : Fin 3072) : left X G W (ix2 r j) = ((e.up (row r) (gate j) : ℝ) : EReal) :=
  half_at b 0 _ r j (gate j) (Nat.zero_add _).symm

theorem right_at (b : Blocks X G W C B D P e row) (r : Fin 256) (j : Fin 3072) : right X G W (ix2 r j) = ((e.up (row r) (gated j) : ℝ) : EReal) :=
  half_at b 3072 _ r j (gated j) rfl

end Cert.Kernel7Ideal.Val

end
-- ==== Proof.FfnBlocks.lean ====
/-
  The channel mixer's forward kernel on one block of rows: the convolution, the activation with its slope, and the way back.
-/
module

public import proofs.«01_k».proof.Proof.FfnProj
public import Idealize.ShloMosaic.Lib.KernelVsHost

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Cert.Reals Cert.Norm Cert.Gelu Cert.FfnDown Cert.Ffn

variable {X : Vec Ideal S256x1024 .f32} {G : Vec Ideal S1x1024 .f32} {W : Vec Ideal S4x1024x1536 .bf16} {C : Vec Ideal S3x3072 .f32}
  {B : Vec Ideal S1x3072 .f32} {D : Vec Ideal S3072x1024 .bf16} {P : Vec Ideal S1x1024 .f32} {e : Data} {row : Fin 256 → Fin 4096}

/-- The rows kept of the block before this one: the gate's half of the eight rows before this block's first. -/
def Kept (e : Data) (row : Fin 256 → Fin 4096) (K : Vec Ideal S8x3072 .f32) : Prop :=
  ∀ (i : Fin 8) (j : Fin 3072), K (ix2 i j) = ((before (fun t => e.up t (gate j)) (8 - i.val) (row 0) : ℝ) : EReal)

/-- The gate's half of a block's columns, as real numbers. -/
abbrev Gates (e : Data) (row : Fin 256 → Fin 4096) (U : Vec Ideal S256x3072 .f32) : Prop :=
  ∀ r j, U (ix2 r j) = ((e.up (row r) (gate j) : ℝ) : EReal)

variable {U V : Vec Ideal S256x3072 .f32} {K : Vec Ideal S8x3072 .f32}

theorem before_row (b : Blocks X G W C B D P e row) (v : Fin 4096 → ℝ) (s : Nat) (r : Fin 256) (h : s ≤ r.val) :
    before v s (row r) = v (row ⟨r.val - s, by omega⟩) := by
  have h1 := b.hrow r
  have h2 := b.hrow ⟨r.val - s, by omega⟩
  unfold before
  rw [dif_pos (by omega)]
  exact congrArg v (Fin.ext (by rw [h2]; show (row r).val - s = (row 0).val + (r.val - s); omega))

theorem before_first (b : Blocks X G W C B D P e row) (v : Fin 4096 → ℝ) (s : Nat) (r : Fin 256) (h : r.val < s) :
    before v (s - r.val) (row 0) = before v s (row r) := by
  have h1 := b.hrow r
  unfold before
  by_cases q : s ≤ (row r).val
  · rw [dif_pos q, dif_pos (by omega)]
    exact congrArg v (Fin.ext (by show (row 0).val - (s - r.val) = (row r).val - s; omega))
  · rw [dif_neg q, dif_neg (by omega)]

/-- The block's rows below the eight kept ones. -/
theorem joined (b : Blocks X G W C B D P e row) (hU : Gates e row U) (hK : Kept e row K) (s : Nat) (h8 : s ≤ 8) (r : Fin 256) (j : Fin 3072) :
    k0_pay11 U K (ix2 ⟨8 + r.val - s, by omega⟩ j) = ((before (fun t => e.up t (gate j)) s (row r) : ℝ) : EReal) := by
  pointwise [k0_pay11]
  by_cases hn : r.val < s
  · rw [dif_pos (by show 8 + r.val - s < 8; omega), hK, ← before_first b _ s r hn]
    exact congrArg (fun n => ((before (fun t => e.up t (gate j)) n (row 0) : ℝ) : EReal)) (by show 8 - (8 + r.val - s) = s - r.val; omega)
  · rw [dif_neg (by show ¬ 8 + r.val - s < 8; omega), hU, before_row b _ s r (by omega)]
    exact congrArg (fun n => ((e.up (row n) (gate j) : ℝ) : EReal)) (Fin.ext (by show 8 + r.val - s - 8 = r.val - s; omega))

/-- Turning the extended rows by `s` brings row `8 + r - s` to row `8 + r`. -/
theorem turned (E : FVec Ideal S264x3072 .f32) (s : Nat) (n : BitVec 32) (hn : n.toNat = s) (h8 : s ≤ 8) (r : Fin 256) (j : Fin 3072) :
    extractStridedSlice S256x3072 ![8, 0] (dynamicRotate 0 n none E rotates_S264x3072_d0) slices_S264x3072_o8_0_S256x3072 (ix2 r j)
      = E (ix2 ⟨8 + r.val - s, by omega⟩ j) := by
  have q : dynamicRotate 0 n none E rotates_S264x3072_d0 (ix2 ⟨8 + r.val, by omega⟩ j) = E (ix2 ⟨8 + r.val - s, by omega⟩ j) := by
    refine dynamicRotate_apply _ _ _ _ _ _ fun a => ?_
    match a with
    | 0 =>
      show 8 + r.val - s = (8 + r.val + 264 - n.toNat % 264) % 264
      rw [hn, Nat.mod_eq_of_lt (by omega : s < 264)]
      omega
    | 1 => rfl
  refine Eq.trans ?_ q
  pointwise []

theorem conv_block (b : Blocks X G W C B D P e row) (hU : Gates e row U) (hK : Kept e row K) (r : Fin 256) (j : Fin 3072) :
    k0_pay15 (k0_pay11 U K) C (k0_pay13 U C) (k0_pay14 B) (ix2 r j) = ((e.z (row r) j : ℝ) : EReal) := by
  have h1 := joined b hU hK 1 (by decide) r j
  have h2 := joined b hU hK 2 (by decide) r j
  have hM : k0_pay13 U C (ix2 r j) = ((e.c 2 j * e.up (row r) (gate j) : ℝ) : EReal) := by
    pointwise [k0_pay13]
    rw [hU, b.hC, ← EReal.coe_mul]
  have hN : k0_pay14 B (ix2 r j) = ((e.b j : ℝ) : EReal) := by
    pointwise [k0_pay14]
    exact b.hB j
  generalize k0_pay11 U K = E at h1 h2 ⊢
  generalize k0_pay13 U C = M at hM ⊢
  generalize k0_pay14 B = N at hN ⊢
  rw [← turned E 1 1#32 rfl (by decide)] at h1
  rw [← turned E 2 2#32 rfl (by decide)] at h2
  unfold k0_pay15
  generalize extractStridedSlice S256x3072 ![8, 0] (dynamicRotate 0 1#32 none E rotates_S264x3072_d0) slices_S264x3072_o8_0_S256x3072 = E1 at h1 ⊢
  generalize extractStridedSlice S256x3072 ![8, 0] (dynamicRotate 0 2#32 none E rotates_S264x3072_d0) slices_S264x3072_o8_0_S256x3072 = E2 at h2 ⊢
  pointwise []
  rw [hM, hN, h1, h2, b.hC, b.hC, ← EReal.coe_mul, ← EReal.coe_mul, ← EReal.coe_add, ← EReal.coe_add, ← EReal.coe_add]
  refine congrArg Real.toEReal ?_
  unfold Data.z conv
  ring

/-- Half of one more than the hyperbolic tangent. -/
theorem half_block (b : Blocks X G W C B D P e row) (hU : Gates e row U) (hK : Kept e row K) (r : Fin 256) (j : Fin 3072) :
    k0_pay17 (k0_pay11 U K) C (k0_pay13 U C) (k0_pay14 B) (ix2 r j) = ((1 / 2 * th (e.z (row r) j) + 1 / 2 : ℝ) : EReal) := by
  have h := conv_block b hU hK r j
  unfold k0_pay17 k0_pay16
  generalize k0_pay15 (k0_pay11 U K) C (k0_pay13 U C) (k0_pay14 B) = Z at h ⊢
  pointwise []
  rw [h, named_product, ofBits_root, ofBits_half, ← EReal.coe_mul, ← EReal.coe_mul, ← EReal.coe_add, ← EReal.coe_mul, tanh_coe,
    tangent_arg, ← EReal.coe_mul, ← EReal.coe_add]
  rfl

theorem gelu_block (b : Blocks X G W C B D P e row) (hU : Gates e row U) (hK : Kept e row K) (r : Fin 256) (j : Fin 3072) :
    k0_pay18 (k0_pay11 U K) C (k0_pay13 U C) (k0_pay14 B) (ix2 r j) = ((gelu (e.z (row r) j) : ℝ) : EReal) := by
  have h := conv_block b hU hK r j
  have p := half_block b hU hK r j
  unfold k0_pay18
  generalize k0_pay15 (k0_pay11 U K) C (k0_pay13 U C) (k0_pay14 B) = Z at h ⊢
  generalize k0_pay17 (k0_pay11 U K) C (k0_pay13 U C) (k0_pay14 B) = Y at p ⊢
  pointwise []
  rw [h, p, ← EReal.coe_mul, gelu_eq]

theorem kept_gelu_block (b : Blocks X G W C B D P e row) (hU : Gates e row U) (hK : Kept e row K) (r : Fin 256) (j : Fin 3072) :
    k0_pay19 (k0_pay11 U K) C (k0_pay13 U C) (k0_pay14 B) (ix2 r j) = ((gelu (e.z (row r) j) : ℝ) : EReal) := by
  rw [← gelu_block b hU hK]
  unfold k0_pay19
  generalize k0_pay18 (k0_pay11 U K) C (k0_pay13 U C) (k0_pay14 B) = Z
  pointwise []

theorem slope_block (b : Blocks X G W C B D P e row) (hU : Gates e row U) (hK : Kept e row K) (r : Fin 256) (j : Fin 3072) :
    k0_pay20 (k0_pay11 U K) C (k0_pay13 U C) (k0_pay14 B) (ix2 r j) = ((Gelu.slope (e.z (row r) j) : ℝ) : EReal) := by
  have h := conv_block b hU hK r j
  have p := half_block b hU hK r j
  have q := gelu_block b hU hK r j
  unfold k0_pay20 k0_pay16
  generalize k0_pay15 (k0_pay11 U K) C (k0_pay13 U C) (k0_pay14 B) = Z at h ⊢
  generalize k0_pay17 (k0_pay11 U K) C (k0_pay13 U C) (k0_pay14 B) = Y at p ⊢
  generalize k0_pay18 (k0_pay11 U K) C (k0_pay13 U C) (k0_pay14 B) = A at q ⊢
  pointwise []
  rw [h, p, q, named_sextuple, ofBits_double, ← EReal.coe_one, ← EReal.coe_sub, ← EReal.coe_mul, ← EReal.coe_mul, ← EReal.coe_mul, ← EReal.coe_add,
    ← EReal.coe_mul, ← EReal.coe_add, slope_eq]

theorem hid_block (b : Blocks X G W C B D P e row) (hU : Gates e row U) (hV : ∀ r j, V (ix2 r j) = ((e.up (row r) (gated j) : ℝ) : EReal))
    (hK : Kept e row K) (r : Fin 256) (j : Fin 3072) :
    k0_pay21 (k0_pay11 U K) C (k0_pay13 U C) (k0_pay14 B) V (ix2 r j) = ((hid e.up e.z (row r) j : ℝ) : EReal) := by
  have q := gelu_block b hU hK r j
  unfold k0_pay21
  generalize k0_pay18 (k0_pay11 U K) C (k0_pay13 U C) (k0_pay14 B) = A at q ⊢
  pointwise []
  rw [q, hV, ← EReal.coe_mul]
  rfl

theorem down_block (b : Blocks X G W C B D P e row) (hU : Gates e row U) (hV : ∀ r j, V (ix2 r j) = ((e.up (row r) (gated j) : ℝ) : EReal))
    (hK : Kept e row K) (r : Fin 256) (k : Fin 1024) :
    k0_pay1 (k0_pay21 (k0_pay11 U K) C (k0_pay13 U C) (k0_pay14 B) V) D (ix2 r k) = ((e.dn (row r) k : ℝ) : EReal) := by
  have h := hid_block b hU hV hK
  generalize k0_pay21 (k0_pay11 U K) C (k0_pay13 U C) (k0_pay14 B) V = Y at h ⊢
  pointwise [k0_pay1]
  simp only [h, b.hD, ← EReal.coe_mul, coe_sum]
  rfl

theorem out_block (b : Blocks X G W C B D P e row) (hU : Gates e row U) (hV : ∀ r j, V (ix2 r j) = ((e.up (row r) (gated j) : ℝ) : EReal))
    (hK : Kept e row K) (r : Fin 256) (k : Fin 1024) :
    k0_pay2 (k0_pay4 X) (k0_pay21 (k0_pay11 U K) C (k0_pay13 U C) (k0_pay14 B) V) D P (ix2 r k) = ((e.y (row r) k : ℝ) : EReal) := by
  have h := down_block b hU hV hK
  generalize k0_pay21 (k0_pay11 U K) C (k0_pay13 U C) (k0_pay14 B) V = Y at h ⊢
  unfold k0_pay2
  generalize k0_pay1 Y D = R at h ⊢
  pointwise [k0_pay4]
  rw [coe_inv (fun k => R (ix2 r k)) (e.dn (row r)) (h r), h, b.hX, b.hP, ← EReal.coe_mul, ← EReal.coe_mul, ← EReal.coe_add]
  rfl

/-- The rows kept for the block after are the last eight. -/
theorem last_block (hU : Gates e row U) (i : Fin 8) (j : Fin 3072) :
    k0_pay12 U (ix2 i j) = ((e.up (row ⟨248 + i.val, by omega⟩) (gate j) : ℝ) : EReal) := by
  rw [← hU]
  pointwise [k0_pay12]

end Cert.Kernel7Ideal.Val

end
-- ==== Proof.FfnReference.lean ====
/-
  The reference's forward pass of the channel mixer: its six results, the arguments real numbers.  From the up projection
  on, the operations are those that the gradient's reference starts with.
-/
module

public import proofs.«01_k».proof.Proof.Gen.Reference7Ideal.Read
public import proofs.«01_k».proof.Proof.FfnMath
public import proofs.«01_k».proof.Proof.FfnDownHost
import Idealize.ShloMosaic.Lib.Claim

@[expose] public section

set_option maxRecDepth 16384
set_option maxHeartbeats 1000000

noncomputable section

namespace Cert.Reference7Ideal.Val

open Cert.Reference7Ideal Cert.Reference7Ideal.Read Idealize.ShloMosaic Cert.Reals Cert.Norm Cert.Gelu Cert.FfnDown Cert.Ffn

/-- The arguments are real numbers. -/
structure Args (X : Vec Ideal S1x4096x1024 .f32) (G : Vec Ideal S1024 .f32) (W : Vec Ideal S1024x6144 .f32) (C : Vec Ideal S3x3072 .f32)
    (B : Vec Ideal S3072 .f32) (D : Vec Ideal S3072x1024 .f32) (P : Vec Ideal S1024 .f32) (e : Data) : Prop where
  hx : ∀ t k, X (ix3 0 t k) = ((e.x t k : ℝ) : EReal)
  hg : ∀ k, G (ix1 k) = ((e.g k : ℝ) : EReal)
  hw : ∀ k j, W (ix2 k j) = ((e.w k j : ℝ) : EReal)
  hc : ∀ i j, C (ix2 i j) = ((e.c i j : ℝ) : EReal)
  hb : ∀ j, B (ix1 j) = ((e.b j : ℝ) : EReal)
  hd : ∀ j k, D (ix2 j k) = ((e.d j k : ℝ) : EReal)
  hp : ∀ k, P (ix1 k) = ((e.p k : ℝ) : EReal)

variable {X : Vec Ideal S1x4096x1024 .f32} {G : Vec Ideal S1024 .f32} {W : Vec Ideal S1024x6144 .f32} {C : Vec Ideal S3x3072 .f32}
  {B : Vec Ideal S3072 .f32} {D : Vec Ideal S3072x1024 .f32} {P : Vec Ideal S1024 .f32} {e : Data}

theorem norm_ref (a : Args X G W C B D P e) (t : Fin 4096) (k : Fin 1024) : val_main_v12 (F := Ideal) X G (ix3 0 t k) = ((e.h t k : ℝ) : EReal) := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rw [coe_inv (fun k => X (ix3 0 t k)) (e.x t) (a.hx t), a.hx, a.hg, ← EReal.coe_mul, ← EReal.coe_mul]
  rfl

theorem up_ref (a : Args X G W C B D P e) (t : Fin 4096) (j : Fin 6144) : val_main_v13 (F := Ideal) X G W (ix3 0 t j) = ((e.up t j : ℝ) : EReal) := by
  have h := norm_ref a
  unfold val_main_v13
  generalize val_main_v12 (F := Ideal) X G = Y at h ⊢
  pointwise []
  simp only [h, a.hw, ← EReal.coe_mul, coe_sum]
  rfl

/-- The arguments of the part that the gradient's reference shares. -/
theorem shared (a : Args X G W C B D P e) :
    Cert.Reference3Ideal.Val.Args (val_main_v13 (F := Ideal) X G W) C B D P X e.up e.c e.b e.d e.p e.x :=
  ⟨up_ref a, a.hc, a.hb, a.hd, a.hp, a.hx⟩

theorem convolved : val_main_v39 (F := Ideal) X G W C B = Cert.Reference3Ideal.Read.val_main_v26 (F := Ideal) (val_main_v13 (F := Ideal) X G W) C B := rfl

theorem activated : val_main_v60 (F := Ideal) X G W C B = Cert.Reference3Ideal.Read.val_main_v47 (F := Ideal) (val_main_v13 (F := Ideal) X G W) C B := rfl

theorem projected : val_main_v76 (F := Ideal) X G W C B D = Cert.Reference3Ideal.Read.val_main_v50 (F := Ideal) (val_main_v13 (F := Ideal) X G W) C B D := rfl

theorem sloped : val_main_v73 (F := Ideal) X G W C B = Cert.Kernel3Ideal.Val.slopeOf (val_main_v39 (F := Ideal) X G W C B) := rfl

/-- The up projection. -/
theorem up_result (a : Args X G W C B D P e) (t : Fin 4096) (j : Fin 6144) : val_main_v92 (F := Ideal) X G W (ix2 t j) = ((e.up t j : ℝ) : EReal) := by
  rw [← up_ref a]
  pointwise [val_main_v92, val_main_v91]

/-- The activation. -/
theorem gelu_result (a : Args X G W C B D P e) (t : Fin 4096) (j : Fin 3072) :
    val_main_v94 (F := Ideal) X G W C B (ix2 t j) = ((gelu (e.z t j) : ℝ) : EReal) := by
  refine Eq.trans ?_ (Cert.Reference3Ideal.Val.gelu_ref (shared a) t j)
  rw [← activated]
  pointwise [val_main_v94, val_main_v93]

/-- Its slope. -/
theorem slope_result (a : Args X G W C B D P e) (t : Fin 4096) (j : Fin 3072) :
    val_main_v96 (F := Ideal) X G W C B (ix2 t j) = ((Gelu.slope (e.z t j) : ℝ) : EReal) := by
  have h := Cert.Kernel3Ideal.Val.slope_at (val_main_v39 (F := Ideal) X G W C B) t j (e.z t j)
    ((congrFun convolved _).trans (Cert.Reference3Ideal.Val.conv_ref (shared a) t j))
  rw [← h, ← sloped]
  pointwise [val_main_v96, val_main_v95]

/-- The normed rows. -/
theorem norm_result (a : Args X G W C B D P e) (t : Fin 4096) (k : Fin 1024) : val_main_v98 (F := Ideal) X G (ix2 t k) = ((e.h t k : ℝ) : EReal) := by
  rw [← norm_ref a]
  pointwise [val_main_v98, val_main_v97]

theorem down_ref (a : Args X G W C B D P e) (t : Fin 4096) (k : Fin 1024) :
    val_main_v76 (F := Ideal) X G W C B D (ix3 0 t k) = ((e.dn t k : ℝ) : EReal) :=
  (congrFun projected _).trans (Cert.Reference3Ideal.Val.down_ref (shared a) t k)

/-- The down projection. -/
theorem down_result (a : Args X G W C B D P e) (t : Fin 4096) (k : Fin 1024) :
    val_main_v99 (F := Ideal) X G W C B D (ix2 t k) = ((e.dn t k : ℝ) : EReal) := by
  rw [← down_ref a]
  pointwise [val_main_v99]

/-- The rows with the mixer's output added. -/
theorem out_result (a : Args X G W C B D P e) (t : Fin 4096) (k : Fin 1024) :
    val_main_v100 (F := Ideal) X G W C B D P (ix2 t k) = ((e.y t k : ℝ) : EReal) := by
  have h := down_ref a
  pointwise [val_main_v100, val_main_v90, val_main_v89, val_main_v88, val_main_v87, val_main_v86, val_main_v85, val_main_v84, val_main_v83,
    val_main_v82, val_main_cst_16, val_main_v81, val_main_v80, val_main_cst_15, val_main_v79, val_main_v78, val_main_cst_14, val_main_v77]
  generalize val_main_v76 (F := Ideal) X G W C B D = R at h ⊢
  rw [coe_inv (fun k => R (ix3 0 t k)) (e.dn t) (h t), h, a.hx, a.hp, ← EReal.coe_mul, ← EReal.coe_mul, ← EReal.coe_add]
  rfl

end Cert.Reference7Ideal.Val

end
-- ==== Proof.FfnArrays.lean ====
/-
  The channel mixer's forward kernel: the blocks of a grid point in the arguments, and the arrays it fills.
-/
module

public import proofs.«01_k».proof.Proof.FfnBlocks
public import proofs.«01_k».proof.Proof.FfnReference
public import Idealize.ShloMosaic.Lib.Pointwise.Index
import Idealize.ShloMosaic.Lib.Claim
import Idealize.ShloMosaic.Lib.StableHlo.ReadAt
import Idealize.ShloMosaic.Lib.Pipeline.ReadBack

@[expose] public section

set_option maxRecDepth 16384
set_option maxHeartbeats 1000000

noncomputable section

namespace Cert.Kernel7Ideal.Val

open Cert.Kernel7Ideal Cert.Kernel7Ideal.Gen Idealize.ShloMosaic Idealize.ShloMosaic.TcCoe Idealize.SL.Sem
open Cert.Reals Cert.Norm Cert.Gelu Cert.FfnDown Cert.Ffn Cert.Pieces Cert.Reference7Ideal.Val

section
variable (m : (ℓ : Loc nD τ sig) → Buf (Elt Ideal) ℓ) (c : Dev nD)

abbrev argX : Vec Ideal S1x4096x1024 .f32 := m ((c : Thread nD τ).loc main_arg0)
abbrev argG : Vec Ideal S1024 .f32 := m ((c : Thread nD τ).loc main_arg1)
abbrev argW : Vec Ideal S1024x6144 .f32 := m ((c : Thread nD τ).loc main_arg2)
abbrev argC : Vec Ideal S3x3072 .f32 := m ((c : Thread nD τ).loc main_arg3)
abbrev argB : Vec Ideal S3072 .f32 := m ((c : Thread nD τ).loc main_arg4)
abbrev argD : Vec Ideal S3072x1024 .f32 := m ((c : Thread nD τ).loc main_arg5)
abbrev argP : Vec Ideal S1024 .f32 := m ((c : Thread nD τ).loc main_arg6)

theorem host_x (t : Fin 4096) (k : Fin 1024) : V m c main_v0 (ix2 t k) = m ((c : Thread nD τ).loc main_arg0) (ix3 0 t k) := by
  unfold V hostOps0
  after_reads_at

theorem host_g (k : Fin 1024) : V m c main_v1 (ix2 0 k) = m ((c : Thread nD τ).loc main_arg1) (ix1 k) := by
  unfold V hostOps0
  after_reads_at

theorem host_w (s : Fin 4) (k : Fin 1024) (n : Fin 1536) :
    V m c main_v4 (ix3 s k n) = m ((c : Thread nD τ).loc main_arg2) (ix2 k ⟨s.val * 1536 + n.val, by omega⟩) := by
  unfold V hostOps0
  after_reads_at

theorem host_b (j : Fin 3072) : V m c main_v5 (ix2 0 j) = m ((c : Thread nD τ).loc main_arg4) (ix1 j) := by
  unfold V hostOps0
  after_reads_at

theorem host_d (j : Fin 3072) (k : Fin 1024) : V m c main_v6 (ix2 j k) = m ((c : Thread nD τ).loc main_arg5) (ix2 j k) := by
  unfold V hostOps0
  after_reads_at

theorem host_p (k : Fin 1024) : V m c main_v7 (ix2 0 k) = m ((c : Thread nD τ).loc main_arg6) (ix1 k) := by
  unfold V hostOps0
  after_reads_at

end

variable {m : (ℓ : Loc nD τ sig) → Buf (Elt Ideal) ℓ} {c : Dev nD} {e : Data}

theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- Row `r` of the block at point `t`. -/
def rowAt (t : Fin cfg0.N) (r : Fin 256) : Fin 4096 :=
  ⟨t.val * 256 + r.val, by have h : t.val < 16 := lt_of_lt_of_eq t.isLt (show cfg0.N = 16 from N_0); omega⟩

variable (a : Args (argX m c) (argG m c) (argW m c) (argC m c) (argB m c) (argD m c) (argP m c) e)
include a

theorem blocks (t : Fin cfg0.N) :
    Blocks (iblk m c 0 t) (iblk m c 1 t) (iblk m c 2 t) (iblk m c 3 t) (iblk m c 4 t) (iblk m c 5 t) (iblk m c 6 t) e (rowAt t) where
  hX r j := by
    rw [← a.hx, argX, ← host_x m c]
    blk_point [iblk, idx t]
    rfl
  hG j := by
    rw [← a.hg, argG, ← host_g m c]
    blk_point [iblk, idx t]
  hW s k n := by
    rw [← a.hw, argW, ← host_w m c]
    blk_point [iblk, idx t]
  hC i j := by
    rw [← a.hc, argC, ← V_main_arg3 m c]
    blk_point [iblk, idx t]
  hB j := by
    rw [← a.hb, argB, ← host_b m c]
    blk_point [iblk, idx t]
  hD i j := by
    rw [← a.hd, argD, ← host_d m c]
    blk_point [iblk, idx t]
  hP j := by
    rw [← a.hp, argP, ← host_p m c]
    blk_point [iblk, idx t]
  hrow r := rfl

theorem gates (t : Fin cfg0.N) : Gates e (rowAt t) (left (iblk m c 0 t) (iblk m c 1 t) (iblk m c 2 t)) := left_at (blocks a t)

/-- What a point leaves for the next: its last eight rows. -/
theorem kept_at (t : Fin cfg0.N) (i : Fin 8) (j : Fin 3072) :
    (outsAt0 m c t.val t.isLt).2.2.2.2.2.2 (ix2 i j) = ((e.up (rowAt t ⟨248 + i.val, by omega⟩) (gate j) : ℝ) : EReal) := by
  by_cases h : t.val % 16 = 0
  · rw [outsAt0_A m c t h]; frame_out
    exact last_block (gates a t) i j
  · rw [outsAt0_B m c t h]; frame_out
    exact last_block (gates a t) i j

omit a in
theorem zero_kept (i : S8x3072.Idx) : k0_pay3 (F := Ideal) i = 0 := by pointwise [k0_pay3]

omit a in
/-- Nothing comes before the first point's rows. -/
theorem kept_A (t : Fin cfg0.N) (h : t.val % 16 = 0) : Kept e (rowAt t) (k0_pay3 (F := Ideal)) := fun i j => by
  have ht : t.val < 16 := lt_of_lt_of_eq t.isLt (show cfg0.N = 16 from N_0)
  rw [zero_kept]
  unfold before
  rw [dif_neg]
  · rfl
  · show ¬ 8 - i.val ≤ t.val * 256 + 0
    omega

/-- What comes before a later point's rows is what the point before left. -/
theorem kept_B (t : Fin cfg0.N) (h : ¬ t.val % 16 = 0) :
    Kept e (rowAt t) (outsAt0 m c (t.val - 1) (Nat.lt_of_le_of_lt (Nat.sub_le _ _) t.isLt)).2.2.2.2.2.2 := fun i j => by
  have ht : t.val < 16 := lt_of_lt_of_eq t.isLt (show cfg0.N = 16 from N_0)
  refine (kept_at a ⟨t.val - 1, Nat.lt_of_le_of_lt (Nat.sub_le _ _) t.isLt⟩ i j).trans ?_
  have q : (t.val - 1) * 256 + (248 + i.val) = t.val * 256 + 0 - (8 - i.val) := by omega
  unfold before
  rw [dif_pos (by show 8 - i.val ≤ t.val * 256 + 0; omega)]
  exact congrArg (fun n => ((e.up n (gate j) : ℝ) : EReal)) (Fin.ext q)

/-- The block of the up projection that a point writes; the other five follow. -/
theorem up_at (t : Fin cfg0.N) (r : Fin 256) (j : Fin 6144) : (outsAt0 m c t.val t.isLt).1 (ix2 r j) = ((e.up (rowAt t r) j : ℝ) : EReal) := by
  have s (Y : Vec Ideal S256x6144 .f32) : k0_pay10 Y (ix2 r j) = Y (ix2 r j) := by pointwise [k0_pay10]
  by_cases h : t.val % 16 = 0
  · rw [outsAt0_A m c t h]; frame_out
    exact (s _).trans (whole_at (blocks a t) r j)
  · rw [outsAt0_B m c t h]; frame_out
    exact (s _).trans (whole_at (blocks a t) r j)

theorem gelu_at (t : Fin cfg0.N) (r : Fin 256) (j : Fin 3072) : (outsAt0 m c t.val t.isLt).2.1 (ix2 r j) = ((gelu (e.z (rowAt t r) j) : ℝ) : EReal) := by
  by_cases h : t.val % 16 = 0
  · rw [outsAt0_A m c t h]; frame_out
    exact kept_gelu_block (blocks a t) (gates a t) (kept_A t h) r j
  · rw [outsAt0_B m c t h]; frame_out
    refine kept_gelu_block (blocks a t) (gates a t) ?_ r j
    rw [read_unread_whole]
    exact kept_B a t h

theorem slope_at (t : Fin cfg0.N) (r : Fin 256) (j : Fin 3072) :
    (outsAt0 m c t.val t.isLt).2.2.1 (ix2 r j) = ((Gelu.slope (e.z (rowAt t r) j) : ℝ) : EReal) := by
  by_cases h : t.val % 16 = 0
  · rw [outsAt0_A m c t h]; frame_out
    exact slope_block (blocks a t) (gates a t) (kept_A t h) r j
  · rw [outsAt0_B m c t h]; frame_out
    refine slope_block (blocks a t) (gates a t) ?_ r j
    rw [read_unread_whole]
    exact kept_B a t h

theorem norm_at (t : Fin cfg0.N) (r : Fin 256) (k : Fin 1024) : (outsAt0 m c t.val t.isLt).2.2.2.1 (ix2 r k) = ((e.h (rowAt t r) k : ℝ) : EReal) := by
  by_cases h : t.val % 16 = 0
  · rw [outsAt0_A m c t h]; frame_out
    exact norm_block (blocks a t) r k
  · rw [outsAt0_B m c t h]; frame_out
    exact norm_block (blocks a t) r k

theorem down_at (t : Fin cfg0.N) (r : Fin 256) (k : Fin 1024) : (outsAt0 m c t.val t.isLt).2.2.2.2.1 (ix2 r k) = ((e.dn (rowAt t r) k : ℝ) : EReal) := by
  by_cases h : t.val % 16 = 0
  · rw [outsAt0_A m c t h]; frame_out
    exact down_block (blocks a t) (gates a t) (right_at (blocks a t)) (kept_A t h) r k
  · rw [outsAt0_B m c t h]; frame_out
    refine down_block (blocks a t) (gates a t) (right_at (blocks a t)) ?_ r k
    rw [read_unread_whole]
    exact kept_B a t h

theorem out_at (t : Fin cfg0.N) (r : Fin 256) (k : Fin 1024) : (outsAt0 m c t.val t.isLt).2.2.2.2.2.1 (ix2 r k) = ((e.y (rowAt t r) k : ℝ) : EReal) := by
  by_cases h : t.val % 16 = 0
  · rw [outsAt0_A m c t h]; frame_out
    exact out_block (blocks a t) (gates a t) (right_at (blocks a t)) (kept_A t h) r k
  · rw [outsAt0_B m c t h]; frame_out
    refine out_block (blocks a t) (gates a t) (right_at (blocks a t)) ?_ r k
    rw [read_unread_whole]
    exact kept_B a t h

end Cert.Kernel7Ideal.Val

end
-- ==== Proof.FfnResults.lean ====
/-
  The channel mixer's forward kernel: its six output arrays, entry by entry.
-/
module

public import proofs.«01_k».proof.Proof.FfnArrays
import Idealize.ShloMosaic.Lib.Claim
import Idealize.ShloMosaic.Lib.Pipeline.ReadBack

@[expose] public section

set_option maxRecDepth 16384
set_option maxHeartbeats 1000000

noncomputable section

namespace Cert.Kernel7Ideal.Val

open Cert.Kernel7Ideal Cert.Kernel7Ideal.Gen Idealize.ShloMosaic Idealize.ShloMosaic.TcCoe Idealize.SL.Sem
open Cert.Reals Cert.Norm Cert.Gelu Cert.FfnDown Cert.Ffn Cert.Pieces Cert.Reference7Ideal.Val

variable {m : (ℓ : Loc nD τ sig) → Buf (Elt Ideal) ℓ} {c : Dev nD} {e : Data}

theorem at7 (t : Fin cfg0.N) (r : Fin 256) (j : Fin 6144) : ((View.whole main_v8_0).slice (win0_7.rect t)).emb (ix2 r j) = ix2 (rowAt t r) j := by
  blk_ext [idx t]
  rfl

theorem at8 (t : Fin cfg0.N) (r : Fin 256) (j : Fin 3072) : ((View.whole main_v8_1).slice (win0_8.rect t)).emb (ix2 r j) = ix2 (rowAt t r) j := by
  blk_ext [idx t]
  rfl

theorem at9 (t : Fin cfg0.N) (r : Fin 256) (j : Fin 3072) : ((View.whole main_v8_2).slice (win0_9.rect t)).emb (ix2 r j) = ix2 (rowAt t r) j := by
  blk_ext [idx t]
  rfl

theorem at10 (t : Fin cfg0.N) (r : Fin 256) (j : Fin 1024) : ((View.whole main_v8_3).slice (win0_10.rect t)).emb (ix2 r j) = ix2 (rowAt t r) j := by
  blk_ext [idx t]
  rfl

theorem at11 (t : Fin cfg0.N) (r : Fin 256) (j : Fin 1024) : ((View.whole main_v8_4).slice (win0_11.rect t)).emb (ix2 r j) = ix2 (rowAt t r) j := by
  blk_ext [idx t]
  rfl

theorem at12 (t : Fin cfg0.N) (r : Fin 256) (j : Fin 1024) : ((View.whole main_v8_5).slice (win0_12.rect t)).emb (ix2 r j) = ix2 (rowAt t r) j := by
  blk_ext [idx t]
  rfl

/-! The entries of the six arrays. -/

def upE (e : Data) (t : Fin 4096) (j : Fin 6144) : EReal := ((e.up t j : ℝ) : EReal)
def geluE (e : Data) (t : Fin 4096) (j : Fin 3072) : EReal := ((gelu (e.z t j) : ℝ) : EReal)
def slopeE (e : Data) (t : Fin 4096) (j : Fin 3072) : EReal := ((Gelu.slope (e.z t j) : ℝ) : EReal)
def normE (e : Data) (t : Fin 4096) (j : Fin 1024) : EReal := ((e.h t j : ℝ) : EReal)
def downE (e : Data) (t : Fin 4096) (j : Fin 1024) : EReal := ((e.dn t j : ℝ) : EReal)
def outE (e : Data) (t : Fin 4096) (j : Fin 1024) : EReal := ((e.y t j : ℝ) : EReal)

variable (a : Args (argX m c) (argG m c) (argW m c) (argC m c) (argB m c) (argD m c) (argP m c) e)
include a

theorem upE_at (t : Fin cfg0.N) (r : Fin 256) (j : Fin 6144) : (outsAt0 m c t.val t.isLt).1 (ix2 r j) = upE e (rowAt t r) j := up_at a t r j
theorem geluE_at (t : Fin cfg0.N) (r : Fin 256) (j : Fin 3072) : (outsAt0 m c t.val t.isLt).2.1 (ix2 r j) = geluE e (rowAt t r) j := gelu_at a t r j
theorem slopeE_at (t : Fin cfg0.N) (r : Fin 256) (j : Fin 3072) : (outsAt0 m c t.val t.isLt).2.2.1 (ix2 r j) = slopeE e (rowAt t r) j := slope_at a t r j
theorem normE_at (t : Fin cfg0.N) (r : Fin 256) (j : Fin 1024) : (outsAt0 m c t.val t.isLt).2.2.2.1 (ix2 r j) = normE e (rowAt t r) j := norm_at a t r j
theorem downE_at (t : Fin cfg0.N) (r : Fin 256) (j : Fin 1024) : (outsAt0 m c t.val t.isLt).2.2.2.2.1 (ix2 r j) = downE e (rowAt t r) j := down_at a t r j
theorem outE_at (t : Fin cfg0.N) (r : Fin 256) (j : Fin 1024) : (outsAt0 m c t.val t.isLt).2.2.2.2.2.1 (ix2 r j) = outE e (rowAt t r) j := out_at a t r j

attribute [local irreducible] upE geluE slopeE normE downE outE

/-- The up projection. -/
theorem up_array : (dats m 0 c).arrAt 7 cfg0.N = fun i => upE e (i 0) (i 1) := by
  refine (dats m 0 c).arrAt_eq_of_covers 7 _ (by decide +kernel) fun t _ y => ?_
  blk_simp
  rw [after0_7]
  idx_vars y
  rw [at7 t]
  exact upE_at a t y0 y1

/-- The activation. -/
theorem gelu_array : (dats m 0 c).arrAt 8 cfg0.N = fun i => geluE e (i 0) (i 1) := by
  refine (dats m 0 c).arrAt_eq_of_covers 8 _ (by decide +kernel) fun t _ y => ?_
  blk_simp
  rw [after0_8]
  idx_vars y
  rw [at8 t]
  exact geluE_at a t y0 y1

/-- Its slope. -/
theorem slope_array : (dats m 0 c).arrAt 9 cfg0.N = fun i => slopeE e (i 0) (i 1) := by
  refine (dats m 0 c).arrAt_eq_of_covers 9 _ (by decide +kernel) fun t _ y => ?_
  blk_simp
  rw [after0_9]
  idx_vars y
  rw [at9 t]
  exact slopeE_at a t y0 y1

/-- The normed rows. -/
theorem norm_array : (dats m 0 c).arrAt 10 cfg0.N = fun i => normE e (i 0) (i 1) := by
  refine (dats m 0 c).arrAt_eq_of_covers 10 _ (by decide +kernel) fun t _ y => ?_
  blk_simp
  rw [after0_10]
  idx_vars y
  rw [at10 t]
  exact normE_at a t y0 y1

/-- The down projection. -/
theorem down_array : (dats m 0 c).arrAt 11 cfg0.N = fun i => downE e (i 0) (i 1) := by
  refine (dats m 0 c).arrAt_eq_of_covers 11 _ (by decide +kernel) fun t _ y => ?_
  blk_simp
  rw [after0_11]
  idx_vars y
  rw [at11 t]
  exact downE_at a t y0 y1

/-- The rows with the mixer's output added. -/
theorem out_array : (dats m 0 c).arrAt 12 cfg0.N = fun i => outE e (i 0) (i 1) := by
  refine (dats m 0 c).arrAt_eq_of_covers 12 _ (by decide +kernel) fun t _ y => ?_
  blk_simp
  rw [after0_12]
  idx_vars y
  rw [at12 t]
  exact outE_at a t y0 y1

end Cert.Kernel7Ideal.Val

end
-- ==== Proof.FfnClaim.lean ====
/-
  The channel mixer's forward pass: the kernel's six results are the reference's.
-/
module

public import proofs.«01_k».proof.Defs
public import proofs.«01_k».proof.Proof.Gen.Kernel7Ideal
public import proofs.«01_k».proof.Proof.Gen.Reference7Ideal
public import proofs.«01_k».proof.Proof.Gen.Pre_ffn_finite
public import proofs.«01_k».proof.Proof.Gen.Reference7Ideal.Run
public import proofs.«01_k».proof.Proof.FfnResults
public import Idealize.ShloMosaic.Adequacy
public import Idealize.ShloMosaic.Init

@[expose] public section

set_option maxHeartbeats 2000000

noncomputable section

namespace Cert.Proof

open Idealize.ShloMosaic Idealize.SL.Sem Cert.Reals Cert.Pieces Cert.Ffn

/-- No semaphore on the host, where the reference runs. -/
theorem ffn_reference_frame : quiescent_Reference7Ideal := fun m ρ _ =>
  (θ_run _ _ _).mono (fun r h => ⟨fun c => (h c).2.2.2.2.2.2, sem_eq_zero_of_no_sems (by decide) r.2⟩) (Cert.Reference7Ideal.Value.run m ρ)

/-- The two constants that the kernel rounds are the products they stand for. -/
theorem ffn_preserves : preserves_Kernel7_Kernel7Ideal :=
  ⟨IdealRules.named_const.statement _ _ _ _ _ rfl, IdealRules.named_const.statement _ _ _ _ _ rfl⟩

/-- All six results of the call: the up projection, the activation, its slope, the normed rows, the down projection and
    the rows with the mixer's output added. -/
theorem ffn : algebraic_Kernel7Ideal_Reference7Ideal_pre_ffn_finite := by
  intro m ρ m' ρ' hpre hargs
  refine ⟨_, _, _, _, _, _, (θ_run _ _ _).mono (fun r h => h) (Cert.Kernel7Ideal.Value.run_blocks m ρ),
    (θ_run _ _ _).mono (fun r h c => ?_) (Cert.Reference7Ideal.Value.run m' ρ')⟩
  obtain ⟨h1, h2, h3, h4, h5, h6, h7⟩ := hpre c
  obtain ⟨a0, a1, a2, a3, a4, a5, a6⟩ := hargs c
  obtain ⟨x, hx⟩ := real_of_finite _ _ h1
  obtain ⟨g, hg⟩ := real_of_finite _ _ h2
  obtain ⟨w, hw⟩ := real_of_finite _ _ h3
  obtain ⟨k, hk⟩ := real_of_finite _ _ h4
  obtain ⟨b, hb⟩ := real_of_finite _ _ h5
  obtain ⟨d, hd⟩ := real_of_finite _ _ h6
  obtain ⟨p, hp⟩ := real_of_finite _ _ h7
  let e : Data := ⟨fun t l => x (ix3 0 t l), fun l => g (ix1 l), fun l j => w (ix2 l j), fun i j => k (ix2 i j), fun j => b (ix1 j),
    fun j l => d (ix2 j l), fun l => p (ix1 l)⟩
  have a : Cert.Reference7Ideal.Val.Args (Cert.Kernel7Ideal.Val.argX m c) (Cert.Kernel7Ideal.Val.argG m c) (Cert.Kernel7Ideal.Val.argW m c)
      (Cert.Kernel7Ideal.Val.argC m c) (Cert.Kernel7Ideal.Val.argB m c) (Cert.Kernel7Ideal.Val.argD m c) (Cert.Kernel7Ideal.Val.argP m c) e :=
    ⟨fun t l => hx _, fun l => hg _, fun l j => hw _, fun i j => hk _, fun j => hb _, fun j l => hd _, fun l => hp _⟩
  have a' := a
  unfold Cert.Kernel7Ideal.Val.argX Cert.Kernel7Ideal.Val.argG Cert.Kernel7Ideal.Val.argW Cert.Kernel7Ideal.Val.argC
    Cert.Kernel7Ideal.Val.argB Cert.Kernel7Ideal.Val.argD Cert.Kernel7Ideal.Val.argP at a'
  rw [← a0, ← a1, ← a2, ← a3, ← a4, ← a5, ← a6] at a'
  generalize e = e at a a'
  obtain ⟨r0, r1, r2, r3, r4, r5, rest⟩ := h c
  clear hpre hargs h h1 h2 h3 h4 h5 h6 h7 hx hg hw hk hb hd hp a0 a1 a2 a3 a4 a5 a6
  refine ⟨?_, ?_, ?_, ?_, ?_, ?_, rest⟩
  · rw [r0, Cert.Reference7Ideal.Read.val_main_v92_eq, Cert.Kernel7Ideal.Val.up_array a]
    funext i
    idx_vars i
    exact Cert.Reference7Ideal.Val.up_result a' i0 i1
  · rw [r1, Cert.Reference7Ideal.Read.val_main_v94_eq, Cert.Kernel7Ideal.Val.gelu_array a]
    funext i
    idx_vars i
    exact Cert.Reference7Ideal.Val.gelu_result a' i0 i1
  · rw [r2, Cert.Reference7Ideal.Read.val_main_v96_eq, Cert.Kernel7Ideal.Val.slope_array a]
    funext i
    idx_vars i
    exact Cert.Reference7Ideal.Val.slope_result a' i0 i1
  · rw [r3, Cert.Reference7Ideal.Read.val_main_v98_eq, Cert.Kernel7Ideal.Val.norm_array a]
    funext i
    idx_vars i
    exact Cert.Reference7Ideal.Val.norm_result a' i0 i1
  · rw [r4, Cert.Reference7Ideal.Read.val_main_v99_eq, Cert.Kernel7Ideal.Val.down_array a]
    funext i
    idx_vars i
    exact Cert.Reference7Ideal.Val.down_result a' i0 i1
  · rw [r5, Cert.Reference7Ideal.Read.val_main_v100_eq, Cert.Kernel7Ideal.Val.out_array a]
    funext i
    idx_vars i
    exact Cert.Reference7Ideal.Val.out_result a' i0 i1

end Cert.Proof

end
-- ==== Proof.InPoolMath.lean ====
/-
  The forward pass into the sequence mixers in real numbers: the normed rows, their projection, and the causal pooling
  mixer on the projection's first columns.
-/
module

public import proofs.«01_k».proof.Proof.FfnMath
public import proofs.«01_k».proof.Proof.PoolReference

@[expose] public section

noncomputable section

namespace Cert.InPool

open Idealize.ShloMosaic Cert.Reals Cert.Norm Cert.FfnDown Cert.Ffn Cert.Pieces Cert.Pool

/-- The arguments, as real numbers: the rows, the norm's scale, the input projection, the group weights, the mixer's scale
    and its output projection. -/
structure Data where
  x : Fin 4096 → Fin 1024 → ℝ
  g : Fin 1024 → ℝ
  w : Fin 1024 → Fin 4608 → ℝ
  p : Fin 4 → Fin 128 → Fin 128 → ℝ
  s : Fin 512 → ℝ
  o : Fin 512 → Fin 1024 → ℝ

/-- How many tokens the window that ends at a token holds, as a real number. -/
def num (g : Fin 4) (t : Fin 4096) : ℝ := (count g t.val).toReal

theorem count_num (g : Fin 4) (t : Fin 4096) : count g t.val = ((num g t : ℝ) : EReal) := by
  obtain ⟨r, _, e⟩ := Cert.Reference2Ideal.Val.count_pos g t.val t.isLt
  rw [num, e, EReal.toReal_coe]

theorem num_ne (g : Fin 4) (t : Fin 4096) : num g t ≠ 0 := by
  obtain ⟨r, h, e⟩ := Cert.Reference2Ideal.Val.count_pos g t.val t.isLt
  rw [num, e, EReal.toReal_coe]
  exact h.ne'

/-- The sum over the window of `w` tokens that ends at a token. -/
def trail (v : Fin 4096 → ℝ) (w : Nat) (t : Fin 4096) : ℝ := ∑ j ∈ Finset.range w, before v j t

namespace Data
variable (e : Data)

/-- The normed rows. -/
def h (t : Fin 4096) (k : Fin 1024) : ℝ := scaled (e.x t) e.g k

/-- The projection. -/
def z (t : Fin 4096) (j : Fin 4608) : ℝ := ∑ k, e.h t k * e.w k j

/-- The columns that are pooled. -/
def u (t : Fin 4096) (c : Fin 512) : ℝ := e.z t ⟨c.val, by omega⟩

/-- The mean over the window that ends at a token, less the token. -/
def dev (t : Fin 4096) (c : Fin 512) : ℝ := trail (fun t => e.u t c) (window (grp c)) t / num (grp c) t - e.u t c

/-- The deviations mixed within the groups, and scaled. -/
def y (t : Fin 4096) (c : Fin 512) : ℝ := (∑ k, e.dev t (lane (grp c) k) * e.p (grp c) k (plc c)) * e.s c

/-- The mixer's output. -/
def out (t : Fin 4096) (k : Fin 1024) : ℝ := ∑ c, e.y t c * e.o c k

end Data

/-- A running sum less the running sum a window earlier is the sum over the window. -/
theorem trail_eq (v : Fin 4096 → ℝ) (w : Nat) (t : Fin 4096) :
    ∑ l : Fin 4096, before v l.val t - ∑ l : Fin 4096, before v (l.val + w) t = trail v w t := by
  have q := Cert.WindowSum.sum_differences 4096 w (fun n => before v n t) (fun i hi => dif_neg (by omega)) 0
  simp only [Nat.zero_add, Fin.is_lt, if_true] at q
  rw [trail, ← q, ← Finset.sum_sub_distrib]
  exact Finset.sum_congr rfl fun l _ => sub_eq_add_neg _ _

end Cert.InPool

end
-- ==== Proof.InPoolBlocks.lean ====
/-
  The forward kernel into the sequence mixers on one block of rows, the blocks it reads real numbers: the norm, the
  projections, and the pooling mixer.
-/
module

public import proofs.«01_k».proof.Proof.Gen.Kernel8Ideal.Value
public import proofs.«01_k».proof.Proof.InPoolMath
public import proofs.«01_k».proof.Proof.Pieces
public import proofs.«01_k».proof.Proof.MixerIn
public import Idealize.ShloMosaic.Lib.KernelVsHost
import Idealize.ShloMosaic.Lib.Claim

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Cert.Reals Cert.Norm Cert.FfnDown Cert.Pieces Cert.Pool Cert.InPool

/-- The blocks at a point hold real numbers: row `r` of a block is the token `row r`. -/
structure Blocks (X : Vec Ideal S256x1024 .f32) (G : Vec Ideal S1x1024 .f32) (W : Vec Ideal S4x1024x1152 .bf16) (P : Vec Ideal S4x128x128 .bf16)
    (S : Vec Ideal S1x512 .f32) (O : Vec Ideal S4x512x256 .bf16) (e : Data) (row : Fin 256 → Fin 4096) : Prop where
  hX : ∀ r k, X (ix2 r k) = ((e.x (row r) k : ℝ) : EReal)
  hG : ∀ k, G (ix2 0 k) = ((e.g k : ℝ) : EReal)
  hW : ∀ (s : Fin 4) k (n : Fin 1152), W (ix3 s k n) = ((e.w k ⟨s.val * 1152 + n.val, by omega⟩ : ℝ) : EReal)
  hP : ∀ g a b, P (ix3 g a b) = ((e.p g a b : ℝ) : EReal)
  hS : ∀ c, S (ix2 0 c) = ((e.s c : ℝ) : EReal)
  hO : ∀ (j : Fin 4) c (n : Fin 256), O (ix3 j c n) = ((e.o c (col j n) : ℝ) : EReal)
  hrow : ∀ r, (row r).val = (row 0).val + r.val

variable {X : Vec Ideal S256x1024 .f32} {G : Vec Ideal S1x1024 .f32} {W : Vec Ideal S4x1024x1152 .bf16} {P : Vec Ideal S4x128x128 .bf16}
  {S : Vec Ideal S1x512 .f32} {O : Vec Ideal S4x512x256 .bf16} {e : Data} {row : Fin 256 → Fin 4096}

theorem norm_block (b : Blocks X G W P S O e row) (r : Fin 256) (k : Fin 1024) :
    k0_pay6 X G (ix2 r k) = ((e.h (row r) k : ℝ) : EReal) := by
  pointwise [k0_pay6]
  rw [coe_inv (fun k => X (ix2 r k)) (e.x (row r)) (b.hX r), b.hX, b.hG, ← EReal.coe_mul, ← EReal.coe_mul]
  rfl

/-- A normed row against a column of a shard of the projection. -/
theorem proj_block (b : Blocks X G W P S O e row) (r : Fin 256) (s : Fin 4) (n : Fin 1152) (j : Fin 4608) (h : s.val * 1152 + n.val = j.val) :
    ∑ k, k0_pay6 X G (ix2 r k) * W (ix3 s k n) = ((e.z (row r) j : ℝ) : EReal) := by
  rw [show j = ⟨s.val * 1152 + n.val, by omega⟩ from Fin.ext h.symm]
  simp only [norm_block b, b.hW, ← EReal.coe_mul, coe_sum]
  rfl

theorem u_block (b : Blocks X G W P S O e row) (i : ∀ a, (![0, 0, 0] : Fin 3 → Nat) a + (![1, 1024, 512] : Fin 3 → Nat) a ≤ S4x1024x1152.size a)
    (r : Fin 256) (c : Fin 512) :
    k0_pay7 X G (View.ld W (Rect.unit (s := S4x1024x1152) ![0, 0, 0] ![1, 1024, 512] i)) (ix2 r c) = ((e.u (row r) c : ℝ) : EReal) := by
  rw [Data.u, ← proj_block b r 0 ⟨c.val, by omega⟩ ⟨c.val, by omega⟩ (by show 0 * 1152 + c.val = c.val; omega)]
  unfold k0_pay7
  generalize k0_pay6 X G = H
  pointwise []

theorem piece_640 (b : Blocks X G W P S O e row) (i : ∀ a, (![0, 0, 512] : Fin 3 → Nat) a + (![1, 1024, 640] : Fin 3 → Nat) a ≤ S4x1024x1152.size a)
    (r : Fin 256) (n : Fin 640) (j : Fin 4608) (h : j.val = 512 + n.val) :
    k0_pay8 X G (View.ld W (Rect.unit (s := S4x1024x1152) ![0, 0, 512] ![1, 1024, 640] i)) (ix2 r n) = ((e.z (row r) j : ℝ) : EReal) := by
  rw [← proj_block b r 0 ⟨512 + n.val, by omega⟩ j (by show 0 * 1152 + (512 + n.val) = j.val; omega)]
  unfold k0_pay8
  generalize k0_pay6 X G = H
  pointwise []

theorem piece_384 (b : Blocks X G W P S O e row) (i : ∀ a, (![1, 0, 0] : Fin 3 → Nat) a + (![1, 1024, 384] : Fin 3 → Nat) a ≤ S4x1024x1152.size a)
    (r : Fin 256) (n : Fin 384) (j : Fin 4608) (h : j.val = 1152 + n.val) :
    k0_pay10 (k0_pay6 X G) (k0_pay9 (View.ld W (Rect.unit (s := S4x1024x1152) ![1, 0, 0] ![1, 1024, 384] i))) (constant S256x384 .f32 0x00000000#32) (ix2 r n) = ((e.z (row r) j : ℝ) : EReal) := by
  rw [← proj_block b r 1 ⟨n.val, by omega⟩ j (by show 1 * 1152 + n.val = j.val; omega)]
  generalize k0_pay6 X G = H
  pointwise [k0_pay10, k0_pay9]

theorem piece_768 (b : Blocks X G W P S O e row) (i : ∀ a, (![1, 0, 384] : Fin 3 → Nat) a + (![1, 1024, 768] : Fin 3 → Nat) a ≤ S4x1024x1152.size a)
    (r : Fin 256) (n : Fin 768) (j : Fin 4608) (h : j.val = 1536 + n.val) :
    k0_pay11 (k0_pay6 X G) (View.ld W (Rect.unit (s := S4x1024x1152) ![1, 0, 384] ![1, 1024, 768] i)) (ix2 r n) = ((e.z (row r) j : ℝ) : EReal) := by
  rw [← proj_block b r 1 ⟨384 + n.val, by omega⟩ j (by show 1 * 1152 + (384 + n.val) = j.val; omega)]
  generalize k0_pay6 X G = H
  pointwise [k0_pay11]

theorem piece_256 (b : Blocks X G W P S O e row) (i : ∀ a, (![2, 0, 0] : Fin 3 → Nat) a + (![1, 1024, 256] : Fin 3 → Nat) a ≤ S4x1024x1152.size a)
    (r : Fin 256) (n : Fin 256) (j : Fin 4608) (h : j.val = 2304 + n.val) :
    k0_pay12 (k0_pay6 X G) (View.ld W (Rect.unit (s := S4x1024x1152) ![2, 0, 0] ![1, 1024, 256] i)) (ix2 r n) = ((e.z (row r) j : ℝ) : EReal) := by
  rw [← proj_block b r 2 ⟨n.val, by omega⟩ j (by show 2 * 1152 + n.val = j.val; omega)]
  generalize k0_pay6 X G = H
  pointwise [k0_pay12]

theorem piece_896 (b : Blocks X G W P S O e row) (i : ∀ a, (![2, 0, 256] : Fin 3 → Nat) a + (![1, 1024, 896] : Fin 3 → Nat) a ≤ S4x1024x1152.size a)
    (r : Fin 256) (n : Fin 896) (j : Fin 4608) (h : j.val = 2560 + n.val) :
    k0_pay13 (k0_pay6 X G) (View.ld W (Rect.unit (s := S4x1024x1152) ![2, 0, 256] ![1, 1024, 896] i)) (ix2 r n) = ((e.z (row r) j : ℝ) : EReal) := by
  rw [← proj_block b r 2 ⟨256 + n.val, by omega⟩ j (by show 2 * 1152 + (256 + n.val) = j.val; omega)]
  generalize k0_pay6 X G = H
  pointwise [k0_pay13]

theorem piece_128 (b : Blocks X G W P S O e row) (i : ∀ a, (![3, 0, 0] : Fin 3 → Nat) a + (![1, 1024, 128] : Fin 3 → Nat) a ≤ S4x1024x1152.size a)
    (r : Fin 256) (n : Fin 128) (j : Fin 4608) (h : j.val = 3456 + n.val) :
    k0_pay14 (k0_pay6 X G) (View.ld W (Rect.unit (s := S4x1024x1152) ![3, 0, 0] ![1, 1024, 128] i)) (ix2 r n) = ((e.z (row r) j : ℝ) : EReal) := by
  rw [← proj_block b r 3 ⟨n.val, by omega⟩ j (by show 3 * 1152 + n.val = j.val; omega)]
  generalize k0_pay6 X G = H
  pointwise [k0_pay14]

theorem piece_1024 (b : Blocks X G W P S O e row) (i : ∀ a, (![3, 0, 128] : Fin 3 → Nat) a + (![1, 1024, 1024] : Fin 3 → Nat) a ≤ S4x1024x1152.size a)
    (r : Fin 256) (n : Fin 1024) (j : Fin 4608) (h : j.val = 3584 + n.val) :
    k0_pay16 (k0_pay6 X G) (k0_pay15 (View.ld W (Rect.unit (s := S4x1024x1152) ![3, 0, 128] ![1, 1024, 1024] i))) (constant S256x1024 .f32 0x00000000#32) (ix2 r n) = ((e.z (row r) j : ℝ) : EReal) := by
  rw [← proj_block b r 3 ⟨128 + n.val, by omega⟩ j (by show 3 * 1152 + (128 + n.val) = j.val; omega)]
  generalize k0_pay6 X G = H
  pointwise [k0_pay16, k0_pay15]

/-! The block's rows below the sixteen kept ones. -/

/-- The values of sixteen rows before token `o` and of those from it on, as one sequence. -/
def ext (v : Fin 4096 → ℝ) (o n : Nat) : ℝ := if h : 16 ≤ n + o ∧ n + o - 16 < 4096 then v ⟨n + o - 16, h.2⟩ else 0

/-- The rows kept of the block before this one: the pooled columns of the sixteen rows before this block's first. -/
def Kept (e : Data) (row : Fin 256 → Fin 4096) (K : Vec Ideal S16x512 .f32) : Prop :=
  ∀ (i : Fin 16) (c : Fin 512), K (ix2 i c) = ((ext (fun t => e.u t c) (row 0).val i.val : ℝ) : EReal)

/-- The block's pooled columns, as real numbers. -/
abbrev Pooled (e : Data) (row : Fin 256 → Fin 4096) (U : Vec Ideal S256x512 .f32) : Prop :=
  ∀ r c, U (ix2 r c) = ((e.u (row r) c : ℝ) : EReal)

variable {U : Vec Ideal S256x512 .f32} {K : Vec Ideal S16x512 .f32}

theorem ext_before (b : Blocks X G W P S O e row) (v : Fin 4096 → ℝ) (r : Fin 256) (s : Nat) (hs : s ≤ 16) :
    ext v (row 0).val (16 + r.val - s) = before v s (row r) := by
  have h := b.hrow r
  have h' := (row r).isLt
  unfold ext before
  by_cases q : s ≤ (row r).val
  · rw [dif_pos q, dif_pos (by omega)]
    exact congrArg v (Fin.ext (by show 16 + r.val - s + (row 0).val - 16 = (row r).val - s; omega))
  · rw [dif_neg q, dif_neg (by omega)]

theorem joined (b : Blocks X G W P S O e row) (hU : Pooled e row U) (hK : Kept e row K) (n : Fin 272) (c : Fin 512) :
    k0_pay17 U K (ix2 n c) = ((ext (fun t => e.u t c) (row 0).val n.val : ℝ) : EReal) := by
  pointwise [k0_pay17]
  by_cases q : n.val < 16
  · rw [dif_pos q, hK]
  · rw [dif_neg q, hU]
    have h := ext_before b (fun t => e.u t c) ⟨n.val - 16, by omega⟩ 0 (by decide)
    rw [show 16 + (n.val - 16) - 0 = n.val from by omega] at h
    rw [h]
    rfl

/-- Row `n` holds the sum over the `w` rows that end at it, wherever there are so many. -/
def Sums (A : FVec Ideal S272x128 .f32) (x : Fin 128 → Nat → ℝ) (w : Nat) : Prop :=
  ∀ (n : Fin 272) (b : Fin 128), w - 1 ≤ n.val → A (ix2 n b) = ((∑ j ∈ Finset.range w, x b (n.val - j) : ℝ) : EReal)

/-- Adding the rows turned by the window doubles it. -/
theorem doubled {A : FVec Ideal S272x128 .f32} {x : Fin 128 → Nat → ℝ} {w : Nat} (h : Sums A x w) (n : BitVec 32) (hn : n.toNat = w)
    (h0 : 0 < w) (h8 : w ≤ 8) : Sums (addf A (dynamicRotate 0 n none A rotates_S272x128_d0)) x (w + w) := fun i b hi => by
  have q : dynamicRotate 0 n none A rotates_S272x128_d0 (ix2 i b) = A (ix2 ⟨i.val - w, by omega⟩ b) := by
    refine dynamicRotate_apply _ _ _ _ _ _ fun a => ?_
    match a with
    | 0 =>
      show i.val - w = (i.val + 272 - n.toNat % 272) % 272
      rw [hn, Nat.mod_eq_of_lt (by omega : w < 272)]
      omega
    | 1 => rfl
  generalize dynamicRotate 0 n none A rotates_S272x128_d0 = R at q ⊢
  pointwise []
  rw [q, h i b (by omega), h _ b (by show w - 1 ≤ i.val - w; omega), ← EReal.coe_add, Finset.sum_range_add]
  exact congrArg (fun z => ((_ + z : ℝ) : EReal)) (Finset.sum_congr rfl fun j _ => congrArg (x b) (Nat.sub_sub _ _ _))

/-- The groups' columns, before any turn. -/
theorem single (b : Blocks X G W P S O e row) (hU : Pooled e row U) (hK : Kept e row K) (g : Fin 4)
    (E : FVec Ideal S272x128 .f32) (h : ∀ n l, E (ix2 n l) = k0_pay17 U K (ix2 n (lane g l))) :
    Sums E (fun l => ext (fun t => e.u t (lane g l)) (row 0).val) 1 := fun n l _ => by
  rw [h, joined b hU hK, Finset.sum_range_one]
  rfl

/-- The deviation at a row, from the sums over its group's window. -/
theorem dev_of (b : Blocks X G W P S O e row) (hU : Pooled e row U) (g : Fin 4) {A : FVec Ideal S272x128 .f32}
    (hA : Sums A (fun l => ext (fun t => e.u t (lane g l)) (row 0).val) (window g)) (N : BitVec 32) (r : Fin 256)
    (hN : N = BitVec.ofNat 32 (row r).val) (l : Fin 128) :
    A (ix2 ⟨16 + r.val, by omega⟩ l) * Ideal.div 1 (FloatOps.sitofp (F := Ideal) .f32 (IntOp.minsi (IntOp.addi N 1#32) (BitVec.ofNat 32 (window g))))
      - U (ix2 r (lane g l)) = ((e.dev (row r) (lane g l) : ℝ) : EReal) := by
  have w16 : window g ≤ 16 := by obtain rfl | rfl | rfl | rfl := four g <;> decide
  have q : FloatOps.sitofp (F := Ideal) .f32 (IntOp.minsi (IntOp.addi N 1#32) (BitVec.ofNat 32 (window g))) = ((num g (row r) : ℝ) : EReal) := by
    rw [← count_num, hN]
    rfl
  rw [q, hA _ l (by show window g - 1 ≤ 16 + r.val; omega), hU, ← EReal.coe_one, coe_div (num_ne g _), ← EReal.coe_mul, ← EReal.coe_sub]
  have s : ∑ j ∈ Finset.range (window g), ext (fun t => e.u t (lane g l)) (row 0).val (16 + r.val - j)
      = trail (fun t => e.u t (lane g l)) (window g) (row r) :=
    Finset.sum_congr rfl fun j hj => ext_before b _ r j (by have := Finset.mem_range.mp hj; omega)
  refine congrArg Real.toEReal ?_
  show (∑ j ∈ Finset.range (window g), ext (fun t => e.u t (lane g l)) (row 0).val (16 + r.val - j)) * (1 / num g (row r)) - _ = _
  rw [s]
  unfold Data.dev
  rw [(show grp (lane g l) = g from Fin.ext (by show (g.val * 128 + l.val) / 128 = g.val; omega)), mul_one_div]

/-- The row numbers that a point counts. -/
abbrev Counts (row : Fin 256 → Fin 4096) (N : IVec S256x1 32) : Prop := ∀ r, N (ix2 r 0) = BitVec.ofNat 32 (row r).val

theorem dev2_block (b : Blocks X G W P S O e row) (hU : Pooled e row U) (hK : Kept e row K) (n : BitVec 32) (hN : Counts row (k0_pay19 n))
    (r : Fin 256) (l : Fin 128) : k0_pay20 n U K (ix2 r l) = ((e.dev (row r) (lane 0 l) : ℝ) : EReal) := by
  have z (l : Fin 128) : lane 0 l = ⟨l.val, by omega⟩ := Fin.ext (by show 0 * 128 + l.val = l.val; omega)
  have h0 := single b hU hK 0 (extractStridedSlice S272x128 ![0, 0] (k0_pay17 U K) slices_S272x512_o0_0_S272x128) fun n l => by
    rw [z]
    generalize k0_pay17 U K = E
    pointwise []
  have h1 := dev_of b hU 0 (doubled h0 1#32 rfl (by decide) (by decide)) _ r (hN r) l
  unfold k0_pay20
  generalize k0_pay19 n = N at h1 ⊢
  dsimp only
  generalize addf (extractStridedSlice S272x128 ![0, 0] (k0_pay17 U K) slices_S272x512_o0_0_S272x128) _ = A at h1 ⊢
  pointwise []
  rw [← h1, z]
  rfl

theorem dev4_block (b : Blocks X G W P S O e row) (hU : Pooled e row U) (hK : Kept e row K) (N : IVec S256x1 32) (hN : Counts row N)
    (r : Fin 256) (l : Fin 128) : k0_pay25 U N (k0_pay23 U K) (k0_pay24 U K) (ix2 r l) = ((e.dev (row r) (lane 1 l) : ℝ) : EReal) := by
  have h0 := single b hU hK 1 (extractStridedSlice S272x128 ![0, 128] (k0_pay17 U K) slices_S272x512_o0_128_S272x128) fun n l => by
    generalize k0_pay17 U K = E
    pointwise []
    rfl
  have h1 := dev_of b hU 1 (doubled (doubled h0 1#32 rfl (by decide) (by decide)) 2#32 rfl (by decide) (by decide)) _ r (hN r) l
  unfold k0_pay25 k0_pay24 k0_pay23
  dsimp only
  generalize addf (addf (extractStridedSlice S272x128 ![0, 128] (k0_pay17 U K) slices_S272x512_o0_128_S272x128) _) _ = A at h1 ⊢
  pointwise []
  rw [← h1]
  rfl

theorem dev8_block (b : Blocks X G W P S O e row) (hU : Pooled e row U) (hK : Kept e row K) (N : IVec S256x1 32) (hN : Counts row N)
    (r : Fin 256) (l : Fin 128) : k0_pay28 U (k0_pay17 U K) N (ix2 r l) = ((e.dev (row r) (lane 2 l) : ℝ) : EReal) := by
  have h0 := single b hU hK 2 (extractStridedSlice S272x128 ![0, 256] (k0_pay17 U K) slices_S272x512_o0_256_S272x128) fun n l => by
    generalize k0_pay17 U K = E
    pointwise []
    rfl
  have h1 := dev_of b hU 2 (doubled (doubled (doubled h0 1#32 rfl (by decide) (by decide)) 2#32 rfl (by decide) (by decide)) 4#32 rfl (by decide) (by decide)) _ r (hN r) l
  unfold k0_pay28
  generalize k0_pay17 U K = E at h1 ⊢
  dsimp only
  generalize addf (addf (addf (extractStridedSlice S272x128 ![0, 256] E slices_S272x512_o0_256_S272x128) _) _) _ = A at h1 ⊢
  pointwise []
  rw [← h1]
  rfl

theorem dev16_block (b : Blocks X G W P S O e row) (hU : Pooled e row U) (hK : Kept e row K) (N : IVec S256x1 32) (hN : Counts row N)
    (r : Fin 256) (l : Fin 128) : k0_pay30 U (k0_pay17 U K) N (ix2 r l) = ((e.dev (row r) (lane 3 l) : ℝ) : EReal) := by
  have h0 := single b hU hK 3 (extractStridedSlice S272x128 ![0, 384] (k0_pay17 U K) slices_S272x512_o0_384_S272x128) fun n l => by
    generalize k0_pay17 U K = E
    pointwise []
    rfl
  have h1 := dev_of b hU 3 (doubled (doubled (doubled (doubled h0 1#32 rfl (by decide) (by decide)) 2#32 rfl (by decide) (by decide)) 4#32 rfl (by decide) (by decide)) 8#32 rfl (by decide) (by decide)) _ r (hN r) l
  unfold k0_pay30
  generalize k0_pay17 U K = E at h1 ⊢
  dsimp only
  generalize addf (addf (addf (addf (extractStridedSlice S272x128 ![0, 384] E slices_S272x512_o0_384_S272x128) _) _) _) _ = A at h1 ⊢
  pointwise []
  rw [← h1]
  rfl

/-- The deviations against a column of their group's weights, the deviations as they stand. -/
theorem mix_of (b : Blocks X G W P S O e row) (g : Fin 4) (D : FVec Ideal S256x128 .f32)
    (hD : ∀ r l, D (ix2 r l) = ((e.dev (row r) (lane g l) : ℝ) : EReal)) (r : Fin 256) (l : Fin 128) :
    ∑ k, D (ix2 r k) * P (ix3 g k l) = ((∑ k, e.dev (row r) (lane g k) * e.p g k l : ℝ) : EReal) := by
  simp only [hD, b.hP, ← EReal.coe_mul, coe_sum]

theorem y_block (b : Blocks X G W P S O e row) (hU : Pooled e row U) (hK : Kept e row K) (n : BitVec 32) (hN : Counts row (k0_pay19 n))
    (i0 : ∀ a, (![0, 0, 0] : Fin 3 → Nat) a + (![1, 128, 128] : Fin 3 → Nat) a ≤ S4x128x128.size a)
    (i1 : ∀ a, (![1, 0, 0] : Fin 3 → Nat) a + (![1, 128, 128] : Fin 3 → Nat) a ≤ S4x128x128.size a)
    (i2 : ∀ a, (![2, 0, 0] : Fin 3 → Nat) a + (![1, 128, 128] : Fin 3 → Nat) a ≤ S4x128x128.size a)
    (i3 : ∀ a, (![3, 0, 0] : Fin 3 → Nat) a + (![1, 128, 128] : Fin 3 → Nat) a ≤ S4x128x128.size a) (r : Fin 256) (c : Fin 512) :
    k0_pay32 U (k0_pay17 U K) (k0_pay19 n) (k0_pay22 n U K (View.ld P (Rect.unit (s := S4x128x128) ![0, 0, 0] ![1, 128, 128] i0)))
      (k0_pay27 U (k0_pay19 n) (k0_pay23 U K) (k0_pay24 U K) (View.ld P (Rect.unit (s := S4x128x128) ![1, 0, 0] ![1, 128, 128] i1)))
      (k0_pay28 U (k0_pay17 U K) (k0_pay19 n)) (View.ld P (Rect.unit (s := S4x128x128) ![2, 0, 0] ![1, 128, 128] i2))
      (View.ld P (Rect.unit (s := S4x128x128) ![3, 0, 0] ![1, 128, 128] i3)) S (ix2 r c) = ((e.y (row r) c : ℝ) : EReal) := by
  obtain ⟨g, l, rfl⟩ := exists_lane c
  have h0 := mix_of b 0 _ (dev2_block b hU hK n hN) r l
  have h1 := mix_of b 1 _ (dev4_block b hU hK _ hN) r l
  have h2 := mix_of b 2 _ (dev8_block b hU hK _ hN) r l
  have h3 := mix_of b 3 _ (dev16_block b hU hK _ hN) r l
  have hl := l.isLt
  have hs := b.hS (lane g l)
  unfold k0_pay32 k0_pay27 k0_pay22 Data.y
  generalize k0_pay20 n U K = D0 at h0 ⊢
  generalize k0_pay25 U (k0_pay19 n) (k0_pay23 U K) (k0_pay24 U K) = D1 at h1 ⊢
  generalize k0_pay28 U (k0_pay17 U K) (k0_pay19 n) = D2 at h2 ⊢
  generalize k0_pay30 U (k0_pay17 U K) (k0_pay19 n) = D3 at h3 ⊢
  rw [(show grp (lane g l) = g from Fin.ext (by show (g.val * 128 + l.val) / 128 = g.val; omega)),
    (show plc (lane g l) = l from Fin.ext (by show (g.val * 128 + l.val) % 128 = l.val; omega)), EReal.coe_mul, ← hs]
  obtain rfl | rfl | rfl | rfl := four g
  · rw [← h0]
    pointwise []
    exact congrArg (fun n => (∑ x, D0 (ix2 r x) * P (ix3 0 x l)) * S (ix2 0 n)) (Fin.ext (by show l.val = 0 * 128 + l.val; omega))
  · rw [← h1]
    pointwise []
    rfl
  · rw [← h2]
    pointwise []
    rw [dif_neg (by omega), dif_neg (by omega), dif_pos (by omega)]
    exact congrArg (fun n => (∑ x, D2 (ix2 r x) * P (ix3 2 x n)) * S (ix2 0 (lane 2 l))) (Fin.ext (by show 256 + l.val - 128 - 128 = l.val; omega))
  · rw [← h3]
    pointwise []
    rw [dif_neg (by omega), dif_neg (by omega), dif_neg (by omega)]
    exact congrArg (fun n => (∑ x, D3 (ix2 r x) * P (ix3 3 x n)) * S (ix2 0 (lane 3 l))) (Fin.ext (by show 384 + l.val - 128 - 128 - 128 = l.val; omega))

/-- The rows kept for the block after are the last sixteen. -/
theorem last_block (hU : Pooled e row U) (i : Fin 16) (c : Fin 512) :
    k0_pay18 (F := Ideal) U (ix2 i c) = ((e.u (row ⟨240 + i.val, by omega⟩) c : ℝ) : EReal) := by
  rw [← hU]
  pointwise [k0_pay18]

/-- The scaled rows against a shard of the output projection. -/
theorem out_of (b : Blocks X G W P S O e row) {Y : FVec Ideal S256x512 .bf16} (hY : ∀ r c, Y (ix2 r c) = ((e.y (row r) c : ℝ) : EReal))
    (j : Fin 4) (r : Fin 256) (n : Fin 256) : ∑ c, Y (ix2 r c) * O (ix3 j c n) = ((e.out (row r) (col j n) : ℝ) : EReal) := by
  simp only [hY, b.hO, ← EReal.coe_mul, coe_sum]
  rfl

/-! What a point stores piece by piece. -/

section
variable (X : Vec Ideal S256x1024 .f32) (G : Vec Ideal S1x1024 .f32) (W : Vec Ideal S4x1024x1152 .bf16) (O : Vec Ideal S4x512x256 .bf16)
  (Y : FVec Ideal S256x512 .bf16)

/-- The first recurrence columns, from two shards. -/
abbrev urxs : List (View.Piece (Elt Ideal) S256x1024 .bf16) :=
  [⟨Rect.unit ![0, 640] ![256, 384] inb_S256x1024_S256x384_0_640, k0_pay10 (k0_pay6 X G)
      (k0_pay9 (View.ld W (Rect.unit ![1, 0, 0] ![1, 1024, 384] inb_S4x1024x1152_S1x1024x384_1_0_0))) (constant S256x384 .f32 0x00000000#32)⟩,
    ⟨Rect.unit ![0, 0] ![256, 640] inb_S256x1024_S256x640_0_0, k0_pay8 X G
      (View.ld W (Rect.unit ![0, 0, 512] ![1, 1024, 640] inb_S4x1024x1152_S1x1024x640_0_0_512))⟩]

/-- The second recurrence columns, from two shards. -/
abbrev urgs : List (View.Piece (Elt Ideal) S256x1024 .bf16) :=
  [⟨Rect.unit ![0, 768] ![256, 256] inb_S256x1024_S256x256_0_768, k0_pay12 (k0_pay6 X G)
      (View.ld W (Rect.unit ![2, 0, 0] ![1, 1024, 256] inb_S4x1024x1152_S1x1024x256_2_0_0))⟩,
    ⟨Rect.unit ![0, 0] ![256, 768] inb_S256x1024_S256x768_0_0, k0_pay11 (k0_pay6 X G)
      (View.ld W (Rect.unit ![1, 0, 384] ![1, 1024, 768] inb_S4x1024x1152_S1x1024x768_1_0_384))⟩]

/-- The pooling gate's columns, from two shards. -/
abbrev gps : List (View.Piece (Elt Ideal) S256x1024 .bf16) :=
  [⟨Rect.unit ![0, 896] ![256, 128] inb_S256x1024_S256x128_0_896, k0_pay14 (k0_pay6 X G)
      (View.ld W (Rect.unit ![3, 0, 0] ![1, 1024, 128] inb_S4x1024x1152_S1x1024x128_3_0_0))⟩,
    ⟨Rect.unit ![0, 0] ![256, 896] inb_S256x1024_S256x896_0_0, k0_pay13 (k0_pay6 X G)
      (View.ld W (Rect.unit ![2, 0, 256] ![1, 1024, 896] inb_S4x1024x1152_S1x1024x896_2_0_256))⟩]

/-- The mixer's output, from the four shards of its projection. -/
abbrev outs : List (View.Piece (Elt Ideal) S256x1024 .f32) :=
  [⟨Rect.unit ![0, 768] ![256, 256] inb_S256x1024_S256x256_0_768,
      k0_pay4 Y (View.ld O (Rect.unit ![3, 0, 0] ![1, 512, 256] inb_S4x512x256_S1x512x256_3_0_0))⟩,
    ⟨Rect.unit ![0, 512] ![256, 256] inb_S256x1024_S256x256_0_512,
      k0_pay3 Y (View.ld O (Rect.unit ![2, 0, 0] ![1, 512, 256] inb_S4x512x256_S1x512x256_2_0_0))⟩,
    ⟨Rect.unit ![0, 256] ![256, 256] inb_S256x1024_S256x256_0_256,
      k0_pay2 Y (View.ld O (Rect.unit ![1, 0, 0] ![1, 512, 256] inb_S4x512x256_S1x512x256_1_0_0))⟩,
    ⟨Rect.unit ![0, 0] ![256, 256] inb_S256x1024_S256x256_0_0,
      k0_pay1 Y (View.ld O (Rect.unit ![0, 0, 0] ![1, 512, 256] inb_S4x512x256_S1x512x256_0_0_0))⟩]

end

theorem urxs_at (b : Blocks X G W P S O e row) (r : Fin 256) (k : Fin 1024) :
    View.canon (urxs X G W) (ix2 r k) = ((e.z (row r) ⟨512 + k.val, by omega⟩ : ℝ) : EReal) := by
  refine Cert.MixerIn.columns (e := .bf16) (fun r (k : Fin 1024) => ((e.z (row r) ⟨512 + k.val, by omega⟩ : ℝ) : EReal)) _ _ _
    (fun r n h => piece_384 b _ r n _ (by show 512 + (640 + n.val) = 1152 + n.val; omega)) r k k.isLt fun h => ?_
  exact Cert.MixerIn.columns (e := .bf16) (fun r (k : Fin 1024) => ((e.z (row r) ⟨512 + k.val, by omega⟩ : ℝ) : EReal)) _ _ _
    (fun r n h => piece_640 b _ r n _ (by show 512 + (0 + n.val) = 512 + n.val; omega)) r k (by omega) fun h => absurd h (Nat.not_lt_zero _)

theorem urgs_at (b : Blocks X G W P S O e row) (r : Fin 256) (k : Fin 1024) :
    View.canon (urgs X G W) (ix2 r k) = ((e.z (row r) ⟨1536 + k.val, by omega⟩ : ℝ) : EReal) := by
  refine Cert.MixerIn.columns (e := .bf16) (fun r (k : Fin 1024) => ((e.z (row r) ⟨1536 + k.val, by omega⟩ : ℝ) : EReal)) _ _ _
    (fun r n h => piece_256 b _ r n _ (by show 1536 + (768 + n.val) = 2304 + n.val; omega)) r k k.isLt fun h => ?_
  exact Cert.MixerIn.columns (e := .bf16) (fun r (k : Fin 1024) => ((e.z (row r) ⟨1536 + k.val, by omega⟩ : ℝ) : EReal)) _ _ _
    (fun r n h => piece_768 b _ r n _ (by show 1536 + (0 + n.val) = 1536 + n.val; omega)) r k (by omega) fun h => absurd h (Nat.not_lt_zero _)

theorem gps_at (b : Blocks X G W P S O e row) (r : Fin 256) (k : Fin 1024) :
    View.canon (gps X G W) (ix2 r k) = ((e.z (row r) ⟨2560 + k.val, by omega⟩ : ℝ) : EReal) := by
  refine Cert.MixerIn.columns (e := .bf16) (fun r (k : Fin 1024) => ((e.z (row r) ⟨2560 + k.val, by omega⟩ : ℝ) : EReal)) _ _ _
    (fun r n h => piece_128 b _ r n _ (by show 2560 + (896 + n.val) = 3456 + n.val; omega)) r k k.isLt fun h => ?_
  exact Cert.MixerIn.columns (e := .bf16) (fun r (k : Fin 1024) => ((e.z (row r) ⟨2560 + k.val, by omega⟩ : ℝ) : EReal)) _ _ _
    (fun r n h => piece_896 b _ r n _ (by show 2560 + (0 + n.val) = 2560 + n.val; omega)) r k (by omega) fun h => absurd h (Nat.not_lt_zero _)

theorem outs_at (b : Blocks X G W P S O e row) {Y : FVec Ideal S256x512 .bf16} (hY : ∀ r c, Y (ix2 r c) = ((e.y (row r) c : ℝ) : EReal))
    (r : Fin 256) (k : Fin 1024) : View.canon (outs O Y) (ix2 r k) = ((e.out (row r) k : ℝ) : EReal) := by
  have q (j : Fin 4) (o : Nat) (ho : o = j.val * 256) (r : Fin 256) (n : Fin 256) (h : o + n.val < 1024) :
      ∑ c, Y (ix2 r c) * O (ix3 j c n) = ((e.out (row r) ⟨o + n.val, h⟩ : ℝ) : EReal) := by
    subst ho
    exact out_of b hY j r n
  have hk := k.isLt
  refine Cert.MixerIn.columns (e := .f32) (fun r k => ((e.out (row r) k : ℝ) : EReal)) _ _ _ (fun r n h => ?_) r k (by omega) fun h3 => ?_
  · rw [← q 3 768 rfl r n h]
    pointwise [k0_pay4]
  refine Cert.MixerIn.columns (e := .f32) (fun r k => ((e.out (row r) k : ℝ) : EReal)) _ _ _ (fun r n h => ?_) r k (by omega) fun h2 => ?_
  · rw [← q 2 512 rfl r n h]
    pointwise [k0_pay3]
  refine Cert.MixerIn.columns (e := .f32) (fun r k => ((e.out (row r) k : ℝ) : EReal)) _ _ _ (fun r n h => ?_) r k (by omega) fun h1 => ?_
  · rw [← q 1 256 rfl r n h]
    pointwise [k0_pay2]
  refine Cert.MixerIn.columns (e := .f32) (fun r k => ((e.out (row r) k : ℝ) : EReal)) _ _ _ (fun r n h => ?_) r k (by omega) fun h0 => absurd h0 (Nat.not_lt_zero _)
  · rw [← q 0 0 rfl r n h]
    pointwise [k0_pay1]

theorem devs_at (b : Blocks X G W P S O e row) (hU : Pooled e row U) (hK : Kept e row K) (n : BitVec 32) (hN : Counts row (k0_pay19 n))
    (r : Fin 256) (c : Fin 512) :
    View.canon (Val := Elt Ideal) (s := S256x512) (e := .bf16) [⟨Rect.unit ![0, 384] ![256, 128] inb_S256x512_S256x128_0_384, k0_pay31 U (k0_pay17 U K) (k0_pay19 n)⟩,
        ⟨Rect.unit ![0, 256] ![256, 128] inb_S256x512_S256x128_0_256, k0_pay29 U (k0_pay17 U K) (k0_pay19 n)⟩,
        ⟨Rect.unit ![0, 128] ![256, 128] inb_S256x512_S256x128_0_128, k0_pay26 U (k0_pay19 n) (k0_pay23 U K) (k0_pay24 U K)⟩,
        ⟨Rect.unit ![0, 0] ![256, 128] inb_S256x512_S256x128_0_0, k0_pay21 n U K⟩] (ix2 r c) = ((e.dev (row r) c : ℝ) : EReal) := by
  obtain ⟨g, l, rfl⟩ := exists_lane c
  rw [lanes]
  obtain rfl | rfl | rfl | rfl := four g
  · exact dev2_block b hU hK n hN r l
  · exact dev4_block b hU hK _ hN r l
  · exact dev8_block b hU hK _ hN r l
  · exact dev16_block b hU hK _ hN r l

end Cert.Kernel8Ideal.Val

end
-- ==== Proof.InPoolReference.lean ====
/-
  The reference's forward pass into the sequence mixers: its seven results, the arguments real numbers.
-/
module

public import proofs.«01_k».proof.Proof.Gen.Reference8Ideal.Read
public import proofs.«01_k».proof.Proof.InPoolMath
import Idealize.ShloMosaic.Lib.Claim

@[expose] public section

set_option maxRecDepth 16384
set_option maxHeartbeats 1000000

noncomputable section

namespace Cert.Reference8Ideal.Val

open Cert.Reference8Ideal Cert.Reference8Ideal.Read Idealize.ShloMosaic Cert.Reals Cert.Norm Cert.FfnDown Cert.Pieces Cert.Pool Cert.InPool

/-- The arguments are real numbers. -/
structure Args (X : Vec Ideal S1x4096x1024 .f32) (G : Vec Ideal S1024 .f32) (W : Vec Ideal S1024x4608 .f32) (P : Vec Ideal S4x128x128 .f32)
    (S : Vec Ideal S512 .f32) (O : Vec Ideal S512x1024 .f32) (e : Data) : Prop where
  hx : ∀ t k, X (ix3 0 t k) = ((e.x t k : ℝ) : EReal)
  hg : ∀ k, G (ix1 k) = ((e.g k : ℝ) : EReal)
  hw : ∀ k j, W (ix2 k j) = ((e.w k j : ℝ) : EReal)
  hp : ∀ g a b, P (ix3 g a b) = ((e.p g a b : ℝ) : EReal)
  hs : ∀ c, S (ix1 c) = ((e.s c : ℝ) : EReal)
  ho : ∀ c k, O (ix2 c k) = ((e.o c k : ℝ) : EReal)

variable {X : Vec Ideal S1x4096x1024 .f32} {G : Vec Ideal S1024 .f32} {W : Vec Ideal S1024x4608 .f32} {P : Vec Ideal S4x128x128 .f32}
  {S : Vec Ideal S512 .f32} {O : Vec Ideal S512x1024 .f32} {e : Data}

theorem norm_ref (a : Args X G W P S O e) (t : Fin 4096) (k : Fin 1024) : val_main_v12 (F := Ideal) X G (ix3 0 t k) = ((e.h t k : ℝ) : EReal) := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rw [coe_inv (fun k => X (ix3 0 t k)) (e.x t) (a.hx t), a.hx, a.hg, ← EReal.coe_mul, ← EReal.coe_mul]
  rfl

theorem proj_ref (a : Args X G W P S O e) (t : Fin 4096) (j : Fin 4608) : val_main_v13 (F := Ideal) X G W (ix3 0 t j) = ((e.z t j : ℝ) : EReal) := by
  have h := norm_ref a
  unfold val_main_v13
  generalize val_main_v12 (F := Ideal) X G = Y at h ⊢
  pointwise []
  simp only [h, a.hw, ← EReal.coe_mul, coe_sum]
  rfl

theorem cols_ref (a : Args X G W P S O e) (t : Fin 4096) (c : Fin 512) : val_main_v14 (F := Ideal) X G W (ix3 0 t c) = ((e.u t c : ℝ) : EReal) := by
  rw [Data.u, ← proj_ref a]
  pointwise [val_main_v14]

/-- The running sum. -/
theorem run_ref (a : Args X G W P S O e) (t : Fin 4096) (c : Fin 512) :
    val_main_v16 (F := Ideal) X G W (ix3 0 t c) = ((∑ l : Fin 4096, before (fun t => e.u t c) l.val t : ℝ) : EReal) := by
  have h := cols_ref a
  unfold val_main_v16 Host.reduceWindowAdd
  generalize val_main_v14 (F := Ideal) X G W = Y at h ⊢
  rw [Ideal.hostReduceWindowAdd_def]
  have z : val_main_call0_call0_v0 (F := Ideal) (Shape.Idx.first (by decide)) = (0 : EReal) := by
    pointwise [val_main_call0_call0_v0, val_main_call0_call0_cst]
  rw [z]
  refine (Cert.WindowSum.window_sum 4095 _ _ _ t c).trans ?_
  rw [← Equiv.sum_comp (Fin.revPerm (n := 4096)), ← coe_sum]
  refine Finset.sum_congr rfl fun l _ => ?_
  have hr : (Fin.revPerm l).val = 4095 - l.val := by show 4096 - (l.val + 1) = _; omega
  unfold before
  by_cases q : l.val ≤ t.val
  · rw [dif_pos q, dif_pos (by omega), h]
    exact congrArg (fun n => ((e.u n c : ℝ) : EReal)) (Fin.ext (by show t.val + (Fin.revPerm l).val - 4095 = t.val - l.val; omega))
  · rw [dif_neg q, dif_neg (by omega), EReal.coe_zero]

/-- The running sum with a row of zeros above it. -/
def upTo (v : Fin 4096 → ℝ) (n : Fin 4097) : ℝ := if h : 0 < n.val then ∑ l : Fin 4096, before v l.val ⟨n.val - 1, by omega⟩ else 0

theorem upTo_ref (a : Args X G W P S O e) (n : Fin 4097) (c : Fin 512) :
    val_main_v17 (F := Ideal) X G W (ix3 0 n c) = ((upTo (fun t => e.u t c) n : ℝ) : EReal) := by
  have h := run_ref a
  unfold val_main_v17
  generalize val_main_v16 (F := Ideal) X G W = Y at h ⊢
  pointwise [val_main_v15, val_main_cst_2]
  unfold upTo
  by_cases q : 0 < n.val
  · rw [dif_pos q, dif_neg (by omega), h]
  · rw [dif_neg q, dif_pos (by omega), EReal.coe_zero]

/-- The mean over a window from the running sum at its end and before its start, however the places are written. -/
theorem mean_of (g : Fin 4) (v : Fin 4096 → ℝ) (f : Fin 4097 → EReal) (hf : ∀ n, f n = ((upTo v n : ℝ) : EReal)) (t : Fin 4096)
    (i : Fin 4097) (hi : i.val = 1 + t.val) {p : Prop} [Decidable p] (k : ¬p → Fin 4097) (hp : p ↔ t.val < window g - 1)
    (hk : ∀ h, (k h).val = t.val - (window g - 1)) :
    Ideal.div (f i - if h : p then 0 else f (k h)) (count g t.val) = ((trail v (window g) t / num g t : ℝ) : EReal) := by
  have w0 : 0 < window g := by obtain rfl | rfl | rfl | rfl := four g <;> decide
  have e1 : upTo v i = ∑ l : Fin 4096, before v l.val t := by
    unfold upTo
    rw [dif_pos (by omega)]
    exact Finset.sum_congr rfl fun l _ => congrArg (before v l.val) (Fin.ext (by show i.val - 1 = t.val; omega))
  have e2 : (if h : p then 0 else f (k h)) = ((∑ l : Fin 4096, before v (l.val + window g) t : ℝ) : EReal) := by
    by_cases q : p
    · have hq := hp.mp q
      rw [dif_pos q, Finset.sum_eq_zero fun l _ => dif_neg (by omega), EReal.coe_zero]
    · have hq := fun h => q (hp.mpr h)
      rw [dif_neg q, hf]
      refine congrArg Real.toEReal ?_
      unfold upTo
      have hv := hk q
      by_cases z : 0 < (k q).val
      · rw [dif_pos z]
        refine Finset.sum_congr rfl fun l _ => ?_
        unfold before
        by_cases b : l.val + window g ≤ t.val
        · rw [dif_pos b, dif_pos (by show l.val ≤ (k q).val - 1; omega)]
          exact congrArg v (Fin.ext (by show (k q).val - 1 - l.val = t.val - (l.val + window g); omega))
        · rw [dif_neg b, dif_neg (by show ¬l.val ≤ (k q).val - 1; omega)]
      · rw [dif_neg z, Finset.sum_eq_zero fun l _ => dif_neg (by omega)]
  rw [e2, hf, e1, count_num, ← EReal.coe_sub, coe_div (num_ne g t), trail_eq]

/-- The mean over the window of 2. -/
theorem mean2_ref (a : Args X G W P S O e) (t : Fin 4096) (b : Fin 128) :
    val_main_v32 (F := Ideal) X G W (ix3 0 t b) = ((trail (fun t => e.u t (lane 0 b)) 2 t / num 0 t : ℝ) : EReal) := by
  have h := upTo_ref a
  pointwise [val_main_v32, val_main_v31, val_main_v30, val_main_v29, val_main_v28, val_main_v27, val_main_v26, val_main_v25, val_main_v24, val_main_v23, val_main_v22, val_main_v21, val_main_v20, val_main_v19, val_main_v18, val_main_cst_3, val_main_c, val_main_c_4]
  generalize val_main_v17 (F := Ideal) X G W = Y at h ⊢
  have ea : (⟨b.val, by omega⟩ : Fin 512) = lane 0 b := Fin.ext (by show b.val = 0 * 128 + b.val; omega)
  exact Eq.trans (by simp only [ea]; rfl) <| mean_of 0 (fun t => e.u t (lane 0 b)) (fun n => Y (ix3 0 n (lane 0 b))) (fun n => h n _) t ⟨1 + t.val, by omega⟩ rfl
    (fun h : ¬t.val < 1 => ⟨t.val - 1, by omega⟩) Iff.rfl fun _ => rfl

/-- The mean over the window of 4. -/
theorem mean4_ref (a : Args X G W P S O e) (t : Fin 4096) (b : Fin 128) :
    val_main_v46 (F := Ideal) X G W (ix3 0 t b) = ((trail (fun t => e.u t (lane 1 b)) 4 t / num 1 t : ℝ) : EReal) := by
  have h := upTo_ref a
  pointwise [val_main_v46, val_main_v45, val_main_v44, val_main_v43, val_main_v42, val_main_v41, val_main_v40, val_main_v39, val_main_v38, val_main_v37, val_main_v36, val_main_v35, val_main_v34, val_main_v33, val_main_v18, val_main_cst_5, val_main_c_6, val_main_c_7]
  generalize val_main_v17 (F := Ideal) X G W = Y at h ⊢
  exact mean_of 1 (fun t => e.u t (lane 1 b)) (fun n => Y (ix3 0 n (lane 1 b))) (fun n => h n _) t ⟨1 + t.val, by omega⟩ rfl
    (fun h : ¬t.val < 3 => ⟨t.val - 3, by omega⟩) Iff.rfl fun _ => rfl

/-- The mean over the window of 8. -/
theorem mean8_ref (a : Args X G W P S O e) (t : Fin 4096) (b : Fin 128) :
    val_main_v60 (F := Ideal) X G W (ix3 0 t b) = ((trail (fun t => e.u t (lane 2 b)) 8 t / num 2 t : ℝ) : EReal) := by
  have h := upTo_ref a
  pointwise [val_main_v60, val_main_v59, val_main_v58, val_main_v57, val_main_v56, val_main_v55, val_main_v54, val_main_v53, val_main_v52, val_main_v51, val_main_v50, val_main_v49, val_main_v48, val_main_v47, val_main_v18, val_main_cst_8, val_main_c_9, val_main_c_10]
  generalize val_main_v17 (F := Ideal) X G W = Y at h ⊢
  exact mean_of 2 (fun t => e.u t (lane 2 b)) (fun n => Y (ix3 0 n (lane 2 b))) (fun n => h n _) t ⟨1 + t.val, by omega⟩ rfl
    (fun h : ¬t.val < 7 => ⟨t.val - 7, by omega⟩) Iff.rfl fun _ => rfl

/-- The mean over the window of 16. -/
theorem mean16_ref (a : Args X G W P S O e) (t : Fin 4096) (b : Fin 128) :
    val_main_v74 (F := Ideal) X G W (ix3 0 t b) = ((trail (fun t => e.u t (lane 3 b)) 16 t / num 3 t : ℝ) : EReal) := by
  have h := upTo_ref a
  pointwise [val_main_v74, val_main_v73, val_main_v72, val_main_v71, val_main_v70, val_main_v69, val_main_v68, val_main_v67, val_main_v66, val_main_v65, val_main_v64, val_main_v63, val_main_v62, val_main_v61, val_main_v18, val_main_cst_11, val_main_c_12, val_main_c_13]
  generalize val_main_v17 (F := Ideal) X G W = Y at h ⊢
  exact mean_of 3 (fun t => e.u t (lane 3 b)) (fun n => Y (ix3 0 n (lane 3 b))) (fun n => h n _) t ⟨1 + t.val, by omega⟩ rfl
    (fun h : ¬t.val < 15 => ⟨t.val - 15, by omega⟩) Iff.rfl fun _ => rfl

/-- The deviations. -/
theorem dev_ref (a : Args X G W P S O e) (t : Fin 4096) (c : Fin 512) : val_main_v76 (F := Ideal) X G W (ix3 0 t c) = ((e.dev t c : ℝ) : EReal) := by
  obtain ⟨g, b, rfl⟩ := exists_lane c
  have u := cols_ref a t (lane g b)
  have m : val_main_v75 (F := Ideal) X G W (ix3 0 t (lane g b))
      = ((trail (fun t => e.u t (lane g b)) (window g) t / num g t : ℝ) : EReal) := by
    have hb := b.isLt
    obtain rfl | rfl | rfl | rfl := four g
    · refine Eq.trans ?_ (mean2_ref a t b)
      pointwise [val_main_v75]
    · refine Eq.trans ?_ (mean4_ref a t b)
      pointwise [val_main_v75]
    · refine Eq.trans ?_ (mean8_ref a t b)
      pointwise [val_main_v75]
      rw [dif_neg (by omega), dif_neg (by omega), dif_pos (by omega)]
      exact congrArg (fun n => val_main_v60 (F := Ideal) X G W (ix3 0 t n)) (Fin.ext (by show 256 + b.val - 128 - 128 = b.val; omega))
    · refine Eq.trans ?_ (mean16_ref a t b)
      pointwise [val_main_v75]
      rw [dif_neg (by omega), dif_neg (by omega), dif_neg (by omega)]
      exact congrArg (fun n => val_main_v74 (F := Ideal) X G W (ix3 0 t n)) (Fin.ext (by show 384 + b.val - 128 - 128 - 128 = b.val; omega))
  pointwise [val_main_v76]
  rw [m, u, ← EReal.coe_sub]
  unfold Data.dev
  rw [(show grp (lane g b) = g from Fin.ext (by show (g.val * 128 + b.val) / 128 = g.val; omega))]

/-- The deviations mixed and scaled. -/
theorem mixed_ref (a : Args X G W P S O e) (t : Fin 4096) (c : Fin 512) : val_main_v83 (F := Ideal) X G W P S (ix3 0 t c) = ((e.y t c : ℝ) : EReal) := by
  have h := dev_ref a
  pointwise [val_main_v83, val_main_v82, val_main_v81, val_main_v80, val_main_v79, val_main_v78, val_main_v77]
  generalize val_main_v76 (F := Ideal) X G W = Y at h ⊢
  refine (congrArg (· * S (ix1 c)) ((Finset.sum_congr rfl fun x _ => (congrArg₂ (fun y z : EReal => y * z) (a.hp (grp c) x (plc c))
    (h t (lane (grp c) x))).trans (mul_comm _ _)).trans (?_ : _ = ((∑ k, e.dev t (lane (grp c) k) * e.p (grp c) k (plc c) : ℝ) : EReal)))).trans ?_
  · rw [← coe_sum]
    exact Finset.sum_congr rfl fun x _ => (EReal.coe_mul _ _).symm
  · rw [a.hs, ← EReal.coe_mul]
    rfl

theorem out_ref (a : Args X G W P S O e) (t : Fin 4096) (k : Fin 1024) : val_main_v84 (F := Ideal) X G W P S O (ix3 0 t k) = ((e.out t k : ℝ) : EReal) := by
  have h := mixed_ref a
  unfold val_main_v84
  generalize val_main_v83 (F := Ideal) X G W P S = Y at h ⊢
  pointwise []
  simp only [h, a.ho, ← EReal.coe_mul, coe_sum]
  rfl

theorem urx_result (a : Args X G W P S O e) (t : Fin 4096) (k : Fin 1024) :
    val_main_v87 (F := Ideal) X G W (ix2 t k) = ((e.z t ⟨512 + k.val, by omega⟩ : ℝ) : EReal) := by
  rw [← proj_ref a]
  pointwise [val_main_v87, val_main_v86, val_main_v85]

theorem urg_result (a : Args X G W P S O e) (t : Fin 4096) (k : Fin 1024) :
    val_main_v90 (F := Ideal) X G W (ix2 t k) = ((e.z t ⟨1536 + k.val, by omega⟩ : ℝ) : EReal) := by
  rw [← proj_ref a]
  pointwise [val_main_v90, val_main_v89, val_main_v88]

theorem gp_result (a : Args X G W P S O e) (t : Fin 4096) (k : Fin 1024) :
    val_main_v93 (F := Ideal) X G W (ix2 t k) = ((e.z t ⟨2560 + k.val, by omega⟩ : ℝ) : EReal) := by
  rw [← proj_ref a]
  pointwise [val_main_v93, val_main_v92, val_main_v91]

theorem gr_result (a : Args X G W P S O e) (t : Fin 4096) (k : Fin 1024) :
    val_main_v96 (F := Ideal) X G W (ix2 t k) = ((e.z t ⟨3584 + k.val, by omega⟩ : ℝ) : EReal) := by
  rw [← proj_ref a]
  pointwise [val_main_v96, val_main_v95, val_main_v94]

theorem d_result (a : Args X G W P S O e) (t : Fin 4096) (c : Fin 512) : val_main_v98 (F := Ideal) X G W (ix2 t c) = ((e.dev t c : ℝ) : EReal) := by
  rw [← dev_ref a]
  pointwise [val_main_v98, val_main_v97]

theorem yp_result (a : Args X G W P S O e) (t : Fin 4096) (k : Fin 1024) :
    val_main_v99 (F := Ideal) X G W P S O (ix2 t k) = ((e.out t k : ℝ) : EReal) := by
  rw [← out_ref a]
  pointwise [val_main_v99]

theorem h_result (a : Args X G W P S O e) (t : Fin 4096) (k : Fin 1024) : val_main_v101 (F := Ideal) X G (ix2 t k) = ((e.h t k : ℝ) : EReal) := by
  rw [← norm_ref a]
  pointwise [val_main_v101, val_main_v100]

end Cert.Reference8Ideal.Val

end
-- ==== Proof.InPoolArrays.lean ====
/-
  The forward kernel into the sequence mixers: the blocks of a grid point in the arguments, and what the point writes.
-/
module

public import proofs.«01_k».proof.Proof.InPoolBlocks
public import proofs.«01_k».proof.Proof.InPoolReference
public import proofs.«01_k».proof.Proof.MixerIn
public import Idealize.ShloMosaic.Lib.Pointwise.Index
import Idealize.ShloMosaic.Lib.Claim
import Idealize.ShloMosaic.Lib.StableHlo.ReadAt
import Idealize.ShloMosaic.Lib.Pipeline.ReadBack

@[expose] public section

set_option maxRecDepth 16384
set_option maxHeartbeats 1000000

noncomputable section

namespace Cert.Kernel8Ideal.Val

open Cert.Kernel8Ideal Cert.Kernel8Ideal.Gen Idealize.ShloMosaic Idealize.ShloMosaic.TcCoe Idealize.SL.Sem
open Cert.Reals Cert.Norm Cert.FfnDown Cert.Pieces Cert.Pool Cert.InPool Cert.Reference8Ideal.Val

section
variable (m : (ℓ : Loc nD τ sig) → Buf (Elt Ideal) ℓ) (c : Dev nD)

abbrev argX : Vec Ideal S1x4096x1024 .f32 := m ((c : Thread nD τ).loc main_arg0)
abbrev argG : Vec Ideal S1024 .f32 := m ((c : Thread nD τ).loc main_arg1)
abbrev argW : Vec Ideal S1024x4608 .f32 := m ((c : Thread nD τ).loc main_arg2)
abbrev argP : Vec Ideal S4x128x128 .f32 := m ((c : Thread nD τ).loc main_arg3)
abbrev argS : Vec Ideal S512 .f32 := m ((c : Thread nD τ).loc main_arg4)
abbrev argO : Vec Ideal S512x1024 .f32 := m ((c : Thread nD τ).loc main_arg5)

theorem host_x (t : Fin 4096) (k : Fin 1024) : V m c main_v0 (ix2 t k) = m ((c : Thread nD τ).loc main_arg0) (ix3 0 t k) := by
  unfold V hostOps0
  after_reads_at

theorem host_g (k : Fin 1024) : V m c main_v1 (ix2 0 k) = m ((c : Thread nD τ).loc main_arg1) (ix1 k) := by
  unfold V hostOps0
  after_reads_at

theorem host_w (s : Fin 4) (k : Fin 1024) (n : Fin 1152) :
    V m c main_v4 (ix3 s k n) = m ((c : Thread nD τ).loc main_arg2) (ix2 k ⟨s.val * 1152 + n.val, by omega⟩) := by
  unfold V hostOps0
  after_reads_at

theorem host_p (g : Fin 4) (a b : Fin 128) : V m c main_v5 (ix3 g a b) = m ((c : Thread nD τ).loc main_arg3) (ix3 g a b) := by
  unfold V hostOps0
  after_reads_at

theorem host_s (j : Fin 512) : V m c main_v6 (ix2 0 j) = m ((c : Thread nD τ).loc main_arg4) (ix1 j) := by
  unfold V hostOps0
  after_reads_at

theorem host_o (j : Fin 4) (k : Fin 512) (n : Fin 256) :
    V m c main_v9 (ix3 j k n) = m ((c : Thread nD τ).loc main_arg5) (ix2 k (col j n)) := by
  unfold V hostOps0
  after_reads_at

end

variable {m : (ℓ : Loc nD τ sig) → Buf (Elt Ideal) ℓ} {c : Dev nD} {e : Data}

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![0, 0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- Row `r` of the block at point `t`. -/
def rowAt (t : Fin cfg0.N) (r : Fin 256) : Fin 4096 :=
  ⟨t.val * 256 + r.val, by have h : t.val < 16 := lt_of_lt_of_eq t.isLt (show cfg0.N = 16 from N_0); omega⟩

/-- The row numbers that a point counts with. -/
theorem counts (t : Fin cfg0.N) : Counts (rowAt t) (k0_pay19 (BitVec.ofNat 32 (grid0.coords t 0).val)) := fun r => by
  have hc : (grid0.coords t 0).val = t.val := by revert t; decide +kernel
  pointwise [k0_pay19]
  rw [hc]
  show IntOp.addi (Scalar.muli (BitVec.ofNat 32 t.val) (BitVec.ofNat 32 256)) (BitVec.ofNat 32 r.val) = BitVec.ofNat 32 (t.val * 256 + r.val)
  rw [BitVec.ofNat_add, BitVec.ofNat_mul]
  rfl

variable (a : Args (argX m c) (argG m c) (argW m c) (argP m c) (argS m c) (argO m c) e)
include a

theorem blocks (t : Fin cfg0.N) :
    Blocks (iblk m c 0 t) (iblk m c 1 t) (iblk m c 2 t) (iblk m c 3 t) (iblk m c 4 t) (iblk m c 5 t) e (rowAt t) where
  hX r j := by
    rw [← a.hx, argX, ← host_x m c]
    blk_point [iblk, idx t]
    rfl
  hG j := by
    rw [← a.hg, argG, ← host_g m c]
    blk_point [iblk, idx t]
  hW s k n := by
    rw [← a.hw, argW, ← host_w m c]
    blk_point [iblk, idx t]
  hP g i j := by
    rw [← a.hp, argP, ← host_p m c]
    blk_point [iblk, idx t]
  hS j := by
    rw [← a.hs, argS, ← host_s m c]
    blk_point [iblk, idx t]
  hO j k n := by
    rw [← a.ho, argO, ← host_o m c]
    blk_point [iblk, idx t]
  hrow r := rfl

theorem pooled (t : Fin cfg0.N) : Pooled e (rowAt t) (k0_pay7 (iblk m c 0 t) (iblk m c 1 t)
    (View.ld (iblk m c 2 t) (Rect.unit ![0, 0, 0] ![1, 1024, 512] inb_S4x1024x1152_S1x1024x512_0_0_0))) := u_block (blocks a t) _

/-- What a point leaves for the next: its last sixteen rows. -/
theorem kept_at (t : Fin cfg0.N) (i : Fin 16) (j : Fin 512) :
    (outsAt0 m c t.val t.isLt).2.2.2.2.2.2.2 (ix2 i j) = ((e.u (rowAt t ⟨240 + i.val, by omega⟩) j : ℝ) : EReal) := by
  by_cases h : t.val % 16 = 0
  · rw [outsAt0_A m c t h]; frame_out
    exact last_block (pooled a t) i j
  · rw [outsAt0_B m c t h]; frame_out
    exact last_block (pooled a t) i j

omit a in
theorem zero_kept (i : S16x512.Idx) : k0_pay5 (F := Ideal) i = 0 := by pointwise [k0_pay5]

omit a in
/-- Nothing comes before the first point's rows. -/
theorem kept_A (t : Fin cfg0.N) (h : t.val % 16 = 0) : Kept e (rowAt t) (k0_pay5 (F := Ideal)) := fun i j => by
  have ht : t.val < 16 := lt_of_lt_of_eq t.isLt (show cfg0.N = 16 from N_0)
  rw [zero_kept]
  unfold ext
  rw [dif_neg]
  · rfl
  · show ¬ (16 ≤ i.val + (t.val * 256 + 0) ∧ _)
    omega

/-- What comes before a later point's rows is what the point before left. -/
theorem kept_B (t : Fin cfg0.N) (h : ¬ t.val % 16 = 0) :
    Kept e (rowAt t) (outsAt0 m c (t.val - 1) (Nat.lt_of_le_of_lt (Nat.sub_le _ _) t.isLt)).2.2.2.2.2.2.2 := fun i j => by
  have ht : t.val < 16 := lt_of_lt_of_eq t.isLt (show cfg0.N = 16 from N_0)
  have hi := i.isLt
  refine (kept_at a ⟨t.val - 1, Nat.lt_of_le_of_lt (Nat.sub_le _ _) t.isLt⟩ i j).trans ?_
  have q : (t.val - 1) * 256 + (240 + i.val) = i.val + (t.val * 256 + 0) - 16 := by omega
  unfold ext
  rw [dif_pos (by show 16 ≤ i.val + (t.val * 256 + 0) ∧ i.val + (t.val * 256 + 0) - 16 < 4096; omega)]
  exact congrArg (fun n => ((e.u n j : ℝ) : EReal)) (Fin.ext q)

theorem urx_at (t : Fin cfg0.N) (r : Fin 256) (k : Fin 1024) : (outsAt0 m c t.val t.isLt).1 (ix2 r k) = ((e.z (rowAt t r) ⟨512 + k.val, by omega⟩ : ℝ) : EReal) := by
  by_cases h : t.val % 16 = 0
  · rw [outsAt0_A m c t h]; frame_out
    exact urxs_at (blocks a t) r k
  · rw [outsAt0_B m c t h]; frame_out
    exact urxs_at (blocks a t) r k

theorem urg_at (t : Fin cfg0.N) (r : Fin 256) (k : Fin 1024) : (outsAt0 m c t.val t.isLt).2.1 (ix2 r k) = ((e.z (rowAt t r) ⟨1536 + k.val, by omega⟩ : ℝ) : EReal) := by
  by_cases h : t.val % 16 = 0
  · rw [outsAt0_A m c t h]; frame_out
    exact urgs_at (blocks a t) r k
  · rw [outsAt0_B m c t h]; frame_out
    exact urgs_at (blocks a t) r k

theorem gp_at (t : Fin cfg0.N) (r : Fin 256) (k : Fin 1024) : (outsAt0 m c t.val t.isLt).2.2.1 (ix2 r k) = ((e.z (rowAt t r) ⟨2560 + k.val, by omega⟩ : ℝ) : EReal) := by
  by_cases h : t.val % 16 = 0
  · rw [outsAt0_A m c t h]; frame_out
    exact gps_at (blocks a t) r k
  · rw [outsAt0_B m c t h]; frame_out
    exact gps_at (blocks a t) r k

theorem gr_at (t : Fin cfg0.N) (r : Fin 256) (k : Fin 1024) : (outsAt0 m c t.val t.isLt).2.2.2.1 (ix2 r k) = ((e.z (rowAt t r) ⟨3584 + k.val, by omega⟩ : ℝ) : EReal) := by
  by_cases h : t.val % 16 = 0
  · rw [outsAt0_A m c t h]; frame_out
    exact piece_1024 (blocks a t) _ r k _ rfl
  · rw [outsAt0_B m c t h]; frame_out
    exact piece_1024 (blocks a t) _ r k _ rfl

theorem d_at (t : Fin cfg0.N) (r : Fin 256) (k : Fin 512) : (outsAt0 m c t.val t.isLt).2.2.2.2.1 (ix2 r k) = ((e.dev (rowAt t r) k : ℝ) : EReal) := by
  by_cases h : t.val % 16 = 0
  · rw [outsAt0_A m c t h]; frame_out
    exact devs_at (blocks a t) (pooled a t) (kept_A t h) _ (counts t) r k
  · rw [outsAt0_B m c t h]; frame_out
    rw [read_unread_whole]
    exact devs_at (blocks a t) (pooled a t) (kept_B a t h) _ (counts t) r k

theorem yp_at (t : Fin cfg0.N) (r : Fin 256) (k : Fin 1024) : (outsAt0 m c t.val t.isLt).2.2.2.2.2.1 (ix2 r k) = ((e.out (rowAt t r) k : ℝ) : EReal) := by
  by_cases h : t.val % 16 = 0
  · rw [outsAt0_A m c t h]; frame_out
    exact outs_at (blocks a t) (y_block (blocks a t) (pooled a t) (kept_A t h) _ (counts t) _ _ _ _) r k
  · rw [outsAt0_B m c t h]; frame_out
    rw [read_unread_whole]
    exact outs_at (blocks a t) (y_block (blocks a t) (pooled a t) (kept_B a t h) _ (counts t) _ _ _ _) r k

theorem h_at (t : Fin cfg0.N) (r : Fin 256) (k : Fin 1024) : (outsAt0 m c t.val t.isLt).2.2.2.2.2.2.1 (ix2 r k) = ((e.h (rowAt t r) k : ℝ) : EReal) := by
  by_cases h : t.val % 16 = 0
  · rw [outsAt0_A m c t h]; frame_out
    exact norm_block (blocks a t) r k
  · rw [outsAt0_B m c t h]; frame_out
    exact norm_block (blocks a t) r k

end Cert.Kernel8Ideal.Val

end
-- ==== Proof.InPoolResults.lean ====
/-
  The forward kernel into the sequence mixers: its seven output arrays, entry by entry.
-/
module

public import proofs.«01_k».proof.Proof.InPoolArrays
import Idealize.ShloMosaic.Lib.Claim
import Idealize.ShloMosaic.Lib.Pipeline.ReadBack

@[expose] public section

set_option maxRecDepth 16384
set_option maxHeartbeats 1000000

noncomputable section

namespace Cert.Kernel8Ideal.Val

open Cert.Kernel8Ideal Cert.Kernel8Ideal.Gen Idealize.ShloMosaic Idealize.ShloMosaic.TcCoe Idealize.SL.Sem
open Cert.Reals Cert.Norm Cert.FfnDown Cert.Pieces Cert.Pool Cert.InPool Cert.Reference8Ideal.Val

variable {m : (ℓ : Loc nD τ sig) → Buf (Elt Ideal) ℓ} {c : Dev nD} {e : Data}

theorem at6 (t : Fin cfg0.N) (r : Fin 256) (j : Fin 1024) : ((View.whole main_v10_0).slice (win0_6.rect t)).emb (ix2 r j) = ix2 (rowAt t r) j := by
  blk_ext [idx t]
  rfl

theorem at7 (t : Fin cfg0.N) (r : Fin 256) (j : Fin 1024) : ((View.whole main_v10_1).slice (win0_7.rect t)).emb (ix2 r j) = ix2 (rowAt t r) j := by
  blk_ext [idx t]
  rfl

theorem at8 (t : Fin cfg0.N) (r : Fin 256) (j : Fin 1024) : ((View.whole main_v10_2).slice (win0_8.rect t)).emb (ix2 r j) = ix2 (rowAt t r) j := by
  blk_ext [idx t]
  rfl

theorem at9 (t : Fin cfg0.N) (r : Fin 256) (j : Fin 1024) : ((View.whole main_v10_3).slice (win0_9.rect t)).emb (ix2 r j) = ix2 (rowAt t r) j := by
  blk_ext [idx t]
  rfl

theorem at10 (t : Fin cfg0.N) (r : Fin 256) (j : Fin 512) : ((View.whole main_v10_4).slice (win0_10.rect t)).emb (ix2 r j) = ix2 (rowAt t r) j := by
  blk_ext [idx t]
  rfl

theorem at11 (t : Fin cfg0.N) (r : Fin 256) (j : Fin 1024) : ((View.whole main_v10_5).slice (win0_11.rect t)).emb (ix2 r j) = ix2 (rowAt t r) j := by
  blk_ext [idx t]
  rfl

theorem at12 (t : Fin cfg0.N) (r : Fin 256) (j : Fin 1024) : ((View.whole main_v10_6).slice (win0_12.rect t)).emb (ix2 r j) = ix2 (rowAt t r) j := by
  blk_ext [idx t]
  rfl

/-! The entries of the seven arrays. -/

def urxE (e : Data) (t : Fin 4096) (j : Fin 1024) : EReal := ((e.z t ⟨512 + j.val, by omega⟩ : ℝ) : EReal)
def urgE (e : Data) (t : Fin 4096) (j : Fin 1024) : EReal := ((e.z t ⟨1536 + j.val, by omega⟩ : ℝ) : EReal)
def gpE (e : Data) (t : Fin 4096) (j : Fin 1024) : EReal := ((e.z t ⟨2560 + j.val, by omega⟩ : ℝ) : EReal)
def grE (e : Data) (t : Fin 4096) (j : Fin 1024) : EReal := ((e.z t ⟨3584 + j.val, by omega⟩ : ℝ) : EReal)
def dE (e : Data) (t : Fin 4096) (j : Fin 512) : EReal := ((e.dev t j : ℝ) : EReal)
def ypE (e : Data) (t : Fin 4096) (j : Fin 1024) : EReal := ((e.out t j : ℝ) : EReal)
def hE (e : Data) (t : Fin 4096) (j : Fin 1024) : EReal := ((e.h t j : ℝ) : EReal)

variable (a : Args (argX m c) (argG m c) (argW m c) (argP m c) (argS m c) (argO m c) e)
include a

theorem urxE_at (t : Fin cfg0.N) (r : Fin 256) (j : Fin 1024) : (outsAt0 m c t.val t.isLt).1 (ix2 r j) = urxE e (rowAt t r) j := urx_at a t r j
theorem urgE_at (t : Fin cfg0.N) (r : Fin 256) (j : Fin 1024) : (outsAt0 m c t.val t.isLt).2.1 (ix2 r j) = urgE e (rowAt t r) j := urg_at a t r j
theorem gpE_at (t : Fin cfg0.N) (r : Fin 256) (j : Fin 1024) : (outsAt0 m c t.val t.isLt).2.2.1 (ix2 r j) = gpE e (rowAt t r) j := gp_at a t r j
theorem grE_at (t : Fin cfg0.N) (r : Fin 256) (j : Fin 1024) : (outsAt0 m c t.val t.isLt).2.2.2.1 (ix2 r j) = grE e (rowAt t r) j := gr_at a t r j
theorem dE_at (t : Fin cfg0.N) (r : Fin 256) (j : Fin 512) : (outsAt0 m c t.val t.isLt).2.2.2.2.1 (ix2 r j) = dE e (rowAt t r) j := d_at a t r j
theorem ypE_at (t : Fin cfg0.N) (r : Fin 256) (j : Fin 1024) : (outsAt0 m c t.val t.isLt).2.2.2.2.2.1 (ix2 r j) = ypE e (rowAt t r) j := yp_at a t r j
theorem hE_at (t : Fin cfg0.N) (r : Fin 256) (j : Fin 1024) : (outsAt0 m c t.val t.isLt).2.2.2.2.2.2.1 (ix2 r j) = hE e (rowAt t r) j := h_at a t r j

attribute [local irreducible] urxE urgE gpE grE dE ypE hE

/-- The first recurrence columns. -/
theorem urx_array : (dats m 0 c).arrAt 6 cfg0.N = fun i => urxE e (i 0) (i 1) := by
  refine (dats m 0 c).arrAt_eq_of_covers 6 _ (by decide +kernel) fun t _ y => ?_
  blk_simp
  rw [after0_6]
  idx_vars y
  rw [at6 t]
  exact urxE_at a t y0 y1

/-- The second recurrence columns. -/
theorem urg_array : (dats m 0 c).arrAt 7 cfg0.N = fun i => urgE e (i 0) (i 1) := by
  refine (dats m 0 c).arrAt_eq_of_covers 7 _ (by decide +kernel) fun t _ y => ?_
  blk_simp
  rw [after0_7]
  idx_vars y
  rw [at7 t]
  exact urgE_at a t y0 y1

/-- The pooling gate's columns. -/
theorem gp_array : (dats m 0 c).arrAt 8 cfg0.N = fun i => gpE e (i 0) (i 1) := by
  refine (dats m 0 c).arrAt_eq_of_covers 8 _ (by decide +kernel) fun t _ y => ?_
  blk_simp
  rw [after0_8]
  idx_vars y
  rw [at8 t]
  exact gpE_at a t y0 y1

/-- The recurrence gate's columns. -/
theorem gr_array : (dats m 0 c).arrAt 9 cfg0.N = fun i => grE e (i 0) (i 1) := by
  refine (dats m 0 c).arrAt_eq_of_covers 9 _ (by decide +kernel) fun t _ y => ?_
  blk_simp
  rw [after0_9]
  idx_vars y
  rw [at9 t]
  exact grE_at a t y0 y1

/-- The deviations from the windows' means. -/
theorem d_array : (dats m 0 c).arrAt 10 cfg0.N = fun i => dE e (i 0) (i 1) := by
  refine (dats m 0 c).arrAt_eq_of_covers 10 _ (by decide +kernel) fun t _ y => ?_
  blk_simp
  rw [after0_10]
  idx_vars y
  rw [at10 t]
  exact dE_at a t y0 y1

/-- The pooling mixer's output. -/
theorem yp_array : (dats m 0 c).arrAt 11 cfg0.N = fun i => ypE e (i 0) (i 1) := by
  refine (dats m 0 c).arrAt_eq_of_covers 11 _ (by decide +kernel) fun t _ y => ?_
  blk_simp
  rw [after0_11]
  idx_vars y
  rw [at11 t]
  exact ypE_at a t y0 y1

/-- The normed rows. -/
theorem h_array : (dats m 0 c).arrAt 12 cfg0.N = fun i => hE e (i 0) (i 1) := by
  refine (dats m 0 c).arrAt_eq_of_covers 12 _ (by decide +kernel) fun t _ y => ?_
  blk_simp
  rw [after0_12]
  idx_vars y
  rw [at12 t]
  exact hE_at a t y0 y1

end Cert.Kernel8Ideal.Val

end
-- ==== Proof.InPoolClaim.lean ====
/-
  The forward pass into the sequence mixers: the kernel's seven results are the reference's.
-/
module

public import proofs.«01_k».proof.Defs
public import proofs.«01_k».proof.Proof.Gen.Kernel8Ideal
public import proofs.«01_k».proof.Proof.Gen.Reference8Ideal
public import proofs.«01_k».proof.Proof.Gen.Pre_in_pool_finite
public import proofs.«01_k».proof.Proof.Gen.Reference8Ideal.Run
public import proofs.«01_k».proof.Proof.InPoolResults
public import Idealize.ShloMosaic.Adequacy
public import Idealize.ShloMosaic.Init

@[expose] public section

set_option maxHeartbeats 2000000

noncomputable section

namespace Cert.Proof

open Idealize.ShloMosaic Idealize.SL.Sem Cert.Reals Cert.Pieces Cert.InPool

/-- The reference runs on the host, without semaphores. -/
theorem in_pool_reference_frame : quiescent_Reference8Ideal := fun m ρ _ =>
  (θ_run _ _ _).mono (fun r h => ⟨fun c => (h c).2.2.2.2.2.2.2, sem_eq_zero_of_no_sems (by decide) r.2⟩) (Cert.Reference8Ideal.Value.run m ρ)

/-- All seven results of the call: the recurrence's and the gates' columns of the projection, the deviations from the
    windows' means, the pooling mixer's output and the normed rows. -/
theorem in_pool : algebraic_Kernel8Ideal_Reference8Ideal_pre_in_pool_finite := by
  intro m ρ m' ρ' hpre hargs
  refine ⟨_, _, _, _, _, _, _, (θ_run _ _ _).mono (fun r h => h) (Cert.Kernel8Ideal.Value.run_blocks m ρ),
    (θ_run _ _ _).mono (fun r h c => ?_) (Cert.Reference8Ideal.Value.run m' ρ')⟩
  obtain ⟨h1, h2, h3, h4, h5, h6⟩ := hpre c
  obtain ⟨a0, a1, a2, a3, a4, a5⟩ := hargs c
  obtain ⟨x, hx⟩ := real_of_finite _ _ h1
  obtain ⟨g, hg⟩ := real_of_finite _ _ h2
  obtain ⟨w, hw⟩ := real_of_finite _ _ h3
  obtain ⟨p, hp⟩ := real_of_finite _ _ h4
  obtain ⟨s, hs⟩ := real_of_finite _ _ h5
  obtain ⟨o, ho⟩ := real_of_finite _ _ h6
  let e : Data := ⟨fun t l => x (ix3 0 t l), fun l => g (ix1 l), fun l j => w (ix2 l j), fun i j k => p (ix3 i j k), fun j => s (ix1 j),
    fun j l => o (ix2 j l)⟩
  have a : Cert.Reference8Ideal.Val.Args (Cert.Kernel8Ideal.Val.argX m c) (Cert.Kernel8Ideal.Val.argG m c) (Cert.Kernel8Ideal.Val.argW m c)
      (Cert.Kernel8Ideal.Val.argP m c) (Cert.Kernel8Ideal.Val.argS m c) (Cert.Kernel8Ideal.Val.argO m c) e :=
    ⟨fun t l => hx _, fun l => hg _, fun l j => hw _, fun i j k => hp _, fun j => hs _, fun j l => ho _⟩
  have a' := a
  unfold Cert.Kernel8Ideal.Val.argX Cert.Kernel8Ideal.Val.argG Cert.Kernel8Ideal.Val.argW Cert.Kernel8Ideal.Val.argP
    Cert.Kernel8Ideal.Val.argS Cert.Kernel8Ideal.Val.argO at a'
  rw [← a0, ← a1, ← a2, ← a3, ← a4, ← a5] at a'
  generalize e = e at a a'
  obtain ⟨r0, r1, r2, r3, r4, r5, r6, rest⟩ := h c
  clear hpre hargs h h1 h2 h3 h4 h5 h6 hx hg hw hp hs ho a0 a1 a2 a3 a4 a5
  refine ⟨?_, ?_, ?_, ?_, ?_, ?_, ?_, rest⟩
  · rw [r0, Cert.Reference8Ideal.Read.val_main_v87_eq, Cert.Kernel8Ideal.Val.urx_array a]
    funext i
    idx_vars i
    exact Cert.Reference8Ideal.Val.urx_result a' i0 i1
  · rw [r1, Cert.Reference8Ideal.Read.val_main_v90_eq, Cert.Kernel8Ideal.Val.urg_array a]
    funext i
    idx_vars i
    exact Cert.Reference8Ideal.Val.urg_result a' i0 i1
  · rw [r2, Cert.Reference8Ideal.Read.val_main_v93_eq, Cert.Kernel8Ideal.Val.gp_array a]
    funext i
    idx_vars i
    exact Cert.Reference8Ideal.Val.gp_result a' i0 i1
  · rw [r3, Cert.Reference8Ideal.Read.val_main_v96_eq, Cert.Kernel8Ideal.Val.gr_array a]
    funext i
    idx_vars i
    exact Cert.Reference8Ideal.Val.gr_result a' i0 i1
  · rw [r4, Cert.Reference8Ideal.Read.val_main_v98_eq, Cert.Kernel8Ideal.Val.d_array a]
    funext i
    idx_vars i
    exact Cert.Reference8Ideal.Val.d_result a' i0 i1
  · rw [r5, Cert.Reference8Ideal.Read.val_main_v99_eq, Cert.Kernel8Ideal.Val.yp_array a]
    funext i
    idx_vars i
    exact Cert.Reference8Ideal.Val.yp_result a' i0 i1
  · rw [r6, Cert.Reference8Ideal.Read.val_main_v101_eq, Cert.Kernel8Ideal.Val.h_array a]
    funext i
    idx_vars i
    exact Cert.Reference8Ideal.Val.h_result a' i0 i1

end Cert.Proof

end
-- ==== Proof.AdamHost.lean ====
/-
  The packed gradients: the array of sixteen rows that the host builds, read where each of the three gradients lies.
-/
module

public import proofs.«01_k».proof.Proof.Gen.Kernel9Ideal.Value
public import Idealize.ShloMosaic.PureOps.Ideal
public import Idealize.ShloMosaic.Lib.Pointwise
public import Idealize.ShloMosaic.Lib.Pointwise.Index
import Idealize.ShloMosaic.Lib.Claim
import Idealize.ShloMosaic.Lib.StableHlo.ReadAt
import Idealize.ShloMosaic.Lib.Pipeline.ReadBack

@[expose] public section

set_option maxRecDepth 16384
set_option maxHeartbeats 1000000

noncomputable section

namespace Cert.Kernel9Ideal.Val

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- Rows 0 to 3 hold the first gradient. -/
theorem packed_conv (a : Fin 4) (b : Fin 256) :
    V m c main_v8 (ix2 (⟨a.val, by omega⟩ : Fin 16) (⟨b.val, by omega⟩ : Fin 768)) = m ((c : Thread nD τ).loc main_arg9) (ix2 a b) := by
  unfold V
  after_reads_at
  after_reads_at

/-- Rows 4 and 5 hold the second. -/
theorem packed_gates (a : Fin 2) (b : Fin 256) :
    V m c main_v8 (ix2 (⟨4 + a.val, by omega⟩ : Fin 16) (⟨b.val, by omega⟩ : Fin 768)) = m ((c : Thread nD τ).loc main_arg10) (ix2 a b) := by
  unfold V
  after_reads_at
  after_reads_at

/-- Rows 8 to 10 hold the third. -/
theorem packed_ffn (a : Fin 3) (b : Fin 768) :
    V m c main_v8 (ix2 (⟨8 + a.val, by omega⟩ : Fin 16) b) = m ((c : Thread nD τ).loc main_arg11) (ix2 a b) := by
  unfold V
  after_reads_at
  rw [dif_neg (by omega), dif_neg (by omega), dif_neg (by omega), dif_pos (by omega)]
  after_reads_at
  refine congrArg (m (c, Proc.devRef Proc.tc main_arg11)) (congrArg (fun z => ix2 z b) (Fin.ext ?_))
  show 8 + a.val - 4 - 2 - 2 = a.val
  omega

end Cert.Kernel9Ideal.Val

end
-- ==== Proof.AdamLoads.lean ====
/-
  The small weights' optimiser kernel: what it loads, in the arguments.
-/
module

public import proofs.«01_k».proof.Proof.AdamHost
import Idealize.ShloMosaic.Lib.Claim
import Idealize.ShloMosaic.Lib.Pipeline.ValueKit
import Idealize.ShloMosaic.Lib.Pipeline.ReadBack

@[expose] public section

set_option maxRecDepth 16384
set_option maxHeartbeats 1000000

noncomputable section

namespace Cert.Kernel9Ideal.Val

open Cert.Kernel9Ideal Cert.Kernel9Ideal.Gen Idealize.ShloMosaic Idealize.ShloMosaic.TcCoe Idealize.SL.Sem

variable (m : (ℓ : Loc nD τ sig) → Buf (Elt Ideal) ℓ) (c : Dev nD) (t : Fin cfg0.N)

/-- The call has one grid point, whose blocks are whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧
    win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, _)

theorem w_conv : iblk m c 1 t = m ((c : Thread nD τ).loc main_arg0) := by
  rw [← V_main_arg0 m c]
  funext i
  idx_vars i
  blk_point [iblk, idx t]

theorem m_conv : iblk m c 2 t = m ((c : Thread nD τ).loc main_arg3) := by
  rw [← V_main_arg3 m c]
  funext i
  idx_vars i
  blk_point [iblk, idx t]

theorem v_conv : iblk m c 3 t = m ((c : Thread nD τ).loc main_arg6) := by
  rw [← V_main_arg6 m c]
  funext i
  idx_vars i
  blk_point [iblk, idx t]

theorem w_gates : iblk m c 4 t = m ((c : Thread nD τ).loc main_arg1) := by
  rw [← V_main_arg1 m c]
  funext i
  idx_vars i
  blk_point [iblk, idx t]

theorem m_gates : iblk m c 5 t = m ((c : Thread nD τ).loc main_arg4) := by
  rw [← V_main_arg4 m c]
  funext i
  idx_vars i
  blk_point [iblk, idx t]

theorem v_gates : iblk m c 6 t = m ((c : Thread nD τ).loc main_arg7) := by
  rw [← V_main_arg7 m c]
  funext i
  idx_vars i
  blk_point [iblk, idx t]

theorem w_ffn : iblk m c 7 t = m ((c : Thread nD τ).loc main_arg2) := by
  rw [← V_main_arg2 m c]
  funext i
  idx_vars i
  blk_point [iblk, idx t]

theorem m_ffn : iblk m c 8 t = m ((c : Thread nD τ).loc main_arg5) := by
  rw [← V_main_arg5 m c]
  funext i
  idx_vars i
  blk_point [iblk, idx t]

theorem v_ffn : iblk m c 9 t = m ((c : Thread nD τ).loc main_arg8) := by
  rw [← V_main_arg8 m c]
  funext i
  idx_vars i
  blk_point [iblk, idx t]

/-- The three gradients, as the kernel loads them from the packed rows. -/
theorem load_conv : View.ld (iblk m c 0 t) r0_0 = m ((c : Thread nD τ).loc main_arg9) := by
  funext i
  idx_vars i
  refine Eq.trans ?_ (packed_conv m c i0 i1)
  refine (View.ld_unit_apply_of _ _ _ _ _ (ix2 (⟨i0.val, by omega⟩ : Fin 16) (⟨i1.val, by omega⟩ : Fin 768)) (fun a => by fin_cases a <;> simp)).trans ?_
  blk_point [iblk, idx t]

theorem load_gates : View.ld (iblk m c 0 t) r0_2 = m ((c : Thread nD τ).loc main_arg10) := by
  funext i
  idx_vars i
  refine Eq.trans ?_ (packed_gates m c i0 i1)
  refine (View.ld_unit_apply_of _ _ _ _ _ (ix2 (⟨4 + i0.val, by omega⟩ : Fin 16) (⟨i1.val, by omega⟩ : Fin 768)) (fun a => by fin_cases a <;> simp)).trans ?_
  blk_point [iblk, idx t]

theorem load_ffn : View.ld (iblk m c 0 t) r0_4 = m ((c : Thread nD τ).loc main_arg11) := by
  funext i
  idx_vars i
  refine Eq.trans ?_ (packed_ffn m c i0 i1)
  refine (View.ld_unit_apply_of _ _ _ _ _ (ix2 (⟨8 + i0.val, by omega⟩ : Fin 16) i1) (fun a => by fin_cases a <;> simp)).trans ?_
  blk_point [iblk, idx t]

end Cert.Kernel9Ideal.Val

end
-- ==== Proof.AdamMath.lean ====
/-
  One step of the optimiser on one entry: the two moments and the change of the weight, with the constants that both
  programs carry (the decay rates, their corrections at the step, the weight decay and the learning rate).
-/
module

public import Idealize.ShloMosaic.PureOps.Ideal

@[expose] public section

noncomputable section

namespace Cert.Adam

open Idealize.ShloMosaic

/-- A constant, by its bits. -/
abbrev const (b : BitVec 32) : EReal := FloatOps.ofBits (F := Ideal) .f32 b

/-- The new first moment, from the old one and the gradient. -/
def first (m g : EReal) : EReal := const 0x3F666666#32 * m + const 0x3DCCCCCD#32 * g

/-- The new second moment. -/
def second (v g : EReal) : EReal := const 0x3F7FBE77#32 * v + const 0x3A83126F#32 * (g * g)

/-- The change of the weight, whose decay is added to the corrected moments' quotient. -/
def change (w m v g : EReal) : EReal :=
  const 0xBA83126F#32 *
    (FloatOps.divf (F := Ideal) (φ := .f32) (FloatOps.divf (F := Ideal) (φ := .f32) (first m g) (const 0x3F26BD02#32))
        (FloatOps.sqrt (F := Ideal) (φ := .f32) (FloatOps.divf (F := Ideal) (φ := .f32) (second v g) (const 0x3C231ACC#32))
          + const 0x322BCC77#32)
      + const 0x3C23D70A#32 * w)

end Cert.Adam

end
-- ==== Proof.AdamArrays.lean ====
/-
  The small weights' optimiser kernel: its twelve output arrays, entry by entry in the arguments.
-/
module

public import proofs.«01_k».proof.Proof.AdamLoads
public import proofs.«01_k».proof.Proof.AdamMath
import Idealize.ShloMosaic.Lib.Claim
import Idealize.ShloMosaic.Lib.Pipeline.ValueKit
import Idealize.ShloMosaic.Lib.Pipeline.ReadBack

@[expose] public section

set_option maxRecDepth 16384
set_option maxHeartbeats 1000000

noncomputable section

namespace Cert.Kernel9Ideal.Val

open Cert.Kernel9Ideal Cert.Kernel9Ideal.Gen Idealize.ShloMosaic Idealize.ShloMosaic.TcCoe Idealize.SL.Sem Cert.Adam

/-- What is stored, entry by entry. -/
theorem same_conv (g : Vec Ideal S4x256 .f32) : k0_pay1 g = g := by
  unfold k0_pay1
  exact shapeCast_self _ _

theorem first_conv (g p : Vec Ideal S4x256 .f32) : k0_pay2 g p = fun i => first (p i) (g i) := by
  unfold k0_pay2
  rw [same_conv]
  rfl

theorem second_conv (g q : Vec Ideal S4x256 .f32) : k0_pay3 g q = fun i => second (q i) (g i) := by
  unfold k0_pay3
  rw [same_conv]
  rfl

theorem change_conv (g w p q : Vec Ideal S4x256 .f32) : k0_pay4 g w p q = fun i => change (w i) (p i) (q i) (g i) := by
  unfold k0_pay4
  rw [first_conv, second_conv]
  rfl

theorem same_gates (g : Vec Ideal S2x256 .f32) : k0_pay5 g = g := by
  unfold k0_pay5
  exact shapeCast_self _ _

theorem first_gates (g p : Vec Ideal S2x256 .f32) : k0_pay6 g p = fun i => first (p i) (g i) := by
  unfold k0_pay6
  rw [same_gates]
  rfl

theorem second_gates (g q : Vec Ideal S2x256 .f32) : k0_pay7 g q = fun i => second (q i) (g i) := by
  unfold k0_pay7
  rw [same_gates]
  rfl

theorem change_gates (g w p q : Vec Ideal S2x256 .f32) : k0_pay8 g w p q = fun i => change (w i) (p i) (q i) (g i) := by
  unfold k0_pay8
  rw [first_gates, second_gates]
  rfl

theorem same_ffn (g : Vec Ideal S3x768 .f32) : k0_pay9 g = g := by
  unfold k0_pay9
  exact shapeCast_self _ _

theorem first_ffn (g p : Vec Ideal S3x768 .f32) : k0_pay10 g p = fun i => first (p i) (g i) := by
  unfold k0_pay10
  rw [same_ffn]
  rfl

theorem second_ffn (g q : Vec Ideal S3x768 .f32) : k0_pay11 g q = fun i => second (q i) (g i) := by
  unfold k0_pay11
  rw [same_ffn]
  rfl

theorem change_ffn (g w p q : Vec Ideal S3x768 .f32) : k0_pay12 g w p q = fun i => change (w i) (p i) (q i) (g i) := by
  unfold k0_pay12
  rw [first_ffn, second_ffn]
  rfl

variable (m : (ℓ : Loc nD τ sig) → Buf (Elt Ideal) ℓ) (c : Dev nD)

/-- The arrays: the three gradients unpacked, and of each weight its change and its two moments. -/
theorem grad_conv_array : (dats m 0 c).arrAt 10 cfg0.N = m ((c : Thread nD τ).loc main_arg9) := by
  refine (dats m 0 c).arrAt_eq_of_covers 10 _ (by decide +kernel) fun t _ y => ?_
  blk_simp
  rw [after0_10]
  frame_out
  rw [load_conv, same_conv]
  idx_vars y
  blk_point [idx t]

theorem change_conv_array : (dats m 0 c).arrAt 11 cfg0.N = fun i => change (m ((c : Thread nD τ).loc main_arg0) i) (m ((c : Thread nD τ).loc main_arg3) i) (m ((c : Thread nD τ).loc main_arg6) i) (m ((c : Thread nD τ).loc main_arg9) i) := by
  refine (dats m 0 c).arrAt_eq_of_covers 11 _ (by decide +kernel) fun t _ y => ?_
  blk_simp
  rw [after0_11]
  frame_out
  rw [load_conv, w_conv, m_conv, v_conv, change_conv]
  idx_vars y
  blk_point [idx t]

theorem first_conv_array : (dats m 0 c).arrAt 12 cfg0.N = fun i => first (m ((c : Thread nD τ).loc main_arg3) i) (m ((c : Thread nD τ).loc main_arg9) i) := by
  refine (dats m 0 c).arrAt_eq_of_covers 12 _ (by decide +kernel) fun t _ y => ?_
  blk_simp
  rw [after0_12]
  frame_out
  rw [load_conv, m_conv, first_conv]
  idx_vars y
  blk_point [idx t]

theorem second_conv_array : (dats m 0 c).arrAt 13 cfg0.N = fun i => second (m ((c : Thread nD τ).loc main_arg6) i) (m ((c : Thread nD τ).loc main_arg9) i) := by
  refine (dats m 0 c).arrAt_eq_of_covers 13 _ (by decide +kernel) fun t _ y => ?_
  blk_simp
  rw [after0_13]
  frame_out
  rw [load_conv, v_conv, second_conv]
  idx_vars y
  blk_point [idx t]

theorem grad_gates_array : (dats m 0 c).arrAt 14 cfg0.N = m ((c : Thread nD τ).loc main_arg10) := by
  refine (dats m 0 c).arrAt_eq_of_covers 14 _ (by decide +kernel) fun t _ y => ?_
  blk_simp
  rw [after0_14]
  frame_out
  rw [load_gates, same_gates]
  idx_vars y
  blk_point [idx t]

theorem change_gates_array : (dats m 0 c).arrAt 15 cfg0.N = fun i => change (m ((c : Thread nD τ).loc main_arg1) i) (m ((c : Thread nD τ).loc main_arg4) i) (m ((c : Thread nD τ).loc main_arg7) i) (m ((c : Thread nD τ).loc main_arg10) i) := by
  refine (dats m 0 c).arrAt_eq_of_covers 15 _ (by decide +kernel) fun t _ y => ?_
  blk_simp
  rw [after0_15]
  frame_out
  rw [load_gates, w_gates, m_gates, v_gates, change_gates]
  idx_vars y
  blk_point [idx t]

theorem first_gates_array : (dats m 0 c).arrAt 16 cfg0.N = fun i => first (m ((c : Thread nD τ).loc main_arg4) i) (m ((c : Thread nD τ).loc main_arg10) i) := by
  refine (dats m 0 c).arrAt_eq_of_covers 16 _ (by decide +kernel) fun t _ y => ?_
  blk_simp
  rw [after0_16]
  frame_out
  rw [load_gates, m_gates, first_gates]
  idx_vars y
  blk_point [idx t]

theorem second_gates_array : (dats m 0 c).arrAt 17 cfg0.N = fun i => second (m ((c : Thread nD τ).loc main_arg7) i) (m ((c : Thread nD τ).loc main_arg10) i) := by
  refine (dats m 0 c).arrAt_eq_of_covers 17 _ (by decide +kernel) fun t _ y => ?_
  blk_simp
  rw [after0_17]
  frame_out
  rw [load_gates, v_gates, second_gates]
  idx_vars y
  blk_point [idx t]

theorem grad_ffn_array : (dats m 0 c).arrAt 18 cfg0.N = m ((c : Thread nD τ).loc main_arg11) := by
  refine (dats m 0 c).arrAt_eq_of_covers 18 _ (by decide +kernel) fun t _ y => ?_
  blk_simp
  rw [after0_18]
  frame_out
  rw [load_ffn, same_ffn]
  idx_vars y
  blk_point [idx t]

theorem change_ffn_array : (dats m 0 c).arrAt 19 cfg0.N = fun i => change (m ((c : Thread nD τ).loc main_arg2) i) (m ((c : Thread nD τ).loc main_arg5) i) (m ((c : Thread nD τ).loc main_arg8) i) (m ((c : Thread nD τ).loc main_arg11) i) := by
  refine (dats m 0 c).arrAt_eq_of_covers 19 _ (by decide +kernel) fun t _ y => ?_
  blk_simp
  rw [after0_19]
  frame_out
  rw [load_ffn, w_ffn, m_ffn, v_ffn, change_ffn]
  idx_vars y
  blk_point [idx t]

theorem first_ffn_array : (dats m 0 c).arrAt 20 cfg0.N = fun i => first (m ((c : Thread nD τ).loc main_arg5) i) (m ((c : Thread nD τ).loc main_arg11) i) := by
  refine (dats m 0 c).arrAt_eq_of_covers 20 _ (by decide +kernel) fun t _ y => ?_
  blk_simp
  rw [after0_20]
  frame_out
  rw [load_ffn, m_ffn, first_ffn]
  idx_vars y
  blk_point [idx t]

theorem second_ffn_array : (dats m 0 c).arrAt 21 cfg0.N = fun i => second (m ((c : Thread nD τ).loc main_arg8) i) (m ((c : Thread nD τ).loc main_arg11) i) := by
  refine (dats m 0 c).arrAt_eq_of_covers 21 _ (by decide +kernel) fun t _ y => ?_
  blk_simp
  rw [after0_21]
  frame_out
  rw [load_ffn, v_ffn, second_ffn]
  idx_vars y
  blk_point [idx t]

end Cert.Kernel9Ideal.Val

end
-- ==== Proof.AdamReference.lean ====
/-
  The reference's step on the small weights: its nine computed results, entry by entry.
-/
module

public import proofs.«01_k».proof.Proof.Gen.Reference9Ideal.Read
public import proofs.«01_k».proof.Proof.AdamMath

@[expose] public section

set_option maxHeartbeats 1000000

noncomputable section

namespace Cert.Reference9Ideal.Val

open Cert.Reference9Ideal Cert.Reference9Ideal.Read Idealize.ShloMosaic Cert.Adam

theorem first_conv (p g : Vec Ideal S4x256 .f32) : val_main_v4 p g = fun i => first (p i) (g i) := rfl
theorem second_conv (q g : Vec Ideal S4x256 .f32) : val_main_v10 q g = fun i => second (q i) (g i) := rfl
theorem change_conv (w p q g : Vec Ideal S4x256 .f32) : val_main_v23 w p q g = fun i => change (w i) (p i) (q i) (g i) := rfl

theorem first_gates (p g : Vec Ideal S2x256 .f32) : val_main_v28 p g = fun i => first (p i) (g i) := rfl
theorem second_gates (q g : Vec Ideal S2x256 .f32) : val_main_v34 q g = fun i => second (q i) (g i) := rfl
theorem change_gates (w p q g : Vec Ideal S2x256 .f32) : val_main_v47 w p q g = fun i => change (w i) (p i) (q i) (g i) := rfl

theorem first_ffn (p g : Vec Ideal S3x768 .f32) : val_main_v52 p g = fun i => first (p i) (g i) := rfl
theorem second_ffn (q g : Vec Ideal S3x768 .f32) : val_main_v58 q g = fun i => second (q i) (g i) := rfl
theorem change_ffn (w p q g : Vec Ideal S3x768 .f32) : val_main_v71 w p q g = fun i => change (w i) (p i) (q i) (g i) := rfl

end Cert.Reference9Ideal.Val

end
-- ==== Proof.AdamClaim.lean ====
/-
  The optimiser on the three small weights, whose gradients arrive packed in one array: the kernel's results are the
  reference's.
-/
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.AdamArrays
public import proofs.«01_k».proof.Proof.AdamReference
public import Idealize.ShloMosaic.Adequacy
public import Idealize.ShloMosaic.Init

@[expose] public section

set_option maxHeartbeats 2000000

noncomputable section

namespace Cert.Proof

open Idealize.ShloMosaic Idealize.SL.Sem

/-- The reference runs on the host, without semaphores. -/
theorem tiny_adamw_reference_frame : quiescent_Reference9Ideal := fun m ρ _ =>
  (θ_run _ _ _).mono (fun r h => ⟨fun c => (h c).2.2.2.2.2.2.2.2.2.2.2.2, sem_eq_zero_of_no_sems (by decide) r.2⟩) (Cert.Reference9Ideal.Value.run m ρ)

/-- All twelve results of the call: of each weight the gradient, the change and the two moments. -/
theorem tiny_adamw : algebraic_Kernel9Ideal_Reference9Ideal := by
  intro m ρ m' ρ' _ hargs
  refine ⟨_, _, _, _, _, _, _, _, _, _, _, _, (θ_run _ _ _).mono (fun r h => h) (Cert.Kernel9Ideal.Value.run_blocks m ρ),
    (θ_run _ _ _).mono (fun r h c => ?_) (Cert.Reference9Ideal.Value.run m' ρ')⟩
  obtain ⟨a0, a1, a2, a3, a4, a5, a6, a7, a8, a9, a10, a11⟩ := hargs c
  obtain ⟨r0, r1, r2, r3, r4, r5, r6, r7, r8, r9, r10, r11, rest⟩ := h c
  refine ⟨?_, ?_, ?_, ?_, ?_, ?_, ?_, ?_, ?_, ?_, ?_, ?_, rest⟩
  · rw [r0, a9, Cert.Kernel9Ideal.Val.grad_conv_array]
  · rw [r1, Cert.Reference9Ideal.Read.val_main_v23_eq, Cert.Reference9Ideal.Val.change_conv, a0, a3, a6, a9, Cert.Kernel9Ideal.Val.change_conv_array]
    rfl
  · rw [r2, Cert.Reference9Ideal.Read.val_main_v4_eq, Cert.Reference9Ideal.Val.first_conv, a3, a9, Cert.Kernel9Ideal.Val.first_conv_array]
    rfl
  · rw [r3, Cert.Reference9Ideal.Read.val_main_v10_eq, Cert.Reference9Ideal.Val.second_conv, a6, a9, Cert.Kernel9Ideal.Val.second_conv_array]
    rfl
  · rw [r4, a10, Cert.Kernel9Ideal.Val.grad_gates_array]
  · rw [r5, Cert.Reference9Ideal.Read.val_main_v47_eq, Cert.Reference9Ideal.Val.change_gates, a1, a4, a7, a10, Cert.Kernel9Ideal.Val.change_gates_array]
    rfl
  · rw [r6, Cert.Reference9Ideal.Read.val_main_v28_eq, Cert.Reference9Ideal.Val.first_gates, a4, a10, Cert.Kernel9Ideal.Val.first_gates_array]
    rfl
  · rw [r7, Cert.Reference9Ideal.Read.val_main_v34_eq, Cert.Reference9Ideal.Val.second_gates, a7, a10, Cert.Kernel9Ideal.Val.second_gates_array]
    rfl
  · rw [r8, a11, Cert.Kernel9Ideal.Val.grad_ffn_array]
  · rw [r9, Cert.Reference9Ideal.Read.val_main_v71_eq, Cert.Reference9Ideal.Val.change_ffn, a2, a5, a8, a11, Cert.Kernel9Ideal.Val.change_ffn_array]
    rfl
  · rw [r10, Cert.Reference9Ideal.Read.val_main_v52_eq, Cert.Reference9Ideal.Val.first_ffn, a5, a11, Cert.Kernel9Ideal.Val.first_ffn_array]
    rfl
  · rw [r11, Cert.Reference9Ideal.Read.val_main_v58_eq, Cert.Reference9Ideal.Val.second_ffn, a8, a11, Cert.Kernel9Ideal.Val.second_ffn_array]
    rfl

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ffn_up_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_pool_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_ffn_down_finite
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_merge_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_ple_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_mixer_in_finite
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_ffn_finite
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_in_pool_finite
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.FfnUpClaim
public import proofs.«01_k».proof.Proof.PoolClaim
public import proofs.«01_k».proof.Proof.FfnDownClaim
public import proofs.«01_k».proof.Proof.MergeClaim
public import proofs.«01_k».proof.Proof.PleClaim
public import proofs.«01_k».proof.Proof.MixerInClaim
public import proofs.«01_k».proof.Proof.FfnClaim
public import proofs.«01_k».proof.Proof.InPoolClaim
public import proofs.«01_k».proof.Proof.AdamClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_ffn_up_finite.Gen.facts, Cert.Pre_pool_finite.Gen.facts, Cert.Pre_ffn_down_finite.Gen.facts, Cert.Pre_merge_finite.Gen.facts, Cert.Pre_ple_finite.Gen.facts, Cert.Pre_mixer_in_finite.Gen.facts, Cert.Pre_ffn_finite.Gen.facts, Cert.Pre_in_pool_finite.Gen.facts,
  fun m ρ _ => Cert.Kernel.Gen.frame m ρ,
  fun m ρ _ => Cert.KernelIdeal.Gen.frame m ρ,
  fun m ρ _ => Cert.KernelIdeal.Gen.frame m ρ,
  ffn_up_reference_frame,
  fun m ρ _ => ffn_up_reference_frame m ρ trivial,
  fun m ρ _ => Cert.Kernel2.Gen.frame m ρ,
  fun m ρ _ => Cert.Kernel2Ideal.Gen.frame m ρ,
  fun m ρ _ => Cert.Kernel2Ideal.Gen.frame m ρ,
  pool_reference_frame,
  fun m ρ _ => pool_reference_frame m ρ trivial,
  fun m ρ _ => Cert.Kernel3.Gen.frame m ρ,
  fun m ρ _ => Cert.Kernel3Ideal.Gen.frame m ρ,
  fun m ρ _ => Cert.Kernel3Ideal.Gen.frame m ρ,
  ffn_down_reference_frame,
  fun m ρ _ => ffn_down_reference_frame m ρ trivial,
  fun m ρ _ => Cert.Kernel4.Gen.frame m ρ,
  fun m ρ _ => Cert.Kernel4Ideal.Gen.frame m ρ,
  fun m ρ _ => Cert.Kernel4Ideal.Gen.frame m ρ,
  merge_reference_frame,
  fun m ρ _ => merge_reference_frame m ρ trivial,
  fun m ρ _ => Cert.Kernel5.Gen.frame m ρ,
  fun m ρ _ => Cert.Kernel5Ideal.Gen.frame m ρ,
  fun m ρ _ => Cert.Kernel5Ideal.Gen.frame m ρ,
  ple_reference_frame,
  fun m ρ _ => ple_reference_frame m ρ trivial,
  fun m ρ _ => Cert.Kernel6.Gen.frame m ρ,
  fun m ρ _ => Cert.Kernel6Ideal.Gen.frame m ρ,
  fun m ρ _ => Cert.Kernel6Ideal.Gen.frame m ρ,
  mixer_in_reference_frame,
  fun m ρ _ => mixer_in_reference_frame m ρ trivial,
  fun m ρ _ => Cert.Kernel7.Gen.frame m ρ,
  fun m ρ _ => Cert.Kernel7Ideal.Gen.frame m ρ,
  fun m ρ _ => Cert.Kernel7Ideal.Gen.frame m ρ,
  ffn_reference_frame,
  fun m ρ _ => ffn_reference_frame m ρ trivial,
  fun m ρ _ => Cert.Kernel8.Gen.frame m ρ,
  fun m ρ _ => Cert.Kernel8Ideal.Gen.frame m ρ,
  fun m ρ _ => Cert.Kernel8Ideal.Gen.frame m ρ,
  in_pool_reference_frame,
  fun m ρ _ => in_pool_reference_frame m ρ trivial,
  fun m ρ _ => Cert.Kernel9.Gen.frame m ρ,
  fun m ρ _ => Cert.Kernel9Ideal.Gen.frame m ρ,
  tiny_adamw_reference_frame,
  trivial, ffn_up,
  trivial, pool,
  trivial, ffn_down,
  trivial, merge,
  trivial, ple,
  trivial, mixer_in,
  ffn_preserves, ffn,
  trivial, in_pool,
  trivial, tiny_adamw⟩

end Cert.Proof

end
